-- ==== Defs.lean ====
def Pre_Kernel [hPre_ranges : Cert.Pre_ranges.Facts] (m : (ℓ : Loc Cert.Kernel.nD Cert.Kernel.τ Cert.Kernel.sig) → Buf (Elt Bits) ℓ) : Prop :=
  ∀ c : Dev Cert.Kernel.nD,
    (Cert.Pre_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KvP (m : (ℓ : Loc Cert.KvP.nD Cert.KvP.τ Cert.KvP.sig) → Buf (Elt Bits) ℓ) : Prop :=
  True

def Pre_KvPIdeal (m : (ℓ : Loc Cert.KvPIdeal.nD Cert.KvPIdeal.τ Cert.KvPIdeal.sig) → Buf (Elt Ideal) ℓ) : Prop :=
  True

def Pre_KvPRefIdeal (m : (ℓ : Loc Cert.KvPRefIdeal.nD Cert.KvPRefIdeal.τ Cert.KvPRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def Pre_HqP (m : (ℓ : Loc Cert.HqP.nD Cert.HqP.τ Cert.HqP.sig) → Buf (Elt Bits) ℓ) : Prop :=
  True

def Pre_HqPIdeal (m : (ℓ : Loc Cert.HqPIdeal.nD Cert.HqPIdeal.τ Cert.HqPIdeal.sig) → Buf (Elt Ideal) ℓ) : Prop :=
  True

def Pre_HqPRefIdeal (m : (ℓ : Loc Cert.HqPRefIdeal.nD Cert.HqPRefIdeal.τ Cert.HqPRefIdeal.sig) → Buf (Elt Ideal) ℓ) : Prop :=
  True

def Pre_GateP (m : (ℓ : Loc Cert.GateP.nD Cert.GateP.τ Cert.GateP.sig) → Buf (Elt Bits) ℓ) : Prop :=
  True

def Pre_GatePIdeal (m : (ℓ : Loc Cert.GatePIdeal.nD Cert.GatePIdeal.τ Cert.GatePIdeal.sig) → Buf (Elt Ideal) ℓ) : Prop :=
  True

def Pre_GatePRefIdeal (m : (ℓ : Loc Cert.GatePRefIdeal.nD Cert.GatePRefIdeal.τ Cert.GatePRefIdeal.sig) → Buf (Elt Ideal) ℓ) : Prop :=
  True

def Pre_MergeP (m : (ℓ : Loc Cert.MergeP.nD Cert.MergeP.τ Cert.MergeP.sig) → Buf (Elt Bits) ℓ) : Prop :=
  True

def Pre_MergePIdeal (m : (ℓ : Loc Cert.MergePIdeal.nD Cert.MergePIdeal.τ Cert.MergePIdeal.sig) → Buf (Elt Ideal) ℓ) : Prop :=
  True

def Pre_MergePRefIdeal (m : (ℓ : Loc Cert.MergePRefIdeal.nD Cert.MergePRefIdeal.τ Cert.MergePRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_PromptAttn (m : (ℓ : Loc Cert.PromptAttn.nD Cert.PromptAttn.τ Cert.PromptAttn.sig) → Buf (Elt Bits) ℓ) : Prop :=
  True

def Pre_PromptAttnIdeal (m : (ℓ : Loc Cert.PromptAttnIdeal.nD Cert.PromptAttnIdeal.τ Cert.PromptAttnIdeal.sig) → Buf (Elt Ideal) ℓ) : Prop :=
  True

def quiescent_Kernel [hKernel : Cert.Kernel.Facts] [hPre_ranges : Cert.Pre_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KvP [hKvP : Cert.KvP.Facts] : Prop :=
  ∀ (m : (ℓ : Loc Cert.KvP.nD Cert.KvP.τ Cert.KvP.sig) → Buf (Elt Bits) ℓ) (g : Dev Cert.KvP.nD → PrngReg), Pre_KvP m →
    θ_run (Cert.KvP.defs (F := Bits)) (onTc (τ := Cert.KvP.τ) (Cert.KvP.main (F := Bits))) ⟨m, fun _ => 0, g⟩ (fun r => (∀ c : Dev Cert.KvP.nD,
      r.2.mem ((c.tc : Thread Cert.KvP.nD Cert.KvP.τ).loc Cert.KvP.main_arg0) = m ((c.tc : Thread Cert.KvP.nD Cert.KvP.τ).loc Cert.KvP.main_arg0)
      ∧ r.2.mem ((c.tc : Thread Cert.KvP.nD Cert.KvP.τ).loc Cert.KvP.main_arg1) = m ((c.tc : Thread Cert.KvP.nD Cert.KvP.τ).loc Cert.KvP.main_arg1)
      ∧ r.2.mem ((c.tc : Thread Cert.KvP.nD Cert.KvP.τ).loc Cert.KvP.main_arg2) = m ((c.tc : Thread Cert.KvP.nD Cert.KvP.τ).loc Cert.KvP.main_arg2))
      ∧ r.2.sem = fun _ => 0)

def quiescent_KvPIdeal [hKvPIdeal : Cert.KvPIdeal.Facts] : Prop :=
  ∀ (m : (ℓ : Loc Cert.KvPIdeal.nD Cert.KvPIdeal.τ Cert.KvPIdeal.sig) → Buf (Elt Ideal) ℓ) (g : Dev Cert.KvPIdeal.nD → PrngReg), Pre_KvPIdeal m →
    θ_run (Cert.KvPIdeal.defs (F := Ideal)) (onTc (τ := Cert.KvPIdeal.τ) (Cert.KvPIdeal.main (F := Ideal))) ⟨m, fun _ => 0, g⟩ (fun r => (∀ c : Dev Cert.KvPIdeal.nD,
      r.2.mem ((c.tc : Thread Cert.KvPIdeal.nD Cert.KvPIdeal.τ).loc Cert.KvPIdeal.main_arg0) = m ((c.tc : Thread Cert.KvPIdeal.nD Cert.KvPIdeal.τ).loc Cert.KvPIdeal.main_arg0)
      ∧ r.2.mem ((c.tc : Thread Cert.KvPIdeal.nD Cert.KvPIdeal.τ).loc Cert.KvPIdeal.main_arg1) = m ((c.tc : Thread Cert.KvPIdeal.nD Cert.KvPIdeal.τ).loc Cert.KvPIdeal.main_arg1)
      ∧ r.2.mem ((c.tc : Thread Cert.KvPIdeal.nD Cert.KvPIdeal.τ).loc Cert.KvPIdeal.main_arg2) = m ((c.tc : Thread Cert.KvPIdeal.nD Cert.KvPIdeal.τ).loc Cert.KvPIdeal.main_arg2))
      ∧ r.2.sem = fun _ => 0)

def quiescent_KvPRefIdeal [hKvPRefIdeal : Cert.KvPRefIdeal.Facts] : Prop :=
  ∀ (m : (ℓ : Loc Cert.KvPRefIdeal.nD Cert.KvPRefIdeal.τ Cert.KvPRefIdeal.sig) → Buf (Elt Ideal) ℓ) (g : Dev Cert.KvPRefIdeal.nD → PrngReg), Pre_KvPRefIdeal m →
    θ_run (Cert.KvPRefIdeal.defs (F := Ideal)) (onTc (τ := Cert.KvPRefIdeal.τ) (Cert.KvPRefIdeal.main (F := Ideal))) ⟨m, fun _ => 0, g⟩ (fun r => (∀ c : Dev Cert.KvPRefIdeal.nD,
      r.2.mem ((c.tc : Thread Cert.KvPRefIdeal.nD Cert.KvPRefIdeal.τ).loc Cert.KvPRefIdeal.main_arg0) = m ((c.tc : Thread Cert.KvPRefIdeal.nD Cert.KvPRefIdeal.τ).loc Cert.KvPRefIdeal.main_arg0)
      ∧ r.2.mem ((c.tc : Thread Cert.KvPRefIdeal.nD Cert.KvPRefIdeal.τ).loc Cert.KvPRefIdeal.main_arg1) = m ((c.tc : Thread Cert.KvPRefIdeal.nD Cert.KvPRefIdeal.τ).loc Cert.KvPRefIdeal.main_arg1)
      ∧ r.2.mem ((c.tc : Thread Cert.KvPRefIdeal.nD Cert.KvPRefIdeal.τ).loc Cert.KvPRefIdeal.main_arg2) = m ((c.tc : Thread Cert.KvPRefIdeal.nD Cert.KvPRefIdeal.τ).loc Cert.KvPRefIdeal.main_arg2))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1)
      ∧ r.2.mem ((c.tc : Thread Cert.KvS.nD Cert.KvS.τ).loc Cert.KvS.main_arg2) = m ((c.tc : Thread Cert.KvS.nD Cert.KvS.τ).loc Cert.KvS.main_arg2))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
      ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1)
      ∧ r.2.mem ((c.tc : Thread Cert.KvSRefIdeal.nD Cert.KvSRefIdeal.τ).loc Cert.KvSRefIdeal.main_arg2) = m ((c.tc : Thread Cert.KvSRefIdeal.nD Cert.KvSRefIdeal.τ).loc Cert.KvSRefIdeal.main_arg2))
      ∧ r.2.sem = fun _ => 0)

def quiescent_HqP [hHqP : Cert.HqP.Facts] : Prop :=
  ∀ (m : (ℓ : Loc Cert.HqP.nD Cert.HqP.τ Cert.HqP.sig) → Buf (Elt Bits) ℓ) (g : Dev Cert.HqP.nD → PrngReg), Pre_HqP m →
    θ_run (Cert.HqP.defs (F := Bits)) (onTc (τ := Cert.HqP.τ) (Cert.HqP.main (F := Bits))) ⟨m, fun _ => 0, g⟩ (fun r => (∀ c : Dev Cert.HqP.nD,
      r.2.mem ((c.tc : Thread Cert.HqP.nD Cert.HqP.τ).loc Cert.HqP.main_arg0) = m ((c.tc : Thread Cert.HqP.nD Cert.HqP.τ).loc Cert.HqP.main_arg0)
      ∧ r.2.mem ((c.tc : Thread Cert.HqP.nD Cert.HqP.τ).loc Cert.HqP.main_arg1) = m ((c.tc : Thread Cert.HqP.nD Cert.HqP.τ).loc Cert.HqP.main_arg1)
      ∧ r.2.mem ((c.tc : Thread Cert.HqP.nD Cert.HqP.τ).loc Cert.HqP.main_arg2) = m ((c.tc : Thread Cert.HqP.nD Cert.HqP.τ).loc Cert.HqP.main_arg2))
      ∧ r.2.sem = fun _ => 0)

def quiescent_HqPIdeal [hHqPIdeal : Cert.HqPIdeal.Facts] : Prop :=
  ∀ (m : (ℓ : Loc Cert.HqPIdeal.nD Cert.HqPIdeal.τ Cert.HqPIdeal.sig) → Buf (Elt Ideal) ℓ) (g : Dev Cert.HqPIdeal.nD → PrngReg), Pre_HqPIdeal m →
    θ_run (Cert.HqPIdeal.defs (F := Ideal)) (onTc (τ := Cert.HqPIdeal.τ) (Cert.HqPIdeal.main (F := Ideal))) ⟨m, fun _ => 0, g⟩ (fun r => (∀ c : Dev Cert.HqPIdeal.nD,
      r.2.mem ((c.tc : Thread Cert.HqPIdeal.nD Cert.HqPIdeal.τ).loc Cert.HqPIdeal.main_arg0) = m ((c.tc : Thread Cert.HqPIdeal.nD Cert.HqPIdeal.τ).loc Cert.HqPIdeal.main_arg0)
      ∧ r.2.mem ((c.tc : Thread Cert.HqPIdeal.nD Cert.HqPIdeal.τ).loc Cert.HqPIdeal.main_arg1) = m ((c.tc : Thread Cert.HqPIdeal.nD Cert.HqPIdeal.τ).loc Cert.HqPIdeal.main_arg1)
      ∧ r.2.mem ((c.tc : Thread Cert.HqPIdeal.nD Cert.HqPIdeal.τ).loc Cert.HqPIdeal.main_arg2) = m ((c.tc : Thread Cert.HqPIdeal.nD Cert.HqPIdeal.τ).loc Cert.HqPIdeal.main_arg2))
      ∧ r.2.sem = fun _ => 0)

def quiescent_HqPRefIdeal [hHqPRefIdeal : Cert.HqPRefIdeal.Facts] : Prop :=
  ∀ (m : (ℓ : Loc Cert.HqPRefIdeal.nD Cert.HqPRefIdeal.τ Cert.HqPRefIdeal.sig) → Buf (Elt Ideal) ℓ) (g : Dev Cert.HqPRefIdeal.nD → PrngReg), Pre_HqPRefIdeal m →
    θ_run (Cert.HqPRefIdeal.defs (F := Ideal)) (onTc (τ := Cert.HqPRefIdeal.τ) (Cert.HqPRefIdeal.main (F := Ideal))) ⟨m, fun _ => 0, g⟩ (fun r => (∀ c : Dev Cert.HqPRefIdeal.nD,
      r.2.mem ((c.tc : Thread Cert.HqPRefIdeal.nD Cert.HqPRefIdeal.τ).loc Cert.HqPRefIdeal.main_arg0) = m ((c.tc : Thread Cert.HqPRefIdeal.nD Cert.HqPRefIdeal.τ).loc Cert.HqPRefIdeal.main_arg0)
      ∧ r.2.mem ((c.tc : Thread Cert.HqPRefIdeal.nD Cert.HqPRefIdeal.τ).loc Cert.HqPRefIdeal.main_arg1) = m ((c.tc : Thread Cert.HqPRefIdeal.nD Cert.HqPRefIdeal.τ).loc Cert.HqPRefIdeal.main_arg1)
      ∧ r.2.mem ((c.tc : Thread Cert.HqPRefIdeal.nD Cert.HqPRefIdeal.τ).loc Cert.HqPRefIdeal.main_arg2) = m ((c.tc : Thread Cert.HqPRefIdeal.nD Cert.HqPRefIdeal.τ).loc Cert.HqPRefIdeal.main_arg2))
      ∧ r.2.sem = fun _ => 0)

def quiescent_GateP [hGateP : Cert.GateP.Facts] : Prop :=
  ∀ (m : (ℓ : Loc Cert.GateP.nD Cert.GateP.τ Cert.GateP.sig) → Buf (Elt Bits) ℓ) (g : Dev Cert.GateP.nD → PrngReg), Pre_GateP m →
    θ_run (Cert.GateP.defs (F := Bits)) (onTc (τ := Cert.GateP.τ) (Cert.GateP.main (F := Bits))) ⟨m, fun _ => 0, g⟩ (fun r => (∀ c : Dev Cert.GateP.nD,
      r.2.mem ((c.tc : Thread Cert.GateP.nD Cert.GateP.τ).loc Cert.GateP.main_arg0) = m ((c.tc : Thread Cert.GateP.nD Cert.GateP.τ).loc Cert.GateP.main_arg0)
      ∧ r.2.mem ((c.tc : Thread Cert.GateP.nD Cert.GateP.τ).loc Cert.GateP.main_arg1) = m ((c.tc : Thread Cert.GateP.nD Cert.GateP.τ).loc Cert.GateP.main_arg1)
      ∧ r.2.mem ((c.tc : Thread Cert.GateP.nD Cert.GateP.τ).loc Cert.GateP.main_arg2) = m ((c.tc : Thread Cert.GateP.nD Cert.GateP.τ).loc Cert.GateP.main_arg2))
      ∧ r.2.sem = fun _ => 0)

def quiescent_GatePIdeal [hGatePIdeal : Cert.GatePIdeal.Facts] : Prop :=
  ∀ (m : (ℓ : Loc Cert.GatePIdeal.nD Cert.GatePIdeal.τ Cert.GatePIdeal.sig) → Buf (Elt Ideal) ℓ) (g : Dev Cert.GatePIdeal.nD → PrngReg), Pre_GatePIdeal m →
    θ_run (Cert.GatePIdeal.defs (F := Ideal)) (onTc (τ := Cert.GatePIdeal.τ) (Cert.GatePIdeal.main (F := Ideal))) ⟨m, fun _ => 0, g⟩ (fun r => (∀ c : Dev Cert.GatePIdeal.nD,
      r.2.mem ((c.tc : Thread Cert.GatePIdeal.nD Cert.GatePIdeal.τ).loc Cert.GatePIdeal.main_arg0) = m ((c.tc : Thread Cert.GatePIdeal.nD Cert.GatePIdeal.τ).loc Cert.GatePIdeal.main_arg0)
      ∧ r.2.mem ((c.tc : Thread Cert.GatePIdeal.nD Cert.GatePIdeal.τ).loc Cert.GatePIdeal.main_arg1) = m ((c.tc : Thread Cert.GatePIdeal.nD Cert.GatePIdeal.τ).loc Cert.GatePIdeal.main_arg1)
      ∧ r.2.mem ((c.tc : Thread Cert.GatePIdeal.nD Cert.GatePIdeal.τ).loc Cert.GatePIdeal.main_arg2) = m ((c.tc : Thread Cert.GatePIdeal.nD Cert.GatePIdeal.τ).loc Cert.GatePIdeal.main_arg2))
      ∧ r.2.sem = fun _ => 0)

def quiescent_GatePRefIdeal [hGatePRefIdeal : Cert.GatePRefIdeal.Facts] : Prop :=
  ∀ (m : (ℓ : Loc Cert.GatePRefIdeal.nD Cert.GatePRefIdeal.τ Cert.GatePRefIdeal.sig) → Buf (Elt Ideal) ℓ) (g : Dev Cert.GatePRefIdeal.nD → PrngReg), Pre_GatePRefIdeal m →
    θ_run (Cert.GatePRefIdeal.defs (F := Ideal)) (onTc (τ := Cert.GatePRefIdeal.τ) (Cert.GatePRefIdeal.main (F := Ideal))) ⟨m, fun _ => 0, g⟩ (fun r => (∀ c : Dev Cert.GatePRefIdeal.nD,
      r.2.mem ((c.tc : Thread Cert.GatePRefIdeal.nD Cert.GatePRefIdeal.τ).loc Cert.GatePRefIdeal.main_arg0) = m ((c.tc : Thread Cert.GatePRefIdeal.nD Cert.GatePRefIdeal.τ).loc Cert.GatePRefIdeal.main_arg0)
      ∧ r.2.mem ((c.tc : Thread Cert.GatePRefIdeal.nD Cert.GatePRefIdeal.τ).loc Cert.GatePRefIdeal.main_arg1) = m ((c.tc : Thread Cert.GatePRefIdeal.nD Cert.GatePRefIdeal.τ).loc Cert.GatePRefIdeal.main_arg1)
      ∧ r.2.mem ((c.tc : Thread Cert.GatePRefIdeal.nD Cert.GatePRefIdeal.τ).loc Cert.GatePRefIdeal.main_arg2) = m ((c.tc : Thread Cert.GatePRefIdeal.nD Cert.GatePRefIdeal.τ).loc Cert.GatePRefIdeal.main_arg2))
      ∧ r.2.sem = fun _ => 0)

def quiescent_MergeP [hMergeP : Cert.MergeP.Facts] : Prop :=
  ∀ (m : (ℓ : Loc Cert.MergeP.nD Cert.MergeP.τ Cert.MergeP.sig) → Buf (Elt Bits) ℓ) (g : Dev Cert.MergeP.nD → PrngReg), Pre_MergeP m →
    θ_run (Cert.MergeP.defs (F := Bits)) (onTc (τ := Cert.MergeP.τ) (Cert.MergeP.main (F := Bits))) ⟨m, fun _ => 0, g⟩ (fun r => (∀ c : Dev Cert.MergeP.nD,
      r.2.mem ((c.tc : Thread Cert.MergeP.nD Cert.MergeP.τ).loc Cert.MergeP.main_arg0) = m ((c.tc : Thread Cert.MergeP.nD Cert.MergeP.τ).loc Cert.MergeP.main_arg0)
      ∧ r.2.mem ((c.tc : Thread Cert.MergeP.nD Cert.MergeP.τ).loc Cert.MergeP.main_arg1) = m ((c.tc : Thread Cert.MergeP.nD Cert.MergeP.τ).loc Cert.MergeP.main_arg1)
      ∧ r.2.mem ((c.tc : Thread Cert.MergeP.nD Cert.MergeP.τ).loc Cert.MergeP.main_arg2) = m ((c.tc : Thread Cert.MergeP.nD Cert.MergeP.τ).loc Cert.MergeP.main_arg2)
      ∧ r.2.mem ((c.tc : Thread Cert.MergeP.nD Cert.MergeP.τ).loc Cert.MergeP.main_arg3) = m ((c.tc : Thread Cert.MergeP.nD Cert.MergeP.τ).loc Cert.MergeP.main_arg3)
      ∧ r.2.mem ((c.tc : Thread Cert.MergeP.nD Cert.MergeP.τ).loc Cert.MergeP.main_arg4) = m ((c.tc : Thread Cert.MergeP.nD Cert.MergeP.τ).loc Cert.MergeP.main_arg4)
      ∧ r.2.mem ((c.tc : Thread Cert.MergeP.nD Cert.MergeP.τ).loc Cert.MergeP.main_arg5) = m ((c.tc : Thread Cert.MergeP.nD Cert.MergeP.τ).loc Cert.MergeP.main_arg5)
      ∧ r.2.mem ((c.tc : Thread Cert.MergeP.nD Cert.MergeP.τ).loc Cert.MergeP.main_arg6) = m ((c.tc : Thread Cert.MergeP.nD Cert.MergeP.τ).loc Cert.MergeP.main_arg6)
      ∧ r.2.mem ((c.tc : Thread Cert.MergeP.nD Cert.MergeP.τ).loc Cert.MergeP.main_arg7) = m ((c.tc : Thread Cert.MergeP.nD Cert.MergeP.τ).loc Cert.MergeP.main_arg7)
      ∧ r.2.mem ((c.tc : Thread Cert.MergeP.nD Cert.MergeP.τ).loc Cert.MergeP.main_arg8) = m ((c.tc : Thread Cert.MergeP.nD Cert.MergeP.τ).loc Cert.MergeP.main_arg8)
      ∧ r.2.mem ((c.tc : Thread Cert.MergeP.nD Cert.MergeP.τ).loc Cert.MergeP.main_arg9) = m ((c.tc : Thread Cert.MergeP.nD Cert.MergeP.τ).loc Cert.MergeP.main_arg9)
      ∧ r.2.mem ((c.tc : Thread Cert.MergeP.nD Cert.MergeP.τ).loc Cert.MergeP.main_arg10) = m ((c.tc : Thread Cert.MergeP.nD Cert.MergeP.τ).loc Cert.MergeP.main_arg10))
      ∧ r.2.sem = fun _ => 0)

def quiescent_MergePIdeal [hMergePIdeal : Cert.MergePIdeal.Facts] : Prop :=
  ∀ (m : (ℓ : Loc Cert.MergePIdeal.nD Cert.MergePIdeal.τ Cert.MergePIdeal.sig) → Buf (Elt Ideal) ℓ) (g : Dev Cert.MergePIdeal.nD → PrngReg), Pre_MergePIdeal m →
    θ_run (Cert.MergePIdeal.defs (F := Ideal)) (onTc (τ := Cert.MergePIdeal.τ) (Cert.MergePIdeal.main (F := Ideal))) ⟨m, fun _ => 0, g⟩ (fun r => (∀ c : Dev Cert.MergePIdeal.nD,
      r.2.mem ((c.tc : Thread Cert.MergePIdeal.nD Cert.MergePIdeal.τ).loc Cert.MergePIdeal.main_arg0) = m ((c.tc : Thread Cert.MergePIdeal.nD Cert.MergePIdeal.τ).loc Cert.MergePIdeal.main_arg0)
      ∧ r.2.mem ((c.tc : Thread Cert.MergePIdeal.nD Cert.MergePIdeal.τ).loc Cert.MergePIdeal.main_arg1) = m ((c.tc : Thread Cert.MergePIdeal.nD Cert.MergePIdeal.τ).loc Cert.MergePIdeal.main_arg1)
      ∧ r.2.mem ((c.tc : Thread Cert.MergePIdeal.nD Cert.MergePIdeal.τ).loc Cert.MergePIdeal.main_arg2) = m ((c.tc : Thread Cert.MergePIdeal.nD Cert.MergePIdeal.τ).loc Cert.MergePIdeal.main_arg2)
      ∧ r.2.mem ((c.tc : Thread Cert.MergePIdeal.nD Cert.MergePIdeal.τ).loc Cert.MergePIdeal.main_arg3) = m ((c.tc : Thread Cert.MergePIdeal.nD Cert.MergePIdeal.τ).loc Cert.MergePIdeal.main_arg3)
      ∧ r.2.mem ((c.tc : Thread Cert.MergePIdeal.nD Cert.MergePIdeal.τ).loc Cert.MergePIdeal.main_arg4) = m ((c.tc : Thread Cert.MergePIdeal.nD Cert.MergePIdeal.τ).loc Cert.MergePIdeal.main_arg4)
      ∧ r.2.mem ((c.tc : Thread Cert.MergePIdeal.nD Cert.MergePIdeal.τ).loc Cert.MergePIdeal.main_arg5) = m ((c.tc : Thread Cert.MergePIdeal.nD Cert.MergePIdeal.τ).loc Cert.MergePIdeal.main_arg5)
      ∧ r.2.mem ((c.tc : Thread Cert.MergePIdeal.nD Cert.MergePIdeal.τ).loc Cert.MergePIdeal.main_arg6) = m ((c.tc : Thread Cert.MergePIdeal.nD Cert.MergePIdeal.τ).loc Cert.MergePIdeal.main_arg6)
      ∧ r.2.mem ((c.tc : Thread Cert.MergePIdeal.nD Cert.MergePIdeal.τ).loc Cert.MergePIdeal.main_arg7) = m ((c.tc : Thread Cert.MergePIdeal.nD Cert.MergePIdeal.τ).loc Cert.MergePIdeal.main_arg7)
      ∧ r.2.mem ((c.tc : Thread Cert.MergePIdeal.nD Cert.MergePIdeal.τ).loc Cert.MergePIdeal.main_arg8) = m ((c.tc : Thread Cert.MergePIdeal.nD Cert.MergePIdeal.τ).loc Cert.MergePIdeal.main_arg8)
      ∧ r.2.mem ((c.tc : Thread Cert.MergePIdeal.nD Cert.MergePIdeal.τ).loc Cert.MergePIdeal.main_arg9) = m ((c.tc : Thread Cert.MergePIdeal.nD Cert.MergePIdeal.τ).loc Cert.MergePIdeal.main_arg9)
      ∧ r.2.mem ((c.tc : Thread Cert.MergePIdeal.nD Cert.MergePIdeal.τ).loc Cert.MergePIdeal.main_arg10) = m ((c.tc : Thread Cert.MergePIdeal.nD Cert.MergePIdeal.τ).loc Cert.MergePIdeal.main_arg10))
      ∧ r.2.sem = fun _ => 0)

def quiescent_MergePRefIdeal [hMergePRefIdeal : Cert.MergePRefIdeal.Facts] : Prop :=
  ∀ (m : (ℓ : Loc Cert.MergePRefIdeal.nD Cert.MergePRefIdeal.τ Cert.MergePRefIdeal.sig) → Buf (Elt Ideal) ℓ) (g : Dev Cert.MergePRefIdeal.nD → PrngReg), Pre_MergePRefIdeal m →
    θ_run (Cert.MergePRefIdeal.defs (F := Ideal)) (onTc (τ := Cert.MergePRefIdeal.τ) (Cert.MergePRefIdeal.main (F := Ideal))) ⟨m, fun _ => 0, g⟩ (fun r => (∀ c : Dev Cert.MergePRefIdeal.nD,
      r.2.mem ((c.tc : Thread Cert.MergePRefIdeal.nD Cert.MergePRefIdeal.τ).loc Cert.MergePRefIdeal.main_arg0) = m ((c.tc : Thread Cert.MergePRefIdeal.nD Cert.MergePRefIdeal.τ).loc Cert.MergePRefIdeal.main_arg0)
      ∧ r.2.mem ((c.tc : Thread Cert.MergePRefIdeal.nD Cert.MergePRefIdeal.τ).loc Cert.MergePRefIdeal.main_arg1) = m ((c.tc : Thread Cert.MergePRefIdeal.nD Cert.MergePRefIdeal.τ).loc Cert.MergePRefIdeal.main_arg1)
      ∧ r.2.mem ((c.tc : Thread Cert.MergePRefIdeal.nD Cert.MergePRefIdeal.τ).loc Cert.MergePRefIdeal.main_arg2) = m ((c.tc : Thread Cert.MergePRefIdeal.nD Cert.MergePRefIdeal.τ).loc Cert.MergePRefIdeal.main_arg2)
      ∧ r.2.mem ((c.tc : Thread Cert.MergePRefIdeal.nD Cert.MergePRefIdeal.τ).loc Cert.MergePRefIdeal.main_arg3) = m ((c.tc : Thread Cert.MergePRefIdeal.nD Cert.MergePRefIdeal.τ).loc Cert.MergePRefIdeal.main_arg3)
      ∧ r.2.mem ((c.tc : Thread Cert.MergePRefIdeal.nD Cert.MergePRefIdeal.τ).loc Cert.MergePRefIdeal.main_arg4) = m ((c.tc : Thread Cert.MergePRefIdeal.nD Cert.MergePRefIdeal.τ).loc Cert.MergePRefIdeal.main_arg4)
      ∧ r.2.mem ((c.tc : Thread Cert.MergePRefIdeal.nD Cert.MergePRefIdeal.τ).loc Cert.MergePRefIdeal.main_arg5) = m ((c.tc : Thread Cert.MergePRefIdeal.nD Cert.MergePRefIdeal.τ).loc Cert.MergePRefIdeal.main_arg5)
      ∧ r.2.mem ((c.tc : Thread Cert.MergePRefIdeal.nD Cert.MergePRefIdeal.τ).loc Cert.MergePRefIdeal.main_arg6) = m ((c.tc : Thread Cert.MergePRefIdeal.nD Cert.MergePRefIdeal.τ).loc Cert.MergePRefIdeal.main_arg6)
      ∧ r.2.mem ((c.tc : Thread Cert.MergePRefIdeal.nD Cert.MergePRefIdeal.τ).loc Cert.MergePRefIdeal.main_arg7) = m ((c.tc : Thread Cert.MergePRefIdeal.nD Cert.MergePRefIdeal.τ).loc Cert.MergePRefIdeal.main_arg7)
      ∧ r.2.mem ((c.tc : Thread Cert.MergePRefIdeal.nD Cert.MergePRefIdeal.τ).loc Cert.MergePRefIdeal.main_arg8) = m ((c.tc : Thread Cert.MergePRefIdeal.nD Cert.MergePRefIdeal.τ).loc Cert.MergePRefIdeal.main_arg8)
      ∧ r.2.mem ((c.tc : Thread Cert.MergePRefIdeal.nD Cert.MergePRefIdeal.τ).loc Cert.MergePRefIdeal.main_arg9) = m ((c.tc : Thread Cert.MergePRefIdeal.nD Cert.MergePRefIdeal.τ).loc Cert.MergePRefIdeal.main_arg9)
      ∧ r.2.mem ((c.tc : Thread Cert.MergePRefIdeal.nD Cert.MergePRefIdeal.τ).loc Cert.MergePRefIdeal.main_arg10) = m ((c.tc : Thread Cert.MergePRefIdeal.nD Cert.MergePRefIdeal.τ).loc Cert.MergePRefIdeal.main_arg10))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7)
      ∧ r.2.mem ((c.tc : Thread Cert.MergeS.nD Cert.MergeS.τ).loc Cert.MergeS.main_arg8) = m ((c.tc : Thread Cert.MergeS.nD Cert.MergeS.τ).loc Cert.MergeS.main_arg8)
      ∧ r.2.mem ((c.tc : Thread Cert.MergeS.nD Cert.MergeS.τ).loc Cert.MergeS.main_arg9) = m ((c.tc : Thread Cert.MergeS.nD Cert.MergeS.τ).loc Cert.MergeS.main_arg9)
      ∧ r.2.mem ((c.tc : Thread Cert.MergeS.nD Cert.MergeS.τ).loc Cert.MergeS.main_arg10) = m ((c.tc : Thread Cert.MergeS.nD Cert.MergeS.τ).loc Cert.MergeS.main_arg10))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
      ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
      ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
      ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7)
      ∧ r.2.mem ((c.tc : Thread Cert.MergeSRefIdeal.nD Cert.MergeSRefIdeal.τ).loc Cert.MergeSRefIdeal.main_arg8) = m ((c.tc : Thread Cert.MergeSRefIdeal.nD Cert.MergeSRefIdeal.τ).loc Cert.MergeSRefIdeal.main_arg8)
      ∧ r.2.mem ((c.tc : Thread Cert.MergeSRefIdeal.nD Cert.MergeSRefIdeal.τ).loc Cert.MergeSRefIdeal.main_arg9) = m ((c.tc : Thread Cert.MergeSRefIdeal.nD Cert.MergeSRefIdeal.τ).loc Cert.MergeSRefIdeal.main_arg9)
      ∧ r.2.mem ((c.tc : Thread Cert.MergeSRefIdeal.nD Cert.MergeSRefIdeal.τ).loc Cert.MergeSRefIdeal.main_arg10) = m ((c.tc : Thread Cert.MergeSRefIdeal.nD Cert.MergeSRefIdeal.τ).loc Cert.MergeSRefIdeal.main_arg10))
      ∧ r.2.sem = fun _ => 0)

def quiescent_PromptAttn [hPromptAttn : Cert.PromptAttn.Facts] : Prop :=
  ∀ (m : (ℓ : Loc Cert.PromptAttn.nD Cert.PromptAttn.τ Cert.PromptAttn.sig) → Buf (Elt Bits) ℓ) (g : Dev Cert.PromptAttn.nD → PrngReg), Pre_PromptAttn m →
    θ_run (Cert.PromptAttn.defs (F := Bits)) (onTc (τ := Cert.PromptAttn.τ) (Cert.PromptAttn.main (F := Bits))) ⟨m, fun _ => 0, g⟩ (fun r => (∀ c : Dev Cert.PromptAttn.nD,
      r.2.mem ((c.tc : Thread Cert.PromptAttn.nD Cert.PromptAttn.τ).loc Cert.PromptAttn.main_arg0) = m ((c.tc : Thread Cert.PromptAttn.nD Cert.PromptAttn.τ).loc Cert.PromptAttn.main_arg0)
      ∧ r.2.mem ((c.tc : Thread Cert.PromptAttn.nD Cert.PromptAttn.τ).loc Cert.PromptAttn.main_arg1) = m ((c.tc : Thread Cert.PromptAttn.nD Cert.PromptAttn.τ).loc Cert.PromptAttn.main_arg1))
      ∧ r.2.sem = fun _ => 0)

def quiescent_PromptAttnIdeal [hPromptAttnIdeal : Cert.PromptAttnIdeal.Facts] : Prop :=
  ∀ (m : (ℓ : Loc Cert.PromptAttnIdeal.nD Cert.PromptAttnIdeal.τ Cert.PromptAttnIdeal.sig) → Buf (Elt Ideal) ℓ) (g : Dev Cert.PromptAttnIdeal.nD → PrngReg), Pre_PromptAttnIdeal m →
    θ_run (Cert.PromptAttnIdeal.defs (F := Ideal)) (onTc (τ := Cert.PromptAttnIdeal.τ) (Cert.PromptAttnIdeal.main (F := Ideal))) ⟨m, fun _ => 0, g⟩ (fun r => (∀ c : Dev Cert.PromptAttnIdeal.nD,
      r.2.mem ((c.tc : Thread Cert.PromptAttnIdeal.nD Cert.PromptAttnIdeal.τ).loc Cert.PromptAttnIdeal.main_arg0) = m ((c.tc : Thread Cert.PromptAttnIdeal.nD Cert.PromptAttnIdeal.τ).loc Cert.PromptAttnIdeal.main_arg0)
      ∧ r.2.mem ((c.tc : Thread Cert.PromptAttnIdeal.nD Cert.PromptAttnIdeal.τ).loc Cert.PromptAttnIdeal.main_arg1) = m ((c.tc : Thread Cert.PromptAttnIdeal.nD Cert.PromptAttnIdeal.τ).loc Cert.PromptAttnIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KvP_KvPIdeal : Prop :=
  True

def algebraic_KvPIdeal_KvPRefIdeal [hKvPIdeal : Cert.KvPIdeal.Facts] [hKvPRefIdeal : Cert.KvPRefIdeal.Facts] : Prop :=
  ∀ (m : (ℓ : Loc Cert.KvPIdeal.nD Cert.KvPIdeal.τ Cert.KvPIdeal.sig) → Buf (Elt Ideal) ℓ) (g : Dev Cert.KvPIdeal.nD → PrngReg)
    (m' : (ℓ : Loc Cert.KvPRefIdeal.nD Cert.KvPRefIdeal.τ Cert.KvPRefIdeal.sig) → Buf (Elt Ideal) ℓ) (g' : Dev Cert.KvPRefIdeal.nD → PrngReg), Pre_KvPIdeal m →
    (∀ c : Dev Cert.KvPIdeal.nD,
      m' ((c.tc : Thread Cert.KvPRefIdeal.nD Cert.KvPRefIdeal.τ).loc Cert.KvPRefIdeal.main_arg0) = m ((c.tc : Thread Cert.KvPIdeal.nD Cert.KvPIdeal.τ).loc Cert.KvPIdeal.main_arg0)
      ∧ m' ((c.tc : Thread Cert.KvPRefIdeal.nD Cert.KvPRefIdeal.τ).loc Cert.KvPRefIdeal.main_arg1) = m ((c.tc : Thread Cert.KvPIdeal.nD Cert.KvPIdeal.τ).loc Cert.KvPIdeal.main_arg1)
      ∧ m' ((c.tc : Thread Cert.KvPRefIdeal.nD Cert.KvPRefIdeal.τ).loc Cert.KvPRefIdeal.main_arg2) = m ((c.tc : Thread Cert.KvPIdeal.nD Cert.KvPIdeal.τ).loc Cert.KvPIdeal.main_arg2)) →
    ∃ (v0 : (c : Dev Cert.KvPIdeal.nD) → Buf (Elt Ideal) ((c.tc : Thread Cert.KvPIdeal.nD Cert.KvPIdeal.τ).loc Cert.KvPIdeal.main_v25)) (v1 : (c : Dev Cert.KvPIdeal.nD) → Buf (Elt Ideal) ((c.tc : Thread Cert.KvPIdeal.nD Cert.KvPIdeal.τ).loc Cert.KvPIdeal.main_v27)) (v2 : (c : Dev Cert.KvPIdeal.nD) → Buf (Elt Ideal) ((c.tc : Thread Cert.KvPIdeal.nD Cert.KvPIdeal.τ).loc Cert.KvPIdeal.main_v29)),
      θ_run (Cert.KvPIdeal.defs (F := Ideal)) (onTc (τ := Cert.KvPIdeal.τ) (Cert.KvPIdeal.main (F := Ideal))) ⟨m, fun _ => 0, g⟩ (fun r => ∀ c : Dev Cert.KvPIdeal.nD,
          r.2.mem ((c.tc : Thread Cert.KvPIdeal.nD Cert.KvPIdeal.τ).loc Cert.KvPIdeal.main_v25) = v0 c
          ∧ r.2.mem ((c.tc : Thread Cert.KvPIdeal.nD Cert.KvPIdeal.τ).loc Cert.KvPIdeal.main_v27) = v1 c
          ∧ r.2.mem ((c.tc : Thread Cert.KvPIdeal.nD Cert.KvPIdeal.τ).loc Cert.KvPIdeal.main_v29) = v2 c
          ∧ r.2.mem ((c.tc : Thread Cert.KvPIdeal.nD Cert.KvPIdeal.τ).loc Cert.KvPIdeal.main_arg0) = m ((c.tc : Thread Cert.KvPIdeal.nD Cert.KvPIdeal.τ).loc Cert.KvPIdeal.main_arg0)
          ∧ r.2.mem ((c.tc : Thread Cert.KvPIdeal.nD Cert.KvPIdeal.τ).loc Cert.KvPIdeal.main_arg1) = m ((c.tc : Thread Cert.KvPIdeal.nD Cert.KvPIdeal.τ).loc Cert.KvPIdeal.main_arg1)
          ∧ r.2.mem ((c.tc : Thread Cert.KvPIdeal.nD Cert.KvPIdeal.τ).loc Cert.KvPIdeal.main_arg2) = m ((c.tc : Thread Cert.KvPIdeal.nD Cert.KvPIdeal.τ).loc Cert.KvPIdeal.main_arg2))
      ∧ θ_run (Cert.KvPRefIdeal.defs (F := Ideal)) (onTc (τ := Cert.KvPRefIdeal.τ) (Cert.KvPRefIdeal.main (F := Ideal))) ⟨m', fun _ => 0, g'⟩ (fun r => ∀ c : Dev Cert.KvPRefIdeal.nD,
          r.2.mem ((c.tc : Thread Cert.KvPRefIdeal.nD Cert.KvPRefIdeal.τ).loc Cert.KvPRefIdeal.main_v17) = v0 c
          ∧ r.2.mem ((c.tc : Thread Cert.KvPRefIdeal.nD Cert.KvPRefIdeal.τ).loc Cert.KvPRefIdeal.main_v19) = v1 c
          ∧ r.2.mem ((c.tc : Thread Cert.KvPRefIdeal.nD Cert.KvPRefIdeal.τ).loc Cert.KvPRefIdeal.main_v21) = v2 c
          ∧ r.2.mem ((c.tc : Thread Cert.KvPRefIdeal.nD Cert.KvPRefIdeal.τ).loc Cert.KvPRefIdeal.main_arg0) = m' ((c.tc : Thread Cert.KvPRefIdeal.nD Cert.KvPRefIdeal.τ).loc Cert.KvPRefIdeal.main_arg0)
          ∧ r.2.mem ((c.tc : Thread Cert.KvPRefIdeal.nD Cert.KvPRefIdeal.τ).loc Cert.KvPRefIdeal.main_arg1) = m' ((c.tc : Thread Cert.KvPRefIdeal.nD Cert.KvPRefIdeal.τ).loc Cert.KvPRefIdeal.main_arg1)
          ∧ r.2.mem ((c.tc : Thread Cert.KvPRefIdeal.nD Cert.KvPRefIdeal.τ).loc Cert.KvPRefIdeal.main_arg2) = m' ((c.tc : Thread Cert.KvPRefIdeal.nD Cert.KvPRefIdeal.τ).loc Cert.KvPRefIdeal.main_arg2))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)
      ∧ m' ((c.tc : Thread Cert.KvSRefIdeal.nD Cert.KvSRefIdeal.τ).loc Cert.KvSRefIdeal.main_arg2) = m ((c.tc : Thread Cert.KvSIdeal.nD Cert.KvSIdeal.τ).loc Cert.KvSIdeal.main_arg2)) →
    ∃ (v0 : (c : Dev Cert.KvSIdeal.nD) → Buf (Elt Ideal) ((c.tc : Thread Cert.KvSIdeal.nD Cert.KvSIdeal.τ).loc Cert.KvSIdeal.main_v25)) (v1 : (c : Dev Cert.KvSIdeal.nD) → Buf (Elt Ideal) ((c.tc : Thread Cert.KvSIdeal.nD Cert.KvSIdeal.τ).loc Cert.KvSIdeal.main_v27)) (v2 : (c : Dev Cert.KvSIdeal.nD) → Buf (Elt Ideal) ((c.tc : Thread Cert.KvSIdeal.nD Cert.KvSIdeal.τ).loc Cert.KvSIdeal.main_v29)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v25) = v0 c
          ∧ r.2.mem ((c.tc : Thread Cert.KvSIdeal.nD Cert.KvSIdeal.τ).loc Cert.KvSIdeal.main_v27) = v1 c
          ∧ r.2.mem ((c.tc : Thread Cert.KvSIdeal.nD Cert.KvSIdeal.τ).loc Cert.KvSIdeal.main_v29) = v2 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1)
          ∧ r.2.mem ((c.tc : Thread Cert.KvSIdeal.nD Cert.KvSIdeal.τ).loc Cert.KvSIdeal.main_arg2) = m ((c.tc : Thread Cert.KvSIdeal.nD Cert.KvSIdeal.τ).loc Cert.KvSIdeal.main_arg2))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v17) = v0 c
          ∧ r.2.mem ((c.tc : Thread Cert.KvSRefIdeal.nD Cert.KvSRefIdeal.τ).loc Cert.KvSRefIdeal.main_v19) = v1 c
          ∧ r.2.mem ((c.tc : Thread Cert.KvSRefIdeal.nD Cert.KvSRefIdeal.τ).loc Cert.KvSRefIdeal.main_v21) = v2 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1)
          ∧ r.2.mem ((c.tc : Thread Cert.KvSRefIdeal.nD Cert.KvSRefIdeal.τ).loc Cert.KvSRefIdeal.main_arg2) = m' ((c.tc : Thread Cert.KvSRefIdeal.nD Cert.KvSRefIdeal.τ).loc Cert.KvSRefIdeal.main_arg2))

def preserves_HqP_HqPIdeal : Prop :=
  True

def algebraic_HqPIdeal_HqPRefIdeal [hHqPIdeal : Cert.HqPIdeal.Facts] [hHqPRefIdeal : Cert.HqPRefIdeal.Facts] : Prop :=
  ∀ (m : (ℓ : Loc Cert.HqPIdeal.nD Cert.HqPIdeal.τ Cert.HqPIdeal.sig) → Buf (Elt Ideal) ℓ) (g : Dev Cert.HqPIdeal.nD → PrngReg)
    (m' : (ℓ : Loc Cert.HqPRefIdeal.nD Cert.HqPRefIdeal.τ Cert.HqPRefIdeal.sig) → Buf (Elt Ideal) ℓ) (g' : Dev Cert.HqPRefIdeal.nD → PrngReg), Pre_HqPIdeal m →
    (∀ c : Dev Cert.HqPIdeal.nD,
      m' ((c.tc : Thread Cert.HqPRefIdeal.nD Cert.HqPRefIdeal.τ).loc Cert.HqPRefIdeal.main_arg0) = m ((c.tc : Thread Cert.HqPIdeal.nD Cert.HqPIdeal.τ).loc Cert.HqPIdeal.main_arg0)
      ∧ m' ((c.tc : Thread Cert.HqPRefIdeal.nD Cert.HqPRefIdeal.τ).loc Cert.HqPRefIdeal.main_arg1) = m ((c.tc : Thread Cert.HqPIdeal.nD Cert.HqPIdeal.τ).loc Cert.HqPIdeal.main_arg1)
      ∧ m' ((c.tc : Thread Cert.HqPRefIdeal.nD Cert.HqPRefIdeal.τ).loc Cert.HqPRefIdeal.main_arg2) = m ((c.tc : Thread Cert.HqPIdeal.nD Cert.HqPIdeal.τ).loc Cert.HqPIdeal.main_arg2)) →
    ∃ (v0 : (c : Dev Cert.HqPIdeal.nD) → Buf (Elt Ideal) ((c.tc : Thread Cert.HqPIdeal.nD Cert.HqPIdeal.τ).loc Cert.HqPIdeal.main_v23)),
      θ_run (Cert.HqPIdeal.defs (F := Ideal)) (onTc (τ := Cert.HqPIdeal.τ) (Cert.HqPIdeal.main (F := Ideal))) ⟨m, fun _ => 0, g⟩ (fun r => ∀ c : Dev Cert.HqPIdeal.nD,
          r.2.mem ((c.tc : Thread Cert.HqPIdeal.nD Cert.HqPIdeal.τ).loc Cert.HqPIdeal.main_v23) = v0 c
          ∧ r.2.mem ((c.tc : Thread Cert.HqPIdeal.nD Cert.HqPIdeal.τ).loc Cert.HqPIdeal.main_arg0) = m ((c.tc : Thread Cert.HqPIdeal.nD Cert.HqPIdeal.τ).loc Cert.HqPIdeal.main_arg0)
          ∧ r.2.mem ((c.tc : Thread Cert.HqPIdeal.nD Cert.HqPIdeal.τ).loc Cert.HqPIdeal.main_arg1) = m ((c.tc : Thread Cert.HqPIdeal.nD Cert.HqPIdeal.τ).loc Cert.HqPIdeal.main_arg1)
          ∧ r.2.mem ((c.tc : Thread Cert.HqPIdeal.nD Cert.HqPIdeal.τ).loc Cert.HqPIdeal.main_arg2) = m ((c.tc : Thread Cert.HqPIdeal.nD Cert.HqPIdeal.τ).loc Cert.HqPIdeal.main_arg2))
      ∧ θ_run (Cert.HqPRefIdeal.defs (F := Ideal)) (onTc (τ := Cert.HqPRefIdeal.τ) (Cert.HqPRefIdeal.main (F := Ideal))) ⟨m', fun _ => 0, g'⟩ (fun r => ∀ c : Dev Cert.HqPRefIdeal.nD,
          r.2.mem ((c.tc : Thread Cert.HqPRefIdeal.nD Cert.HqPRefIdeal.τ).loc Cert.HqPRefIdeal.main_v20) = v0 c
          ∧ r.2.mem ((c.tc : Thread Cert.HqPRefIdeal.nD Cert.HqPRefIdeal.τ).loc Cert.HqPRefIdeal.main_arg0) = m' ((c.tc : Thread Cert.HqPRefIdeal.nD Cert.HqPRefIdeal.τ).loc Cert.HqPRefIdeal.main_arg0)
          ∧ r.2.mem ((c.tc : Thread Cert.HqPRefIdeal.nD Cert.HqPRefIdeal.τ).loc Cert.HqPRefIdeal.main_arg1) = m' ((c.tc : Thread Cert.HqPRefIdeal.nD Cert.HqPRefIdeal.τ).loc Cert.HqPRefIdeal.main_arg1)
          ∧ r.2.mem ((c.tc : Thread Cert.HqPRefIdeal.nD Cert.HqPRefIdeal.τ).loc Cert.HqPRefIdeal.main_arg2) = m' ((c.tc : Thread Cert.HqPRefIdeal.nD Cert.HqPRefIdeal.τ).loc Cert.HqPRefIdeal.main_arg2))

def preserves_GateP_GatePIdeal : Prop :=
  True

def algebraic_GatePIdeal_GatePRefIdeal [hGatePIdeal : Cert.GatePIdeal.Facts] [hGatePRefIdeal : Cert.GatePRefIdeal.Facts] : Prop :=
  ∀ (m : (ℓ : Loc Cert.GatePIdeal.nD Cert.GatePIdeal.τ Cert.GatePIdeal.sig) → Buf (Elt Ideal) ℓ) (g : Dev Cert.GatePIdeal.nD → PrngReg)
    (m' : (ℓ : Loc Cert.GatePRefIdeal.nD Cert.GatePRefIdeal.τ Cert.GatePRefIdeal.sig) → Buf (Elt Ideal) ℓ) (g' : Dev Cert.GatePRefIdeal.nD → PrngReg), Pre_GatePIdeal m →
    (∀ c : Dev Cert.GatePIdeal.nD,
      m' ((c.tc : Thread Cert.GatePRefIdeal.nD Cert.GatePRefIdeal.τ).loc Cert.GatePRefIdeal.main_arg0) = m ((c.tc : Thread Cert.GatePIdeal.nD Cert.GatePIdeal.τ).loc Cert.GatePIdeal.main_arg0)
      ∧ m' ((c.tc : Thread Cert.GatePRefIdeal.nD Cert.GatePRefIdeal.τ).loc Cert.GatePRefIdeal.main_arg1) = m ((c.tc : Thread Cert.GatePIdeal.nD Cert.GatePIdeal.τ).loc Cert.GatePIdeal.main_arg1)
      ∧ m' ((c.tc : Thread Cert.GatePRefIdeal.nD Cert.GatePRefIdeal.τ).loc Cert.GatePRefIdeal.main_arg2) = m ((c.tc : Thread Cert.GatePIdeal.nD Cert.GatePIdeal.τ).loc Cert.GatePIdeal.main_arg2)) →
    ∃ (v0 : (c : Dev Cert.GatePIdeal.nD) → Buf (Elt Ideal) ((c.tc : Thread Cert.GatePIdeal.nD Cert.GatePIdeal.τ).loc Cert.GatePIdeal.main_v23)),
      θ_run (Cert.GatePIdeal.defs (F := Ideal)) (onTc (τ := Cert.GatePIdeal.τ) (Cert.GatePIdeal.main (F := Ideal))) ⟨m, fun _ => 0, g⟩ (fun r => ∀ c : Dev Cert.GatePIdeal.nD,
          r.2.mem ((c.tc : Thread Cert.GatePIdeal.nD Cert.GatePIdeal.τ).loc Cert.GatePIdeal.main_v23) = v0 c
          ∧ r.2.mem ((c.tc : Thread Cert.GatePIdeal.nD Cert.GatePIdeal.τ).loc Cert.GatePIdeal.main_arg0) = m ((c.tc : Thread Cert.GatePIdeal.nD Cert.GatePIdeal.τ).loc Cert.GatePIdeal.main_arg0)
          ∧ r.2.mem ((c.tc : Thread Cert.GatePIdeal.nD Cert.GatePIdeal.τ).loc Cert.GatePIdeal.main_arg1) = m ((c.tc : Thread Cert.GatePIdeal.nD Cert.GatePIdeal.τ).loc Cert.GatePIdeal.main_arg1)
          ∧ r.2.mem ((c.tc : Thread Cert.GatePIdeal.nD Cert.GatePIdeal.τ).loc Cert.GatePIdeal.main_arg2) = m ((c.tc : Thread Cert.GatePIdeal.nD Cert.GatePIdeal.τ).loc Cert.GatePIdeal.main_arg2))
      ∧ θ_run (Cert.GatePRefIdeal.defs (F := Ideal)) (onTc (τ := Cert.GatePRefIdeal.τ) (Cert.GatePRefIdeal.main (F := Ideal))) ⟨m', fun _ => 0, g'⟩ (fun r => ∀ c : Dev Cert.GatePRefIdeal.nD,
          r.2.mem ((c.tc : Thread Cert.GatePRefIdeal.nD Cert.GatePRefIdeal.τ).loc Cert.GatePRefIdeal.main_v17) = v0 c
          ∧ r.2.mem ((c.tc : Thread Cert.GatePRefIdeal.nD Cert.GatePRefIdeal.τ).loc Cert.GatePRefIdeal.main_arg0) = m' ((c.tc : Thread Cert.GatePRefIdeal.nD Cert.GatePRefIdeal.τ).loc Cert.GatePRefIdeal.main_arg0)
          ∧ r.2.mem ((c.tc : Thread Cert.GatePRefIdeal.nD Cert.GatePRefIdeal.τ).loc Cert.GatePRefIdeal.main_arg1) = m' ((c.tc : Thread Cert.GatePRefIdeal.nD Cert.GatePRefIdeal.τ).loc Cert.GatePRefIdeal.main_arg1)
          ∧ r.2.mem ((c.tc : Thread Cert.GatePRefIdeal.nD Cert.GatePRefIdeal.τ).loc Cert.GatePRefIdeal.main_arg2) = m' ((c.tc : Thread Cert.GatePRefIdeal.nD Cert.GatePRefIdeal.τ).loc Cert.GatePRefIdeal.main_arg2))

def preserves_MergeP_MergePIdeal : Prop :=
  True

def algebraic_MergePIdeal_MergePRefIdeal [hMergePIdeal : Cert.MergePIdeal.Facts] [hMergePRefIdeal : Cert.MergePRefIdeal.Facts] : Prop :=
  ∀ (m : (ℓ : Loc Cert.MergePIdeal.nD Cert.MergePIdeal.τ Cert.MergePIdeal.sig) → Buf (Elt Ideal) ℓ) (g : Dev Cert.MergePIdeal.nD → PrngReg)
    (m' : (ℓ : Loc Cert.MergePRefIdeal.nD Cert.MergePRefIdeal.τ Cert.MergePRefIdeal.sig) → Buf (Elt Ideal) ℓ) (g' : Dev Cert.MergePRefIdeal.nD → PrngReg), Pre_MergePIdeal m →
    (∀ c : Dev Cert.MergePIdeal.nD,
      m' ((c.tc : Thread Cert.MergePRefIdeal.nD Cert.MergePRefIdeal.τ).loc Cert.MergePRefIdeal.main_arg0) = m ((c.tc : Thread Cert.MergePIdeal.nD Cert.MergePIdeal.τ).loc Cert.MergePIdeal.main_arg0)
      ∧ m' ((c.tc : Thread Cert.MergePRefIdeal.nD Cert.MergePRefIdeal.τ).loc Cert.MergePRefIdeal.main_arg1) = m ((c.tc : Thread Cert.MergePIdeal.nD Cert.MergePIdeal.τ).loc Cert.MergePIdeal.main_arg1)
      ∧ m' ((c.tc : Thread Cert.MergePRefIdeal.nD Cert.MergePRefIdeal.τ).loc Cert.MergePRefIdeal.main_arg2) = m ((c.tc : Thread Cert.MergePIdeal.nD Cert.MergePIdeal.τ).loc Cert.MergePIdeal.main_arg2)
      ∧ m' ((c.tc : Thread Cert.MergePRefIdeal.nD Cert.MergePRefIdeal.τ).loc Cert.MergePRefIdeal.main_arg3) = m ((c.tc : Thread Cert.MergePIdeal.nD Cert.MergePIdeal.τ).loc Cert.MergePIdeal.main_arg3)
      ∧ m' ((c.tc : Thread Cert.MergePRefIdeal.nD Cert.MergePRefIdeal.τ).loc Cert.MergePRefIdeal.main_arg4) = m ((c.tc : Thread Cert.MergePIdeal.nD Cert.MergePIdeal.τ).loc Cert.MergePIdeal.main_arg4)
      ∧ m' ((c.tc : Thread Cert.MergePRefIdeal.nD Cert.MergePRefIdeal.τ).loc Cert.MergePRefIdeal.main_arg5) = m ((c.tc : Thread Cert.MergePIdeal.nD Cert.MergePIdeal.τ).loc Cert.MergePIdeal.main_arg5)
      ∧ m' ((c.tc : Thread Cert.MergePRefIdeal.nD Cert.MergePRefIdeal.τ).loc Cert.MergePRefIdeal.main_arg6) = m ((c.tc : Thread Cert.MergePIdeal.nD Cert.MergePIdeal.τ).loc Cert.MergePIdeal.main_arg6)
      ∧ m' ((c.tc : Thread Cert.MergePRefIdeal.nD Cert.MergePRefIdeal.τ).loc Cert.MergePRefIdeal.main_arg7) = m ((c.tc : Thread Cert.MergePIdeal.nD Cert.MergePIdeal.τ).loc Cert.MergePIdeal.main_arg7)
      ∧ m' ((c.tc : Thread Cert.MergePRefIdeal.nD Cert.MergePRefIdeal.τ).loc Cert.MergePRefIdeal.main_arg8) = m ((c.tc : Thread Cert.MergePIdeal.nD Cert.MergePIdeal.τ).loc Cert.MergePIdeal.main_arg8)
      ∧ m' ((c.tc : Thread Cert.MergePRefIdeal.nD Cert.MergePRefIdeal.τ).loc Cert.MergePRefIdeal.main_arg9) = m ((c.tc : Thread Cert.MergePIdeal.nD Cert.MergePIdeal.τ).loc Cert.MergePIdeal.main_arg9)
      ∧ m' ((c.tc : Thread Cert.MergePRefIdeal.nD Cert.MergePRefIdeal.τ).loc Cert.MergePRefIdeal.main_arg10) = m ((c.tc : Thread Cert.MergePIdeal.nD Cert.MergePIdeal.τ).loc Cert.MergePIdeal.main_arg10)) →
    ∃ (v0 : (c : Dev Cert.MergePIdeal.nD) → Buf (Elt Ideal) ((c.tc : Thread Cert.MergePIdeal.nD Cert.MergePIdeal.τ).loc Cert.MergePIdeal.main_v15_0)),
      θ_run (Cert.MergePIdeal.defs (F := Ideal)) (onTc (τ := Cert.MergePIdeal.τ) (Cert.MergePIdeal.main (F := Ideal))) ⟨m, fun _ => 0, g⟩ (fun r => ∀ c : Dev Cert.MergePIdeal.nD,
          r.2.mem ((c.tc : Thread Cert.MergePIdeal.nD Cert.MergePIdeal.τ).loc Cert.MergePIdeal.main_v15_0) = v0 c
          ∧ r.2.mem ((c.tc : Thread Cert.MergePIdeal.nD Cert.MergePIdeal.τ).loc Cert.MergePIdeal.main_arg0) = m ((c.tc : Thread Cert.MergePIdeal.nD Cert.MergePIdeal.τ).loc Cert.MergePIdeal.main_arg0)
          ∧ r.2.mem ((c.tc : Thread Cert.MergePIdeal.nD Cert.MergePIdeal.τ).loc Cert.MergePIdeal.main_arg1) = m ((c.tc : Thread Cert.MergePIdeal.nD Cert.MergePIdeal.τ).loc Cert.MergePIdeal.main_arg1)
          ∧ r.2.mem ((c.tc : Thread Cert.MergePIdeal.nD Cert.MergePIdeal.τ).loc Cert.MergePIdeal.main_arg2) = m ((c.tc : Thread Cert.MergePIdeal.nD Cert.MergePIdeal.τ).loc Cert.MergePIdeal.main_arg2)
          ∧ r.2.mem ((c.tc : Thread Cert.MergePIdeal.nD Cert.MergePIdeal.τ).loc Cert.MergePIdeal.main_arg3) = m ((c.tc : Thread Cert.MergePIdeal.nD Cert.MergePIdeal.τ).loc Cert.MergePIdeal.main_arg3)
          ∧ r.2.mem ((c.tc : Thread Cert.MergePIdeal.nD Cert.MergePIdeal.τ).loc Cert.MergePIdeal.main_arg4) = m ((c.tc : Thread Cert.MergePIdeal.nD Cert.MergePIdeal.τ).loc Cert.MergePIdeal.main_arg4)
          ∧ r.2.mem ((c.tc : Thread Cert.MergePIdeal.nD Cert.MergePIdeal.τ).loc Cert.MergePIdeal.main_arg5) = m ((c.tc : Thread Cert.MergePIdeal.nD Cert.MergePIdeal.τ).loc Cert.MergePIdeal.main_arg5)
          ∧ r.2.mem ((c.tc : Thread Cert.MergePIdeal.nD Cert.MergePIdeal.τ).loc Cert.MergePIdeal.main_arg6) = m ((c.tc : Thread Cert.MergePIdeal.nD Cert.MergePIdeal.τ).loc Cert.MergePIdeal.main_arg6)
          ∧ r.2.mem ((c.tc : Thread Cert.MergePIdeal.nD Cert.MergePIdeal.τ).loc Cert.MergePIdeal.main_arg7) = m ((c.tc : Thread Cert.MergePIdeal.nD Cert.MergePIdeal.τ).loc Cert.MergePIdeal.main_arg7)
          ∧ r.2.mem ((c.tc : Thread Cert.MergePIdeal.nD Cert.MergePIdeal.τ).loc Cert.MergePIdeal.main_arg8) = m ((c.tc : Thread Cert.MergePIdeal.nD Cert.MergePIdeal.τ).loc Cert.MergePIdeal.main_arg8)
          ∧ r.2.mem ((c.tc : Thread Cert.MergePIdeal.nD Cert.MergePIdeal.τ).loc Cert.MergePIdeal.main_arg9) = m ((c.tc : Thread Cert.MergePIdeal.nD Cert.MergePIdeal.τ).loc Cert.MergePIdeal.main_arg9)
          ∧ r.2.mem ((c.tc : Thread Cert.MergePIdeal.nD Cert.MergePIdeal.τ).loc Cert.MergePIdeal.main_arg10) = m ((c.tc : Thread Cert.MergePIdeal.nD Cert.MergePIdeal.τ).loc Cert.MergePIdeal.main_arg10))
      ∧ θ_run (Cert.MergePRefIdeal.defs (F := Ideal)) (onTc (τ := Cert.MergePRefIdeal.τ) (Cert.MergePRefIdeal.main (F := Ideal))) ⟨m', fun _ => 0, g'⟩ (fun r => ∀ c : Dev Cert.MergePRefIdeal.nD,
          r.2.mem ((c.tc : Thread Cert.MergePRefIdeal.nD Cert.MergePRefIdeal.τ).loc Cert.MergePRefIdeal.main_v95) = v0 c
          ∧ r.2.mem ((c.tc : Thread Cert.MergePRefIdeal.nD Cert.MergePRefIdeal.τ).loc Cert.MergePRefIdeal.main_arg0) = m' ((c.tc : Thread Cert.MergePRefIdeal.nD Cert.MergePRefIdeal.τ).loc Cert.MergePRefIdeal.main_arg0)
          ∧ r.2.mem ((c.tc : Thread Cert.MergePRefIdeal.nD Cert.MergePRefIdeal.τ).loc Cert.MergePRefIdeal.main_arg1) = m' ((c.tc : Thread Cert.MergePRefIdeal.nD Cert.MergePRefIdeal.τ).loc Cert.MergePRefIdeal.main_arg1)
          ∧ r.2.mem ((c.tc : Thread Cert.MergePRefIdeal.nD Cert.MergePRefIdeal.τ).loc Cert.MergePRefIdeal.main_arg2) = m' ((c.tc : Thread Cert.MergePRefIdeal.nD Cert.MergePRefIdeal.τ).loc Cert.MergePRefIdeal.main_arg2)
          ∧ r.2.mem ((c.tc : Thread Cert.MergePRefIdeal.nD Cert.MergePRefIdeal.τ).loc Cert.MergePRefIdeal.main_arg3) = m' ((c.tc : Thread Cert.MergePRefIdeal.nD Cert.MergePRefIdeal.τ).loc Cert.MergePRefIdeal.main_arg3)
          ∧ r.2.mem ((c.tc : Thread Cert.MergePRefIdeal.nD Cert.MergePRefIdeal.τ).loc Cert.MergePRefIdeal.main_arg4) = m' ((c.tc : Thread Cert.MergePRefIdeal.nD Cert.MergePRefIdeal.τ).loc Cert.MergePRefIdeal.main_arg4)
          ∧ r.2.mem ((c.tc : Thread Cert.MergePRefIdeal.nD Cert.MergePRefIdeal.τ).loc Cert.MergePRefIdeal.main_arg5) = m' ((c.tc : Thread Cert.MergePRefIdeal.nD Cert.MergePRefIdeal.τ).loc Cert.MergePRefIdeal.main_arg5)
          ∧ r.2.mem ((c.tc : Thread Cert.MergePRefIdeal.nD Cert.MergePRefIdeal.τ).loc Cert.MergePRefIdeal.main_arg6) = m' ((c.tc : Thread Cert.MergePRefIdeal.nD Cert.MergePRefIdeal.τ).loc Cert.MergePRefIdeal.main_arg6)
          ∧ r.2.mem ((c.tc : Thread Cert.MergePRefIdeal.nD Cert.MergePRefIdeal.τ).loc Cert.MergePRefIdeal.main_arg7) = m' ((c.tc : Thread Cert.MergePRefIdeal.nD Cert.MergePRefIdeal.τ).loc Cert.MergePRefIdeal.main_arg7)
          ∧ r.2.mem ((c.tc : Thread Cert.MergePRefIdeal.nD Cert.MergePRefIdeal.τ).loc Cert.MergePRefIdeal.main_arg8) = m' ((c.tc : Thread Cert.MergePRefIdeal.nD Cert.MergePRefIdeal.τ).loc Cert.MergePRefIdeal.main_arg8)
          ∧ r.2.mem ((c.tc : Thread Cert.MergePRefIdeal.nD Cert.MergePRefIdeal.τ).loc Cert.MergePRefIdeal.main_arg9) = m' ((c.tc : Thread Cert.MergePRefIdeal.nD Cert.MergePRefIdeal.τ).loc Cert.MergePRefIdeal.main_arg9)
          ∧ r.2.mem ((c.tc : Thread Cert.MergePRefIdeal.nD Cert.MergePRefIdeal.τ).loc Cert.MergePRefIdeal.main_arg10) = m' ((c.tc : Thread Cert.MergePRefIdeal.nD Cert.MergePRefIdeal.τ).loc Cert.MergePRefIdeal.main_arg10))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)
      ∧ m' ((c.tc : Thread Cert.MergeSRefIdeal.nD Cert.MergeSRefIdeal.τ).loc Cert.MergeSRefIdeal.main_arg8) = m ((c.tc : Thread Cert.MergeSIdeal.nD Cert.MergeSIdeal.τ).loc Cert.MergeSIdeal.main_arg8)
      ∧ m' ((c.tc : Thread Cert.MergeSRefIdeal.nD Cert.MergeSRefIdeal.τ).loc Cert.MergeSRefIdeal.main_arg9) = m ((c.tc : Thread Cert.MergeSIdeal.nD Cert.MergeSIdeal.τ).loc Cert.MergeSIdeal.main_arg9)
      ∧ m' ((c.tc : Thread Cert.MergeSRefIdeal.nD Cert.MergeSRefIdeal.τ).loc Cert.MergeSRefIdeal.main_arg10) = m ((c.tc : Thread Cert.MergeSIdeal.nD Cert.MergeSIdeal.τ).loc Cert.MergeSIdeal.main_arg10)) →
    ∃ (v0 : (c : Dev Cert.MergeSIdeal.nD) → Buf (Elt Ideal) ((c.tc : Thread Cert.MergeSIdeal.nD Cert.MergeSIdeal.τ).loc Cert.MergeSIdeal.main_v24_0)) (v1 : (c : Dev Cert.MergeSIdeal.nD) → Buf (Elt Ideal) ((c.tc : Thread Cert.MergeSIdeal.nD Cert.MergeSIdeal.τ).loc Cert.MergeSIdeal.main_v24_1)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v24_0) = v0 c
          ∧ r.2.mem ((c.tc : Thread Cert.MergeSIdeal.nD Cert.MergeSIdeal.τ).loc Cert.MergeSIdeal.main_v24_1) = v1 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7)
          ∧ r.2.mem ((c.tc : Thread Cert.MergeSIdeal.nD Cert.MergeSIdeal.τ).loc Cert.MergeSIdeal.main_arg8) = m ((c.tc : Thread Cert.MergeSIdeal.nD Cert.MergeSIdeal.τ).loc Cert.MergeSIdeal.main_arg8)
          ∧ r.2.mem ((c.tc : Thread Cert.MergeSIdeal.nD Cert.MergeSIdeal.τ).loc Cert.MergeSIdeal.main_arg9) = m ((c.tc : Thread Cert.MergeSIdeal.nD Cert.MergeSIdeal.τ).loc Cert.MergeSIdeal.main_arg9)
          ∧ r.2.mem ((c.tc : Thread Cert.MergeSIdeal.nD Cert.MergeSIdeal.τ).loc Cert.MergeSIdeal.main_arg10) = m ((c.tc : Thread Cert.MergeSIdeal.nD Cert.MergeSIdeal.τ).loc Cert.MergeSIdeal.main_arg10))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v97) = v0 c
          ∧ r.2.mem ((c.tc : Thread Cert.MergeSRefIdeal.nD Cert.MergeSRefIdeal.τ).loc Cert.MergeSRefIdeal.main_v43) = v1 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7)
          ∧ r.2.mem ((c.tc : Thread Cert.MergeSRefIdeal.nD Cert.MergeSRefIdeal.τ).loc Cert.MergeSRefIdeal.main_arg8) = m' ((c.tc : Thread Cert.MergeSRefIdeal.nD Cert.MergeSRefIdeal.τ).loc Cert.MergeSRefIdeal.main_arg8)
          ∧ r.2.mem ((c.tc : Thread Cert.MergeSRefIdeal.nD Cert.MergeSRefIdeal.τ).loc Cert.MergeSRefIdeal.main_arg9) = m' ((c.tc : Thread Cert.MergeSRefIdeal.nD Cert.MergeSRefIdeal.τ).loc Cert.MergeSRefIdeal.main_arg9)
          ∧ r.2.mem ((c.tc : Thread Cert.MergeSRefIdeal.nD Cert.MergeSRefIdeal.τ).loc Cert.MergeSRefIdeal.main_arg10) = m' ((c.tc : Thread Cert.MergeSRefIdeal.nD Cert.MergeSRefIdeal.τ).loc Cert.MergeSRefIdeal.main_arg10))

def preserves_PromptAttn_PromptAttnIdeal : Prop :=
  True

def Claim : Prop :=
  ∃ (hKernel : Cert.Kernel.Facts) (hKernelIdeal : Cert.KernelIdeal.Facts) (hReferenceIdeal : Cert.ReferenceIdeal.Facts) (hKvP : Cert.KvP.Facts) (hKvPIdeal : Cert.KvPIdeal.Facts) (hKvPRefIdeal : Cert.KvPRefIdeal.Facts) (hKvS : Cert.KvS.Facts) (hKvSIdeal : Cert.KvSIdeal.Facts) (hKvSRefIdeal : Cert.KvSRefIdeal.Facts) (hHqP : Cert.HqP.Facts) (hHqPIdeal : Cert.HqPIdeal.Facts) (hHqPRefIdeal : Cert.HqPRefIdeal.Facts) (hGateP : Cert.GateP.Facts) (hGatePIdeal : Cert.GatePIdeal.Facts) (hGatePRefIdeal : Cert.GatePRefIdeal.Facts) (hMergeP : Cert.MergeP.Facts) (hMergePIdeal : Cert.MergePIdeal.Facts) (hMergePRefIdeal : Cert.MergePRefIdeal.Facts) (hMergeS : Cert.MergeS.Facts) (hMergeSIdeal : Cert.MergeSIdeal.Facts) (hMergeSRefIdeal : Cert.MergeSRefIdeal.Facts) (hPromptAttn : Cert.PromptAttn.Facts) (hPromptAttnIdeal : Cert.PromptAttnIdeal.Facts) (hPre_ranges : Cert.Pre_ranges.Facts) (hPre_finite_scores : Cert.Pre_finite_scores.Facts),
    quiescent_Kernel (hKernel := hKernel) (hPre_ranges := hPre_ranges)
    ∧ quiescent_KernelIdeal (hKernelIdeal := hKernelIdeal) (hPre_ranges := hPre_ranges)
    ∧ quiescent_KernelIdeal_pre_finite_scores (hKernelIdeal := hKernelIdeal) (hPre_finite_scores := hPre_finite_scores)
    ∧ quiescent_ReferenceIdeal (hReferenceIdeal := hReferenceIdeal) (hPre_ranges := hPre_ranges)
    ∧ quiescent_ReferenceIdeal_pre_finite_scores (hReferenceIdeal := hReferenceIdeal) (hPre_finite_scores := hPre_finite_scores)
    ∧ quiescent_KvP (hKvP := hKvP)
    ∧ quiescent_KvPIdeal (hKvPIdeal := hKvPIdeal)
    ∧ quiescent_KvPRefIdeal (hKvPRefIdeal := hKvPRefIdeal)
    ∧ quiescent_KvS (hKvS := hKvS)
    ∧ quiescent_KvSIdeal (hKvSIdeal := hKvSIdeal)
    ∧ quiescent_KvSRefIdeal (hKvSRefIdeal := hKvSRefIdeal)
    ∧ quiescent_HqP (hHqP := hHqP)
    ∧ quiescent_HqPIdeal (hHqPIdeal := hHqPIdeal)
    ∧ quiescent_HqPRefIdeal (hHqPRefIdeal := hHqPRefIdeal)
    ∧ quiescent_GateP (hGateP := hGateP)
    ∧ quiescent_GatePIdeal (hGatePIdeal := hGatePIdeal)
    ∧ quiescent_GatePRefIdeal (hGatePRefIdeal := hGatePRefIdeal)
    ∧ quiescent_MergeP (hMergeP := hMergeP)
    ∧ quiescent_MergePIdeal (hMergePIdeal := hMergePIdeal)
    ∧ quiescent_MergePRefIdeal (hMergePRefIdeal := hMergePRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_PromptAttn (hPromptAttn := hPromptAttn)
    ∧ quiescent_PromptAttnIdeal (hPromptAttnIdeal := hPromptAttnIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KvP_KvPIdeal
    ∧ algebraic_KvPIdeal_KvPRefIdeal (hKvPIdeal := hKvPIdeal) (hKvPRefIdeal := hKvPRefIdeal)
    ∧ preserves_KvS_KvSIdeal
    ∧ algebraic_KvSIdeal_KvSRefIdeal (hKvSIdeal := hKvSIdeal) (hKvSRefIdeal := hKvSRefIdeal)
    ∧ preserves_HqP_HqPIdeal
    ∧ algebraic_HqPIdeal_HqPRefIdeal (hHqPIdeal := hHqPIdeal) (hHqPRefIdeal := hHqPRefIdeal)
    ∧ preserves_GateP_GatePIdeal
    ∧ algebraic_GatePIdeal_GatePRefIdeal (hGatePIdeal := hGatePIdeal) (hGatePRefIdeal := hGatePRefIdeal)
    ∧ preserves_MergeP_MergePIdeal
    ∧ algebraic_MergePIdeal_MergePRefIdeal (hMergePIdeal := hMergePIdeal) (hMergePRefIdeal := hMergePRefIdeal)
    ∧ preserves_MergeS_MergeSIdeal
    ∧ algebraic_MergeSIdeal_MergeSRefIdeal (hMergeSIdeal := hMergeSIdeal) (hMergeSRefIdeal := hMergeSRefIdeal)
    ∧ preserves_PromptAttn_PromptAttnIdeal
-- ==== Pre_finite_scores.lean ====
abbrev S8x256 : Shape := ⟨2, ![8, 256]⟩
abbrev S8 : Shape := ⟨1, ![8]⟩
abbrev S8x128 : Shape := ⟨2, ![8, 128]⟩
abbrev S8x8x128 : Shape := ⟨3, ![8, 8, 128]⟩
abbrev S8x16x768 : Shape := ⟨3, ![8, 16, 768]⟩
abbrev S1x1280x128x2x128 : Shape := ⟨5, ![1, 1280, 128, 2, 128]⟩
abbrev S_ : Shape := ⟨0, ![]⟩
abbrev S8x1x256 : Shape := ⟨3, ![8, 1, 256]⟩

class Facts : Prop where
  bcast_S_S8x256 : S_.BroadcastsInDim S8x256 (![] : Fin 0 → Fin S8x256.rank)
  reducesTo_S8x256_S_d0_1 : S8x256.ReducesTo [0, 1] S_
  h_S_ : 0 < S_.numel
  bcast_S_S8 : S_.BroadcastsInDim S8 (![] : Fin 0 → Fin S8.rank)
  reducesTo_S8_S_d0 : S8.ReducesTo [0] S_
  bcast_S_S8x128 : S_.BroadcastsInDim S8x128 (![] : Fin 0 → Fin S8x128.rank)
  reducesTo_S8x128_S_d0_1 : S8x128.ReducesTo [0, 1] S_
  bitsLt_bf16_f32 : FTy.bits .bf16 < FTy.bits .f32
  bcast_S_S8x8x128 : S_.BroadcastsInDim S8x8x128 (![] : Fin 0 → Fin S8x8x128.rank)
  reducesTo_S8x8x128_S_d0_1_2 : S8x8x128.ReducesTo [0, 1, 2] S_
  slices_S8x16x768_S8x1x256_0_0_0 : S8x16x768.Slices ![0, 0, 0] S8x1x256
  shapeCasts_S8x1x256_S8x256 : S8x1x256.ShapeCasts S8x256
  bcast_S_S1x1280x128x2x128 : S_.BroadcastsInDim S1x1280x128x2x128 (![] : Fin 0 → Fin S1x1280x128x2x128.rank)
  reducesTo_S1x1280x128x2x128_S_d0_1_2_3_4 : S1x1280x128x2x128.ReducesTo [0, 1, 2, 3, 4] S_

variable [Facts]

def fn_part2 {F : FTy → Type} [FloatOps F] (main_v32 : IVec S_ 1) (main_v33 : FVec F S1x1280x128x2x128 .f32) (main_cst_11 : FVec F S_ .f32) : IVec S_ 1 :=
  let main_v34 : FVec F S1x1280x128x2x128 .f32 := broadcastInDim S1x1280x128x2x128 ![] bcast_S_S1x1280x128x2x128 main_cst_11
  let main_v35 : IVec S1x1280x128x2x128 1 := cmpf .olt main_v33 main_v34
  let main_c_12 : IVec S_ 1 := constantI S_ 1 1#1
  let main_v36 : IVec S_ 1 := (fun x v => Host.reduce IntOp.andi x v reducesTo_S1x1280x128x2x128_S_d0_1_2_3_4 h_S_) main_v35 main_c_12
  let main_v37 : IVec S_ 1 := andi main_v32 main_v36
  main_v37

def fn_part1 {F : FTy → Type} [FloatOps F] (main_arg2 : IVec S8x128 32) (main_arg3 : FVec F S8x8x128 .bf16) (main_arg4 : FVec F S8x16x768 .f32) (main_arg5 : FVec F S1x1280x128x2x128 .f32) (main_v12 : IVec S_ 1) (main_v14 : IVec S8x128 1) (main_v15 : IVec S8x128 32) : IVec S_ 1 :=
  let main_v16 : IVec S8x128 1 := cmpi .slt main_arg2 main_v15
  let main_v17 : IVec S8x128 1 := andi main_v14 main_v16
  let main_c_7 : IVec S_ 1 := constantI S_ 1 1#1
  let main_v18 : IVec S_ 1 := (fun x v => Host.reduce IntOp.andi x v reducesTo_S8x128_S_d0_1 h_S_) main_v17 main_c_7
  let main_v19 : IVec S_ 1 := andi main_v12 main_v18
  let main_v20 : FVec F S8x8x128 .f32 := (extf .f32 · bitsLt_bf16_f32) main_arg3
  let main_v21 : FVec F S8x8x128 .f32 := Host.absf main_v20
  let main_cst : FVec F S_ .f32 := constant S_ .f32 0x7F800000#32
  let main_v22 : FVec F S8x8x128 .f32 := broadcastInDim S8x8x128 ![] bcast_S_S8x8x128 main_cst
  let main_v23 : IVec S8x8x128 1 := cmpf .olt main_v21 main_v22
  let main_c_8 : IVec S_ 1 := constantI S_ 1 1#1
  let main_v24 : IVec S_ 1 := (fun x v => Host.reduce IntOp.andi x v reducesTo_S8x8x128_S_d0_1_2 h_S_) main_v23 main_c_8
  let main_v25 : IVec S_ 1 := andi main_v19 main_v24
  let main_v26 : FVec F S8x1x256 .f32 := (extractStridedSlice S8x1x256 ![0, 0, 0] · slices_S8x16x768_S8x1x256_0_0_0) main_arg4
  let main_v27 : FVec F S8x256 .f32 := shapeCast S8x256 main_v26 shapeCasts_S8x1x256_S8x256
  let main_v28 : FVec F S8x256 .f32 := Host.absf main_v27
  let main_cst_9 : FVec F S_ .f32 := constant S_ .f32 0x7F800000#32
  let main_v29 : FVec F S8x256 .f32 := broadcastInDim S8x256 ![] bcast_S_S8x256 main_cst_9
  let main_v30 : IVec S8x256 1 := cmpf .olt main_v28 main_v29
  let main_c_10 : IVec S_ 1 := constantI S_ 1 1#1
  let main_v31 : IVec S_ 1 := (fun x v => Host.reduce IntOp.andi x v reducesTo_S8x256_S_d0_1 h_S_) main_v30 main_c_10
  let main_v32 : IVec S_ 1 := andi main_v25 main_v31
  let main_v33 : FVec F S1x1280x128x2x128 .f32 := Host.absf main_arg5
  let main_cst_11 : FVec F S_ .f32 := constant S_ .f32 0x7F800000#32
  fn_part2 (F := F) main_v32 main_v33 main_cst_11

def fn {F : FTy → Type} [FloatOps F] (main_arg0 : IVec S8x256 32) (main_arg1 : IVec S8 32) (main_arg2 : IVec S8x128 32) (main_arg3 : FVec F S8x8x128 .bf16) (main_arg4 : FVec F S8x16x768 .f32) (main_arg5 : FVec F S1x1280x128x2x128 .f32) (main_arg6 : FVec F S1x1280x128x2x128 .f32) : IVec S_ 1 :=
  let main_c : IVec S_ 32 := constantI S_ 32 0#32
  let main_v0 : IVec S8x256 32 := broadcastInDim S8x256 ![] bcast_S_S8x256 main_c
  let main_v1 : IVec S8x256 1 := cmpi .sge main_arg0 main_v0
  let main_c_0 : IVec S_ 32 := constantI S_ 32 16384#32
  let main_v2 : IVec S8x256 32 := broadcastInDim S8x256 ![] bcast_S_S8x256 main_c_0
  let main_v3 : IVec S8x256 1 := cmpi .slt main_arg0 main_v2
  let main_v4 : IVec S8x256 1 := andi main_v1 main_v3
  let main_c_1 : IVec S_ 1 := constantI S_ 1 1#1
  let main_v5 : IVec S_ 1 := (fun x v => Host.reduce IntOp.andi x v reducesTo_S8x256_S_d0_1 h_S_) main_v4 main_c_1
  let main_c_2 : IVec S_ 32 := constantI S_ 32 255#32
  let main_v6 : IVec S8 32 := broadcastInDim S8 ![] bcast_S_S8 main_c_2
  let main_v7 : IVec S8 1 := cmpi .sge main_arg1 main_v6
  let main_c_3 : IVec S_ 32 := constantI S_ 32 256#32
  let main_v8 : IVec S8 32 := broadcastInDim S8 ![] bcast_S_S8 main_c_3
  let main_v9 : IVec S8 1 := cmpi .sle main_arg1 main_v8
  let main_v10 : IVec S8 1 := andi main_v7 main_v9
  let main_c_4 : IVec S_ 1 := constantI S_ 1 1#1
  let main_v11 : IVec S_ 1 := (fun x v => Host.reduce IntOp.andi x v reducesTo_S8_S_d0 h_S_) main_v10 main_c_4
  let main_v12 : IVec S_ 1 := andi main_v5 main_v11
  let main_c_5 : IVec S_ 32 := constantI S_ 32 0#32
  let main_v13 : IVec S8x128 32 := broadcastInDim S8x128 ![] bcast_S_S8x128 main_c_5
  let main_v14 : IVec S8x128 1 := cmpi .sge main_arg2 main_v13
  let main_c_6 : IVec S_ 32 := constantI S_ 32 1280#32
  let main_v15 : IVec S8x128 32 := broadcastInDim S8x128 ![] bcast_S_S8x128 main_c_6
  fn_part1 (F := F) main_arg2 main_arg3 main_arg4 main_arg5 main_v12 main_v14 main_v15
-- ==== Pre_ranges.lean ====
abbrev S8x256 : Shape := ⟨2, ![8, 256]⟩
abbrev S8 : Shape := ⟨1, ![8]⟩
abbrev S8x128 : Shape := ⟨2, ![8, 128]⟩
abbrev S8x8x128 : Shape := ⟨3, ![8, 8, 128]⟩
abbrev S8x16x768 : Shape := ⟨3, ![8, 16, 768]⟩
abbrev S1x1280x128x2x128 : Shape := ⟨5, ![1, 1280, 128, 2, 128]⟩
abbrev S_ : Shape := ⟨0, ![]⟩

class Facts : Prop where
  bcast_S_S8x256 : S_.BroadcastsInDim S8x256 (![] : Fin 0 → Fin S8x256.rank)
  reducesTo_S8x256_S_d0_1 : S8x256.ReducesTo [0, 1] S_
  h_S_ : 0 < S_.numel
  bcast_S_S8 : S_.BroadcastsInDim S8 (![] : Fin 0 → Fin S8.rank)
  reducesTo_S8_S_d0 : S8.ReducesTo [0] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg2 : IVec S8x128 32) (main_v12 : IVec S_ 1) (main_v14 : IVec S8x128 1) (main_v15 : IVec S8x128 32) : IVec S_ 1 :=
  let main_v16 : IVec S8x128 1 := cmpi .slt main_arg2 main_v15
  let main_v17 : IVec S8x128 1 := andi main_v14 main_v16
  let main_c_7 : IVec S_ 1 := constantI S_ 1 1#1
  let main_v18 : IVec S_ 1 := (fun x v => Host.reduce IntOp.andi x v reducesTo_S8x128_S_d0_1 h_S_) main_v17 main_c_7
  let main_v19 : IVec S_ 1 := andi main_v12 main_v18
  main_v19

def fn {F : FTy → Type} [FloatOps F] (main_arg0 : IVec S8x256 32) (main_arg1 : IVec S8 32) (main_arg2 : IVec S8x128 32) (main_arg3 : FVec F S8x8x128 .bf16) (main_arg4 : FVec F S8x16x768 .f32) (main_arg5 : FVec F S1x1280x128x2x128 .f32) (main_arg6 : FVec F S1x1280x128x2x128 .f32) : IVec S_ 1 :=
  let main_c : IVec S_ 32 := constantI S_ 32 0#32
  let main_v0 : IVec S8x256 32 := broadcastInDim S8x256 ![] bcast_S_S8x256 main_c
  let main_v1 : IVec S8x256 1 := cmpi .sge main_arg0 main_v0
  let main_c_0 : IVec S_ 32 := constantI S_ 32 16384#32
  let main_v2 : IVec S8x256 32 := broadcastInDim S8x256 ![] bcast_S_S8x256 main_c_0
  let main_v3 : IVec S8x256 1 := cmpi .slt main_arg0 main_v2
  let main_v4 : IVec S8x256 1 := andi main_v1 main_v3
  let main_c_1 : IVec S_ 1 := constantI S_ 1 1#1
  let main_v5 : IVec S_ 1 := (fun x v => Host.reduce IntOp.andi x v reducesTo_S8x256_S_d0_1 h_S_) main_v4 main_c_1
  let main_c_2 : IVec S_ 32 := constantI S_ 32 255#32
  let main_v6 : IVec S8 32 := broadcastInDim S8 ![] bcast_S_S8 main_c_2
  let main_v7 : IVec S8 1 := cmpi .sge main_arg1 main_v6
  let main_c_3 : IVec S_ 32 := constantI S_ 32 256#32
  let main_v8 : IVec S8 32 := broadcastInDim S8 ![] bcast_S_S8 main_c_3
  let main_v9 : IVec S8 1 := cmpi .sle main_arg1 main_v8
  let main_v10 : IVec S8 1 := andi main_v7 main_v9
  let main_c_4 : IVec S_ 1 := constantI S_ 1 1#1
  let main_v11 : IVec S_ 1 := (fun x v => Host.reduce IntOp.andi x v reducesTo_S8_S_d0 h_S_) main_v10 main_c_4
  let main_v12 : IVec S_ 1 := andi main_v5 main_v11
  let main_c_5 : IVec S_ 32 := constantI S_ 32 0#32
  let main_v13 : IVec S8x128 32 := broadcastInDim S8x128 ![] bcast_S_S8x128 main_c_5
  let main_v14 : IVec S8x128 1 := cmpi .sge main_arg2 main_v13
  let main_c_6 : IVec S_ 32 := constantI S_ 32 1280#32
  let main_v15 : IVec S8x128 32 := broadcastInDim S8x128 ![] bcast_S_S8x128 main_c_6
  fn_part1 (F := F) main_arg2 main_v12 main_v14 main_v15
-- ==== Kernel.lean ====
abbrev S8x256 : Shape := ⟨2, ![8, 256]⟩
abbrev S8 : Shape := ⟨1, ![8]⟩
abbrev S8x128 : Shape := ⟨2, ![8, 128]⟩
abbrev S8x8x128 : Shape := ⟨3, ![8, 8, 128]⟩
abbrev S8x16x768 : Shape := ⟨3, ![8, 16, 768]⟩
abbrev S1x1280x128x2x128 : Shape := ⟨5, ![1, 1280, 128, 2, 128]⟩
abbrev S1x8x128 : Shape := ⟨3, ![1, 8, 128]⟩
abbrev S1x16x768 : Shape := ⟨3, ![1, 16, 768]⟩
abbrev S256x2x128 : Shape := ⟨3, ![256, 2, 128]⟩
abbrev S2x256x128 : Shape := ⟨3, ![2, 256, 128]⟩
abbrev S4 : Shape := ⟨1, ![4]⟩
abbrev S1x1 : Shape := ⟨2, ![1, 1]⟩
abbrev S1 : Shape := ⟨1, ![1]⟩
abbrev S_ : Shape := ⟨0, ![]⟩
abbrev S1x2x128 : Shape := ⟨3, ![1, 2, 128]⟩
abbrev S2x128 : Shape := ⟨2, ![2, 128]⟩
abbrev S1x1x1x2x128 : Shape := ⟨5, ![1, 1, 1, 2, 128]⟩
abbrev S1x256x128 : Shape := ⟨3, ![1, 256, 128]⟩
abbrev S256x128 : Shape := ⟨2, ![256, 128]⟩
abbrev S256x1x128 : Shape := ⟨3, ![256, 1, 128]⟩
abbrev S1x256 : Shape := ⟨2, ![1, 256]⟩
abbrev S4x128 : Shape := ⟨2, ![4, 128]⟩
abbrev S1x1x128 : Shape := ⟨3, ![1, 1, 128]⟩
abbrev S1x128 : Shape := ⟨2, ![1, 128]⟩
abbrev S4x256 : Shape := ⟨2, ![4, 256]⟩
abbrev S4x1 : Shape := ⟨2, ![4, 1]⟩
abbrev S1x4x128 : Shape := ⟨3, ![1, 4, 128]⟩

abbrev nBuf : Space → Nat
  | .hbm => 5
  | .vmem => 10
  | .smem => 3
  | _ => 0

abbrev bufTy : (tb : Table) → Fin (tcTables nBuf tb) → BufTy
  | .hbm, ⟨0, _⟩ => ⟨S8x8x128, .bf16⟩
  | .hbm, ⟨1, _⟩ => ⟨S8x16x768, .f32⟩
  | .hbm, ⟨2, _⟩ => ⟨S1x1280x128x2x128, .f32⟩
  | .hbm, ⟨3, _⟩ => ⟨S1x1280x128x2x128, .f32⟩
  | .hbm, ⟨4, _⟩ => ⟨S8x8x128, .f32⟩
  | .local _ .vmem, ⟨0, _⟩ => ⟨S1x8x128, .bf16⟩
  | .local _ .vmem, ⟨1, _⟩ => ⟨S1x8x128, .bf16⟩
  | .local _ .vmem, ⟨2, _⟩ => ⟨S1x16x768, .f32⟩
  | .local _ .vmem, ⟨3, _⟩ => ⟨S1x16x768, .f32⟩
  | .local _ .vmem, ⟨4, _⟩ => ⟨S1x8x128, .f32⟩
  | .local _ .vmem, ⟨5, _⟩ => ⟨S1x8x128, .f32⟩
  | .local _ .vmem, ⟨6, _⟩ => ⟨S256x2x128, .f32⟩
  | .local _ .vmem, ⟨7, _⟩ => ⟨S256x2x128, .f32⟩
  | .local _ .vmem, ⟨8, _⟩ => ⟨S2x256x128, .f32⟩
  | .local _ .vmem, ⟨9, _⟩ => ⟨S2x256x128, .f32⟩
  | .local _ .smem, ⟨0, _⟩ => ⟨S8x256, .i32⟩
  | .local _ .smem, ⟨1, _⟩ => ⟨S8, .i32⟩
  | .local _ .smem, ⟨2, _⟩ => ⟨S8x128, .i32⟩
  | _, _ => ⟨S8x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (i : grid0.Coords) (k0_t1 : Fin k0_t1_loop.trips) : Fin 2 → Nat :=
  let arg0 : BitVec 32 := BitVec.ofNat 32 (i 0).val
  let v173 : Index := Scalar.indexCast arg0
  let c0_i32 : BitVec 32 := 0#32
  let c1_i32 : BitVec 32 := 1#32
  let arg14 : BitVec 32 := Scf.iv c0_i32 c1_i32 k0_t1
  let v174 : Index := Scalar.indexCast arg14
  ![v173.toNat, v174.toNat]
def k0_off2 (i : grid0.Coords) (v175 : BitVec 32) : Fin 2 → Nat :=
  let arg0 : BitVec 32 := BitVec.ofNat 32 (i 0).val
  let v177 : Index := Scalar.indexCast arg0
  let c7_i32 : BitVec 32 := 7#32
  let v176 : BitVec 32 := Scalar.shrui v175 c7_i32
  let v178 : Index := Scalar.indexCast v176
  ![v177.toNat, v178.toNat]

def k0_chk1 (i : grid0.Coords) (v175 : BitVec 32) : Prop :=
  (∀ a, (k0_off2 i v175) a + S1x1.size a ≤ S8x128.size a)
theorem k0_off2_inb : ∀ (i : grid0.Coords) (v175 : BitVec 32) (k0_hw1 : k0_chk1 i v175), ∀ a, (k0_off2 i v175) a + S1x1.size a ≤ S8x128.size a := fun i v175 k0_hw1 => k0_hw1

def k0_off3 (k0_t1 : Fin k0_t1_loop.trips) : Fin 3 → Nat :=
  let c0_i32 : BitVec 32 := 0#32
  let c1_i32 : BitVec 32 := 1#32
  let arg14 : BitVec 32 := Scf.iv c0_i32 c1_i32 k0_t1
  let c0_i32_106 : BitVec 32 := 0#32
  let c0_i32_107 : BitVec 32 := 0#32
  ![arg14.toNat, 0, 0]
def k0_off4 (v175 : BitVec 32) (v179 : BitVec 32) : Fin 5 → Nat :=
  let c0_i32_104 : BitVec 32 := 0#32
  let c127_i32 : BitVec 32 := 127#32
  let v180 : BitVec 32 := Scalar.andi v175 c127_i32
  let c0_i32_108 : BitVec 32 := 0#32
  let c0_i32_109 : BitVec 32 := 0#32
  ![0, v179.toNat, v180.toNat, 0, 0]

def k0_chk2 (v175 : BitVec 32) (v179 : BitVec 32) : Prop :=
  (∀ a, (k0_off4 v175 v179) a + S1x1x1x2x128.size a ≤ S1x1280x128x2x128.size a)
theorem k0_off4_inb : ∀ (v175 : BitVec 32) (v179 : BitVec 32) (k0_hw2 : k0_chk2 v175 v179), ∀ a, (k0_off4 v175 v179) a + S1x1x1x2x128.size a ≤ S1x1280x128x2x128.size a := fun v175 v179 k0_hw2 => k0_hw2

def k0_off5 (k0_t1 : Fin k0_t1_loop.trips) : Fin 3 → Nat :=
  let c0_i32 : BitVec 32 := 0#32
  let c1_i32 : BitVec 32 := 1#32
  let arg14 : BitVec 32 := Scf.iv c0_i32 c1_i32 k0_t1
  let c0_i32_112 : BitVec 32 := 0#32
  let c0_i32_113 : BitVec 32 := 0#32
  ![arg14.toNat, 0, 0]
@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off6 (i : grid0.Coords) (k0_t2 : Fin k0_t2_loop.trips) : Fin 2 → Nat :=
  let arg0 : BitVec 32 := BitVec.ofNat 32 (i 0).val
  let v173 : Index := Scalar.indexCast arg0
  let c0_i32_1 : BitVec 32 := 0#32
  let c1_i32_3 : BitVec 32 := 1#32
  let arg14 : BitVec 32 := Scf.iv c0_i32_1 c1_i32_3 k0_t2
  let v174 : Index := Scalar.indexCast arg14
  ![v173.toNat, v174.toNat]
def k0_off7 (i : grid0.Coords) (v175 : BitVec 32) : Fin 2 → Nat :=
  let arg0 : BitVec 32 := BitVec.ofNat 32 (i 0).val
  let v177 : Index := Scalar.indexCast arg0
  let c7_i32 : BitVec 32 := 7#32
  let v176 : BitVec 32 := Scalar.shrui v175 c7_i32
  let v178 : Index := Scalar.indexCast v176
  ![v177.toNat, v178.toNat]

def k0_chk3 (i : grid0.Coords) (v175 : BitVec 32) : Prop :=
  (∀ a, (k0_off7 i v175) a + S1x1.size a ≤ S8x128.size a)
theorem k0_off7_inb : ∀ (i : grid0.Coords) (v175 : BitVec 32) (k0_hw3 : k0_chk3 i v175), ∀ a, (k0_off7 i v175) a + S1x1.size a ≤ S8x128.size a := fun i v175 k0_hw3 => k0_hw3

def k0_off8 (k0_t2 : Fin k0_t2_loop.trips) : Fin 3 → Nat :=
  let c0_i32_1 : BitVec 32 := 0#32
  let c1_i32_3 : BitVec 32 := 1#32
  let arg14 : BitVec 32 := Scf.iv c0_i32_1 c1_i32_3 k0_t2
  let c0_i32_106 : BitVec 32 := 0#32
  let c0_i32_107 : BitVec 32 := 0#32
  ![arg14.toNat, 0, 0]
def k0_off9 (v175 : BitVec 32) (v179 : BitVec 32) : Fin 5 → Nat :=
  let c0_i32_104 : BitVec 32 := 0#32
  let c127_i32 : BitVec 32 := 127#32
  let v180 : BitVec 32 := Scalar.andi v175 c127_i32
  let c0_i32_108 : BitVec 32 := 0#32
  let c0_i32_109 : BitVec 32 := 0#32
  ![0, v179.toNat, v180.toNat, 0, 0]

def k0_chk4 (v175 : BitVec 32) (v179 : BitVec 32) : Prop :=
  (∀ a, (k0_off9 v175 v179) a + S1x1x1x2x128.size a ≤ S1x1280x128x2x128.size a)
theorem k0_off9_inb : ∀ (v175 : BitVec 32) (v179 : BitVec 32) (k0_hw4 : k0_chk4 v175 v179), ∀ a, (k0_off9 v175 v179) a + S1x1x1x2x128.size a ≤ S1x1280x128x2x128.size a := fun v175 v179 k0_hw4 => k0_hw4

def k0_off10 (k0_t2 : Fin k0_t2_loop.trips) : Fin 3 → Nat :=
  let c0_i32_1 : BitVec 32 := 0#32
  let c1_i32_3 : BitVec 32 := 1#32
  let arg14 : BitVec 32 := Scf.iv c0_i32_1 c1_i32_3 k0_t2
  let c0_i32_112 : BitVec 32 := 0#32
  let c0_i32_113 : BitVec 32 := 0#32
  ![arg14.toNat, 0, 0]
def k0_off11 (i : grid0.Coords) : Fin 1 → Nat :=
  let arg0 : BitVec 32 := BitVec.ofNat 32 (i 0).val
  let v50 : Index := Scalar.indexCast arg0
  ![v50.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x256 : Shape := ⟨2, ![8, 256]⟩
abbrev S8 : Shape := ⟨1, ![8]⟩
abbrev S8x128 : Shape := ⟨2, ![8, 128]⟩
abbrev S8x8x128 : Shape := ⟨3, ![8, 8, 128]⟩
abbrev S8x16x768 : Shape := ⟨3, ![8, 16, 768]⟩
abbrev S1x1280x128x2x128 : Shape := ⟨5, ![1, 1280, 128, 2, 128]⟩
abbrev S8x1x2x4x128 : Shape := ⟨5, ![8, 1, 2, 4, 128]⟩
abbrev S8x1x256 : Shape := ⟨3, ![8, 1, 256]⟩
abbrev S8x1x2x128 : Shape := ⟨4, ![8, 1, 2, 128]⟩
abbrev S256 : Shape := ⟨1, ![256]⟩
abbrev S1x256 : Shape := ⟨2, ![1, 256]⟩
abbrev S8x1 : Shape := ⟨2, ![8, 1]⟩
abbrev S_ : Shape := ⟨0, ![]⟩
abbrev S1280x128x2x128 : Shape := ⟨4, ![1280, 128, 2, 128]⟩
abbrev S8x1x1 : Shape := ⟨3, ![8, 1, 1]⟩
abbrev S8x1x256x1 : Shape := ⟨4, ![8, 1, 256, 1]⟩
abbrev S8x1x256x2 : Shape := ⟨4, ![8, 1, 256, 2]⟩
abbrev S8x1x256x2x128 : Shape := ⟨5, ![8, 1, 256, 2, 128]⟩
abbrev S8x1x256x1x1 : Shape := ⟨5, ![8, 1, 256, 1, 1]⟩
abbrev S8x1x2x4x256 : Shape := ⟨5, ![8, 1, 2, 4, 256]⟩
abbrev S8x1x2x4 : Shape := ⟨4, ![8, 1, 2, 4]⟩
abbrev S8x1x2x4x1 : Shape := ⟨5, ![8, 1, 2, 4, 1]⟩

abbrev nBuf : Space → Nat
  | .hbm => 284
  | .vmem => 0
  | .smem => 0
  | _ => 0

abbrev hbmTy0_0 (i : Nat) : BufTy := match i % 128 with
  | 0 => ⟨S8x256, .i32⟩
  | 1 => ⟨S8, .i32⟩
  | 2 => ⟨S8x128, .i32⟩
  | 3 => ⟨S8x8x128, .bf16⟩
  | 4 => ⟨S8x16x768, .f32⟩
  | 5 => ⟨S1x1280x128x2x128, .f32⟩
  | 6 => ⟨S1x1280x128x2x128, .f32⟩
  | 7 => ⟨S8x8x128, .f32⟩
  | 8 => ⟨S8x1x2x4x128, .f32⟩
  | 9 => ⟨S8x1x256, .f32⟩
  | 10 => ⟨S8x256, .f32⟩
  | 11 => ⟨S8x1x2x128, .f32⟩
  | 12 => ⟨S8x1x256, .f32⟩
  | 13 => ⟨S8x256, .f32⟩
  | 14 => ⟨S8x1x2x128, .f32⟩
  | 15 => ⟨S256, .i32⟩
  | 16 => ⟨S1x256, .i32⟩
  | 17 => ⟨S8x1, .i32⟩
  | 18 => ⟨S8x256, .i32⟩
  | 19 => ⟨S8x256, .i32⟩
  | 20 => ⟨S8x256, .i1⟩
  | 21 => ⟨S_, .i32⟩
  | 22 => ⟨S_, .i32⟩
  | 23 => ⟨S8x256, .i32⟩
  | 24 => ⟨S8x256, .i32⟩
  | 25 => ⟨S8x1x256, .i32⟩
  | 26 => ⟨S1280x128x2x128, .f32⟩
  | 27 => ⟨S8, .i32⟩
  | 28 => ⟨S8x1x1, .i32⟩
  | 29 => ⟨S_, .i32⟩
  | 30 => ⟨S8x1x256, .i32⟩
  | 31 => ⟨S8x1x256, .i32⟩
  | 32 => ⟨S_, .i32⟩
  | 33 => ⟨S_, .i32⟩
  | 34 => ⟨S8x1x256, .i32⟩
  | 35 => ⟨S8x1x256, .i32⟩
  | 36 => ⟨S8x1x256, .i32⟩
  | 37 => ⟨S_, .i32⟩
  | 38 => ⟨S8x1x256, .i32⟩
  | 39 => ⟨S8x1x256, .i1⟩
  | 40 => ⟨S8x1x256, .i32⟩
  | 41 => ⟨S8x1x256, .i32⟩
  | 42 => ⟨S_, .i32⟩
  | 43 => ⟨S8x1x256, .i32⟩
  | 44 => ⟨S8x1x256, .i1⟩
  | 45 => ⟨S8x1x256, .i1⟩
  | 46 => ⟨S_, .i32⟩
  | 47 => ⟨S8x1x256, .i32⟩
  | 48 => ⟨S8x1x256, .i32⟩
  | 49 => ⟨S8x1x256, .i32⟩
  | 50 => ⟨S_, .i32⟩
  | 51 => ⟨S8x1x1, .i32⟩
  | 52 => ⟨S8x1x1, .i1⟩
  | 53 => ⟨S_, .i32⟩
  | 54 => ⟨S8x1x1, .i32⟩
  | 55 => ⟨S8x1x1, .i32⟩
  | 56 => ⟨S8x1x1, .i32⟩
  | 57 => ⟨S_, .i32⟩
  | 58 => ⟨S8x1x256, .i32⟩
  | 59 => ⟨S8x1x256, .i1⟩
  | 60 => ⟨S_, .i32⟩
  | 61 => ⟨S8x1x256, .i32⟩
  | 62 => ⟨S8x1x256, .i32⟩
  | 63 => ⟨S8x1x256, .i32⟩
  | 64 => ⟨S8x1x256, .i32⟩
  | 65 => ⟨S8x1x256x1, .i32⟩
  | 66 => ⟨S8x1x256x1, .i32⟩
  | 67 => ⟨S8x1x256x2, .i32⟩
  | 68 => ⟨S8x1x256, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S8x1x256, .i32⟩
  | 76 => ⟨S8x1x256, .i32⟩
  | 77 => ⟨S_, .i32⟩
  | 78 => ⟨S8x1x256, .i32⟩
  | 79 => ⟨S8x1x256, .i1⟩
  | 80 => ⟨S_, .i32⟩
  | 81 => ⟨S8x1x256, .i32⟩
  | 82 => ⟨S8x1x256, .i1⟩
  | 83 => ⟨S_, .i32⟩
  | 84 => ⟨S_, .i1⟩
  | 85 => ⟨S8x1x256, .i1⟩
  | 86 => ⟨S8x1x256, .i1⟩
  | 87 => ⟨S8x1x256, .i1⟩
  | 88 => ⟨S8x1x256, .i32⟩
  | 89 => ⟨S8x1x256, .i32⟩
  | 90 => ⟨S8x1x256, .i32⟩
  | 91 => ⟨S_, .i32⟩
  | 92 => ⟨S8x1x256, .i32⟩
  | 93 => ⟨S8x1x256, .i1⟩
  | 94 => ⟨S_, .i32⟩
  | 95 => ⟨S8x1x256, .i32⟩
  | 96 => ⟨S8x1x256, .i32⟩
  | 97 => ⟨S8x1x256, .i32⟩
  | 98 => ⟨S_, .i32⟩
  | 99 => ⟨S8x1x256, .i32⟩
  | 100 => ⟨S8x1x256, .i1⟩
  | 101 => ⟨S_, .i32⟩
  | 102 => ⟨S8x1x256, .i32⟩
  | 103 => ⟨S8x1x256, .i32⟩
  | 104 => ⟨S8x1x256, .i32⟩
  | 105 => ⟨S8x1x256x1, .i32⟩
  | 106 => ⟨S8x1x256x1, .i32⟩
  | 107 => ⟨S8x1x256x2, .i32⟩
  | 108 => ⟨S8x1x256x2x128, .f32⟩
  | 109 => ⟨S_, .i32⟩
  | 110 => ⟨S8x1x256, .i32⟩
  | 111 => ⟨S8x1x256, .i32⟩
  | 112 => ⟨S_, .i32⟩
  | 113 => ⟨S_, .i32⟩
  | 114 => ⟨S_, .i32⟩
  | 115 => ⟨S8x1x256, .i32⟩
  | 116 => ⟨S8x1x256, .i32⟩
  | 117 => ⟨S_, .i32⟩
  | 118 => ⟨S8x1x256, .i32⟩
  | 119 => ⟨S8x1x256, .i32⟩
  | 120 => ⟨S_, .i32⟩
  | 121 => ⟨S8x1x1, .i32⟩
  | 122 => ⟨S8x1x1, .i1⟩
  | 123 => ⟨S_, .i32⟩
  | 124 => ⟨S8x1x1, .i32⟩
  | 125 => ⟨S8x1x1, .i32⟩
  | 126 => ⟨S8x1x1, .i32⟩
  | 127 => ⟨S_, .i32⟩
  | _ => ⟨S8x256, .i32⟩

abbrev hbmTy0_1 (i : Nat) : BufTy := match i % 128 with
  | 0 => ⟨S8x1x256, .i32⟩
  | 1 => ⟨S8x1x256, .i1⟩
  | 2 => ⟨S_, .i32⟩
  | 3 => ⟨S8x1x256, .i32⟩
  | 4 => ⟨S8x1x256, .i32⟩
  | 5 => ⟨S8x1x256, .i32⟩
  | 6 => ⟨S8x1x256, .i32⟩
  | 7 => ⟨S8x1x256x1, .i32⟩
  | 8 => ⟨S8x1x256x1, .i32⟩
  | 9 => ⟨S8x1x256x2, .i32⟩
  | 10 => ⟨S8x1x256x2x128, .f32⟩
  | 11 => ⟨S_, .i32⟩
  | 12 => ⟨S8x1x256, .i32⟩
  | 13 => ⟨S8x1x256, .i1⟩
  | 14 => ⟨S8x1x256x1x1, .i1⟩
  | 15 => ⟨S8x1x256x2x128, .i1⟩
  | 16 => ⟨S8x1x256x2x128, .f32⟩
  | 17 => ⟨S1280x128x2x128, .f32⟩
  | 18 => ⟨S8, .i32⟩
  | 19 => ⟨S8x1x1, .i32⟩
  | 20 => ⟨S_, .i32⟩
  | 21 => ⟨S8x1x256, .i32⟩
  | 22 => ⟨S8x1x256, .i32⟩
  | 23 => ⟨S_, .i32⟩
  | 24 => ⟨S_, .i32⟩
  | 25 => ⟨S8x1x256, .i32⟩
  | 26 => ⟨S8x1x256, .i32⟩
  | 27 => ⟨S8x1x256, .i32⟩
  | 28 => ⟨S_, .i32⟩
  | 29 => ⟨S8x1x256, .i32⟩
  | 30 => ⟨S8x1x256, .i1⟩
  | 31 => ⟨S8x1x256, .i32⟩
  | 32 => ⟨S8x1x256, .i32⟩
  | 33 => ⟨S_, .i32⟩
  | 34 => ⟨S8x1x256, .i32⟩
  | 35 => ⟨S8x1x256, .i1⟩
  | 36 => ⟨S8x1x256, .i1⟩
  | 37 => ⟨S_, .i32⟩
  | 38 => ⟨S8x1x256, .i32⟩
  | 39 => ⟨S8x1x256, .i32⟩
  | 40 => ⟨S8x1x256, .i32⟩
  | 41 => ⟨S_, .i32⟩
  | 42 => ⟨S8x1x1, .i32⟩
  | 43 => ⟨S8x1x1, .i1⟩
  | 44 => ⟨S_, .i32⟩
  | 45 => ⟨S8x1x1, .i32⟩
  | 46 => ⟨S8x1x1, .i32⟩
  | 47 => ⟨S8x1x1, .i32⟩
  | 48 => ⟨S_, .i32⟩
  | 49 => ⟨S8x1x256, .i32⟩
  | 50 => ⟨S8x1x256, .i1⟩
  | 51 => ⟨S_, .i32⟩
  | 52 => ⟨S8x1x256, .i32⟩
  | 53 => ⟨S8x1x256, .i32⟩
  | 54 => ⟨S8x1x256, .i32⟩
  | 55 => ⟨S8x1x256, .i32⟩
  | 56 => ⟨S8x1x256x1, .i32⟩
  | 57 => ⟨S8x1x256x1, .i32⟩
  | 58 => ⟨S8x1x256x2, .i32⟩
  | 59 => ⟨S8x1x256, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S8x1x256, .i32⟩
  | 67 => ⟨S8x1x256, .i32⟩
  | 68 => ⟨S_, .i32⟩
  | 69 => ⟨S8x1x256, .i32⟩
  | 70 => ⟨S8x1x256, .i1⟩
  | 71 => ⟨S_, .i32⟩
  | 72 => ⟨S8x1x256, .i32⟩
  | 73 => ⟨S8x1x256, .i1⟩
  | 74 => ⟨S_, .i32⟩
  | 75 => ⟨S_, .i1⟩
  | 76 => ⟨S8x1x256, .i1⟩
  | 77 => ⟨S8x1x256, .i1⟩
  | 78 => ⟨S8x1x256, .i1⟩
  | 79 => ⟨S8x1x256, .i32⟩
  | 80 => ⟨S8x1x256, .i32⟩
  | 81 => ⟨S8x1x256, .i32⟩
  | 82 => ⟨S_, .i32⟩
  | 83 => ⟨S8x1x256, .i32⟩
  | 84 => ⟨S8x1x256, .i1⟩
  | 85 => ⟨S_, .i32⟩
  | 86 => ⟨S8x1x256, .i32⟩
  | 87 => ⟨S8x1x256, .i32⟩
  | 88 => ⟨S8x1x256, .i32⟩
  | 89 => ⟨S_, .i32⟩
  | 90 => ⟨S8x1x256, .i32⟩
  | 91 => ⟨S8x1x256, .i1⟩
  | 92 => ⟨S_, .i32⟩
  | 93 => ⟨S8x1x256, .i32⟩
  | 94 => ⟨S8x1x256, .i32⟩
  | 95 => ⟨S8x1x256, .i32⟩
  | 96 => ⟨S8x1x256x1, .i32⟩
  | 97 => ⟨S8x1x256x1, .i32⟩
  | 98 => ⟨S8x1x256x2, .i32⟩
  | 99 => ⟨S8x1x256x2x128, .f32⟩
  | 100 => ⟨S_, .i32⟩
  | 101 => ⟨S8x1x256, .i32⟩
  | 102 => ⟨S8x1x256, .i32⟩
  | 103 => ⟨S_, .i32⟩
  | 104 => ⟨S_, .i32⟩
  | 105 => ⟨S_, .i32⟩
  | 106 => ⟨S8x1x256, .i32⟩
  | 107 => ⟨S8x1x256, .i32⟩
  | 108 => ⟨S_, .i32⟩
  | 109 => ⟨S8x1x256, .i32⟩
  | 110 => ⟨S8x1x256, .i32⟩
  | 111 => ⟨S_, .i32⟩
  | 112 => ⟨S8x1x1, .i32⟩
  | 113 => ⟨S8x1x1, .i1⟩
  | 114 => ⟨S_, .i32⟩
  | 115 => ⟨S8x1x1, .i32⟩
  | 116 => ⟨S8x1x1, .i32⟩
  | 117 => ⟨S8x1x1, .i32⟩
  | 118 => ⟨S_, .i32⟩
  | 119 => ⟨S8x1x256, .i32⟩
  | 120 => ⟨S8x1x256, .i1⟩
  | 121 => ⟨S_, .i32⟩
  | 122 => ⟨S8x1x256, .i32⟩
  | 123 => ⟨S8x1x256, .i32⟩
  | 124 => ⟨S8x1x256, .i32⟩
  | 125 => ⟨S8x1x256, .i32⟩
  | 126 => ⟨S8x1x256x1, .i32⟩
  | 127 => ⟨S8x1x256x1, .i32⟩
  | _ => ⟨S8x256, .i32⟩

abbrev hbmTy0_2 (i : Nat) : BufTy := match i % 128 with
  | 0 => ⟨S8x1x256x2, .i32⟩
  | 1 => ⟨S8x1x256x2x128, .f32⟩
  | 2 => ⟨S_, .i32⟩
  | 3 => ⟨S8x1x256, .i32⟩
  | 4 => ⟨S8x1x256, .i1⟩
  | 5 => ⟨S8x1x256x1x1, .i1⟩
  | 6 => ⟨S8x1x256x2x128, .i1⟩
  | 7 => ⟨S8x1x256x2x128, .f32⟩
  | 8 => ⟨S8x1x2x4x256, .f32⟩
  | 9 => ⟨S_, .f32⟩
  | 10 => ⟨S8x1x2x4x256, .f32⟩
  | 11 => ⟨S8x1x2x4x256, .f32⟩
  | 12 => ⟨S_, .f32⟩
  | 13 => ⟨S8x1x2x4, .f32⟩
  | 14 => ⟨S_, .f32⟩
  | 15 => ⟨S8x1x2x4, .f32⟩
  | 16 => ⟨S8x1x2x4, .f32⟩
  | 17 => ⟨S8x1x2x4x1, .f32⟩
  | 18 => ⟨S8x1x2x4x256, .f32⟩
  | 19 => ⟨S8x1x2x4x256, .f32⟩
  | 20 => ⟨S8x1x2x4x256, .f32⟩
  | 21 => ⟨S_, .f32⟩
  | 22 => ⟨S8x1x2x4, .f32⟩
  | 23 => ⟨S8x1x2x4x1, .f32⟩
  | 24 => ⟨S8x1x2x4x256, .f32⟩
  | 25 => ⟨S8x1x2x4x256, .f32⟩
  | 26 => ⟨S8x1x2x4x128, .f32⟩
  | 27 => ⟨S8x8x128, .f32⟩
  | _ => ⟨S8x256, .i32⟩

abbrev hbmTy (i : Nat) : BufTy := match i / 128 with
  | 0 => hbmTy0_0 i
  | 1 => hbmTy0_1 i
  | 2 => hbmTy0_2 i
  | _ => ⟨S8x256, .i32⟩

abbrev bufTy : (tb : Table) → Fin (tcTables nBuf tb) → BufTy
  | .hbm, ⟨i, _⟩ => hbmTy i
  | _, _ => ⟨S8x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_0 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v21 : Ref sig .tc := ⟨.hbm, 49, rfl⟩
abbrev main_c_2 : Ref sig .tc := ⟨.hbm, 50, rfl⟩
abbrev main_v22 : Ref sig .tc := ⟨.hbm, 51, rfl⟩
abbrev main_v23 : Ref sig .tc := ⟨.hbm, 52, rfl⟩
abbrev main_c_3 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_4 : Ref sig .tc := ⟨.hbm, 57, rfl⟩
abbrev main_v27 : Ref sig .tc := ⟨.hbm, 58, rfl⟩
abbrev main_v28 : Ref sig .tc := ⟨.hbm, 59, rfl⟩
abbrev main_c_5 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_6 : Ref sig .tc := ⟨.hbm, 69, rfl⟩
abbrev main_call2_v0 : Ref sig .tc := ⟨.hbm, 70, rfl⟩
abbrev main_call2_c : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_1 : Ref sig .tc := ⟨.hbm, 77, rfl⟩
abbrev main_call2_v5 : Ref sig .tc := ⟨.hbm, 78, rfl⟩
abbrev main_call2_v6 : Ref sig .tc := ⟨.hbm, 79, rfl⟩
abbrev main_call2_c_2 : Ref sig .tc := ⟨.hbm, 80, rfl⟩
abbrev main_call2_v7 : Ref sig .tc := ⟨.hbm, 81, rfl⟩
abbrev main_call2_v8 : Ref sig .tc := ⟨.hbm, 82, rfl⟩
abbrev main_call2_c_3 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_v37 : Ref sig .tc := ⟨.hbm, 90, rfl⟩
abbrev main_c_7 : Ref sig .tc := ⟨.hbm, 91, rfl⟩
abbrev main_v38 : Ref sig .tc := ⟨.hbm, 92, rfl⟩
abbrev main_v39 : Ref sig .tc := ⟨.hbm, 93, rfl⟩
abbrev main_c_8 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_c_9 : Ref sig .tc := ⟨.hbm, 98, rfl⟩
abbrev main_v43 : Ref sig .tc := ⟨.hbm, 99, rfl⟩
abbrev main_v44 : Ref sig .tc := ⟨.hbm, 100, rfl⟩
abbrev main_c_10 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_c_11 : Ref sig .tc := ⟨.hbm, 109, rfl⟩
abbrev main_v52 : Ref sig .tc := ⟨.hbm, 110, rfl⟩
abbrev main_v53 : Ref sig .tc := ⟨.hbm, 111, rfl⟩
abbrev main_c_12 : Ref sig .tc := ⟨.hbm, 112, rfl⟩
abbrev main_c_13 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_v54 : Ref sig .tc := ⟨.hbm, 119, rfl⟩
abbrev main_c_14 : Ref sig .tc := ⟨.hbm, 120, rfl⟩
abbrev main_v55 : Ref sig .tc := ⟨.hbm, 121, rfl⟩
abbrev main_v56 : Ref sig .tc := ⟨.hbm, 122, rfl⟩
abbrev main_c_15 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_c_16 : Ref sig .tc := ⟨.hbm, 127, rfl⟩
abbrev main_v60 : Ref sig .tc := ⟨.hbm, 128, rfl⟩
abbrev main_v61 : Ref sig .tc := ⟨.hbm, 129, rfl⟩
abbrev main_c_17 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_c_18 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_call4_v0 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_c_19 : Ref sig .tc := ⟨.hbm, 148, rfl⟩
abbrev main_v77 : Ref sig .tc := ⟨.hbm, 149, rfl⟩
abbrev main_v78 : Ref sig .tc := ⟨.hbm, 150, rfl⟩
abbrev main_c_20 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_call5_v5 : Ref sig .tc := ⟨.hbm, 157, rfl⟩
abbrev main_call5_v6 : Ref sig .tc := ⟨.hbm, 158, rfl⟩
abbrev main_call5_v7 : Ref sig .tc := ⟨.hbm, 159, rfl⟩
abbrev main_call5_v8 : Ref sig .tc := ⟨.hbm, 160, rfl⟩
abbrev main_call5_c : Ref sig .tc := ⟨.hbm, 161, rfl⟩
abbrev main_call5_v9 : Ref sig .tc := ⟨.hbm, 162, rfl⟩
abbrev main_call5_v10 : Ref sig .tc := ⟨.hbm, 163, rfl⟩
abbrev main_call5_v11 : Ref sig .tc := ⟨.hbm, 164, rfl⟩
abbrev main_call5_c_0 : Ref sig .tc := ⟨.hbm, 165, rfl⟩
abbrev main_call5_v12 : Ref sig .tc := ⟨.hbm, 166, rfl⟩
abbrev main_call5_v13 : Ref sig .tc := ⟨.hbm, 167, rfl⟩
abbrev main_v79 : Ref sig .tc := ⟨.hbm, 168, rfl⟩
abbrev main_c_21 : Ref sig .tc := ⟨.hbm, 169, rfl⟩
abbrev main_v80 : Ref sig .tc := ⟨.hbm, 170, rfl⟩
abbrev main_v81 : Ref sig .tc := ⟨.hbm, 171, rfl⟩
abbrev main_c_22 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_c_23 : Ref sig .tc := ⟨.hbm, 176, rfl⟩
abbrev main_v85 : Ref sig .tc := ⟨.hbm, 177, rfl⟩
abbrev main_v86 : Ref sig .tc := ⟨.hbm, 178, rfl⟩
abbrev main_c_24 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_c_25 : Ref sig .tc := ⟨.hbm, 188, rfl⟩
abbrev main_call6_v0 : Ref sig .tc := ⟨.hbm, 189, rfl⟩
abbrev main_call6_c : Ref sig .tc := ⟨.hbm, 190, rfl⟩
abbrev main_call6_v1 : Ref sig .tc := ⟨.hbm, 191, rfl⟩
abbrev main_call6_c_0 : Ref sig .tc := ⟨.hbm, 192, rfl⟩
abbrev main_call6_v2 : Ref sig .tc := ⟨.hbm, 193, rfl⟩
abbrev main_call6_v3 : Ref sig .tc := ⟨.hbm, 194, rfl⟩
abbrev main_call6_v4 : Ref sig .tc := ⟨.hbm, 195, rfl⟩
abbrev main_call6_c_1 : Ref sig .tc := ⟨.hbm, 196, rfl⟩
abbrev main_call6_v5 : Ref sig .tc := ⟨.hbm, 197, rfl⟩
abbrev main_call6_v6 : Ref sig .tc := ⟨.hbm, 198, rfl⟩
abbrev main_call6_c_2 : Ref sig .tc := ⟨.hbm, 199, rfl⟩
abbrev main_call6_v7 : Ref sig .tc := ⟨.hbm, 200, rfl⟩
abbrev main_call6_v8 : Ref sig .tc := ⟨.hbm, 201, rfl⟩
abbrev main_call6_c_3 : Ref sig .tc := ⟨.hbm, 202, rfl⟩
abbrev main_call6_v9 : Ref sig .tc := ⟨.hbm, 203, rfl⟩
abbrev main_call6_v10 : Ref sig .tc := ⟨.hbm, 204, rfl⟩
abbrev main_call6_v11 : Ref sig .tc := ⟨.hbm, 205, rfl⟩
abbrev main_call6_v12 : Ref sig .tc := ⟨.hbm, 206, rfl⟩
abbrev main_call6_v13 : Ref sig .tc := ⟨.hbm, 207, rfl⟩
abbrev main_call6_v14 : Ref sig .tc := ⟨.hbm, 208, rfl⟩
abbrev main_v95 : Ref sig .tc := ⟨.hbm, 209, rfl⟩
abbrev main_c_26 : Ref sig .tc := ⟨.hbm, 210, rfl⟩
abbrev main_v96 : Ref sig .tc := ⟨.hbm, 211, rfl⟩
abbrev main_v97 : Ref sig .tc := ⟨.hbm, 212, rfl⟩
abbrev main_c_27 : Ref sig .tc := ⟨.hbm, 213, rfl⟩
abbrev main_v98 : Ref sig .tc := ⟨.hbm, 214, rfl⟩
abbrev main_v99 : Ref sig .tc := ⟨.hbm, 215, rfl⟩
abbrev main_v100 : Ref sig .tc := ⟨.hbm, 216, rfl⟩
abbrev main_c_28 : Ref sig .tc := ⟨.hbm, 217, rfl⟩
abbrev main_v101 : Ref sig .tc := ⟨.hbm, 218, rfl⟩
abbrev main_v102 : Ref sig .tc := ⟨.hbm, 219, rfl⟩
abbrev main_c_29 : Ref sig .tc := ⟨.hbm, 220, rfl⟩
abbrev main_v103 : Ref sig .tc := ⟨.hbm, 221, rfl⟩
abbrev main_v104 : Ref sig .tc := ⟨.hbm, 222, rfl⟩
abbrev main_v105 : Ref sig .tc := ⟨.hbm, 223, rfl⟩
abbrev main_v106 : Ref sig .tc := ⟨.hbm, 224, rfl⟩
abbrev main_v107 : Ref sig .tc := ⟨.hbm, 225, rfl⟩
abbrev main_v108 : Ref sig .tc := ⟨.hbm, 226, rfl⟩
abbrev main_v109 : Ref sig .tc := ⟨.hbm, 227, rfl⟩
abbrev main_c_30 : Ref sig .tc := ⟨.hbm, 228, rfl⟩
abbrev main_v110 : Ref sig .tc := ⟨.hbm, 229, rfl⟩
abbrev main_v111 : Ref sig .tc := ⟨.hbm, 230, rfl⟩
abbrev main_c_31 : Ref sig .tc := ⟨.hbm, 231, rfl⟩
abbrev main_c_32 : Ref sig .tc := ⟨.hbm, 232, rfl⟩
abbrev main_call7_v0 : Ref sig .tc := ⟨.hbm, 233, rfl⟩
abbrev main_call7_v1 : Ref sig .tc := ⟨.hbm, 234, rfl⟩
abbrev main_call7_v2 : Ref sig .tc := ⟨.hbm, 235, rfl⟩
abbrev main_call7_v3 : Ref sig .tc := ⟨.hbm, 236, rfl⟩
abbrev main_call7_v4 : Ref sig .tc := ⟨.hbm, 237, rfl⟩
abbrev main_v112 : Ref sig .tc := ⟨.hbm, 238, rfl⟩
abbrev main_c_33 : Ref sig .tc := ⟨.hbm, 239, rfl⟩
abbrev main_v113 : Ref sig .tc := ⟨.hbm, 240, rfl⟩
abbrev main_v114 : Ref sig .tc := ⟨.hbm, 241, rfl⟩
abbrev main_c_34 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_c_35 : Ref sig .tc := ⟨.hbm, 246, rfl⟩
abbrev main_v118 : Ref sig .tc := ⟨.hbm, 247, rfl⟩
abbrev main_v119 : Ref sig .tc := ⟨.hbm, 248, rfl⟩
abbrev main_c_36 : Ref sig .tc := ⟨.hbm, 249, rfl⟩
abbrev main_v120 : Ref sig .tc := ⟨.hbm, 250, rfl⟩
abbrev main_v121 : Ref sig .tc := ⟨.hbm, 251, rfl⟩
abbrev main_v122 : Ref sig .tc := ⟨.hbm, 252, rfl⟩
abbrev main_v123 : Ref sig .tc := ⟨.hbm, 253, rfl⟩
abbrev main_v124 : Ref sig .tc := ⟨.hbm, 254, rfl⟩
abbrev main_v125 : Ref sig .tc := ⟨.hbm, 255, rfl⟩
abbrev main_v126 : Ref sig .tc := ⟨.hbm, 256, rfl⟩
abbrev main_v127 : Ref sig .tc := ⟨.hbm, 257, rfl⟩
abbrev main_c_37 : Ref sig .tc := ⟨.hbm, 258, rfl⟩
abbrev main_v128 : Ref sig .tc := ⟨.hbm, 259, rfl⟩
abbrev main_v129 : Ref sig .tc := ⟨.hbm, 260, rfl⟩
abbrev main_v130 : Ref sig .tc := ⟨.hbm, 261, rfl⟩
abbrev main_call8_v0 : Ref sig .tc := ⟨.hbm, 262, rfl⟩
abbrev main_v131 : Ref sig .tc := ⟨.hbm, 263, rfl⟩
abbrev main_v132 : Ref sig .tc := ⟨.hbm, 264, rfl⟩
abbrev main_cst : Ref sig .tc := ⟨.hbm, 265, rfl⟩
abbrev main_v133 : Ref sig .tc := ⟨.hbm, 266, rfl⟩
abbrev main_v134 : Ref sig .tc := ⟨.hbm, 267, rfl⟩
abbrev main_cst_38 : Ref sig .tc := ⟨.hbm, 268, rfl⟩
abbrev main_v135 : Ref sig .tc := ⟨.hbm, 269, rfl⟩
abbrev main_cst_39 : Ref sig .tc := ⟨.hbm, 270, rfl⟩
abbrev main_v136 : Ref sig .tc := ⟨.hbm, 271, rfl⟩
abbrev main_v137 : Ref sig .tc := ⟨.hbm, 272, rfl⟩
abbrev main_v138 : Ref sig .tc := ⟨.hbm, 273, rfl⟩
abbrev main_v139 : Ref sig .tc := ⟨.hbm, 274, rfl⟩
abbrev main_v140 : Ref sig .tc := ⟨.hbm, 275, rfl⟩
abbrev main_v141 : Ref sig .tc := ⟨.hbm, 276, rfl⟩
abbrev main_cst_40 : Ref sig .tc := ⟨.hbm, 277, rfl⟩
abbrev main_v142 : Ref sig .tc := ⟨.hbm, 278, rfl⟩
abbrev main_v143 : Ref sig .tc := ⟨.hbm, 279, rfl⟩
abbrev main_v144 : Ref sig .tc := ⟨.hbm, 280, rfl⟩
abbrev main_v145 : Ref sig .tc := ⟨.hbm, 281, rfl⟩
abbrev main_v146 : Ref sig .tc := ⟨.hbm, 282, rfl⟩
abbrev main_v147 : Ref sig .tc := ⟨.hbm, 283, rfl⟩

abbrev nD : Nat := 1
abbrev τ : Topo := Topo.v7x

variable {F : FTy → Type} [FloatOps F]
-- ==== KvP.lean ====
abbrev S2x4096x2048 : Shape := ⟨3, ![2, 4096, 2048]⟩
abbrev S1x2048 : Shape := ⟨2, ![1, 2048]⟩
abbrev S1x2048x11920 : Shape := ⟨3, ![1, 2048, 11920]⟩
abbrev S2048x11920 : Shape := ⟨2, ![2048, 11920]⟩
abbrev S2048x1024 : Shape := ⟨2, ![2048, 1024]⟩
abbrev S2048x256 : Shape := ⟨2, ![2048, 256]⟩
abbrev S2048x2048 : Shape := ⟨2, ![2048, 2048]⟩
abbrev S2048x16 : Shape := ⟨2, ![2048, 16]⟩
abbrev S2048x128 : Shape := ⟨2, ![2048, 128]⟩
abbrev S_ : Shape := ⟨0, ![]⟩
abbrev S2048x112 : Shape := ⟨2, ![2048, 112]⟩
abbrev S2048x3072 : Shape := ⟨2, ![2048, 3072]⟩
abbrev S2048x768 : Shape := ⟨2, ![2048, 768]⟩
abbrev S2048x8192 : Shape := ⟨2, ![2048, 8192]⟩
abbrev S8192x2048 : Shape := ⟨2, ![8192, 2048]⟩
abbrev S2048 : Shape := ⟨1, ![2048]⟩
abbrev S8192x768 : Shape := ⟨2, ![8192, 768]⟩
abbrev S1024x2048 : Shape := ⟨2, ![1024, 2048]⟩
abbrev S1024x768 : Shape := ⟨2, ![1024, 768]⟩
abbrev S1024 : Shape := ⟨1, ![1024]⟩
abbrev S1024x1 : Shape := ⟨2, ![1024, 1]⟩
abbrev S8192x256 : Shape := ⟨2, ![8192, 256]⟩
abbrev S1x2x4096x2x128 : Shape := ⟨5, ![1, 2, 4096, 2, 128]⟩
abbrev S8192x128 : Shape := ⟨2, ![8192, 128]⟩
abbrev S1x2x4096x128 : Shape := ⟨4, ![1, 2, 4096, 128]⟩

abbrev nBuf : Space → Nat
  | .hbm => 34
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x11920, .f32⟩
  | .hbm, ⟨3, _⟩ => ⟨S2048x11920, .f32⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S2048x2048, .f32⟩
  | .hbm, ⟨8, _⟩ => ⟨S2048x16, .f32⟩
  | .hbm, ⟨9, _⟩ => ⟨S2048x128, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x112, .f32⟩
  | .hbm, ⟨18, _⟩ => ⟨S2048x3072, .f32⟩
  | .hbm, ⟨19, _⟩ => ⟨S2048x3072, .bf16⟩
  | .hbm, ⟨20, _⟩ => ⟨S2048x768, .f32⟩
  | .hbm, ⟨21, _⟩ => ⟨S2048x768, .bf16⟩
  | .hbm, ⟨22, _⟩ => ⟨S2048x8192, .f32⟩
  | .hbm, ⟨23, _⟩ => ⟨S2048x8192, .bf16⟩
  | .hbm, ⟨24, _⟩ => ⟨S8192x2048, .f32⟩
  | .hbm, ⟨25, _⟩ => ⟨S2048, .f32⟩
  | .hbm, ⟨26, _⟩ => ⟨S1x2048, .f32⟩
  | .hbm, ⟨27, _⟩ => ⟨S8192x768, .f32⟩
  | .hbm, ⟨28, _⟩ => ⟨S8192x256, .f32⟩
  | .hbm, ⟨29, _⟩ => ⟨S1x2x4096x2x128, .f32⟩
  | .hbm, ⟨30, _⟩ => ⟨S8192x256, .f32⟩
  | .hbm, ⟨31, _⟩ => ⟨S1x2x4096x2x128, .f32⟩
  | .hbm, ⟨32, _⟩ => ⟨S8192x128, .f32⟩
  | .hbm, ⟨33, _⟩ => ⟨S1x2x4096x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | .local _ .vmem, ⟨6, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvPRefIdeal.lean ====
abbrev S2x4096x2048 : Shape := ⟨3, ![2, 4096, 2048]⟩
abbrev S1x2048 : Shape := ⟨2, ![1, 2048]⟩
abbrev S1x2048x11920 : Shape := ⟨3, ![1, 2048, 11920]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x11920 : Shape := ⟨2, ![2048, 11920]⟩
abbrev S2x4096x11920 : Shape := ⟨3, ![2, 4096, 11920]⟩
abbrev S2x4096x256 : Shape := ⟨3, ![2, 4096, 256]⟩
abbrev S1x2x4096x2x128 : Shape := ⟨5, ![1, 2, 4096, 2, 128]⟩
abbrev S2x4096x128 : Shape := ⟨3, ![2, 4096, 128]⟩
abbrev S1x2x4096x128 : Shape := ⟨4, ![1, 2, 4096, 128]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x11920, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x11920, .f32⟩
  | .hbm, ⟨21, _⟩ => ⟨S2x4096x11920, .f32⟩
  | .hbm, ⟨22, _⟩ => ⟨S2x4096x256, .f32⟩
  | .hbm, ⟨23, _⟩ => ⟨S1x2x4096x2x128, .f32⟩
  | .hbm, ⟨24, _⟩ => ⟨S2x4096x256, .f32⟩
  | .hbm, ⟨25, _⟩ => ⟨S1x2x4096x2x128, .f32⟩
  | .hbm, ⟨26, _⟩ => ⟨S2x4096x128, .f32⟩
  | .hbm, ⟨27, _⟩ => ⟨S1x2x4096x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== KvS.lean ====
abbrev S8x1x2048 : Shape := ⟨3, ![8, 1, 2048]⟩
abbrev S1x2048 : Shape := ⟨2, ![1, 2048]⟩
abbrev S1x2048x11920 : Shape := ⟨3, ![1, 2048, 11920]⟩
abbrev S2048x11920 : Shape := ⟨2, ![2048, 11920]⟩
abbrev S2048x1024 : Shape := ⟨2, ![2048, 1024]⟩
abbrev S2048x256 : Shape := ⟨2, ![2048, 256]⟩
abbrev S2048x2048 : Shape := ⟨2, ![2048, 2048]⟩
abbrev S2048x16 : Shape := ⟨2, ![2048, 16]⟩
abbrev S2048x128 : Shape := ⟨2, ![2048, 128]⟩
abbrev S_ : Shape := ⟨0, ![]⟩
abbrev S2048x112 : Shape := ⟨2, ![2048, 112]⟩
abbrev S2048x3072 : Shape := ⟨2, ![2048, 3072]⟩
abbrev S2048x768 : Shape := ⟨2, ![2048, 768]⟩
abbrev S2048x8192 : Shape := ⟨2, ![2048, 8192]⟩
abbrev S8x2048 : Shape := ⟨2, ![8, 2048]⟩
abbrev S2048 : Shape := ⟨1, ![2048]⟩
abbrev S8x768 : Shape := ⟨2, ![8, 768]⟩
abbrev S8 : Shape := ⟨1, ![8]⟩
abbrev S8x1 : Shape := ⟨2, ![8, 1]⟩
abbrev S8x256 : Shape := ⟨2, ![8, 256]⟩
abbrev S1x8x1x2x128 : Shape := ⟨5, ![1, 8, 1, 2, 128]⟩
abbrev S8x128 : Shape := ⟨2, ![8, 128]⟩
abbrev S1x8x1x128 : Shape := ⟨4, ![1, 8, 1, 128]⟩

abbrev nBuf : Space → Nat
  | .hbm => 34
  | .vmem => 5
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048x11920, .f32⟩
  | .hbm, ⟨3, _⟩ => ⟨S2048x11920, .f32⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S2048x2048, .f32⟩
  | .hbm, ⟨8, _⟩ => ⟨S2048x16, .f32⟩
  | .hbm, ⟨9, _⟩ => ⟨S2048x128, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x112, .f32⟩
  | .hbm, ⟨18, _⟩ => ⟨S2048x3072, .f32⟩
  | .hbm, ⟨19, _⟩ => ⟨S2048x3072, .bf16⟩
  | .hbm, ⟨20, _⟩ => ⟨S2048x768, .f32⟩
  | .hbm, ⟨21, _⟩ => ⟨S2048x768, .bf16⟩
  | .hbm, ⟨22, _⟩ => ⟨S2048x8192, .f32⟩
  | .hbm, ⟨23, _⟩ => ⟨S2048x8192, .bf16⟩
  | .hbm, ⟨24, _⟩ => ⟨S8x2048, .f32⟩
  | .hbm, ⟨25, _⟩ => ⟨S2048, .f32⟩
  | .hbm, ⟨26, _⟩ => ⟨S1x2048, .f32⟩
  | .hbm, ⟨27, _⟩ => ⟨S8x768, .f32⟩
  | .hbm, ⟨28, _⟩ => ⟨S8x256, .f32⟩
  | .hbm, ⟨29, _⟩ => ⟨S1x8x1x2x128, .f32⟩
  | .hbm, ⟨30, _⟩ => ⟨S8x256, .f32⟩
  | .hbm, ⟨31, _⟩ => ⟨S1x8x1x2x128, .f32⟩
  | .hbm, ⟨32, _⟩ => ⟨S8x128, .f32⟩
  | .hbm, ⟨33, _⟩ => ⟨S1x8x1x128, .f32⟩
  | .local _ .vmem, ⟨0, _⟩ => ⟨S8x2048, .f32⟩
  | .local _ .vmem, ⟨1, _⟩ => ⟨S1x2048, .f32⟩
  | .local _ .vmem, ⟨2, _⟩ => ⟨S2048x768, .bf16⟩
  | .local _ .vmem, ⟨3, _⟩ => ⟨S8x768, .f32⟩
  | .local _ .vmem, ⟨4, _⟩ => ⟨S8x2048, .bf16⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== KvSRefIdeal.lean ====
abbrev S8x1x2048 : Shape := ⟨3, ![8, 1, 2048]⟩
abbrev S1x2048 : Shape := ⟨2, ![1, 2048]⟩
abbrev S1x2048x11920 : Shape := ⟨3, ![1, 2048, 11920]⟩
abbrev S2048 : Shape := ⟨1, ![2048]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S2048x11920 : Shape := ⟨2, ![2048, 11920]⟩
abbrev S8x1x11920 : Shape := ⟨3, ![8, 1, 11920]⟩
abbrev S8x1x256 : Shape := ⟨3, ![8, 1, 256]⟩
abbrev S1x8x1x2x128 : Shape := ⟨5, ![1, 8, 1, 2, 128]⟩
abbrev S8x1x128 : Shape := ⟨3, ![8, 1, 128]⟩
abbrev S1x8x1x128 : Shape := ⟨4, ![1, 8, 1, 128]⟩

abbrev nBuf : Space → Nat
  | .hbm => 28
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048x11920, .f32⟩
  | .hbm, ⟨3, _⟩ => ⟨S2048, .f32⟩
  | .hbm, ⟨4, _⟩ => ⟨S8x1x2048, .f32⟩
  | .hbm, ⟨5, _⟩ => ⟨S_, .f32⟩
  | .hbm, ⟨6, _⟩ => ⟨S8x1, .f32⟩
  | .hbm, ⟨7, _⟩ => ⟨S8x1x1, .f32⟩
  | .hbm, ⟨8, _⟩ => ⟨S_, .f32⟩
  | .hbm, ⟨9, _⟩ => ⟨S8x1x1, .f32⟩
  | .hbm, ⟨10, _⟩ => ⟨S8x1x1, .f32⟩
  | .hbm, ⟨11, _⟩ => ⟨S_, .f32⟩
  | .hbm, ⟨12, _⟩ => ⟨S8x1x1, .f32⟩
  | .hbm, ⟨13, _⟩ => ⟨S8x1x1, .f32⟩
  | .hbm, ⟨14, _⟩ => ⟨S8x1x1, .f32⟩
  | .hbm, ⟨15, _⟩ => ⟨S8x1x2048, .f32⟩
  | .hbm, ⟨16, _⟩ => ⟨S8x1x2048, .f32⟩
  | .hbm, ⟨17, _⟩ => ⟨S1x1x2048, .f32⟩
  | .hbm, ⟨18, _⟩ => ⟨S8x1x2048, .f32⟩
  | .hbm, ⟨19, _⟩ => ⟨S8x1x2048, .f32⟩
  | .hbm, ⟨20, _⟩ => ⟨S2048x11920, .f32⟩
  | .hbm, ⟨21, _⟩ => ⟨S8x1x11920, .f32⟩
  | .hbm, ⟨22, _⟩ => ⟨S8x1x256, .f32⟩
  | .hbm, ⟨23, _⟩ => ⟨S1x8x1x2x128, .f32⟩
  | .hbm, ⟨24, _⟩ => ⟨S8x1x256, .f32⟩
  | .hbm, ⟨25, _⟩ => ⟨S1x8x1x2x128, .f32⟩
  | .hbm, ⟨26, _⟩ => ⟨S8x1x128, .f32⟩
  | .hbm, ⟨27, _⟩ => ⟨S1x8x1x128, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== HqP.lean ====
abbrev S2x4096x2048 : Shape := ⟨3, ![2, 4096, 2048]⟩
abbrev S1x2048 : Shape := ⟨2, ![1, 2048]⟩
abbrev S1x2048x11920 : Shape := ⟨3, ![1, 2048, 11920]⟩
abbrev S2048x11920 : Shape := ⟨2, ![2048, 11920]⟩
abbrev S2048x1024 : Shape := ⟨2, ![2048, 1024]⟩
abbrev S2048x256 : Shape := ⟨2, ![2048, 256]⟩
abbrev S2048x2048 : Shape := ⟨2, ![2048, 2048]⟩
abbrev S2048x16 : Shape := ⟨2, ![2048, 16]⟩
abbrev S2048x128 : Shape := ⟨2, ![2048, 128]⟩
abbrev S_ : Shape := ⟨0, ![]⟩
abbrev S2048x112 : Shape := ⟨2, ![2048, 112]⟩
abbrev S2048x3072 : Shape := ⟨2, ![2048, 3072]⟩
abbrev S2048x768 : Shape := ⟨2, ![2048, 768]⟩
abbrev S2048x8192 : Shape := ⟨2, ![2048, 8192]⟩
abbrev S8192x2048 : Shape := ⟨2, ![8192, 2048]⟩
abbrev S2048 : Shape := ⟨1, ![2048]⟩
abbrev S8192x3072 : Shape := ⟨2, ![8192, 3072]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 28
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x11920, .f32⟩
  | .hbm, ⟨3, _⟩ => ⟨S2048x11920, .f32⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S2048x2048, .f32⟩
  | .hbm, ⟨8, _⟩ => ⟨S2048x16, .f32⟩
  | .hbm, ⟨9, _⟩ => ⟨S2048x128, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x112, .f32⟩
  | .hbm, ⟨18, _⟩ => ⟨S2048x3072, .f32⟩
  | .hbm, ⟨19, _⟩ => ⟨S2048x3072, .bf16⟩
  | .hbm, ⟨20, _⟩ => ⟨S2048x768, .f32⟩
  | .hbm, ⟨21, _⟩ => ⟨S2048x768, .bf16⟩
  | .hbm, ⟨22, _⟩ => ⟨S2048x8192, .f32⟩
  | .hbm, ⟨23, _⟩ => ⟨S2048x8192, .bf16⟩
  | .hbm, ⟨24, _⟩ => ⟨S8192x2048, .f32⟩
  | .hbm, ⟨25, _⟩ => ⟨S2048, .f32⟩
  | .hbm, ⟨26, _⟩ => ⟨S1x2048, .f32⟩
  | .hbm, ⟨27, _⟩ => ⟨S8192x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HqPRefIdeal.lean ====
abbrev S2x4096x2048 : Shape := ⟨3, ![2, 4096, 2048]⟩
abbrev S1x2048 : Shape := ⟨2, ![1, 2048]⟩
abbrev S1x2048x11920 : Shape := ⟨3, ![1, 2048, 11920]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x11920 : Shape := ⟨2, ![2048, 11920]⟩
abbrev S2x4096x11920 : Shape := ⟨3, ![2, 4096, 11920]⟩
abbrev S2x4096x1024 : Shape := ⟨3, ![2, 4096, 1024]⟩
abbrev S2x4096x3072 : Shape := ⟨3, ![2, 4096, 3072]⟩
abbrev S8192x3072 : Shape := ⟨2, ![8192, 3072]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x11920, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x11920, .f32⟩
  | .hbm, ⟨21, _⟩ => ⟨S2x4096x11920, .f32⟩
  | .hbm, ⟨22, _⟩ => ⟨S2x4096x1024, .f32⟩
  | .hbm, ⟨23, _⟩ => ⟨S2x4096x2048, .f32⟩
  | .hbm, ⟨24, _⟩ => ⟨S2x4096x3072, .f32⟩
  | .hbm, ⟨25, _⟩ => ⟨S8192x3072, .f32⟩
  | .hbm, ⟨26, _⟩ => ⟨S8192x3072, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== GateP.lean ====
abbrev S2x4096x2048 : Shape := ⟨3, ![2, 4096, 2048]⟩
abbrev S1x2048 : Shape := ⟨2, ![1, 2048]⟩
abbrev S1x2048x11920 : Shape := ⟨3, ![1, 2048, 11920]⟩
abbrev S2048x11920 : Shape := ⟨2, ![2048, 11920]⟩
abbrev S2048x1024 : Shape := ⟨2, ![2048, 1024]⟩
abbrev S2048x256 : Shape := ⟨2, ![2048, 256]⟩
abbrev S2048x2048 : Shape := ⟨2, ![2048, 2048]⟩
abbrev S2048x16 : Shape := ⟨2, ![2048, 16]⟩
abbrev S2048x128 : Shape := ⟨2, ![2048, 128]⟩
abbrev S_ : Shape := ⟨0, ![]⟩
abbrev S2048x112 : Shape := ⟨2, ![2048, 112]⟩
abbrev S2048x3072 : Shape := ⟨2, ![2048, 3072]⟩
abbrev S2048x768 : Shape := ⟨2, ![2048, 768]⟩
abbrev S2048x8192 : Shape := ⟨2, ![2048, 8192]⟩
abbrev S8192x2048 : Shape := ⟨2, ![8192, 2048]⟩
abbrev S2048 : Shape := ⟨1, ![2048]⟩
abbrev S8192x8192 : Shape := ⟨2, ![8192, 8192]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 28
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x11920, .f32⟩
  | .hbm, ⟨3, _⟩ => ⟨S2048x11920, .f32⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S2048x2048, .f32⟩
  | .hbm, ⟨8, _⟩ => ⟨S2048x16, .f32⟩
  | .hbm, ⟨9, _⟩ => ⟨S2048x128, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x112, .f32⟩
  | .hbm, ⟨18, _⟩ => ⟨S2048x3072, .f32⟩
  | .hbm, ⟨19, _⟩ => ⟨S2048x3072, .bf16⟩
  | .hbm, ⟨20, _⟩ => ⟨S2048x768, .f32⟩
  | .hbm, ⟨21, _⟩ => ⟨S2048x768, .bf16⟩
  | .hbm, ⟨22, _⟩ => ⟨S2048x8192, .f32⟩
  | .hbm, ⟨23, _⟩ => ⟨S2048x8192, .bf16⟩
  | .hbm, ⟨24, _⟩ => ⟨S8192x2048, .f32⟩
  | .hbm, ⟨25, _⟩ => ⟨S2048, .f32⟩
  | .hbm, ⟨26, _⟩ => ⟨S1x2048, .f32⟩
  | .hbm, ⟨27, _⟩ => ⟨S8192x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatePRefIdeal.lean ====
abbrev S2x4096x2048 : Shape := ⟨3, ![2, 4096, 2048]⟩
abbrev S1x2048 : Shape := ⟨2, ![1, 2048]⟩
abbrev S1x2048x11920 : Shape := ⟨3, ![1, 2048, 11920]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x11920 : Shape := ⟨2, ![2048, 11920]⟩
abbrev S2x4096x11920 : Shape := ⟨3, ![2, 4096, 11920]⟩
abbrev S2x4096x8192 : Shape := ⟨3, ![2, 4096, 8192]⟩
abbrev S8192x8192 : Shape := ⟨2, ![8192, 8192]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x11920, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x11920, .f32⟩
  | .hbm, ⟨21, _⟩ => ⟨S2x4096x11920, .f32⟩
  | .hbm, ⟨22, _⟩ => ⟨S2x4096x8192, .f32⟩
  | .hbm, ⟨23, _⟩ => ⟨S8192x8192, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== MergeP.lean ====
abbrev S8192x1024 : Shape := ⟨2, ![8192, 1024]⟩
abbrev S8192x8192 : Shape := ⟨2, ![8192, 8192]⟩
abbrev S2x4096x2048 : Shape := ⟨3, ![2, 4096, 2048]⟩
abbrev S1x1024x2048 : Shape := ⟨3, ![1, 1024, 2048]⟩
abbrev S1x2048x2048 : Shape := ⟨3, ![1, 2048, 2048]⟩
abbrev S1x1024 : Shape := ⟨2, ![1, 1024]⟩
abbrev S1x8x128x128 : Shape := ⟨4, ![1, 8, 128, 128]⟩
abbrev S1x8x128 : Shape := ⟨3, ![1, 8, 128]⟩
abbrev S2048 : Shape := ⟨1, ![2048]⟩
abbrev S1024x2048 : Shape := ⟨2, ![1024, 2048]⟩
abbrev S2048x2048 : Shape := ⟨2, ![2048, 2048]⟩
abbrev S1024 : Shape := ⟨1, ![1024]⟩
abbrev S1x2048 : Shape := ⟨2, ![1, 2048]⟩
abbrev S8192x2048 : Shape := ⟨2, ![8192, 2048]⟩
abbrev S8x128 : Shape := ⟨2, ![8, 128]⟩
abbrev S128x8 : Shape := ⟨2, ![128, 8]⟩
abbrev S8x128x128 : Shape := ⟨3, ![8, 128, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 28
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x8192, .f32⟩
  | .hbm, ⟨2, _⟩ => ⟨S2x4096x2048, .f32⟩
  | .hbm, ⟨3, _⟩ => ⟨S1x1024x2048, .f32⟩
  | .hbm, ⟨4, _⟩ => ⟨S1x1024x2048, .f32⟩
  | .hbm, ⟨5, _⟩ => ⟨S1x2048x2048, .f32⟩
  | .hbm, ⟨6, _⟩ => ⟨S1x1024, .f32⟩
  | .hbm, ⟨7, _⟩ => ⟨S1x1024, .f32⟩
  | .hbm, ⟨8, _⟩ => ⟨S1x8x128x128, .f32⟩
  | .hbm, ⟨9, _⟩ => ⟨S1x8x128, .f32⟩
  | .hbm, ⟨10, _⟩ => ⟨S2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S2048x2048, .f32⟩
  | .hbm, ⟨16, _⟩ => ⟨S2048x2048, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x2048, .f32⟩
  | .hbm, ⟨22, _⟩ => ⟨S8192x2048, .f32⟩
  | .hbm, ⟨23, _⟩ => ⟨S8x128, .f32⟩
  | .hbm, ⟨24, _⟩ => ⟨S128x8, .f32⟩
  | .hbm, ⟨25, _⟩ => ⟨S8x128x128, .f32⟩
  | .hbm, ⟨26, _⟩ => ⟨S8192x2048, .f32⟩
  | .hbm, ⟨27, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S1x1024, .f32⟩
  | .local _ .vmem, ⟨20, _⟩ => ⟨S1x1024, .f32⟩
  | .local _ .vmem, ⟨21, _⟩ => ⟨S8x128x128, .f32⟩
  | .local _ .vmem, ⟨22, _⟩ => ⟨S128x8, .f32⟩
  | .local _ .vmem, ⟨23, _⟩ => ⟨S1x2048, .f32⟩
  | .local _ .vmem, ⟨24, _⟩ => ⟨S256x2048, .f32⟩
  | .local _ .vmem, ⟨25, _⟩ => ⟨S256x2048, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergePRefIdeal.lean ====
abbrev S8192x1024 : Shape := ⟨2, ![8192, 1024]⟩
abbrev S8192x8192 : Shape := ⟨2, ![8192, 8192]⟩
abbrev S2x4096x2048 : Shape := ⟨3, ![2, 4096, 2048]⟩
abbrev S1x1024x2048 : Shape := ⟨3, ![1, 1024, 2048]⟩
abbrev S1x2048x2048 : Shape := ⟨3, ![1, 2048, 2048]⟩
abbrev S1x1024 : Shape := ⟨2, ![1, 1024]⟩
abbrev S1x8x128x128 : Shape := ⟨4, ![1, 8, 128, 128]⟩
abbrev S1x8x128 : Shape := ⟨3, ![1, 8, 128]⟩
abbrev S2048 : Shape := ⟨1, ![2048]⟩
abbrev S8192x2048 : Shape := ⟨2, ![8192, 2048]⟩
abbrev S_ : Shape := ⟨0, ![]⟩
abbrev S1024 : Shape := ⟨1, ![1024]⟩
abbrev S8192 : Shape := ⟨1, ![8192]⟩
abbrev S8192x1 : Shape := ⟨2, ![8192, 1]⟩
abbrev S2x32x128x8x128 : Shape := ⟨5, ![2, 32, 128, 8, 128]⟩
abbrev S8x128x128 : Shape := ⟨3, ![8, 128, 128]⟩
abbrev S128x128 : Shape := ⟨2, ![128, 128]⟩
abbrev S8x2x32x128x128 : Shape := ⟨5, ![8, 2, 32, 128, 128]⟩
abbrev S8x128 : Shape := ⟨2, ![8, 128]⟩
abbrev S128x8 : Shape := ⟨2, ![128, 8]⟩
abbrev S1x1x128x8x1 : Shape := ⟨5, ![1, 1, 128, 8, 1]⟩
abbrev S1024x2048 : Shape := ⟨2, ![1024, 2048]⟩
abbrev S2048x2048 : Shape := ⟨2, ![2048, 2048]⟩
abbrev S1x2048 : Shape := ⟨2, ![1, 2048]⟩

abbrev nBuf : Space → Nat
  | .hbm => 148
  | .vmem => 0
  | .smem => 0
  | _ => 0

abbrev hbmTy0_0 (i : Nat) : BufTy := match i % 128 with
  | 0 => ⟨S8192x1024, .f32⟩
  | 1 => ⟨S8192x8192, .f32⟩
  | 2 => ⟨S2x4096x2048, .f32⟩
  | 3 => ⟨S1x1024x2048, .f32⟩
  | 4 => ⟨S1x1024x2048, .f32⟩
  | 5 => ⟨S1x2048x2048, .f32⟩
  | 6 => ⟨S1x1024, .f32⟩
  | 7 => ⟨S1x1024, .f32⟩
  | 8 => ⟨S1x8x128x128, .f32⟩
  | 9 => ⟨S1x8x128, .f32⟩
  | 10 => ⟨S2048, .f32⟩
  | 11 => ⟨S8192x1024, .f32⟩
  | 12 => ⟨S8192x1024, .f32⟩
  | 13 => ⟨S8192x1024, .f32⟩
  | 14 => ⟨S8192x1024, .f32⟩
  | 15 => ⟨S8192x2048, .f32⟩
  | 16 => ⟨S8192x2048, .f32⟩
  | 17 => ⟨S_, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S8192x1024, .f32⟩
  | 34 => ⟨S8192x1024, .f32⟩
  | 35 => ⟨S1024, .f32⟩
  | 36 => ⟨S1024, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1024, .f32⟩
  | 57 => ⟨S8192x1024, .f32⟩
  | 58 => ⟨S1x1024, .f32⟩
  | 59 => ⟨S8192x1024, .f32⟩
  | 60 => ⟨S8192x1024, .f32⟩
  | 61 => ⟨S1x1024, .f32⟩
  | 62 => ⟨S8192x1024, .f32⟩
  | 63 => ⟨S8192x1024, .f32⟩
  | 64 => ⟨S2x32x128x8x128, .f32⟩
  | 65 => ⟨S8x128x128, .f32⟩
  | 66 => ⟨S128x128, .i32⟩
  | 67 => ⟨S_, .i32⟩
  | 68 => ⟨S128x128, .i32⟩
  | 69 => ⟨S128x128, .i32⟩
  | 70 => ⟨S128x128, .i32⟩
  | 71 => ⟨S128x128, .i1⟩
  | 72 => ⟨S8x128x128, .i1⟩
  | 73 => ⟨S_, .f32⟩
  | 74 => ⟨S8x128x128, .f32⟩
  | 75 => ⟨S8x128x128, .f32⟩
  | 76 => ⟨S8x2x32x128x128, .f32⟩
  | 77 => ⟨S2x32x128x8x128, .f32⟩
  | 78 => ⟨S8x128, .f32⟩
  | 79 => ⟨S128x8, .f32⟩
  | 80 => ⟨S1x1x128x8x1, .f32⟩
  | 81 => ⟨S2x32x128x8x128, .f32⟩
  | 82 => ⟨S2x32x128x8x128, .f32⟩
  | 83 => ⟨S8192x1024, .f32⟩
  | 84 => ⟨S8192x1024, .f32⟩
  | 85 => ⟨S8192x2048, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S_, .f32⟩
  | 92 => ⟨S8192x1024, .f32⟩
  | 93 => ⟨S8192x1024, .f32⟩
  | 94 => ⟨S8192x1024, .f32⟩
  | 95 => ⟨S8192x1024, .f32⟩
  | 96 => ⟨S1024x2048, .f32⟩
  | 97 => ⟨S8192x2048, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S_, .f32⟩
  | 104 => ⟨S8192x1024, .f32⟩
  | 105 => ⟨S8192x1024, .f32⟩
  | 106 => ⟨S8192x1024, .f32⟩
  | 107 => ⟨S8192x1024, .f32⟩
  | 108 => ⟨S1024x2048, .f32⟩
  | 109 => ⟨S8192x2048, .f32⟩
  | 110 => ⟨S8192x2048, .f32⟩
  | 111 => ⟨S8192x2048, .f32⟩
  | 112 => ⟨S_, .f32⟩
  | 113 => ⟨S8192x2048, .f32⟩
  | 114 => ⟨S8192x2048, .f32⟩
  | 115 => ⟨S_, .f32⟩
  | 116 => ⟨S8192x2048, .f32⟩
  | 117 => ⟨S8192x2048, .f32⟩
  | 118 => ⟨S8192x2048, .f32⟩
  | 119 => ⟨S8192x2048, .f32⟩
  | 120 => ⟨S8192x2048, .f32⟩
  | 121 => ⟨S_, .f32⟩
  | 122 => ⟨S8192x2048, .f32⟩
  | 123 => ⟨S8192x2048, .f32⟩
  | 124 => ⟨S_, .f32⟩
  | 125 => ⟨S8192x2048, .f32⟩
  | 126 => ⟨S8192x2048, .f32⟩
  | 127 => ⟨S8192x2048, .f32⟩
  | _ => ⟨S8192x1024, .f32⟩

abbrev hbmTy0_1 (i : Nat) : BufTy := match i % 128 with
  | 0 => ⟨S8192x2048, .f32⟩
  | 1 => ⟨S2048x2048, .f32⟩
  | 2 => ⟨S8192x2048, .f32⟩
  | 3 => ⟨S8192x2048, .f32⟩
  | 4 => ⟨S8192x2048, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x1, .f32⟩
  | 15 => ⟨S8192x2048, .f32⟩
  | 16 => ⟨S8192x2048, .f32⟩
  | 17 => ⟨S1x2048, .f32⟩
  | 18 => ⟨S8192x2048, .f32⟩
  | 19 => ⟨S8192x2048, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_cst : Ref sig .tc := ⟨.hbm, 73, rfl⟩
abbrev main_call0_v6 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_call2_v5 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_8 : Ref sig .tc := ⟨.hbm, 112, rfl⟩
abbrev main_v67 : Ref sig .tc := ⟨.hbm, 113, rfl⟩
abbrev main_v68 : Ref sig .tc := ⟨.hbm, 114, rfl⟩
abbrev main_cst_9 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_10 : Ref sig .tc := ⟨.hbm, 121, rfl⟩
abbrev main_v74 : Ref sig .tc := ⟨.hbm, 122, rfl⟩
abbrev main_v75 : Ref sig .tc := ⟨.hbm, 123, rfl⟩
abbrev main_cst_11 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_cst_12 : Ref sig .tc := ⟨.hbm, 133, rfl⟩
abbrev main_v84 : Ref sig .tc := ⟨.hbm, 134, rfl⟩
abbrev main_v85 : Ref sig .tc := ⟨.hbm, 135, rfl⟩
abbrev main_cst_13 : Ref sig .tc := ⟨.hbm, 136, rfl⟩
abbrev main_v86 : Ref sig .tc := ⟨.hbm, 137, rfl⟩
abbrev main_v87 : Ref sig .tc := ⟨.hbm, 138, rfl⟩
abbrev main_cst_14 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== MergeS.lean ====
abbrev S8x1024 : Shape := ⟨2, ![8, 1024]⟩
abbrev S8x8192 : Shape := ⟨2, ![8, 8192]⟩
abbrev S8x1x2048 : Shape := ⟨3, ![8, 1, 2048]⟩
abbrev S1x1024x2048 : Shape := ⟨3, ![1, 1024, 2048]⟩
abbrev S1x2048x2048 : Shape := ⟨3, ![1, 2048, 2048]⟩
abbrev S1x1024 : Shape := ⟨2, ![1, 1024]⟩
abbrev S1x8x128x128 : Shape := ⟨4, ![1, 8, 128, 128]⟩
abbrev S1x8x128 : Shape := ⟨3, ![1, 8, 128]⟩
abbrev S2048 : Shape := ⟨1, ![2048]⟩
abbrev S1024x2048 : Shape := ⟨2, ![1024, 2048]⟩
abbrev S2048x2048 : Shape := ⟨2, ![2048, 2048]⟩
abbrev S1024 : Shape := ⟨1, ![1024]⟩
abbrev S1x2048 : Shape := ⟨2, ![1, 2048]⟩
abbrev S8x2048 : Shape := ⟨2, ![8, 2048]⟩
abbrev S8x128x128 : Shape := ⟨3, ![8, 128, 128]⟩
abbrev S8x1x1 : Shape := ⟨3, ![8, 1, 1]⟩
abbrev S8 : Shape := ⟨1, ![8]⟩
abbrev S8x128 : Shape := ⟨2, ![8, 128]⟩
abbrev S8x1 : Shape := ⟨2, ![8, 1]⟩

abbrev nBuf : Space → Nat
  | .hbm => 37
  | .vmem => 19
  | .smem => 0
  | _ => 0

abbrev bufTy : (tb : Table) → Fin (tcTables nBuf tb) → BufTy
  | .hbm, ⟨0, _⟩ => ⟨S8x1024, .f32⟩
  | .hbm, ⟨1, _⟩ => ⟨S8x8192, .f32⟩
  | .hbm, ⟨2, _⟩ => ⟨S8x1x2048, .f32⟩
  | .hbm, ⟨3, _⟩ => ⟨S1x1024x2048, .f32⟩
  | .hbm, ⟨4, _⟩ => ⟨S1x1024x2048, .f32⟩
  | .hbm, ⟨5, _⟩ => ⟨S1x2048x2048, .f32⟩
  | .hbm, ⟨6, _⟩ => ⟨S1x1024, .f32⟩
  | .hbm, ⟨7, _⟩ => ⟨S1x1024, .f32⟩
  | .hbm, ⟨8, _⟩ => ⟨S1x8x128x128, .f32⟩
  | .hbm, ⟨9, _⟩ => ⟨S1x8x128, .f32⟩
  | .hbm, ⟨10, _⟩ => ⟨S2048, .f32⟩
  | .hbm, ⟨11, _⟩ => ⟨S1024x2048, .f32⟩
  | .hbm, ⟨12, _⟩ => ⟨S1024x2048, .bf16⟩
  | .hbm, ⟨13, _⟩ => ⟨S1024x2048, .f32⟩
  | .hbm, ⟨14, _⟩ => ⟨S1024x2048, .bf16⟩
  | .hbm, ⟨15, _⟩ => ⟨S2048x2048, .f32⟩
  | .hbm, ⟨16, _⟩ => ⟨S2048x2048, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1x2048, .f32⟩
  | .hbm, ⟨22, _⟩ => ⟨S8x2048, .f32⟩
  | .hbm, ⟨23, _⟩ => ⟨S8x128x128, .f32⟩
  | .hbm, ⟨24, _⟩ => ⟨S8x1x1, .f32⟩
  | .hbm, ⟨25, _⟩ => ⟨S8, .f32⟩
  | .hbm, ⟨26, _⟩ => ⟨S8x128, .f32⟩
  | .hbm, ⟨27, _⟩ => ⟨S1024, .f32⟩
  | .hbm, ⟨28, _⟩ => ⟨S1x1024, .f32⟩
  | .hbm, ⟨29, _⟩ => ⟨S8x128, .f32⟩
  | .hbm, ⟨30, _⟩ => ⟨S8x1, .f32⟩
  | .hbm, ⟨31, _⟩ => ⟨S8, .f32⟩
  | .hbm, ⟨32, _⟩ => ⟨S8x128, .f32⟩
  | .hbm, ⟨33, _⟩ => ⟨S1024, .f32⟩
  | .hbm, ⟨34, _⟩ => ⟨S1x1024, .f32⟩
  | .hbm, ⟨35, _⟩ => ⟨S8x2048, .f32⟩
  | .hbm, ⟨36, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x2048, .f32⟩
  | .local _ .vmem, ⟨16, _⟩ => ⟨S8x2048, .f32⟩
  | .local _ .vmem, ⟨17, _⟩ => ⟨S8x1024, .f32⟩
  | .local _ .vmem, ⟨18, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== MergeSRefIdeal.lean ====
abbrev S8x1024 : Shape := ⟨2, ![8, 1024]⟩
abbrev S8x8192 : Shape := ⟨2, ![8, 8192]⟩
abbrev S8x1x2048 : Shape := ⟨3, ![8, 1, 2048]⟩
abbrev S1x1024x2048 : Shape := ⟨3, ![1, 1024, 2048]⟩
abbrev S1x2048x2048 : Shape := ⟨3, ![1, 2048, 2048]⟩
abbrev S1x1024 : Shape := ⟨2, ![1, 1024]⟩
abbrev S1x8x128x128 : Shape := ⟨4, ![1, 8, 128, 128]⟩
abbrev S1x8x128 : Shape := ⟨3, ![1, 8, 128]⟩
abbrev S2048 : Shape := ⟨1, ![2048]⟩
abbrev S8x2048 : Shape := ⟨2, ![8, 2048]⟩
abbrev S_ : Shape := ⟨0, ![]⟩
abbrev S1024 : Shape := ⟨1, ![1024]⟩
abbrev S8 : Shape := ⟨1, ![8]⟩
abbrev S8x1 : Shape := ⟨2, ![8, 1]⟩
abbrev S8x1x1x8x128 : Shape := ⟨5, ![8, 1, 1, 8, 128]⟩
abbrev S8x128x128 : Shape := ⟨3, ![8, 128, 128]⟩
abbrev S8x1x1 : Shape := ⟨3, ![8, 1, 1]⟩
abbrev S1x1 : Shape := ⟨2, ![1, 1]⟩
abbrev S8x8x1x128x1 : Shape := ⟨5, ![8, 8, 1, 128, 1]⟩
abbrev S8x128 : Shape := ⟨2, ![8, 128]⟩
abbrev S1x8 : Shape := ⟨2, ![1, 8]⟩
abbrev S1x1x1x8x1 : Shape := ⟨5, ![1, 1, 1, 8, 1]⟩
abbrev S1024x2048 : Shape := ⟨2, ![1024, 2048]⟩
abbrev S2048x2048 : Shape := ⟨2, ![2048, 2048]⟩
abbrev S1x2048 : Shape := ⟨2, ![1, 2048]⟩

abbrev nBuf : Space → Nat
  | .hbm => 150
  | .vmem => 0
  | .smem => 0
  | _ => 0

abbrev hbmTy0_0 (i : Nat) : BufTy := match i % 128 with
  | 0 => ⟨S8x1024, .f32⟩
  | 1 => ⟨S8x8192, .f32⟩
  | 2 => ⟨S8x1x2048, .f32⟩
  | 3 => ⟨S1x1024x2048, .f32⟩
  | 4 => ⟨S1x1024x2048, .f32⟩
  | 5 => ⟨S1x2048x2048, .f32⟩
  | 6 => ⟨S1x1024, .f32⟩
  | 7 => ⟨S1x1024, .f32⟩
  | 8 => ⟨S1x8x128x128, .f32⟩
  | 9 => ⟨S1x8x128, .f32⟩
  | 10 => ⟨S2048, .f32⟩
  | 11 => ⟨S8x1024, .f32⟩
  | 12 => ⟨S8x1024, .f32⟩
  | 13 => ⟨S8x1024, .f32⟩
  | 14 => ⟨S8x1024, .f32⟩
  | 15 => ⟨S8x2048, .f32⟩
  | 16 => ⟨S8x2048, .f32⟩
  | 17 => ⟨S_, .f32⟩
  | 18 => ⟨S8x1024, .f32⟩
  | 19 => ⟨S8x1024, .f32⟩
  | 20 => ⟨S8x1024, .f32⟩
  | 21 => ⟨S_, .f32⟩
  | 22 => ⟨S8x1024, .f32⟩
  | 23 => ⟨S8x1024, .f32⟩
  | 24 => ⟨S8x1024, .f32⟩
  | 25 => ⟨S8x1024, .f32⟩
  | 26 => ⟨S_, .f32⟩
  | 27 => ⟨S8x1024, .f32⟩
  | 28 => ⟨S8x1024, .f32⟩
  | 29 => ⟨S8x1024, .f32⟩
  | 30 => ⟨S_, .f32⟩
  | 31 => ⟨S8x1024, .f32⟩
  | 32 => ⟨S8x1024, .f32⟩
  | 33 => ⟨S8x1024, .f32⟩
  | 34 => ⟨S8x1024, .f32⟩
  | 35 => ⟨S1024, .f32⟩
  | 36 => ⟨S1024, .f32⟩
  | 37 => ⟨S_, .f32⟩
  | 38 => ⟨S8, .f32⟩
  | 39 => ⟨S8x1, .f32⟩
  | 40 => ⟨S_, .f32⟩
  | 41 => ⟨S8x1, .f32⟩
  | 42 => ⟨S8x1, .f32⟩
  | 43 => ⟨S8x1024, .f32⟩
  | 44 => ⟨S8x1024, .f32⟩
  | 45 => ⟨S8x1024, .f32⟩
  | 46 => ⟨S_, .f32⟩
  | 47 => ⟨S8, .f32⟩
  | 48 => ⟨S8x1, .f32⟩
  | 49 => ⟨S_, .f32⟩
  | 50 => ⟨S8x1, .f32⟩
  | 51 => ⟨S8x1, .f32⟩
  | 52 => ⟨S_, .f32⟩
  | 53 => ⟨S8x1, .f32⟩
  | 54 => ⟨S8x1, .f32⟩
  | 55 => ⟨S8x1, .f32⟩
  | 56 => ⟨S8x1024, .f32⟩
  | 57 => ⟨S8x1024, .f32⟩
  | 58 => ⟨S1x1024, .f32⟩
  | 59 => ⟨S8x1024, .f32⟩
  | 60 => ⟨S8x1024, .f32⟩
  | 61 => ⟨S1x1024, .f32⟩
  | 62 => ⟨S8x1024, .f32⟩
  | 63 => ⟨S8x1024, .f32⟩
  | 64 => ⟨S8x1x1x8x128, .f32⟩
  | 65 => ⟨S8x128x128, .f32⟩
  | 66 => ⟨S8x1x1, .f32⟩
  | 67 => ⟨S1x1, .i32⟩
  | 68 => ⟨S_, .i32⟩
  | 69 => ⟨S1x1, .i32⟩
  | 70 => ⟨S1x1, .i32⟩
  | 71 => ⟨S1x1, .i32⟩
  | 72 => ⟨S1x1, .i1⟩
  | 73 => ⟨S8x1x1, .i1⟩
  | 74 => ⟨S_, .f32⟩
  | 75 => ⟨S8x1x1, .f32⟩
  | 76 => ⟨S8x1x1, .f32⟩
  | 77 => ⟨S8x8x1x128x1, .f32⟩
  | 78 => ⟨S8x1x1x8x128, .f32⟩
  | 79 => ⟨S8x128, .f32⟩
  | 80 => ⟨S8x1, .f32⟩
  | 81 => ⟨S1x8, .f32⟩
  | 82 => ⟨S1x1x1x8x1, .f32⟩
  | 83 => ⟨S8x1x1x8x128, .f32⟩
  | 84 => ⟨S8x1x1x8x128, .f32⟩
  | 85 => ⟨S8x1024, .f32⟩
  | 86 => ⟨S8x1024, .f32⟩
  | 87 => ⟨S8x2048, .f32⟩
  | 88 => ⟨S8x1024, .f32⟩
  | 89 => ⟨S8x1024, .f32⟩
  | 90 => ⟨S_, .f32⟩
  | 91 => ⟨S8x1024, .f32⟩
  | 92 => ⟨S8x1024, .f32⟩
  | 93 => ⟨S_, .f32⟩
  | 94 => ⟨S8x1024, .f32⟩
  | 95 => ⟨S8x1024, .f32⟩
  | 96 => ⟨S8x1024, .f32⟩
  | 97 => ⟨S8x1024, .f32⟩
  | 98 => ⟨S1024x2048, .f32⟩
  | 99 => ⟨S8x2048, .f32⟩
  | 100 => ⟨S8x1024, .f32⟩
  | 101 => ⟨S8x1024, .f32⟩
  | 102 => ⟨S_, .f32⟩
  | 103 => ⟨S8x1024, .f32⟩
  | 104 => ⟨S8x1024, .f32⟩
  | 105 => ⟨S_, .f32⟩
  | 106 => ⟨S8x1024, .f32⟩
  | 107 => ⟨S8x1024, .f32⟩
  | 108 => ⟨S8x1024, .f32⟩
  | 109 => ⟨S8x1024, .f32⟩
  | 110 => ⟨S1024x2048, .f32⟩
  | 111 => ⟨S8x2048, .f32⟩
  | 112 => ⟨S8x2048, .f32⟩
  | 113 => ⟨S8x2048, .f32⟩
  | 114 => ⟨S_, .f32⟩
  | 115 => ⟨S8x2048, .f32⟩
  | 116 => ⟨S8x2048, .f32⟩
  | 117 => ⟨S_, .f32⟩
  | 118 => ⟨S8x2048, .f32⟩
  | 119 => ⟨S8x2048, .f32⟩
  | 120 => ⟨S8x2048, .f32⟩
  | 121 => ⟨S8x2048, .f32⟩
  | 122 => ⟨S8x2048, .f32⟩
  | 123 => ⟨S_, .f32⟩
  | 124 => ⟨S8x2048, .f32⟩
  | 125 => ⟨S8x2048, .f32⟩
  | 126 => ⟨S_, .f32⟩
  | 127 => ⟨S8x2048, .f32⟩
  | _ => ⟨S8x1024, .f32⟩

abbrev hbmTy0_1 (i : Nat) : BufTy := match i % 128 with
  | 0 => ⟨S8x2048, .f32⟩
  | 1 => ⟨S8x2048, .f32⟩
  | 2 => ⟨S8x2048, .f32⟩
  | 3 => ⟨S2048x2048, .f32⟩
  | 4 => ⟨S8x2048, .f32⟩
  | 5 => ⟨S8x2048, .f32⟩
  | 6 => ⟨S8x2048, .f32⟩
  | 7 => ⟨S_, .f32⟩
  | 8 => ⟨S8, .f32⟩
  | 9 => ⟨S8x1, .f32⟩
  | 10 => ⟨S_, .f32⟩
  | 11 => ⟨S8x1, .f32⟩
  | 12 => ⟨S8x1, .f32⟩
  | 13 => ⟨S_, .f32⟩
  | 14 => ⟨S8x1, .f32⟩
  | 15 => ⟨S8x1, .f32⟩
  | 16 => ⟨S8x1, .f32⟩
  | 17 => ⟨S8x2048, .f32⟩
  | 18 => ⟨S8x2048, .f32⟩
  | 19 => ⟨S1x2048, .f32⟩
  | 20 => ⟨S8x2048, .f32⟩
  | 21 => ⟨S8x2048, .f32⟩
  | _ => ⟨S8x1024, .f32⟩

abbrev hbmTy (i : Nat) : BufTy := match i / 128 with
  | 0 => hbmTy0_0 i
  | 1 => hbmTy0_1 i
  | _ => ⟨S8x1024, .f32⟩

abbrev bufTy : (tb : Table) → Fin (tcTables nBuf tb) → BufTy
  | .hbm, ⟨i, _⟩ => hbmTy i
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_cst : Ref sig .tc := ⟨.hbm, 74, rfl⟩
abbrev main_call0_v6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_call1_v5 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_call2_v0 : Ref sig .tc := ⟨.hbm, 100, rfl⟩
abbrev main_call2_v1 : Ref sig .tc := ⟨.hbm, 101, rfl⟩
abbrev main_call2_cst : Ref sig .tc := ⟨.hbm, 102, rfl⟩
abbrev main_call2_v2 : Ref sig .tc := ⟨.hbm, 103, rfl⟩
abbrev main_call2_v3 : Ref sig .tc := ⟨.hbm, 104, rfl⟩
abbrev main_call2_cst_0 : Ref sig .tc := ⟨.hbm, 105, rfl⟩
abbrev main_call2_v4 : Ref sig .tc := ⟨.hbm, 106, rfl⟩
abbrev main_call2_v5 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_8 : Ref sig .tc := ⟨.hbm, 114, rfl⟩
abbrev main_v69 : Ref sig .tc := ⟨.hbm, 115, rfl⟩
abbrev main_v70 : Ref sig .tc := ⟨.hbm, 116, rfl⟩
abbrev main_cst_9 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_10 : Ref sig .tc := ⟨.hbm, 123, rfl⟩
abbrev main_v76 : Ref sig .tc := ⟨.hbm, 124, rfl⟩
abbrev main_v77 : Ref sig .tc := ⟨.hbm, 125, rfl⟩
abbrev main_cst_11 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_12 : Ref sig .tc := ⟨.hbm, 135, rfl⟩
abbrev main_v86 : Ref sig .tc := ⟨.hbm, 136, rfl⟩
abbrev main_v87 : Ref sig .tc := ⟨.hbm, 137, rfl⟩
abbrev main_cst_13 : Ref sig .tc := ⟨.hbm, 138, rfl⟩
abbrev main_v88 : Ref sig .tc := ⟨.hbm, 139, rfl⟩
abbrev main_v89 : Ref sig .tc := ⟨.hbm, 140, rfl⟩
abbrev main_cst_14 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩

abbrev nD : Nat := 1
abbrev τ : Topo := Topo.v7x

variable {F : FTy → Type} [FloatOps F]
-- ==== PromptAttn.lean ====
abbrev S8192x3072 : Shape := ⟨2, ![8192, 3072]⟩
abbrev S8192x768 : Shape := ⟨2, ![8192, 768]⟩
abbrev S8192x1024 : Shape := ⟨2, ![8192, 1024]⟩
abbrev S128x1024 : Shape := ⟨2, ![128, 1024]⟩
abbrev S128x768 : Shape := ⟨2, ![128, 768]⟩
abbrev S4096x768 : Shape := ⟨2, ![4096, 768]⟩
abbrev S4096x256 : Shape := ⟨2, ![4096, 256]⟩
abbrev S4096x128 : Shape := ⟨2, ![4096, 128]⟩
abbrev S8x128x512 : Shape := ⟨3, ![8, 128, 512]⟩
abbrev S128x1 : Shape := ⟨2, ![128, 1]⟩
abbrev S2x512x1 : Shape := ⟨3, ![2, 512, 1]⟩
abbrev S2x512x128 : Shape := ⟨3, ![2, 512, 128]⟩
abbrev S1x512 : Shape := ⟨2, ![1, 512]⟩
abbrev S128x16 : Shape := ⟨2, ![128, 16]⟩
abbrev S512x128 : Shape := ⟨2, ![512, 128]⟩
abbrev S128x512 : Shape := ⟨2, ![128, 512]⟩
abbrev S128x128 : Shape := ⟨2, ![128, 128]⟩
abbrev S1x128x512 : Shape := ⟨3, ![1, 128, 512]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S512x512 : Shape := ⟨2, ![512, 512]⟩
abbrev S4x128x512 : Shape := ⟨3, ![4, 128, 512]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩

abbrev nBuf : Space → Nat
  | .hbm => 3
  | .vmem => 20
  | .smem => 0
  | _ => 0

abbrev bufTy : (tb : Table) → Fin (tcTables nBuf tb) → BufTy
  | .hbm, ⟨0, _⟩ => ⟨S8192x3072, .bf16⟩
  | .hbm, ⟨1, _⟩ => ⟨S8192x768, .f32⟩
  | .hbm, ⟨2, _⟩ => ⟨S8192x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x768, .f32⟩
  | .local _ .vmem, ⟨7, _⟩ => ⟨S128x768, .f32⟩
  | .local _ .vmem, ⟨8, _⟩ => ⟨S4096x768, .f32⟩
  | .local _ .vmem, ⟨9, _⟩ => ⟨S4096x768, .f32⟩
  | .local _ .vmem, ⟨10, _⟩ => ⟨S128x1024, .f32⟩
  | .local _ .vmem, ⟨11, _⟩ => ⟨S128x1024, .f32⟩
  | .local _ .vmem, ⟨12, _⟩ => ⟨S4096x256, .bf16⟩
  | .local _ .vmem, ⟨13, _⟩ => ⟨S4096x256, .bf16⟩
  | .local _ .vmem, ⟨14, _⟩ => ⟨S4096x128, .bf16⟩
  | .local _ .vmem, ⟨15, _⟩ => ⟨S8x128x512, .f32⟩
  | .local _ .vmem, ⟨16, _⟩ => ⟨S128x1, .i32⟩
  | .local _ .vmem, ⟨17, _⟩ => ⟨S2x512x1, .f32⟩
  | .local _ .vmem, ⟨18, _⟩ => ⟨S2x512x1, .f32⟩
  | .local _ .vmem, ⟨19, _⟩ => ⟨S2x512x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

@[reducible] def k0_t1_loop (i : grid0.Coords) : Scf.Loop 32 :=
  let c0_i32_9 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v30 : BitVec 32 := Scalar.subi v21 c0_i32_9
  let c1_i32_10 : BitVec 32 := 1#32
  let v32 : BitVec 32 := Scalar.divsi v30 c1_i32_10
  let v33 : BitVec 32 := Scalar.muli v32 c1_i32_10
  let v34 : BitVec 32 := Scalar.addi c0_i32_9 v33
  let c1_i32_11 : BitVec 32 := 1#32
  ⟨c0_i32_9, v34, c1_i32_11⟩
def k0_mult1 (i : grid0.Coords) (k0_t1 : Fin (k0_t1_loop i).trips) : BitVec 32 :=
  let c0_i32_9 : BitVec 32 := 0#32
  let c1_i32_11 : BitVec 32 := 1#32
  let arg16 : BitVec 32 := Scf.iv c0_i32_9 c1_i32_11 k0_t1
  let c512_i32_91 : BitVec 32 := 512#32
  let v130 : BitVec 32 := Scalar.muli arg16 c512_i32_91
  v130
def k0_off1 (i : grid0.Coords) (k0_t1 : Fin (k0_t1_loop i).trips) : Fin 2 → Nat :=
  let c0_i32_9 : BitVec 32 := 0#32
  let c1_i32_11 : BitVec 32 := 1#32
  let arg16 : BitVec 32 := Scf.iv c0_i32_9 c1_i32_11 k0_t1
  let c512_i32_91 : BitVec 32 := 512#32
  let v130 : BitVec 32 := Scalar.muli arg16 c512_i32_91
  let v131 : BitVec 32 := v130
  let v132 : Index := Scalar.indexCast v131
  let c0_92 : Index := 0#32
  ![v132.toNat, 0]
def k0_off2 (i : grid0.Coords) (k0_t1 : Fin (k0_t1_loop i).trips) : Fin 3 → Nat :=
  let c0_i32_9 : BitVec 32 := 0#32
  let c1_i32_11 : BitVec 32 := 1#32
  let arg16 : BitVec 32 := Scf.iv c0_i32_9 c1_i32_11 k0_t1
  let v270 : Index := Scalar.indexCast arg16
  let c0_159 : Index := 0#32
  let c0_160 : Index := 0#32
  ![v270.toNat, 0, 0]
@[reducible] def k0_t2_loop (i : grid0.Coords) : Scf.Loop 32 :=
  let c0_i32_9 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v30 : BitVec 32 := Scalar.subi v21 c0_i32_9
  let c1_i32_10 : BitVec 32 := 1#32
  let v32 : BitVec 32 := Scalar.divsi v30 c1_i32_10
  let v33 : BitVec 32 := Scalar.muli v32 c1_i32_10
  let v34 : BitVec 32 := Scalar.addi c0_i32_9 v33
  let v31 : BitVec 32 := Scalar.addi c0_i32_9 v30
  let c1_i32_12 : BitVec 32 := 1#32
  ⟨v34, v31, c1_i32_12⟩
def k0_mult2 (i : grid0.Coords) (k0_t2 : Fin (k0_t2_loop i).trips) : BitVec 32 :=
  let c0_i32_9 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v30 : BitVec 32 := Scalar.subi v21 c0_i32_9
  let c1_i32_10 : BitVec 32 := 1#32
  let v32 : BitVec 32 := Scalar.divsi v30 c1_i32_10
  let v33 : BitVec 32 := Scalar.muli v32 c1_i32_10
  let v34 : BitVec 32 := Scalar.addi c0_i32_9 v33
  let c1_i32_12 : BitVec 32 := 1#32
  let arg16 : BitVec 32 := Scf.iv v34 c1_i32_12 k0_t2
  let c512_i32_91 : BitVec 32 := 512#32
  let v130 : BitVec 32 := Scalar.muli arg16 c512_i32_91
  v130
def k0_off3 (i : grid0.Coords) (k0_t2 : Fin (k0_t2_loop i).trips) : Fin 2 → Nat :=
  let c0_i32_9 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v30 : BitVec 32 := Scalar.subi v21 c0_i32_9
  let c1_i32_10 : BitVec 32 := 1#32
  let v32 : BitVec 32 := Scalar.divsi v30 c1_i32_10
  let v33 : BitVec 32 := Scalar.muli v32 c1_i32_10
  let v34 : BitVec 32 := Scalar.addi c0_i32_9 v33
  let c1_i32_12 : BitVec 32 := 1#32
  let arg16 : BitVec 32 := Scf.iv v34 c1_i32_12 k0_t2
  let c512_i32_91 : BitVec 32 := 512#32
  let v130 : BitVec 32 := Scalar.muli arg16 c512_i32_91
  let v131 : BitVec 32 := v130
  let v132 : Index := Scalar.indexCast v131
  let c0_92 : Index := 0#32
  ![v132.toNat, 0]
def k0_off4 (i : grid0.Coords) (k0_t2 : Fin (k0_t2_loop i).trips) : Fin 3 → Nat :=
  let c0_i32_9 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v30 : BitVec 32 := Scalar.subi v21 c0_i32_9
  let c1_i32_10 : BitVec 32 := 1#32
  let v32 : BitVec 32 := Scalar.divsi v30 c1_i32_10
  let v33 : BitVec 32 := Scalar.muli v32 c1_i32_10
  let v34 : BitVec 32 := Scalar.addi c0_i32_9 v33
  let c1_i32_12 : BitVec 32 := 1#32
  let arg16 : BitVec 32 := Scf.iv v34 c1_i32_12 k0_t2
  let v270 : Index := Scalar.indexCast arg16
  let c0_159 : Index := 0#32
  let c0_160 : Index := 0#32
  ![v270.toNat, 0, 0]
@[reducible] def k0_t3_loop : Scf.Loop 32 :=
  let c0_i32_14 : BitVec 32 := 0#32
  let c32_i32 : BitVec 32 := 32#32
  let v36 : BitVec 32 := Scalar.addi c0_i32_14 c32_i32
  let c1_i32_15 : BitVec 32 := 1#32
  ⟨c0_i32_14, v36, c1_i32_15⟩
@[reducible] def k0_t4_loop (i : grid0.Coords) : Scf.Loop 32 :=
  let c0_i32_96 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v142 : BitVec 32 := Scalar.subi v21 c0_i32_96
  let c1_i32_97 : BitVec 32 := 1#32
  let v144 : BitVec 32 := Scalar.divsi v142 c1_i32_97
  let v145 : BitVec 32 := Scalar.muli v144 c1_i32_97
  let v146 : BitVec 32 := Scalar.addi c0_i32_96 v145
  let c1_i32_98 : BitVec 32 := 1#32
  ⟨c0_i32_96, v146, c1_i32_98⟩
def k0_off5 (i : grid0.Coords) (k0_t4 : Fin (k0_t4_loop i).trips) : Fin 3 → Nat :=
  let c0_i32_96 : BitVec 32 := 0#32
  let c1_i32_98 : BitVec 32 := 1#32
  let arg18 : BitVec 32 := Scf.iv c0_i32_96 c1_i32_98 k0_t4
  let v152 : Index := Scalar.indexCast arg18
  let c0_101 : Index := 0#32
  let c0_102 : Index := 0#32
  ![v152.toNat, 0, 0]
@[reducible] def k0_t5_loop (i : grid0.Coords) : Scf.Loop 32 :=
  let c0_i32_96 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v142 : BitVec 32 := Scalar.subi v21 c0_i32_96
  let c1_i32_97 : BitVec 32 := 1#32
  let v144 : BitVec 32 := Scalar.divsi v142 c1_i32_97
  let v145 : BitVec 32 := Scalar.muli v144 c1_i32_97
  let v146 : BitVec 32 := Scalar.addi c0_i32_96 v145
  let v143 : BitVec 32 := Scalar.addi c0_i32_96 v142
  let c1_i32_99 : BitVec 32 := 1#32
  ⟨v146, v143, c1_i32_99⟩
def k0_off6 (i : grid0.Coords) (k0_t5 : Fin (k0_t5_loop i).trips) : Fin 3 → Nat :=
  let c0_i32_96 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v142 : BitVec 32 := Scalar.subi v21 c0_i32_96
  let c1_i32_97 : BitVec 32 := 1#32
  let v144 : BitVec 32 := Scalar.divsi v142 c1_i32_97
  let v145 : BitVec 32 := Scalar.muli v144 c1_i32_97
  let v146 : BitVec 32 := Scalar.addi c0_i32_96 v145
  let c1_i32_99 : BitVec 32 := 1#32
  let arg18 : BitVec 32 := Scf.iv v146 c1_i32_99 k0_t5
  let v152 : Index := Scalar.indexCast arg18
  let c0_101 : Index := 0#32
  let c0_102 : Index := 0#32
  ![v152.toNat, 0, 0]
@[reducible] def k0_t6_loop (i : grid0.Coords) : Scf.Loop 32 :=
  let c0_i32_20 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v46 : BitVec 32 := Scalar.subi v21 c0_i32_20
  let c1_i32_21 : BitVec 32 := 1#32
  let v48 : BitVec 32 := Scalar.divsi v46 c1_i32_21
  let v49 : BitVec 32 := Scalar.muli v48 c1_i32_21
  let v50 : BitVec 32 := Scalar.addi c0_i32_20 v49
  let c1_i32_22 : BitVec 32 := 1#32
  ⟨c0_i32_20, v50, c1_i32_22⟩
def k0_off7 (i : grid0.Coords) (k0_t6 : Fin (k0_t6_loop i).trips) : Fin 3 → Nat :=
  let c0_i32_20 : BitVec 32 := 0#32
  let c1_i32_22 : BitVec 32 := 1#32
  let arg16 : BitVec 32 := Scf.iv c0_i32_20 c1_i32_22 k0_t6
  let v130 : Index := Scalar.indexCast arg16
  let c0_91 : Index := 0#32
  let c0_92 : Index := 0#32
  ![v130.toNat, 0, 0]
@[reducible] def k0_t7_loop (i : grid0.Coords) : Scf.Loop 32 :=
  let c0_i32_20 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v46 : BitVec 32 := Scalar.subi v21 c0_i32_20
  let c1_i32_21 : BitVec 32 := 1#32
  let v48 : BitVec 32 := Scalar.divsi v46 c1_i32_21
  let v49 : BitVec 32 := Scalar.muli v48 c1_i32_21
  let v50 : BitVec 32 := Scalar.addi c0_i32_20 v49
  let v47 : BitVec 32 := Scalar.addi c0_i32_20 v46
  let c1_i32_23 : BitVec 32 := 1#32
  ⟨v50, v47, c1_i32_23⟩
def k0_off8 (i : grid0.Coords) (k0_t7 : Fin (k0_t7_loop i).trips) : Fin 3 → Nat :=
  let c0_i32_20 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v46 : BitVec 32 := Scalar.subi v21 c0_i32_20
  let c1_i32_21 : BitVec 32 := 1#32
  let v48 : BitVec 32 := Scalar.divsi v46 c1_i32_21
  let v49 : BitVec 32 := Scalar.muli v48 c1_i32_21
  let v50 : BitVec 32 := Scalar.addi c0_i32_20 v49
  let c1_i32_23 : BitVec 32 := 1#32
  let arg16 : BitVec 32 := Scf.iv v50 c1_i32_23 k0_t7
  let v130 : Index := Scalar.indexCast arg16
  let c0_91 : Index := 0#32
  let c0_92 : Index := 0#32
  ![v130.toNat, 0, 0]
@[reducible] def k0_t8_loop (i : grid0.Coords) : Scf.Loop 32 :=
  let c0_i32_25 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v54 : BitVec 32 := Scalar.subi v21 c0_i32_25
  let c1_i32_26 : BitVec 32 := 1#32
  let v56 : BitVec 32 := Scalar.divsi v54 c1_i32_26
  let v57 : BitVec 32 := Scalar.muli v56 c1_i32_26
  let v58 : BitVec 32 := Scalar.addi c0_i32_25 v57
  let c1_i32_27 : BitVec 32 := 1#32
  ⟨c0_i32_25, v58, c1_i32_27⟩
def k0_off9 (i : grid0.Coords) (k0_t8 : Fin (k0_t8_loop i).trips) : Fin 3 → Nat :=
  let c0_i32_25 : BitVec 32 := 0#32
  let c1_i32_27 : BitVec 32 := 1#32
  let arg16 : BitVec 32 := Scf.iv c0_i32_25 c1_i32_27 k0_t8
  let v130 : Index := Scalar.indexCast arg16
  let c0_91 : Index := 0#32
  let c0_92 : Index := 0#32
  ![v130.toNat, 0, 0]
@[reducible] def k0_t9_loop (i : grid0.Coords) : Scf.Loop 32 :=
  let c0_i32_25 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v54 : BitVec 32 := Scalar.subi v21 c0_i32_25
  let c1_i32_26 : BitVec 32 := 1#32
  let v56 : BitVec 32 := Scalar.divsi v54 c1_i32_26
  let v57 : BitVec 32 := Scalar.muli v56 c1_i32_26
  let v58 : BitVec 32 := Scalar.addi c0_i32_25 v57
  let v55 : BitVec 32 := Scalar.addi c0_i32_25 v54
  let c1_i32_28 : BitVec 32 := 1#32
  ⟨v58, v55, c1_i32_28⟩
def k0_off10 (i : grid0.Coords) (k0_t9 : Fin (k0_t9_loop i).trips) : Fin 3 → Nat :=
  let c0_i32_25 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v54 : BitVec 32 := Scalar.subi v21 c0_i32_25
  let c1_i32_26 : BitVec 32 := 1#32
  let v56 : BitVec 32 := Scalar.divsi v54 c1_i32_26
  let v57 : BitVec 32 := Scalar.muli v56 c1_i32_26
  let v58 : BitVec 32 := Scalar.addi c0_i32_25 v57
  let c1_i32_28 : BitVec 32 := 1#32
  let arg16 : BitVec 32 := Scf.iv v58 c1_i32_28 k0_t9
  let v130 : Index := Scalar.indexCast arg16
  let c0_91 : Index := 0#32
  let c0_92 : Index := 0#32
  ![v130.toNat, 0, 0]
@[reducible] def k0_t10_loop : Scf.Loop 32 :=
  let c0_i32_92 : BitVec 32 := 0#32
  let c13_i32 : BitVec 32 := 13#32
  let v131 : BitVec 32 := Scalar.addi c0_i32_92 c13_i32
  let c1_i32_93 : BitVec 32 := 1#32
  ⟨c0_i32_92, v131, c1_i32_93⟩
@[reducible] def k0_t11_loop (i : grid0.Coords) : Scf.Loop 32 :=
  let c0_i32_99 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v141 : BitVec 32 := Scalar.subi v21 c0_i32_99
  let c1_i32_100 : BitVec 32 := 1#32
  let v143 : BitVec 32 := Scalar.divsi v141 c1_i32_100
  let v144 : BitVec 32 := Scalar.muli v143 c1_i32_100
  let v145 : BitVec 32 := Scalar.addi c0_i32_99 v144
  let c1_i32_101 : BitVec 32 := 1#32
  ⟨c0_i32_99, v145, c1_i32_101⟩
def k0_off11 (i : grid0.Coords) (k0_t11 : Fin (k0_t11_loop i).trips) : Fin 3 → Nat :=
  let c0_i32_99 : BitVec 32 := 0#32
  let c1_i32_101 : BitVec 32 := 1#32
  let arg18 : BitVec 32 := Scf.iv c0_i32_99 c1_i32_101 k0_t11
  let v150 : Index := Scalar.indexCast arg18
  let c0_103 : Index := 0#32
  let c0_104 : Index := 0#32
  ![v150.toNat, 0, 0]
@[reducible] def k0_t12_loop (i : grid0.Coords) : Scf.Loop 32 :=
  let c0_i32_99 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v141 : BitVec 32 := Scalar.subi v21 c0_i32_99
  let c1_i32_100 : BitVec 32 := 1#32
  let v143 : BitVec 32 := Scalar.divsi v141 c1_i32_100
  let v144 : BitVec 32 := Scalar.muli v143 c1_i32_100
  let v145 : BitVec 32 := Scalar.addi c0_i32_99 v144
  let v142 : BitVec 32 := Scalar.addi c0_i32_99 v141
  let c1_i32_102 : BitVec 32 := 1#32
  ⟨v145, v142, c1_i32_102⟩
def k0_off12 (i : grid0.Coords) (k0_t12 : Fin (k0_t12_loop i).trips) : Fin 3 → Nat :=
  let c0_i32_99 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v141 : BitVec 32 := Scalar.subi v21 c0_i32_99
  let c1_i32_100 : BitVec 32 := 1#32
  let v143 : BitVec 32 := Scalar.divsi v141 c1_i32_100
  let v144 : BitVec 32 := Scalar.muli v143 c1_i32_100
  let v145 : BitVec 32 := Scalar.addi c0_i32_99 v144
  let c1_i32_102 : BitVec 32 := 1#32
  let arg18 : BitVec 32 := Scf.iv v145 c1_i32_102 k0_t12
  let v150 : Index := Scalar.indexCast arg18
  let c0_103 : Index := 0#32
  let c0_104 : Index := 0#32
  ![v150.toNat, 0, 0]
@[reducible] def k0_t13_loop (i : grid0.Coords) : Scf.Loop 32 :=
  let c0_i32_60 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v97 : BitVec 32 := Scalar.subi v21 c0_i32_60
  let c1_i32_61 : BitVec 32 := 1#32
  let v99 : BitVec 32 := Scalar.divsi v97 c1_i32_61
  let v100 : BitVec 32 := Scalar.muli v99 c1_i32_61
  let v101 : BitVec 32 := Scalar.addi c0_i32_60 v100
  let c1_i32_62 : BitVec 32 := 1#32
  ⟨c0_i32_60, v101, c1_i32_62⟩
def k0_mult3 (i : grid0.Coords) (k0_t13 : Fin (k0_t13_loop i).trips) : BitVec 32 :=
  let c0_i32_60 : BitVec 32 := 0#32
  let c1_i32_62 : BitVec 32 := 1#32
  let arg16 : BitVec 32 := Scf.iv c0_i32_60 c1_i32_62 k0_t13
  let c512_i32_91 : BitVec 32 := 512#32
  let v130 : BitVec 32 := Scalar.muli arg16 c512_i32_91
  v130
def k0_off13 (i : grid0.Coords) (k0_t13 : Fin (k0_t13_loop i).trips) : Fin 3 → Nat :=
  let c0_i32_60 : BitVec 32 := 0#32
  let c1_i32_62 : BitVec 32 := 1#32
  let arg16 : BitVec 32 := Scf.iv c0_i32_60 c1_i32_62 k0_t13
  let v132 : Index := Scalar.indexCast arg16
  let c0_92 : Index := 0#32
  let c0_93 : Index := 0#32
  ![v132.toNat, 0, 0]
def k0_off14 (i : grid0.Coords) (k0_t13 : Fin (k0_t13_loop i).trips) : Fin 2 → Nat :=
  let c0_i32_60 : BitVec 32 := 0#32
  let c1_i32_62 : BitVec 32 := 1#32
  let arg16 : BitVec 32 := Scf.iv c0_i32_60 c1_i32_62 k0_t13
  let c512_i32_91 : BitVec 32 := 512#32
  let v130 : BitVec 32 := Scalar.muli arg16 c512_i32_91
  let v131 : BitVec 32 := v130
  let v150 : Index := Scalar.indexCast v131
  let c0_94 : Index := 0#32
  ![v150.toNat, 0]
def k0_off15 (i : grid0.Coords) (k0_t13 : Fin (k0_t13_loop i).trips) : Fin 2 → Nat :=
  let c0_i32_60 : BitVec 32 := 0#32
  let c1_i32_62 : BitVec 32 := 1#32
  let arg16 : BitVec 32 := Scf.iv c0_i32_60 c1_i32_62 k0_t13
  let c512_i32_91 : BitVec 32 := 512#32
  let v130 : BitVec 32 := Scalar.muli arg16 c512_i32_91
  let v131 : BitVec 32 := v130
  let v200 : Index := Scalar.indexCast v131
  let c128_122 : Index := 128#32
  ![v200.toNat, 128]
@[reducible] def k0_t14_loop (i : grid0.Coords) : Scf.Loop 32 :=
  let c0_i32_60 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v97 : BitVec 32 := Scalar.subi v21 c0_i32_60
  let c1_i32_61 : BitVec 32 := 1#32
  let v99 : BitVec 32 := Scalar.divsi v97 c1_i32_61
  let v100 : BitVec 32 := Scalar.muli v99 c1_i32_61
  let v101 : BitVec 32 := Scalar.addi c0_i32_60 v100
  let v98 : BitVec 32 := Scalar.addi c0_i32_60 v97
  let c1_i32_63 : BitVec 32 := 1#32
  ⟨v101, v98, c1_i32_63⟩
def k0_mult4 (i : grid0.Coords) (k0_t14 : Fin (k0_t14_loop i).trips) : BitVec 32 :=
  let c0_i32_60 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v97 : BitVec 32 := Scalar.subi v21 c0_i32_60
  let c1_i32_61 : BitVec 32 := 1#32
  let v99 : BitVec 32 := Scalar.divsi v97 c1_i32_61
  let v100 : BitVec 32 := Scalar.muli v99 c1_i32_61
  let v101 : BitVec 32 := Scalar.addi c0_i32_60 v100
  let c1_i32_63 : BitVec 32 := 1#32
  let arg16 : BitVec 32 := Scf.iv v101 c1_i32_63 k0_t14
  let c512_i32_91 : BitVec 32 := 512#32
  let v130 : BitVec 32 := Scalar.muli arg16 c512_i32_91
  v130
def k0_off16 (i : grid0.Coords) (k0_t14 : Fin (k0_t14_loop i).trips) : Fin 3 → Nat :=
  let c0_i32_60 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v97 : BitVec 32 := Scalar.subi v21 c0_i32_60
  let c1_i32_61 : BitVec 32 := 1#32
  let v99 : BitVec 32 := Scalar.divsi v97 c1_i32_61
  let v100 : BitVec 32 := Scalar.muli v99 c1_i32_61
  let v101 : BitVec 32 := Scalar.addi c0_i32_60 v100
  let c1_i32_63 : BitVec 32 := 1#32
  let arg16 : BitVec 32 := Scf.iv v101 c1_i32_63 k0_t14
  let v132 : Index := Scalar.indexCast arg16
  let c0_92 : Index := 0#32
  let c0_93 : Index := 0#32
  ![v132.toNat, 0, 0]
def k0_off17 (i : grid0.Coords) (k0_t14 : Fin (k0_t14_loop i).trips) : Fin 2 → Nat :=
  let c0_i32_60 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v97 : BitVec 32 := Scalar.subi v21 c0_i32_60
  let c1_i32_61 : BitVec 32 := 1#32
  let v99 : BitVec 32 := Scalar.divsi v97 c1_i32_61
  let v100 : BitVec 32 := Scalar.muli v99 c1_i32_61
  let v101 : BitVec 32 := Scalar.addi c0_i32_60 v100
  let c1_i32_63 : BitVec 32 := 1#32
  let arg16 : BitVec 32 := Scf.iv v101 c1_i32_63 k0_t14
  let c512_i32_91 : BitVec 32 := 512#32
  let v130 : BitVec 32 := Scalar.muli arg16 c512_i32_91
  let v131 : BitVec 32 := v130
  let v150 : Index := Scalar.indexCast v131
  let c0_94 : Index := 0#32
  ![v150.toNat, 0]
def k0_off18 (i : grid0.Coords) (k0_t14 : Fin (k0_t14_loop i).trips) : Fin 2 → Nat :=
  let c0_i32_60 : BitVec 32 := 0#32
  let arg1 : BitVec 32 := BitVec.ofNat 32 (i 1).val
  let c128_i32 : BitVec 32 := 128#32
  let v3 : BitVec 32 := Scalar.muli arg1 c128_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32 : BitVec 32 := 512#32
  let c0_i32_3 : BitVec 32 := 0#32
  let v10 : BitVec 1 := Scalar.cmpi .sgt c512_i32 c0_i32_3
  let v11 : BitVec 32 := Scalar.extui v10
  let c0_i32_4 : BitVec 32 := 0#32
  let v12 : BitVec 1 := Scalar.cmpi .slt c512_i32 c0_i32_4
  let v13 : BitVec 32 := Scalar.extui v12
  let v14 : BitVec 32 := Scalar.subi v11 v13
  let v15 : BitVec 1 := Scalar.cmpi .ne v9 v14
  let v16 : BitVec 32 := Scalar.remsi v3 c512_i32
  let c0_i32_5 : BitVec 32 := 0#32
  let v17 : BitVec 1 := Scalar.cmpi .ne v16 c0_i32_5
  let v18 : BitVec 1 := Scalar.andi v15 v17
  let v4 : BitVec 32 := Scalar.divsi v3 c512_i32
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi v20 c1_i32_6
  let v97 : BitVec 32 := Scalar.subi v21 c0_i32_60
  let c1_i32_61 : BitVec 32 := 1#32
  let v99 : BitVec 32 := Scalar.divsi v97 c1_i32_61
  let v100 : BitVec 32 := Scalar.muli v99 c1_i32_61
  let v101 : BitVec 32 := Scalar.addi c0_i32_60 v100
  let c1_i32_63 : BitVec 32 := 1#32
  let arg16 : BitVec 32 := Scf.iv v101 c1_i32_63 k0_t14
  let c512_i32_91 : BitVec 32 := 512#32
  let v130 : BitVec 32 := Scalar.muli arg16 c512_i32_91
  let v131 : BitVec 32 := v130
  let v200 : Index := Scalar.indexCast v131
  let c128_122 : Index := 128#32
  ![v200.toNat, 128]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proof.PromptScan.lean ====
module

public import proofs.«01_k».proof.Proof.Gen.PromptAttnIdeal.Loops

/-!
The two searches of `prompt_attn`, over the bits of the threshold and over the bits of the last position taken among ties.
Each is a counted loop with two loops inside that count scores. A trip only reads the scores and carries a vector of words
on, so that the scores stay as they are is all that the run needs to know of it.
-/

@[expose] public section

set_option maxRecDepth 8192
set_option maxHeartbeats 4000000

noncomputable section

namespace Cert.PromptScan

open Cert.PromptAttnIdeal Cert.PromptAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ)
variable (i : grid0.Coords)
  (arg2 : Memref sig .tc .vmem S128x1024 .bf16) (harg2 : arg2.IsWhole)
  (arg3 : Memref sig .tc .vmem S128x1024 .bf16) (harg3 : arg3.IsWhole)
  (arg4 : Memref sig .tc .vmem S128x1024 .bf16) (harg4 : arg4.IsWhole)
  (arg5 : Memref sig .tc .vmem S128x768 .f32) (harg5 : arg5.IsWhole)
  (arg6 : Memref sig .tc .vmem S4096x768 .f32) (harg6 : arg6.IsWhole)
  (arg7 : Memref sig .tc .vmem S128x1024 .f32) (harg7 : arg7.IsWhole)
  (arg8 : Memref sig .tc .vmem S4096x256 .bf16) (harg8 : arg8.IsWhole)
  (arg9 : Memref sig .tc .vmem S4096x256 .bf16) (harg9 : arg9.IsWhole)
  (arg10 : Memref sig .tc .vmem S4096x128 .bf16) (harg10 : arg10.IsWhole)
  (arg11 : Memref sig .tc .vmem S8x128x512 .f32) (harg11 : arg11.IsWhole)
  (arg12 : Memref sig .tc .vmem S128x1 .i32) (harg12 : arg12.IsWhole)
  (arg13 : Memref sig .tc .vmem S2x512x1 .f32) (harg13 : arg13.IsWhole)
  (arg14 : Memref sig .tc .vmem S2x512x1 .f32) (harg14 : arg14.IsWhole)
  (arg15 : Memref sig .tc .vmem S2x512x128 .f32) (harg15 : arg15.IsWhole)

/-- The scores, held whole at contents `X`. -/
abbrev scores (arg11 : Memref sig .tc .vmem S8x128x512 .f32) (X : BufTy.Contents (Elt F) arg11.view.ty) : sProp 𝕄 :=
  arg11.view.loc (c : Thread nD τ) ↦[arg11.view.set]{fullShare} X

set_option warn.classDefReducibility false in
/-- The search for the threshold: the scores stay. -/
@[sl_loop] def threshold (v21 : BitVec 32) (init : IVec S128x1 32) (X : BufTy.Contents (Elt F) arg11.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v21 init where
  inv _ _ := scores c arg11 X
  step k acc := by
    unfold k0_t3_body
    iintro HS
    sl_exec
    sl_step
    sl_close

set_option warn.classDefReducibility false in
/-- The search for the last position taken among ties: the scores stay. -/
@[sl_loop] def lastTie (v21 : BitVec 32) (v26 : IVec S1x512 32) (v44 v62 : FVec F S128x1 .f32) (v70 : F .f32) (init : IVec S128x1 32)
    (X : BufTy.Contents (Elt F) arg11.view.ty) :
    LoopInvTy_k0_t10 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v21 v26 v44 v62 v70 init where
  inv _ _ := scores c arg11 X
  step k acc := by
    unfold k0_t10_body
    iintro HS
    sl_exec
    sl_step
    sl_close

end Cert.PromptScan

end
-- ==== Proof.PromptBody.lean ====
module

public import proofs.«01_k».proof.Proof.PromptScan

/-!
One point of `prompt_attn`: the body runs to its end at any scores, takes its five staged inputs as they are and gives them
back as they are, and leaves its scratch and its result at some contents.
-/

@[expose] public section

set_option maxRecDepth 65536
set_option maxHeartbeats 16000000

noncomputable section

namespace Cert.PromptScan

open Cert.PromptAttnIdeal Cert.PromptAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ)

/-- The memrefs of the body: the inputs at their contents, the result and the scratch at some. -/
def held (arg2 : Memref sig .tc .vmem S128x1024 .bf16) (arg3 : Memref sig .tc .vmem S128x1024 .bf16) (arg4 : Memref sig .tc .vmem S128x1024 .bf16) (arg5 : Memref sig .tc .vmem S128x768 .f32) (arg6 : Memref sig .tc .vmem S4096x768 .f32) (arg7 : Memref sig .tc .vmem S128x1024 .f32) (arg8 : Memref sig .tc .vmem S4096x256 .bf16) (arg9 : Memref sig .tc .vmem S4096x256 .bf16) (arg10 : Memref sig .tc .vmem S4096x128 .bf16) (arg11 : Memref sig .tc .vmem S8x128x512 .f32) (arg12 : Memref sig .tc .vmem S128x1 .i32) (arg13 : Memref sig .tc .vmem S2x512x1 .f32) (arg14 : Memref sig .tc .vmem S2x512x1 .f32) (arg15 : Memref sig .tc .vmem S2x512x128 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ f, arg7.view.loc (c : Thread nD τ) ↦[arg7.view.set]{fullShare} f)
    ∗ (∃ f, arg8.view.loc (c : Thread nD τ) ↦[arg8.view.set]{fullShare} f)
    ∗ (∃ f, arg9.view.loc (c : Thread nD τ) ↦[arg9.view.set]{fullShare} f)
    ∗ (∃ f, arg10.view.loc (c : Thread nD τ) ↦[arg10.view.set]{fullShare} f)
    ∗ (∃ f, arg11.view.loc (c : Thread nD τ) ↦[arg11.view.set]{fullShare} f)
    ∗ (∃ f, arg12.view.loc (c : Thread nD τ) ↦[arg12.view.set]{fullShare} f)
    ∗ (∃ f, arg13.view.loc (c : Thread nD τ) ↦[arg13.view.set]{fullShare} f)
    ∗ (∃ f, arg14.view.loc (c : Thread nD τ) ↦[arg14.view.set]{fullShare} f)
    ∗ (∃ f, arg15.view.loc (c : Thread nD τ) ↦[arg15.view.set]{fullShare} f))

/-- The same with the inputs and the result read through their memrefs. -/
def point (arg2 : Memref sig .tc .vmem S128x1024 .bf16) (arg3 : Memref sig .tc .vmem S128x1024 .bf16) (arg4 : Memref sig .tc .vmem S128x1024 .bf16) (arg5 : Memref sig .tc .vmem S128x768 .f32) (arg6 : Memref sig .tc .vmem S4096x768 .f32) (arg7 : Memref sig .tc .vmem S128x1024 .f32) (arg8 : Memref sig .tc .vmem S4096x256 .bf16) (arg9 : Memref sig .tc .vmem S4096x256 .bf16) (arg10 : Memref sig .tc .vmem S4096x128 .bf16) (arg11 : Memref sig .tc .vmem S8x128x512 .f32) (arg12 : Memref sig .tc .vmem S128x1 .i32) (arg13 : Memref sig .tc .vmem S2x512x1 .f32) (arg14 : Memref sig .tc .vmem S2x512x1 .f32) (arg15 : Memref sig .tc .vmem S2x512x128 .f32) (d2 : Vec F S128x1024 .bf16) (d3 : Vec F S128x1024 .bf16) (d4 : Vec F S128x1024 .bf16) (d5 : Vec F S128x768 .f32) (d6 : Vec F S4096x768 .f32) : sProp 𝕄 :=
  iprop((owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6) ∗ (∃ X, owns (c : Thread nD τ) arg7 fullShare X)
    ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f))

section
variable (i : grid0.Coords)
  (arg2 : Memref sig .tc .vmem S128x1024 .bf16) (harg2 : arg2.IsWhole)
  (arg3 : Memref sig .tc .vmem S128x1024 .bf16) (harg3 : arg3.IsWhole)
  (arg4 : Memref sig .tc .vmem S128x1024 .bf16) (harg4 : arg4.IsWhole)
  (arg5 : Memref sig .tc .vmem S128x768 .f32) (harg5 : arg5.IsWhole)
  (arg6 : Memref sig .tc .vmem S4096x768 .f32) (harg6 : arg6.IsWhole)
  (arg7 : Memref sig .tc .vmem S128x1024 .f32) (harg7 : arg7.IsWhole)
  (arg8 : Memref sig .tc .vmem S4096x256 .bf16) (harg8 : arg8.IsWhole)
  (arg9 : Memref sig .tc .vmem S4096x256 .bf16) (harg9 : arg9.IsWhole)
  (arg10 : Memref sig .tc .vmem S4096x128 .bf16) (harg10 : arg10.IsWhole)
  (arg11 : Memref sig .tc .vmem S8x128x512 .f32) (harg11 : arg11.IsWhole)
  (arg12 : Memref sig .tc .vmem S128x1 .i32) (harg12 : arg12.IsWhole)
  (arg13 : Memref sig .tc .vmem S2x512x1 .f32) (harg13 : arg13.IsWhole)
  (arg14 : Memref sig .tc .vmem S2x512x1 .f32) (harg14 : arg14.IsWhole)
  (arg15 : Memref sig .tc .vmem S2x512x128 .f32) (harg15 : arg15.IsWhole)
theorem part13  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    held c arg2 arg3 arg4 arg5 arg6 arg7 arg8 arg9 arg10 arg11 arg12 arg13 arg14 arg15 X2 X3 X4 X5 X6 ⊢ wp frame (wpE (defs₀ (F := F)) 𝒱 (c : Thread nD τ) bd) E (k0_part13 i arg2 harg2 arg3 harg3 arg4 harg4 arg5 harg5 arg6 harg6 arg7 harg7 arg8 harg8 arg9 harg9 arg10 harg10 arg11 harg11 arg12 harg12 arg13 harg13 arg14 harg14 arg15 harg15 )
      (fun _ => held c arg2 arg3 arg4 arg5 arg6 arg7 arg8 arg9 arg10 arg11 arg12 arg13 arg14 arg15 X2 X3 X4 X5 X6) := by
  rw [k0_part13_eq_skeleton]
  unfold k0_part13_skel held
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
  sl_exec
  split
  · sl_exec
    sl_step
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15
  · sl_exec
    sl_step
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

theorem part14 (v21 : BitVec 32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    held c arg2 arg3 arg4 arg5 arg6 arg7 arg8 arg9 arg10 arg11 arg12 arg13 arg14 arg15 X2 X3 X4 X5 X6 ⊢ wp frame (wpE (defs₀ (F := F)) 𝒱 (c : Thread nD τ) bd) E (k0_part14 i arg2 harg2 arg3 harg3 arg4 harg4 arg5 harg5 arg6 harg6 arg7 harg7 arg8 harg8 arg9 harg9 arg10 harg10 arg11 harg11 arg12 harg12 arg13 harg13 arg14 harg14 arg15 harg15 v21)
      (fun _ => held c arg2 arg3 arg4 arg5 arg6 arg7 arg8 arg9 arg10 arg11 arg12 arg13 arg14 arg15 X2 X3 X4 X5 X6) := by
  rw [k0_part14_eq_skeleton]
  unfold k0_part14_skel held
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
  sl_exec
  sl_step
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

theorem part15 (v21 : BitVec 32) (v26 : IVec S1x512 32) (v44 : FVec F S128x1 .f32) (v62 : FVec F S128x1 .f32) (v70 : F .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    held c arg2 arg3 arg4 arg5 arg6 arg7 arg8 arg9 arg10 arg11 arg12 arg13 arg14 arg15 X2 X3 X4 X5 X6 ⊢ wp frame (wpE (defs₀ (F := F)) 𝒱 (c : Thread nD τ) bd) E (k0_part15 i arg2 harg2 arg3 harg3 arg4 harg4 arg5 harg5 arg6 harg6 arg7 harg7 arg8 harg8 arg9 harg9 arg10 harg10 arg11 harg11 arg12 harg12 arg13 harg13 arg14 harg14 arg15 harg15 v21 v26 v44 v62 v70)
      (fun _ => held c arg2 arg3 arg4 arg5 arg6 arg7 arg8 arg9 arg10 arg11 arg12 arg13 arg14 arg15 X2 X3 X4 X5 X6) := by
  rw [k0_part15_eq_skeleton]
  unfold k0_part15_skel held
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
  sl_exec
  split
  · sl_exec
    sl_step
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15
  · sl_exec
    sl_step
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

theorem part16 (v21 : BitVec 32) (v25 : IVec S128x1 32) (v26 : IVec S1x512 32) (v44 : FVec F S128x1 .f32) (v74 : Vec F S128x1 .i32) (v91 : FVec F S512x128 .bf16) (v92 : Vec F S128x128 .bf16) (v93 : Vec F S128x128 .bf16) (v94 : Vec F S128x128 .bf16) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    held c arg2 arg3 arg4 arg5 arg6 arg7 arg8 arg9 arg10 arg11 arg12 arg13 arg14 arg15 X2 X3 X4 X5 X6 ⊢ wp frame (wpE (defs₀ (F := F)) 𝒱 (c : Thread nD τ) bd) E (k0_part16 i arg2 harg2 arg3 harg3 arg4 harg4 arg5 harg5 arg6 harg6 arg7 harg7 arg8 harg8 arg9 harg9 arg10 harg10 arg11 harg11 arg12 harg12 arg13 harg13 arg14 harg14 arg15 harg15 v21 v25 v26 v44 v74 v91 v92 v93 v94)
      (fun _ => held c arg2 arg3 arg4 arg5 arg6 arg7 arg8 arg9 arg10 arg11 arg12 arg13 arg14 arg15 X2 X3 X4 X5 X6) := by
  rw [k0_part16_eq_skeleton]
  unfold k0_part16_skel held
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
  sl_exec
  sl_step
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

/-- The body runs to its end from any contents, and gives its inputs back as they were. -/
theorem bodyRun (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    held c arg2 arg3 arg4 arg5 arg6 arg7 arg8 arg9 arg10 arg11 arg12 arg13 arg14 arg15 X2 X3 X4 X5 X6 ⊢ wp frame (wpE (defs₀ (F := F)) 𝒱 (c : Thread nD τ) bd) E (cc0_prompt_attn i arg2 harg2 arg3 harg3 arg4 harg4 arg5 harg5 arg6 harg6 arg7 harg7 arg8 harg8 arg9 harg9 arg10 harg10 arg11 harg11 arg12 harg12 arg13 harg13 arg14 harg14 arg15 harg15)
      (fun _ => held c arg2 arg3 arg4 arg5 arg6 arg7 arg8 arg9 arg10 arg11 arg12 arg13 arg14 arg15 X2 X3 X4 X5 X6) := by
  rw [cc0_prompt_attn_eq_skeleton]
  unfold cc0_prompt_attn_skel
  rw [wp_bind]
  refine (part13 𝒱 c bd E i arg2 harg2 arg3 harg3 arg4 harg4 arg5 harg5 arg6 harg6 arg7 harg7 arg8 harg8 arg9 harg9 arg10 harg10 arg11 harg11 arg12 harg12 arg13 harg13 arg14 harg14 arg15 harg15 X2 X3 X4 X5 X6).trans (wp_mono _ _ _ fun a => ?_)
  obtain ⟨v21, v25, v26⟩ := a
  dsimp only
  rw [wp_bind]
  refine (part14 𝒱 c bd E i arg2 harg2 arg3 harg3 arg4 harg4 arg5 harg5 arg6 harg6 arg7 harg7 arg8 harg8 arg9 harg9 arg10 harg10 arg11 harg11 arg12 harg12 arg13 harg13 arg14 harg14 arg15 harg15 _ X2 X3 X4 X5 X6).trans (wp_mono _ _ _ fun a => ?_)
  obtain ⟨v44, v62, v70⟩ := a
  dsimp only
  rw [wp_bind]
  refine (part15 𝒱 c bd E i arg2 harg2 arg3 harg3 arg4 harg4 arg5 harg5 arg6 harg6 arg7 harg7 arg8 harg8 arg9 harg9 arg10 harg10 arg11 harg11 arg12 harg12 arg13 harg13 arg14 harg14 arg15 harg15 _ _ _ _ _ X2 X3 X4 X5 X6).trans (wp_mono _ _ _ fun a => ?_)
  obtain ⟨v74, v91, v92, v93, v94⟩ := a
  dsimp only
  rw [wp_bind]
  refine (part16 𝒱 c bd E i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ X2 X3 X4 X5 X6).trans (wp_mono _ _ _ fun a => ?_)
  obtain ⟨v121, v122⟩ := a
  dsimp only
  unfold held
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
  sl_exec
  sl_step
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

theorem pointRun (d2 : Vec F S128x1024 .bf16) (d3 : Vec F S128x1024 .bf16) (d4 : Vec F S128x1024 .bf16) (d5 : Vec F S128x768 .f32) (d6 : Vec F S4096x768 .f32) :
    point c arg2 arg3 arg4 arg5 arg6 arg7 arg8 arg9 arg10 arg11 arg12 arg13 arg14 arg15 d2 d3 d4 d5 d6 ⊢ wp frame (wpE (defs₀ (F := F)) 𝒱 (c : Thread nD τ) bd) E (cc0_prompt_attn i arg2 harg2 arg3 harg3 arg4 harg4 arg5 harg5 arg6 harg6 arg7 harg7 arg8 harg8 arg9 harg9 arg10 harg10 arg11 harg11 arg12 harg12 arg13 harg13 arg14 harg14 arg15 harg15)
      (fun _ => point c arg2 arg3 arg4 arg5 arg6 arg7 arg8 arg9 arg10 arg11 arg12 arg13 arg14 arg15 d2 d3 d4 d5 d6) := by
  unfold point owns
  iintro ⟨⟨⟨%f2, %h2, H2⟩, ⟨%f3, %h3, H3⟩, ⟨%f4, %h4, H4⟩, ⟨%f5, %h5, H5⟩, ⟨%f6, %h6, H6⟩⟩, ⟨%d7, %f7, -, H7⟩, H8, H9, H10, H11, H12, H13, H14, H15⟩
  iapply (wp_wand_r frame (wpE (defs₀ (F := F)) 𝒱 (c : Thread nD τ) bd) E)
  isplitl [H2 H3 H4 H5 H6 H7 H8 H9 H10 H11 H12 H13 H14 H15]
  · iapply (bodyRun 𝒱 c bd E i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6)
    unfold held
    isplitl [H2]; · iexact H2
    isplitl [H3]; · iexact H3
    isplitl [H4]; · iexact H4
    isplitl [H5]; · iexact H5
    isplitl [H6]; · iexact H6
    isplitl [H7]; · iexists f7; iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  unfold held
  iintro %a ⟨H2, H3, H4, H5, H6, ⟨%g7, H7⟩, H8, H9, H10, H11, H12, H13, H14, H15⟩
  isplitl [H2 H3 H4 H5 H6]
  · isplitl [H2]
    · iexists f2
      isplitr
      · ipureintro; exact h2
      iexact H2
    isplitl [H3]
    · iexists f3
      isplitr
      · ipureintro; exact h3
      iexact H3
    isplitl [H4]
    · iexists f4
      isplitr
      · ipureintro; exact h4
      iexact H4
    isplitl [H5]
    · iexists f5
      isplitr
      · ipureintro; exact h5
      iexact H5
    iexists f6
    isplitr
    · ipureintro; exact h6
    iexact H6
  isplitl [H7]
  · iexists _, g7
    isplitr
    · ipureintro; rfl
    iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end

end Cert.PromptScan

end
-- ==== Proof.PromptFrame.lean ====
module

public import proofs.«01_k».proof.Proof.PromptBody
public import proofs.«01_k».proof.Proof.Gen.PromptAttnIdeal.Frame
public import proofs.«01_k».proof.Proof.Gen.PromptAttn
public import Idealize.ShloMosaic.Lib.Claim

/-!
The grid of `prompt_attn` under the pipeline that stages its five inputs and its result, and its frame: from any memory it
runs to its end, its arguments end as they began, and every semaphore ends at zero. What a point leaves of its result and of
its scratch is not said. The program as printed and its ideal reading are one text, so one run serves both.
-/

@[expose] public section

set_option maxRecDepth 16384
set_option maxHeartbeats 1000000

noncomputable section

namespace Cert.PromptScan

open Cert.PromptAttnIdeal Cert.PromptAttnIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

section

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The pipeline's data: the arrays as launched, and each input left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed (cfg := cfg0) 5 t
  Φ _ := Pipeline.ΦA spec0 c
  q w := Pipeline.shareOf spec0 w
  owed _ := 0

/-- Nothing is said of the result. -/
def unsaid (w : Fin cfg0.W) : Bool := match w with
  | ⟨5, _⟩ => true
  | _ => false

abbrev ms0 (t : Fin cfg0.N) : Memref sig .tc .vmem S128x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x768 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x768 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1024 .f32 := win0_5.stage (cfg0.slots t 5)
abbrev hs5 (t : Fin cfg0.N) : (ms5 t).IsWhole := hstage0_5 ((cfg0.slots t 5).cast nbuf0_5)

theorem before0 (c : Dev nD) (t : Fin cfg0.N) (d) : (dats m 0 c).before 0 t d = iblk m c 0 t := before0_0_of m (dats m 0 c) rfl (fun _ => rfl) t d
theorem before1 (c : Dev nD) (t : Fin cfg0.N) (d) : (dats m 0 c).before 1 t d = iblk m c 1 t := before0_1_of m (dats m 0 c) rfl (fun _ => rfl) t d
theorem before2 (c : Dev nD) (t : Fin cfg0.N) (d) : (dats m 0 c).before 2 t d = iblk m c 2 t := before0_2_of m (dats m 0 c) rfl (fun _ => rfl) t d
theorem before3 (c : Dev nD) (t : Fin cfg0.N) (d) : (dats m 0 c).before 3 t d = iblk m c 3 t := before0_3_of m (dats m 0 c) rfl (fun _ => rfl) t d
theorem before4 (c : Dev nD) (t : Fin cfg0.N) (d) : (dats m 0 c).before 4 t d = iblk m c 4 t := before0_4_of m (dats m 0 c) rfl (fun _ => rfl) t d

theorem scratch0 (c : Dev nD) : (iprop(∃ f, (Memref.whole cc0_scratch0).view.loc (c : Thread nD τ) ↦[(Memref.whole cc0_scratch0).view.set]{fullShare} f) : sProp 𝕄)
    = iprop(∃ f : Buf (Elt F) ((c : Thread nD τ).loc cc0_scratch0), ((c : Thread nD τ).loc cc0_scratch0) ↦{fullShare} f) := by
  rw [show (Memref.whole cc0_scratch0).view.set = Finset.univ from View.set_whole _]

theorem scratch1 (c : Dev nD) : (iprop(∃ f, (Memref.whole cc0_scratch1).view.loc (c : Thread nD τ) ↦[(Memref.whole cc0_scratch1).view.set]{fullShare} f) : sProp 𝕄)
    = iprop(∃ f : Buf (Elt F) ((c : Thread nD τ).loc cc0_scratch1), ((c : Thread nD τ).loc cc0_scratch1) ↦{fullShare} f) := by
  rw [show (Memref.whole cc0_scratch1).view.set = Finset.univ from View.set_whole _]

theorem scratch2 (c : Dev nD) : (iprop(∃ f, (Memref.whole cc0_scratch2).view.loc (c : Thread nD τ) ↦[(Memref.whole cc0_scratch2).view.set]{fullShare} f) : sProp 𝕄)
    = iprop(∃ f : Buf (Elt F) ((c : Thread nD τ).loc cc0_scratch2), ((c : Thread nD τ).loc cc0_scratch2) ↦{fullShare} f) := by
  rw [show (Memref.whole cc0_scratch2).view.set = Finset.univ from View.set_whole _]

theorem scratch3 (c : Dev nD) : (iprop(∃ f, (Memref.whole cc0_scratch3).view.loc (c : Thread nD τ) ↦[(Memref.whole cc0_scratch3).view.set]{fullShare} f) : sProp 𝕄)
    = iprop(∃ f : Buf (Elt F) ((c : Thread nD τ).loc cc0_scratch3), ((c : Thread nD τ).loc cc0_scratch3) ↦{fullShare} f) := by
  rw [show (Memref.whole cc0_scratch3).view.set = Finset.univ from View.set_whole _]

theorem scratch4 (c : Dev nD) : (iprop(∃ f, (Memref.whole cc0_scratch4).view.loc (c : Thread nD τ) ↦[(Memref.whole cc0_scratch4).view.set]{fullShare} f) : sProp 𝕄)
    = iprop(∃ f : Buf (Elt F) ((c : Thread nD τ).loc cc0_scratch4), ((c : Thread nD τ).loc cc0_scratch4) ↦{fullShare} f) := by
  rw [show (Memref.whole cc0_scratch4).view.set = Finset.univ from View.set_whole _]

theorem scratch5 (c : Dev nD) : (iprop(∃ f, (Memref.whole cc0_scratch5).view.loc (c : Thread nD τ) ↦[(Memref.whole cc0_scratch5).view.set]{fullShare} f) : sProp 𝕄)
    = iprop(∃ f : Buf (Elt F) ((c : Thread nD τ).loc cc0_scratch5), ((c : Thread nD τ).loc cc0_scratch5) ↦{fullShare} f) := by
  rw [show (Memref.whole cc0_scratch5).view.set = Finset.univ from View.set_whole _]

theorem scratch6 (c : Dev nD) : (iprop(∃ f, (Memref.whole cc0_scratch6).view.loc (c : Thread nD τ) ↦[(Memref.whole cc0_scratch6).view.set]{fullShare} f) : sProp 𝕄)
    = iprop(∃ f : Buf (Elt F) ((c : Thread nD τ).loc cc0_scratch6), ((c : Thread nD τ).loc cc0_scratch6) ↦{fullShare} f) := by
  rw [show (Memref.whole cc0_scratch6).view.set = Finset.univ from View.set_whole _]

theorem scratch7 (c : Dev nD) : (iprop(∃ f, (Memref.whole cc0_scratch7).view.loc (c : Thread nD τ) ↦[(Memref.whole cc0_scratch7).view.set]{fullShare} f) : sProp 𝕄)
    = iprop(∃ f : Buf (Elt F) ((c : Thread nD τ).loc cc0_scratch7), ((c : Thread nD τ).loc cc0_scratch7) ↦{fullShare} f) := by
  rw [show (Memref.whole cc0_scratch7).view.set = Finset.univ from View.set_whole _]

theorem lent0 (c : Dev nD) : (iprop(∃ f : Buf (Elt F) ((c : Thread nD τ).loc cc0_scratch0), ((c : Thread nD τ).loc cc0_scratch0) ↦{fullShare} f) : sProp 𝕄) ⊢ iprop(∃ f, (Memref.whole cc0_scratch0).view.loc (c : Thread nD τ) ↦[(Memref.whole cc0_scratch0).view.set]{fullShare} f) := by rw [scratch0]; first | done | exact .rfl
theorem back0 (c : Dev nD) : (iprop(∃ f, (Memref.whole cc0_scratch0).view.loc (c : Thread nD τ) ↦[(Memref.whole cc0_scratch0).view.set]{fullShare} f) : sProp 𝕄) ⊢ iprop(∃ f : Buf (Elt F) ((c : Thread nD τ).loc cc0_scratch0), ((c : Thread nD τ).loc cc0_scratch0) ↦{fullShare} f) := by rw [scratch0]; first | done | exact .rfl

theorem lent1 (c : Dev nD) : (iprop(∃ f : Buf (Elt F) ((c : Thread nD τ).loc cc0_scratch1), ((c : Thread nD τ).loc cc0_scratch1) ↦{fullShare} f) : sProp 𝕄) ⊢ iprop(∃ f, (Memref.whole cc0_scratch1).view.loc (c : Thread nD τ) ↦[(Memref.whole cc0_scratch1).view.set]{fullShare} f) := by rw [scratch1]; first | done | exact .rfl
theorem back1 (c : Dev nD) : (iprop(∃ f, (Memref.whole cc0_scratch1).view.loc (c : Thread nD τ) ↦[(Memref.whole cc0_scratch1).view.set]{fullShare} f) : sProp 𝕄) ⊢ iprop(∃ f : Buf (Elt F) ((c : Thread nD τ).loc cc0_scratch1), ((c : Thread nD τ).loc cc0_scratch1) ↦{fullShare} f) := by rw [scratch1]; first | done | exact .rfl

theorem lent2 (c : Dev nD) : (iprop(∃ f : Buf (Elt F) ((c : Thread nD τ).loc cc0_scratch2), ((c : Thread nD τ).loc cc0_scratch2) ↦{fullShare} f) : sProp 𝕄) ⊢ iprop(∃ f, (Memref.whole cc0_scratch2).view.loc (c : Thread nD τ) ↦[(Memref.whole cc0_scratch2).view.set]{fullShare} f) := by rw [scratch2]; first | done | exact .rfl
theorem back2 (c : Dev nD) : (iprop(∃ f, (Memref.whole cc0_scratch2).view.loc (c : Thread nD τ) ↦[(Memref.whole cc0_scratch2).view.set]{fullShare} f) : sProp 𝕄) ⊢ iprop(∃ f : Buf (Elt F) ((c : Thread nD τ).loc cc0_scratch2), ((c : Thread nD τ).loc cc0_scratch2) ↦{fullShare} f) := by rw [scratch2]; first | done | exact .rfl

theorem lent3 (c : Dev nD) : (iprop(∃ f : Buf (Elt F) ((c : Thread nD τ).loc cc0_scratch3), ((c : Thread nD τ).loc cc0_scratch3) ↦{fullShare} f) : sProp 𝕄) ⊢ iprop(∃ f, (Memref.whole cc0_scratch3).view.loc (c : Thread nD τ) ↦[(Memref.whole cc0_scratch3).view.set]{fullShare} f) := by rw [scratch3]; first | done | exact .rfl
theorem back3 (c : Dev nD) : (iprop(∃ f, (Memref.whole cc0_scratch3).view.loc (c : Thread nD τ) ↦[(Memref.whole cc0_scratch3).view.set]{fullShare} f) : sProp 𝕄) ⊢ iprop(∃ f : Buf (Elt F) ((c : Thread nD τ).loc cc0_scratch3), ((c : Thread nD τ).loc cc0_scratch3) ↦{fullShare} f) := by rw [scratch3]; first | done | exact .rfl

theorem lent4 (c : Dev nD) : (iprop(∃ f : Buf (Elt F) ((c : Thread nD τ).loc cc0_scratch4), ((c : Thread nD τ).loc cc0_scratch4) ↦{fullShare} f) : sProp 𝕄) ⊢ iprop(∃ f, (Memref.whole cc0_scratch4).view.loc (c : Thread nD τ) ↦[(Memref.whole cc0_scratch4).view.set]{fullShare} f) := by rw [scratch4]; first | done | exact .rfl
theorem back4 (c : Dev nD) : (iprop(∃ f, (Memref.whole cc0_scratch4).view.loc (c : Thread nD τ) ↦[(Memref.whole cc0_scratch4).view.set]{fullShare} f) : sProp 𝕄) ⊢ iprop(∃ f : Buf (Elt F) ((c : Thread nD τ).loc cc0_scratch4), ((c : Thread nD τ).loc cc0_scratch4) ↦{fullShare} f) := by rw [scratch4]; first | done | exact .rfl

theorem lent5 (c : Dev nD) : (iprop(∃ f : Buf (Elt F) ((c : Thread nD τ).loc cc0_scratch5), ((c : Thread nD τ).loc cc0_scratch5) ↦{fullShare} f) : sProp 𝕄) ⊢ iprop(∃ f, (Memref.whole cc0_scratch5).view.loc (c : Thread nD τ) ↦[(Memref.whole cc0_scratch5).view.set]{fullShare} f) := by rw [scratch5]; first | done | exact .rfl
theorem back5 (c : Dev nD) : (iprop(∃ f, (Memref.whole cc0_scratch5).view.loc (c : Thread nD τ) ↦[(Memref.whole cc0_scratch5).view.set]{fullShare} f) : sProp 𝕄) ⊢ iprop(∃ f : Buf (Elt F) ((c : Thread nD τ).loc cc0_scratch5), ((c : Thread nD τ).loc cc0_scratch5) ↦{fullShare} f) := by rw [scratch5]; first | done | exact .rfl

theorem lent6 (c : Dev nD) : (iprop(∃ f : Buf (Elt F) ((c : Thread nD τ).loc cc0_scratch6), ((c : Thread nD τ).loc cc0_scratch6) ↦{fullShare} f) : sProp 𝕄) ⊢ iprop(∃ f, (Memref.whole cc0_scratch6).view.loc (c : Thread nD τ) ↦[(Memref.whole cc0_scratch6).view.set]{fullShare} f) := by rw [scratch6]; first | done | exact .rfl
theorem back6 (c : Dev nD) : (iprop(∃ f, (Memref.whole cc0_scratch6).view.loc (c : Thread nD τ) ↦[(Memref.whole cc0_scratch6).view.set]{fullShare} f) : sProp 𝕄) ⊢ iprop(∃ f : Buf (Elt F) ((c : Thread nD τ).loc cc0_scratch6), ((c : Thread nD τ).loc cc0_scratch6) ↦{fullShare} f) := by rw [scratch6]; first | done | exact .rfl

theorem lent7 (c : Dev nD) : (iprop(∃ f : Buf (Elt F) ((c : Thread nD τ).loc cc0_scratch7), ((c : Thread nD τ).loc cc0_scratch7) ↦{fullShare} f) : sProp 𝕄) ⊢ iprop(∃ f, (Memref.whole cc0_scratch7).view.loc (c : Thread nD τ) ↦[(Memref.whole cc0_scratch7).view.set]{fullShare} f) := by rw [scratch7]; first | done | exact .rfl
theorem back7 (c : Dev nD) : (iprop(∃ f, (Memref.whole cc0_scratch7).view.loc (c : Thread nD τ) ↦[(Memref.whole cc0_scratch7).view.set]{fullShare} f) : sProp 𝕄) ⊢ iprop(∃ f : Buf (Elt F) ((c : Thread nD τ).loc cc0_scratch7), ((c : Thread nD τ).loc cc0_scratch7) ↦{fullShare} f) := by rw [scratch7]; first | done | exact .rfl

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d))
    ∗ (∃ X, owns (c : Thread nD τ) (ms5 t) fullShare X))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t)
    ∗ (∃ X, owns (c : Thread nD τ) (ms5 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨H8, H9, H10, H11, H12, H13, H14, H15⟩, Hg⟩, HO, ⟨%d2, H2⟩, ⟨%d3, H3⟩, ⟨%d4, H4⟩, ⟨%d5, H5⟩, ⟨%d6, H6⟩, H7⟩
  iapply (wp_wand_r frame (wpE (defs₀ (F := F)) Variants.none (c : Thread nD τ) none) Set.univ)
  isplitl [H2 H3 H4 H5 H6 H7 H8 H9 H10 H11 H12 H13 H14 H15]
  · iapply (pointRun Variants.none c none Set.univ (grid0.coords t) (ms0 t) (hs0 t) (ms1 t) (hs1 t) (ms2 t) (hs2 t) (ms3 t) (hs3 t) (ms4 t) (hs4 t) (ms5 t) (hs5 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t))
    unfold point
    isplitl [H2 H3 H4 H5 H6]
    · isplitl [H2]; · iexact H2
      isplitl [H3]; · iexact H3
      isplitl [H4]; · iexact H4
      isplitl [H5]; · iexact H5
      iexact H6
    isplitl [H7]; · iexact H7
    isplitl [H8]; · iapply (lent0 c); iexact H8
    isplitl [H9]; · iapply (lent1 c); iexact H9
    isplitl [H10]; · iapply (lent2 c); iexact H10
    isplitl [H11]; · iapply (lent3 c); iexact H11
    isplitl [H12]; · iapply (lent4 c); iexact H12
    isplitl [H13]; · iapply (lent5 c); iexact H13
    isplitl [H14]; · iapply (lent6 c); iexact H14
    iapply (lent7 c); iexact H15
  unfold point
  iintro %a ⟨⟨H2, H3, H4, H5, H6⟩, H7, H8, H9, H10, H11, H12, H13, H14, H15⟩
  isplitl [H8 H9 H10 H11 H12 H13 H14 H15 Hg]
  · isplitr [Hg]
    · isplitl [H8]; · iapply (back0 c); iexact H8
      isplitl [H9]; · iapply (back1 c); iexact H9
      isplitl [H10]; · iapply (back2 c); iexact H10
      isplitl [H11]; · iapply (back3 c); iexact H11
      isplitl [H12]; · iapply (back4 c); iexact H12
      isplitl [H13]; · iapply (back5 c); iexact H13
      isplitl [H14]; · iapply (back6 c); iexact H14
      iapply (back7 c); iexact H15
    iexact Hg
  isplitl [HO]; · iexact HO
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ unsaid := fun t => by
  rw [bigSep_W0, bigSep_W0, defs₀_row]
  exact triple_restated (sound_body m c t) rfl .rfl fun _ => .rfl

/-- The run: every argument ends as it began, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget_shared cfgs (dats m) 0 launch₀0 defs₀ Variants.none unsaid m ρ main
    (hbody := fun c => (body_obligation m c).loose) (hq := fun _ _ _ => rfl) (howed := fun _ _ => rfl) (V := V m)
    (hmain := hmain m Variants.none) (hA := fun _ _ => rfl) (hΦ := fun _ _ => rfl) (Q' := _)
    (hQ' := fun r h => ⟨fun c => ⟨Pipeline.RDat.FramePost.arr_in h.1 c 2 rfl, Pipeline.RDat.FramePost.arr_in h.1 c 4 rfl⟩, h.2⟩)

end

/-- The program as printed and its ideal reading run alike at one arithmetic. -/
theorem same_run {F : FTy → Type} [FloatOps F] (m : (ℓ : Loc Cert.PromptAttn.nD Cert.PromptAttn.τ Cert.PromptAttn.sig) → Buf (Elt F) ℓ)
    (ρ : Dev Cert.PromptAttn.nD → PrngReg) (Q : PUnit × MemSt Cert.PromptAttn.nD Cert.PromptAttn.τ Cert.PromptAttn.sig (Elt F) → Prop) :
    θ_run (Cert.PromptAttn.defs (F := F)) (onTc (τ := Cert.PromptAttn.τ) (Cert.PromptAttn.main (F := F))) ⟨m, fun _ => 0, ρ⟩ Q
      = θ_run (Cert.PromptAttnIdeal.defs (F := F)) (onTc (τ := Cert.PromptAttnIdeal.τ) (Cert.PromptAttnIdeal.main (F := F))) ⟨m, fun _ => 0, ρ⟩ Q := by
  sl_kernel_rfl

end Cert.PromptScan

end
-- ==== Proof.AttendRows.lean ====
module

public import proofs.«01_k».proof.Proof.Gen.KernelIdeal.Launch
public import proofs.«01_k».proof.Proof.Gen.KernelIdeal.Loops
public import Idealize.ShloMosaic.Lib.Pipeline.Frame
public import Idealize.ShloMosaic.Lib.Batch
public import Idealize.ShloMosaic.Lib.Ring
public import Idealize.ShloMosaic.Lib.Tactic
public import Idealize.ShloMosaic.Lib.Transfers

/-!
The gather of `sample_attend`: 256 rows of the two paged pools, each copied into its own row of a scratch buffer by a
transfer of the kernel's own. All the key rows complete on one semaphore and all the value rows on another, so each of
the two semaphores carries one batch of 256 transfers.
-/

@[expose] public section

set_option maxRecDepth 65536

noncomputable section

namespace Cert.Attend

open Cert.KernelIdeal Cert.KernelIdeal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-- The tables, the pools and the scratch buffers the kernel is called with. -/
abbrev tIdx : Memref sig .tc .smem S8x256 .i32 := Memref.whole main_arg0
abbrev tPool : Memref sig .tc .smem S8 .i32 := Memref.whole main_arg1
abbrev tPage : Memref sig .tc .smem S8x128 .i32 := Memref.whole main_arg2
abbrev poolK : Memref sig .tc .hbm S1x1280x128x2x128 .f32 := Memref.whole main_arg5
abbrev poolV : Memref sig .tc .hbm S1x1280x128x2x128 .f32 := Memref.whole main_arg6
abbrev bufK : Memref sig .tc .vmem S256x2x128 .f32 := Memref.whole cc0_scratch0
abbrev bufV : Memref sig .tc .vmem S256x2x128 .f32 := Memref.whole cc0_scratch1
abbrev flatK : Memref sig .tc .vmem S2x256x128 .f32 := Memref.whole cc0_scratch2
abbrev flatV : Memref sig .tc .vmem S2x256x128 .f32 := Memref.whole cc0_scratch3

/-- How many rows are gathered. -/
abbrev NR : ℕ := k0_t1_loop.trips

/-- Row `k` of a scratch buffer, as the issuing loop spells it. -/
def rowOf (b : Memref sig .tc .vmem S256x2x128 .f32) (k : Fin NR) : Memref sig .tc .vmem S2x128 .f32 :=
  (b.slice (Rect.unit (s := S256x2x128) (k0_off3 k) S1x2x128.size (k0_off3_inb k)) (fun _ => rfl)).squeeze S2x128 squeezes_S1x2x128_S2x128

/-- The row of a pool that slot `v` of page `p` names. -/
def poolRow (b : Memref sig .tc .hbm S1x1280x128x2x128 .f32) (v p : BitVec 32) (h : k0_chk2 v p) : Memref sig .tc .hbm S2x128 .f32 :=
  (b.slice (Rect.unit (s := S1x1280x128x2x128) (k0_off4 v p) S1x1x1x2x128.size (k0_off4_inb v p h)) (fun _ => rfl)).squeeze S2x128 squeezes_S1x1x1x2x128_S2x128

section Trip
variable (c : Dev nD) (i : grid0.Coords)
  (T0 : Buf (Elt F) (tIdx.view.loc (c : Thread nD τ))) (T2 : Buf (Elt F) (tPage.view.loc (c : Thread nD τ)))

/-- The slot the index table names for row `k`. -/
abbrev slot (k : Fin NR) : BitVec 32 :=
  View.readAt (Elt F) tIdx.view (Rect.unit (s := S8x256) (k0_off1 i k) S1x1.size (k0_off1_inb i k)).toLoadRect T0
    (Shape.Idx.first (numel1_S1x1.symm ▸ Nat.one_pos))
/-- The page of the pool that holds slot `v`. -/
abbrev page (v : BitVec 32) (h : k0_chk1 i v) : BitVec 32 :=
  View.readAt (Elt F) tPage.view (Rect.unit (s := S8x128) (k0_off2 i v) S1x1.size (k0_off2_inb i v h)).toLoadRect T2
    (Shape.Idx.first (numel1_S1x1.symm ▸ Nat.one_pos))

/-- The tables name rows of the pools: every slot is in the page table, every page in the pool. -/
structure InRange : Prop where
  slot_ok : ∀ k, k0_chk1 i (slot c i T0 k)
  page_ok : ∀ k, k0_chk2 (slot c i T0 k) (page c i T2 (slot c i T0 k) (slot_ok k))

variable (H : InRange c i T0 T2)

/-- The pool row that is copied into row `k`. -/
abbrev srcOf (b : Memref sig .tc .hbm S1x1280x128x2x128 .f32) (k : Fin NR) : Memref sig .tc .hbm S2x128 .f32 :=
  poolRow b (slot c i T0 k) (page c i T2 (slot c i T0 k) (H.slot_ok k)) (H.page_ok k)

/-- What row `k` of the scratch buffer `b` holds after the copy: what the pool's row holds. -/
abbrev landed (b : Memref sig .tc .vmem S256x2x128 .f32) (a : Memref sig .tc .hbm S1x1280x128x2x128 .f32)
    (fb : Buf (Elt F) (b.view.loc (c : Thread nD τ))) (fa : Buf (Elt F) (a.view.loc (c : Thread nD τ))) (k : Fin NR) : sProp 𝕄 :=
  (rowOf b k).view.loc (c : Thread nD τ) ↦[(rowOf b k).view.set]{fullShare}
    ((rowOf b k).view.write (Elt F) fb ((srcOf c i T0 T2 H a k).view.read (Elt F) fa) Finset.univ)

/-- Row `k` of a scratch buffer, not yet written. -/
abbrev fresh (b : Memref sig .tc .vmem S256x2x128 .f32) (fb : Buf (Elt F) (b.view.loc (c : Thread nD τ))) (k : Fin NR) : sProp 𝕄 :=
  (rowOf b k).view.loc (c : Thread nD τ) ↦[(rowOf b k).view.set]{fullShare} fb

/-- The pool row copied into row `k`, at the reading share that copy uses. -/
abbrev lent (a : Memref sig .tc .hbm S1x1280x128x2x128 .f32) (fa : Buf (Elt F) (a.view.loc (c : Thread nD τ))) (k : Fin NR) : sProp 𝕄 :=
  (srcOf c i T0 T2 H a k).view.loc (c : Thread nD τ) ↦[(srcOf c i T0 T2 H a k).view.set]{Transfers.shareTokN fullShare k.val} fa

/-- What the copy of row `k` hands back: the row landed and the pool's row. -/
abbrev back (b : Memref sig .tc .vmem S256x2x128 .f32) (a : Memref sig .tc .hbm S1x1280x128x2x128 .f32)
    (fb : Buf (Elt F) (b.view.loc (c : Thread nD τ))) (fa : Buf (Elt F) (a.view.loc (c : Thread nD τ))) (k : Fin NR) : sProp 𝕄 :=
  iprop(landed c i T0 T2 H b a fb fa k ∗ lent c i T0 T2 H a fa k)

variable (fk : Buf (Elt F) (bufK.view.loc (c : Thread nD τ))) (fv : Buf (Elt F) (bufV.view.loc (c : Thread nD τ)))
  (pk : Buf (Elt F) (poolK.view.loc (c : Thread nD τ))) (pv : Buf (Elt F) (poolV.view.loc (c : Thread nD τ))) (q : PosShare TreeShare)

/-- The batch of the key rows: `j` transfers issued, `u` elements waited for. -/
abbrev batchK (j u : ℕ) : sProp 𝕄 :=
  Transfers.Batch (countersEmb (U := Pipeline.UD sig nD τ)) (c : Thread nD τ) (.dma 6) () 32 (back c i T0 T2 H bufK poolK fk pk) j u
/-- The batch of the value rows. -/
abbrev batchV (j u : ℕ) : sProp 𝕄 :=
  Transfers.Batch (countersEmb (U := Pipeline.UD sig nD τ)) (c : Thread nD τ) (.dma 7) () 32 (back c i T0 T2 H bufV poolV fv pv) j u

/-- Before trip `k` of the issuing loop: `k` rows of each buffer on their way, the rest in hand. -/
def issueAt (k : ℕ) (_ : Unit) : sProp 𝕄 :=
  iprop((tIdx.view.loc (c : Thread nD τ) ↦{q} T0) ∗ (tPage.view.loc (c : Thread nD τ) ↦{q} T2)
    ∗ batchK c i T0 T2 H fk pk k 0 ∗ batchV c i T0 T2 H fv pv k 0
    ∗ bigSep (Ring.rangeSet NR k NR) (fresh c bufK fk) ∗ bigSep (Ring.rangeSet NR k NR) (fresh c bufV fv)
    ∗ bigSep (Ring.rangeSet NR k NR) (lent c i T0 T2 H poolK pk) ∗ bigSep (Ring.rangeSet NR k NR) (lent c i T0 T2 H poolV pv))

variable (arg4 : Memref sig .tc .vmem S1x8x128 .bf16) (harg4 : arg4.IsWhole) (arg5 : Memref sig .tc .vmem S1x16x768 .f32) (harg5 : arg5.IsWhole)
    (arg8 : Memref sig .tc .vmem S1x8x128 .f32) (harg8 : arg8.IsWhole)

/-- A row of a scratch buffer is 32 units of credit. -/
theorem creditK (k : Fin NR) (d : DmaSem sig) : (rowOf bufK k).view.amount (.dma d) = 32 := by unfold rowOf; rfl
theorem creditV (k : Fin NR) (d : DmaSem sig) : (rowOf bufV k).view.amount (.dma d) = 32 := by unfold rowOf; rfl

/-- What a finished copy leaves is what `back` says. -/
theorem handed (b : Memref sig .tc .vmem S256x2x128 .f32) (a : Memref sig .tc .hbm S1x1280x128x2x128 .f32)
    (fb : Buf (Elt F) (b.view.loc (c : Thread nD τ))) (fa : Buf (Elt F) (a.view.loc (c : Thread nD τ))) (k : Fin NR) (hk : k.val < NR) :
    (iprop(((rowOf b k).view.loc (c : Thread nD τ) ↦[(rowOf b k).view.set]{fullShare}
        ((rowOf b k).view.write (Elt F) fb (ReadAs.same.apply ((srcOf c i T0 T2 H a k).view.read (Elt F) fa)) Finset.univ))
      ∗ ((srcOf c i T0 T2 H a k).view.loc (c : Thread nD τ) ↦[(srcOf c i T0 T2 H a k).view.set]{Transfers.shareTokN fullShare k.val} fa)) : sProp 𝕄)
      ⊢ back c i T0 T2 H b a fb fa ⟨k.val, hk⟩ := .rfl

/-- One trip of the issuing loop. -/
theorem issue_step (k : Fin NR) (acc : Unit) :
    issueAt c i T0 T2 H fk fv pk pv q k acc ⊢ wp frame (wpE (defs₀ (F := F)) Variants.none (c : Thread nD τ) none) Set.univ
        (k0_t1_body i tIdx (Memref.isWhole_whole _) tPool (Memref.isWhole_whole _) tPage (Memref.isWhole_whole _) arg4 harg4 arg5 harg5
          poolK (Memref.isWhole_whole _) poolV (Memref.isWhole_whole _) arg8 harg8 bufK (Memref.isWhole_whole _) bufV (Memref.isWhole_whole _)
          flatK (Memref.isWhole_whole _) flatV (Memref.isWhole_whole _) cc0_scratch4 k acc)
        (issueAt c i T0 T2 H fk fv pk pv q (k.val + 1)) := by
  have hk := k.isLt
  have h1 := H.slot_ok k
  have h2 := H.page_ok k
  unfold issueAt
  rw [Ring.bigSep_rangeSet_head (Φ := fresh c bufK fk) (by omega) (by omega), Ring.bigSep_rangeSet_head (Φ := fresh c bufV fv) (by omega) (by omega),
    Ring.bigSep_rangeSet_head (Φ := lent c i T0 T2 H poolK pk) (by omega) (by omega), Ring.bigSep_rangeSet_head (Φ := lent c i T0 T2 H poolV pv) (by omega) (by omega)]
  unfold fresh lent
  iintro ⟨H0, H2, HBk, HBv, ⟨HK, HKs⟩, ⟨HV, HVs⟩, ⟨HPk, HPks⟩, ⟨HPv, HPvs⟩⟩
  sl_unfold [k0_t1_body]
  sl_exec
  iapply (Transfers.wp_dmaBatch (countersEmb (U := Pipeline.UD sig nD τ)) Variants.none (c : Thread nD τ) none
    (src := srcOf c i T0 T2 H poolK k) (dst := rowOf bufK k) () 32 (creditK k _) subset_rfl
    (D := back c i T0 T2 H bufK poolK fk pk) (j := k.val) (u := 0) hk (Nat.zero_le _) (handed c i T0 T2 H _ _ _ _ k hk)) $$ [HPk HK HBk]
  · isplitl [HPk]; · iexact HPk
    isplitl [HK]; · iexact HK
    iexact HBk
  iintro HBk
  sl_exec
  iapply (Transfers.wp_dmaBatch (countersEmb (U := Pipeline.UD sig nD τ)) Variants.none (c : Thread nD τ) none
    (src := srcOf c i T0 T2 H poolV k) (dst := rowOf bufV k) () 32 (creditV k _) subset_rfl
    (D := back c i T0 T2 H bufV poolV fv pv) (j := k.val) (u := 0) hk (Nat.zero_le _) (handed c i T0 T2 H _ _ _ _ k hk)) $$ [HPv HV HBv]
  · isplitl [HPv]; · iexact HPv
    isplitl [HV]; · iexact HV
    iexact HBv
  iintro HBv
  sl_exec
  sl_step
  isplitl [H0]; · iexact H0
  isplitl [H2]; · iexact H2
  isplitl [HBk]; · iexact HBk
  isplitl [HBv]; · iexact HBv
  isplitl [HKs]; · iexact HKs
  isplitl [HVs]; · iexact HVs
  isplitl [HPks]; · iexact HPks
  iexact HPvs

/-- Before trip `k` of the waiting loop: `k` rows of each batch waited for; after the last trip the two semaphores are
back at zero and every row has landed. -/
def drainAt (k : ℕ) (_ : Unit) : sProp 𝕄 :=
  iprop(⌜k ≤ NR⌝ ∗ (∃ W, owes (c : Thread nD τ) 0 W)
    ∗ (tIdx.view.loc (c : Thread nD τ) ↦{q} T0) ∗ (tPage.view.loc (c : Thread nD τ) ↦{q} T2)
    ∗ (if k < NR then iprop(batchK c i T0 T2 H fk pk NR (k * 32) ∗ batchV c i T0 T2 H fv pv NR (k * 32))
       else iprop((semVal ((c : Thread nD τ), SemLoc.dma 6) 0 ∗ bigSep Finset.univ (back c i T0 T2 H bufK poolK fk pk))
        ∗ (semVal ((c : Thread nD τ), SemLoc.dma 7) 0 ∗ bigSep Finset.univ (back c i T0 T2 H bufV poolV fv pv)))))

/-- One trip of the waiting loop. -/
theorem drain_step (k : Fin NR) (acc : Unit) :
    drainAt c i T0 T2 H fk fv pk pv q k acc ⊢ wp frame (wpE (defs₀ (F := F)) Variants.none (c : Thread nD τ) none) Set.univ
        (k0_t2_body i tIdx (Memref.isWhole_whole _) tPool (Memref.isWhole_whole _) tPage (Memref.isWhole_whole _) arg4 harg4 arg5 harg5
          poolK (Memref.isWhole_whole _) poolV (Memref.isWhole_whole _) arg8 harg8 bufK (Memref.isWhole_whole _) bufV (Memref.isWhole_whole _)
          flatK (Memref.isWhole_whole _) flatV (Memref.isWhole_whole _) cc0_scratch4 k acc)
        (drainAt c i T0 T2 H fk fv pk pv q (k.val + 1)) := by
  have hk : k.val < NR := k.isLt
  have h1 : k0_chk3 i (slot c i T0 k) := H.slot_ok k
  have h2 : k0_chk4 (slot c i T0 k) (page c i T2 (slot c i T0 k) (H.slot_ok k)) := H.page_ok k
  unfold drainAt
  rw [if_pos hk]
  rcases Nat.lt_or_ge (k.val + 1) NR with h | h
  · rw [if_pos h]
    iintro ⟨-, ⟨%W, HO⟩, H0, H2, HBk, HBv⟩
    sl_unfold [k0_t2_body]
    sl_exec
    sl_step
    isplitr; · ipureintro; omega
    isplitl [HO]; · iexists _; iexact HO
    isplitl [H0]; · iexact H0
    isplitl [H2]; · iexact H2
    rw [show (k.val + 1) * 32 = k.val * 32 + 32 by omega]
    isplitl [HBk]; · iexact HBk
    iexact HBv
  · rw [if_neg (Nat.not_lt.mpr h)]
    iintro ⟨-, ⟨%W, HO⟩, H0, H2, HBk, HBv⟩
    sl_unfold [k0_t2_body]
    sl_exec
    sl_step
    isplitr; · ipureintro; omega
    isplitl [HO]; · iexists _; iexact HO
    isplitl [H0]; · iexact H0
    isplitl [H2]; · iexact H2
    isplitl [HBk HBk_all]
    · isplitl [HBk]; · iexact HBk
      iexact HBk_all
    isplitl [HBv]; · iexact HBv
    iexact HBv_all

end Trip

end Cert.Attend
end
-- ==== Proof.AttendHold.lean ====
module

public import proofs.«01_k».proof.Proof.AttendRows

/-!
The scratch buffers as their 256 rows and the pools as 256 reading shares, and back: what the gather takes apart before
its first transfer and joins after its last.
-/

@[expose] public section

set_option maxRecDepth 65536

noncomputable section

namespace Cert.Attend

open Cert.KernelIdeal Cert.KernelIdeal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

theorem NR_eq : NR = 256 := by decide

/-- The elements of row `k` of a scratch buffer. -/
abbrev rowSet (k : Fin NR) : Finset S256x2x128.Idx := (Rect.unit (s := S256x2x128) (k0_off3 k) S1x2x128.size (k0_off3_inb k)).set

theorem mem_rowSet (k : Fin NR) (y : S256x2x128.Idx) : y ∈ rowSet k ↔ (y 0).val = k.val := by
  rw [Rect.mem_set_unit]
  have h1 : (y 1).val < 2 := (y 1).isLt
  have h2 : (y 2).val < 128 := (y 2).isLt
  rw [k0_off3_eq]
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 2; omega
    · show 0 ≤ (y 2).val ∧ (y 2).val < 0 + 128; omega

theorem rowSet_disjoint : ∀ b b' : Fin NR, b ≠ b' → Disjoint (rowSet b) (rowSet b') := fun b b' hne => by
  rw [Finset.disjoint_left]; intro y hy hy'; rw [mem_rowSet] at hy hy'; exact hne (Fin.ext (by omega))

/-- The row an element lies in. -/
def inRow (y : S256x2x128.Idx) : Fin NR := ⟨(y 0).val, by have h : (y 0).val < 256 := (y 0).isLt; rw [NR_eq]; exact h⟩

theorem rowSet_cover : Finset.univ.biUnion rowSet = Finset.univ := by
  ext y; simp only [Finset.mem_biUnion, Finset.mem_univ, true_and, iff_true]; exact ⟨inRow y, (mem_rowSet _ _).mpr rfl⟩

theorem setK (k : Fin NR) : (rowOf bufK k).view.set = rowSet k := by
  unfold rowOf; exact (View.set_reshape _ _).trans (View.set_slice_whole _ _)
theorem setV (k : Fin NR) : (rowOf bufV k).view.set = rowSet k := by
  unfold rowOf; exact (View.set_reshape _ _).trans (View.set_slice_whole _ _)

section
variable (c : Dev nD) (i : grid0.Coords)
  (T0 : Buf (Elt F) (tIdx.view.loc (c : Thread nD τ))) (T2 : Buf (Elt F) (tPage.view.loc (c : Thread nD τ)))
  (H : InRange c i T0 T2)
  (fk : Buf (Elt F) (bufK.view.loc (c : Thread nD τ))) (fv : Buf (Elt F) (bufV.view.loc (c : Thread nD τ)))
  (pk : Buf (Elt F) (poolK.view.loc (c : Thread nD τ))) (pv : Buf (Elt F) (poolV.view.loc (c : Thread nD τ)))

/-- A scratch buffer held whole is its rows. -/
theorem rowsK : (bufK.view.loc (c : Thread nD τ) ↦{fullShare} fk : sProp 𝕄) ⊢ bigSep (Ring.rangeSet NR 0 NR) (fresh c bufK fk) := by
  rw [Ring.rangeSet_univ]
  refine (Entails.of_eq (Ring.pointsTo_blocks rowSet rowSet_disjoint rowSet_cover fk)).trans (BI.bigSep_mono fun k _ => ?_)
  show (bufK.view.loc (c : Thread nD τ) ↦[rowSet k]{fullShare} fk : sProp 𝕄) ⊢ fresh c bufK fk k
  unfold fresh; rw [setK]; exact .rfl
theorem rowsV : (bufV.view.loc (c : Thread nD τ) ↦{fullShare} fv : sProp 𝕄) ⊢ bigSep (Ring.rangeSet NR 0 NR) (fresh c bufV fv) := by
  rw [Ring.rangeSet_univ]
  refine (Entails.of_eq (Ring.pointsTo_blocks rowSet rowSet_disjoint rowSet_cover fv)).trans (BI.bigSep_mono fun k _ => ?_)
  show (bufV.view.loc (c : Thread nD τ) ↦[rowSet k]{fullShare} fv : sProp 𝕄) ⊢ fresh c bufV fv k
  unfold fresh; rw [setV]; exact .rfl

/-- The key rows, gathered. -/
def gotK : Buf (Elt F) (bufK.view.loc (c : Thread nD τ)) := fun y =>
  (rowOf bufK (inRow y)).view.write (Elt F) fk ((srcOf c i T0 T2 H poolK (inRow y)).view.read (Elt F) pk) Finset.univ y
/-- The value rows, gathered. -/
def gotV : Buf (Elt F) (bufV.view.loc (c : Thread nD τ)) := fun y =>
  (rowOf bufV (inRow y)).view.write (Elt F) fv ((srcOf c i T0 T2 H poolV (inRow y)).view.read (Elt F) pv) Finset.univ y

theorem joinK : bigSep Finset.univ (landed c i T0 T2 H bufK poolK fk pk)
    ⊢ (bufK.view.loc (c : Thread nD τ) ↦{fullShare} gotK c i T0 T2 H fk pk : sProp 𝕄) := by
  refine Entails.trans (BI.bigSep_mono fun k _ => ?_)
    (Entails.of_eq (Ring.pointsTo_blocks rowSet rowSet_disjoint rowSet_cover (gotK c i T0 T2 H fk pk)).symm)
  show landed c i T0 T2 H bufK poolK fk pk k ⊢ (bufK.view.loc (c : Thread nD τ) ↦[rowSet k]{fullShare} gotK c i T0 T2 H fk pk : sProp 𝕄)
  unfold landed; rw [setK]
  refine Entails.of_eq (pointsTo_congr fun y hy => ?_)
  have hk : inRow y = k := Fin.ext ((mem_rowSet k y).mp hy)
  have key : ∀ (z : S256x2x128.Idx) (j : Fin NR), j = k →
      ((rowOf bufK k).view.write (Elt F) fk ((srcOf c i T0 T2 H poolK k).view.read (Elt F) pk) Finset.univ : S256x2x128.Idx → Elt F .f32) z
        = ((rowOf bufK j).view.write (Elt F) fk ((srcOf c i T0 T2 H poolK j).view.read (Elt F) pk) Finset.univ : S256x2x128.Idx → Elt F .f32) z :=
    fun z j e => by subst e; rfl
  exact key y _ hk
theorem joinV : bigSep Finset.univ (landed c i T0 T2 H bufV poolV fv pv)
    ⊢ (bufV.view.loc (c : Thread nD τ) ↦{fullShare} gotV c i T0 T2 H fv pv : sProp 𝕄) := by
  refine Entails.trans (BI.bigSep_mono fun k _ => ?_)
    (Entails.of_eq (Ring.pointsTo_blocks rowSet rowSet_disjoint rowSet_cover (gotV c i T0 T2 H fv pv)).symm)
  show landed c i T0 T2 H bufV poolV fv pv k ⊢ (bufV.view.loc (c : Thread nD τ) ↦[rowSet k]{fullShare} gotV c i T0 T2 H fv pv : sProp 𝕄)
  unfold landed; rw [setV]
  refine Entails.of_eq (pointsTo_congr fun y hy => ?_)
  have hk : inRow y = k := Fin.ext ((mem_rowSet k y).mp hy)
  have key : ∀ (z : S256x2x128.Idx) (j : Fin NR), j = k →
      ((rowOf bufV k).view.write (Elt F) fv ((srcOf c i T0 T2 H poolV k).view.read (Elt F) pv) Finset.univ : S256x2x128.Idx → Elt F .f32) z
        = ((rowOf bufV j).view.write (Elt F) fv ((srcOf c i T0 T2 H poolV j).view.read (Elt F) pv) Finset.univ : S256x2x128.Idx → Elt F .f32) z :=
    fun z j e => by subst e; rfl
  exact key y _ hk

/-- What is left of a pool while its rows are lent. -/
def keptK : sProp 𝕄 := iprop((poolK.view.loc (c : Thread nD τ) ↦{Transfers.shareDrop fullShare NR} pk)
  ∗ bigSep Finset.univ fun k : Fin NR => poolK.view.loc (c : Thread nD τ) ↦[Finset.univ \ (srcOf c i T0 T2 H poolK k).view.set]{Transfers.shareTokN fullShare k.val} pk)
def keptV : sProp 𝕄 := iprop((poolV.view.loc (c : Thread nD τ) ↦{Transfers.shareDrop fullShare NR} pv)
  ∗ bigSep Finset.univ fun k : Fin NR => poolV.view.loc (c : Thread nD τ) ↦[Finset.univ \ (srcOf c i T0 T2 H poolV k).view.set]{Transfers.shareTokN fullShare k.val} pv)

theorem toksK : (poolK.view.loc (c : Thread nD τ) ↦{fullShare} pk : sProp 𝕄)
    ⊣⊢ iprop((poolK.view.loc (c : Thread nD τ) ↦{Transfers.shareDrop fullShare NR} pk)
      ∗ bigSep Finset.univ fun k : Fin NR => poolK.view.loc (c : Thread nD τ) ↦{Transfers.shareTokN fullShare k.val} pk) := by
  have h := Transfers.pointsTo_toks_range (Ix := Unit) (Name := ℕ) (U := Pipeline.UD sig nD τ) (Lvl := ℕ)
    (ℓ := poolK.view.loc (c : Thread nD τ)) (S := Finset.univ) (f := pk) fullShare NR
  rw [← Ring.rangeSet_univ, Ring.bigSep_rangeSet_eq_range (NB := NR) (lo := 0) (hi := NR) le_rfl
    (fun k => poolK.view.loc (c : Thread nD τ) ↦{Transfers.shareTokN fullShare k} pk) (fun k hk => by simp only [Nat.zero_add])]
  exact h
theorem toksV : (poolV.view.loc (c : Thread nD τ) ↦{fullShare} pv : sProp 𝕄)
    ⊣⊢ iprop((poolV.view.loc (c : Thread nD τ) ↦{Transfers.shareDrop fullShare NR} pv)
      ∗ bigSep Finset.univ fun k : Fin NR => poolV.view.loc (c : Thread nD τ) ↦{Transfers.shareTokN fullShare k.val} pv) := by
  have h := Transfers.pointsTo_toks_range (Ix := Unit) (Name := ℕ) (U := Pipeline.UD sig nD τ) (Lvl := ℕ)
    (ℓ := poolV.view.loc (c : Thread nD τ)) (S := Finset.univ) (f := pv) fullShare NR
  rw [← Ring.rangeSet_univ, Ring.bigSep_rangeSet_eq_range (NB := NR) (lo := 0) (hi := NR) le_rfl
    (fun k => poolV.view.loc (c : Thread nD τ) ↦{Transfers.shareTokN fullShare k} pv) (fun k hk => by simp only [Nat.zero_add])]
  exact h

/-- A pool held whole is the rows the copies read, each at a share of its own, and what is left. -/
theorem lendK : (poolK.view.loc (c : Thread nD τ) ↦{fullShare} pk : sProp 𝕄)
    ⊢ iprop(keptK c i T0 T2 H pk ∗ bigSep (Ring.rangeSet NR 0 NR) (lent c i T0 T2 H poolK pk)) := by
  rw [Ring.rangeSet_univ]
  refine (toksK c pk).1.trans ?_
  unfold keptK
  iintro ⟨HD, HT⟩
  ihave HT' := (show bigSep Finset.univ (fun k : Fin NR => poolK.view.loc (c : Thread nD τ) ↦{Transfers.shareTokN fullShare k.val} pk)
      ⊢ (iprop(bigSep Finset.univ (lent c i T0 T2 H poolK pk) ∗ bigSep Finset.univ fun k : Fin NR =>
        poolK.view.loc (c : Thread nD τ) ↦[Finset.univ \ (srcOf c i T0 T2 H poolK k).view.set]{Transfers.shareTokN fullShare k.val} pk) : sProp 𝕄)
    from Entails.trans (BI.bigSep_mono fun k _ => (pointsTo_split_subset (Finset.subset_univ (srcOf c i T0 T2 H poolK k).view.set)).1)
      (Entails.of_eq (BI.bigSep_sep _ _ _))) $$ HT
  icases HT' with ⟨HL, HR⟩
  isplitl [HD HR]
  · isplitl [HD] <;> iassumption
  iexact HL
theorem lendV : (poolV.view.loc (c : Thread nD τ) ↦{fullShare} pv : sProp 𝕄)
    ⊢ iprop(keptV c i T0 T2 H pv ∗ bigSep (Ring.rangeSet NR 0 NR) (lent c i T0 T2 H poolV pv)) := by
  rw [Ring.rangeSet_univ]
  refine (toksV c pv).1.trans ?_
  unfold keptV
  iintro ⟨HD, HT⟩
  ihave HT' := (show bigSep Finset.univ (fun k : Fin NR => poolV.view.loc (c : Thread nD τ) ↦{Transfers.shareTokN fullShare k.val} pv)
      ⊢ (iprop(bigSep Finset.univ (lent c i T0 T2 H poolV pv) ∗ bigSep Finset.univ fun k : Fin NR =>
        poolV.view.loc (c : Thread nD τ) ↦[Finset.univ \ (srcOf c i T0 T2 H poolV k).view.set]{Transfers.shareTokN fullShare k.val} pv) : sProp 𝕄)
    from Entails.trans (BI.bigSep_mono fun k _ => (pointsTo_split_subset (Finset.subset_univ (srcOf c i T0 T2 H poolV k).view.set)).1)
      (Entails.of_eq (BI.bigSep_sep _ _ _))) $$ HT
  icases HT' with ⟨HL, HR⟩
  isplitl [HD HR]
  · isplitl [HD] <;> iassumption
  iexact HL

/-- And back. -/
theorem homeK : iprop(keptK c i T0 T2 H pk ∗ bigSep Finset.univ (lent c i T0 T2 H poolK pk))
    ⊢ (poolK.view.loc (c : Thread nD τ) ↦{fullShare} pk : sProp 𝕄) := by
  refine Entails.trans ?_ (toksK c pk).2
  unfold keptK
  iintro ⟨⟨HD, HR⟩, HL⟩
  isplitl [HD]; · iexact HD
  iapply (show iprop(bigSep Finset.univ (lent c i T0 T2 H poolK pk) ∗ bigSep Finset.univ fun k : Fin NR =>
        poolK.view.loc (c : Thread nD τ) ↦[Finset.univ \ (srcOf c i T0 T2 H poolK k).view.set]{Transfers.shareTokN fullShare k.val} pk)
      ⊢ (bigSep Finset.univ (fun k : Fin NR => poolK.view.loc (c : Thread nD τ) ↦{Transfers.shareTokN fullShare k.val} pk) : sProp 𝕄)
    from Entails.trans (Entails.of_eq (BI.bigSep_sep _ _ _).symm)
      (BI.bigSep_mono fun k _ => (pointsTo_split_subset (Finset.subset_univ (srcOf c i T0 T2 H poolK k).view.set)).2))
  isplitl [HL] <;> iassumption
theorem homeV : iprop(keptV c i T0 T2 H pv ∗ bigSep Finset.univ (lent c i T0 T2 H poolV pv))
    ⊢ (poolV.view.loc (c : Thread nD τ) ↦{fullShare} pv : sProp 𝕄) := by
  refine Entails.trans ?_ (toksV c pv).2
  unfold keptV
  iintro ⟨⟨HD, HR⟩, HL⟩
  isplitl [HD]; · iexact HD
  iapply (show iprop(bigSep Finset.univ (lent c i T0 T2 H poolV pv) ∗ bigSep Finset.univ fun k : Fin NR =>
        poolV.view.loc (c : Thread nD τ) ↦[Finset.univ \ (srcOf c i T0 T2 H poolV k).view.set]{Transfers.shareTokN fullShare k.val} pv)
      ⊢ (bigSep Finset.univ (fun k : Fin NR => poolV.view.loc (c : Thread nD τ) ↦{Transfers.shareTokN fullShare k.val} pv) : sProp 𝕄)
    from Entails.trans (Entails.of_eq (BI.bigSep_sep _ _ _).symm)
      (BI.bigSep_mono fun k _ => (pointsTo_split_subset (Finset.subset_univ (srcOf c i T0 T2 H poolV k).view.set)).2))
  isplitl [HL] <;> iassumption

end

end Cert.Attend
end
-- ==== Proof.AttendGather.lean ====
module

public import proofs.«01_k».proof.Proof.AttendHold
public import Idealize.ShloMosaic.Lib.ValueIdxCore
public import Idealize.ShloMosaic.Lib.Pipeline.Value
public import Idealize.ShloMosaic.Lib.ViewIndex
public import Idealize.ShloMosaic.Lib.WritesUnit

/-!
What the buffers of `sample_attend` hold once the rows are gathered and laid out by head: row `j` of head `h` is the pool's row
for the `j`-th selected token, at head `h`.
-/

@[expose] public section

set_option maxRecDepth 65536

noncomputable section

namespace Cert.Attend

open Cert.KernelIdeal Cert.KernelIdeal.Gen
open Idealize.ShloMosaic Idealize.ShloMosaic.TcCoe Idealize.ShloMosaic.Tactic Idealize.ShloMosaic.ValueIdx

variable {F : FTy → Type} [FloatOps F] [∀ e, Nonempty (Elt F e)]

/-- Column `h` of a buffer of rows: head `h` of every row. -/
abbrev colOf (b : Memref sig .tc .vmem S256x2x128 .f32) (h : Fin 2) (inb : ∀ a, (![0, h.val, 0] : Fin 3 → ℕ) a + S256x1x128.size a ≤ S256x2x128.size a) :
    Memref sig .tc .vmem S256x128 .f32 :=
  (b.slice (Rect.unit (s := S256x2x128) ![0, h.val, 0] S256x1x128.size inb) (fun _ => rfl)).squeeze S256x128 squeezes_S256x1x128_S256x128
/-- Plane `h` of a buffer of heads. -/
abbrev planeOf (b : Memref sig .tc .vmem S2x256x128 .f32) (h : Fin 2) (inb : ∀ a, (![h.val, 0, 0] : Fin 3 → ℕ) a + S1x256x128.size a ≤ S2x256x128.size a) :
    Memref sig .tc .vmem S256x128 .f32 :=
  (b.slice (Rect.unit (s := S2x256x128) ![h.val, 0, 0] S1x256x128.size inb) (fun _ => rfl)).squeeze S256x128 squeezes_S1x256x128_S256x128

theorem read_rowOf (b : Memref sig .tc .vmem S256x2x128 .f32) (k : Fin NR) (g : b.view.ty.Contents (Elt F)) (h : Fin 2) (d : Fin 128) :
    (rowOf b k).view.read (Elt F) g (ix2 h d) = b.view.read (Elt F) g (ix3 ⟨k.val, NR_eq ▸ k.isLt⟩ h d) := by
  refine Eq.trans (b := shapeCast S2x128 (b.view.readAt (Elt F) (Rect.unit (s := S256x2x128) (k0_off3 k) S1x2x128.size (k0_off3_inb k)).toLoadRect g) squeezes_S1x2x128_S2x128.numel_eq (ix2 h d)) rfl ?_
  rw [shapeCast_apply _ _ _ (ix3 0 h d) (by rw [Shape.rowMajor_val_two, Shape.rowMajor_val_three]; simp)]
  rw [View.readAt_apply]
  refine congrArg (b.view.read (Elt F) g) (funext fun a => Fin.ext ?_)
  have e : k0_off3 k = ![k.val, 0, 0] := k0_off3_eq k
  show k0_off3 k a + 1 * ((ix3 (0 : Fin 1) h d : S1x2x128.Idx) a).val = _
  rw [e]
  fin_cases a <;> simp

theorem read_colOf (b : Memref sig .tc .vmem S256x2x128 .f32) (h : Fin 2) (inb) (g : b.view.ty.Contents (Elt F)) (j : Fin 256) (d : Fin 128) :
    (colOf b h inb).view.read (Elt F) g (ix2 j d) = b.view.read (Elt F) g (ix3 j h d) := by
  refine Eq.trans (b := shapeCast S256x128 (b.view.readAt (Elt F) (Rect.unit (s := S256x2x128) ![0, h.val, 0] S256x1x128.size inb).toLoadRect g) squeezes_S256x1x128_S256x128.numel_eq (ix2 j d)) rfl ?_
  rw [shapeCast_apply _ _ _ (ix3 j 0 d) (by rw [Shape.rowMajor_val_two, Shape.rowMajor_val_three]; simp)]
  rw [View.readAt_apply]
  refine congrArg (b.view.read (Elt F) g) (funext fun a => Fin.ext ?_)
  show (![0, h.val, 0] : Fin 3 → ℕ) a + 1 * ((ix3 j (0 : Fin 1) d : S256x1x128.Idx) a).val = _
  fin_cases a <;> simp

theorem read_planeOf (b : Memref sig .tc .vmem S2x256x128 .f32) (h : Fin 2) (inb) (g : b.view.ty.Contents (Elt F)) (j : Fin 256) (d : Fin 128) :
    (planeOf b h inb).view.read (Elt F) g (ix2 j d) = b.view.read (Elt F) g (ix3 h j d) := by
  refine Eq.trans (b := shapeCast S256x128 (b.view.readAt (Elt F) (Rect.unit (s := S2x256x128) ![h.val, 0, 0] S1x256x128.size inb).toLoadRect g) squeezes_S1x256x128_S256x128.numel_eq (ix2 j d)) rfl ?_
  rw [shapeCast_apply _ _ _ (ix3 0 j d) (by rw [Shape.rowMajor_val_two, Shape.rowMajor_val_three]; simp)]
  rw [View.readAt_apply]
  refine congrArg (b.view.read (Elt F) g) (funext fun a => Fin.ext ?_)
  show (![h.val, 0, 0] : Fin 3 → ℕ) a + 1 * ((ix3 (0 : Fin 1) j d : S1x256x128.Idx) a).val = _
  fin_cases a <;> simp

/-- A plane written leaves the other plane. -/
theorem read_other_plane (b : Memref sig .tc .vmem S2x256x128 .f32) (h h' : Fin 2) (hne : h ≠ h') (inb) (g : b.view.ty.Contents (Elt F))
    (w : S256x128.Idx → Elt F .f32) (j : Fin 256) (d : Fin 128) :
    b.view.read (Elt F) ((planeOf b h' inb).view.write (Elt F) g w Finset.univ) (ix3 h j d) = b.view.read (Elt F) g (ix3 h j d) := by
  rw [View.read_apply, View.read_apply, View.write_of_not_mem]
  intro hm
  have hm' : b.view.emb (ix3 h j d) ∈ (planeOf b h' inb).view.set := hm
  have es : (planeOf b h' inb).view.set = (Rect.unit (s := S2x256x128) ![h'.val, 0, 0] S1x256x128.size inb).set.map b.view.emb :=
    (View.set_reshape _ _).trans (View.set_slice _ _)
  rw [es, Finset.mem_map' b.view.emb, Rect.mem_set_unit] at hm'
  have h0 : h'.val ≤ h.val ∧ h.val < h'.val + 1 := hm' 0
  exact hne (Fin.ext (by omega))

/-- Both planes of a buffer of heads written from the two columns of a buffer of rows: a load of plane `h` is column `h`. -/
theorem loaded_plane (b : Memref sig .tc .vmem S2x256x128 .f32) (g : b.view.ty.Contents (Elt F)) (w0 w1 : S256x128.Idx → Elt F .f32) (inb0) (inb1)
    (j : Fin 256) (d : Fin 128) :
    b.view.read (Elt F) ((planeOf b 1 inb1).view.write (Elt F) ((planeOf b 0 inb0).view.write (Elt F) g w0 Finset.univ) w1 Finset.univ) (ix3 0 j d) = w0 (ix2 j d)
    ∧ b.view.read (Elt F) ((planeOf b 1 inb1).view.write (Elt F) ((planeOf b 0 inb0).view.write (Elt F) g w0 Finset.univ) w1 Finset.univ) (ix3 1 j d) = w1 (ix2 j d) := by
  refine ⟨?_, ?_⟩
  · rw [read_other_plane b 0 1 (by decide), ← read_planeOf b 0 inb0, View.read_write_univ]
  · rw [← read_planeOf b 1 inb1, View.read_write_univ]

section
variable (c : Dev nD) (i : grid0.Coords)
  (T0 : Buf (Elt F) (tIdx.view.loc (c : Thread nD τ))) (T2 : Buf (Elt F) (tPage.view.loc (c : Thread nD τ)))
  (H : InRange c i T0 T2)
  (fk : Buf (Elt F) (bufK.view.loc (c : Thread nD τ))) (fv : Buf (Elt F) (bufV.view.loc (c : Thread nD τ)))
  (pk : Buf (Elt F) (poolK.view.loc (c : Thread nD τ))) (pv : Buf (Elt F) (poolV.view.loc (c : Thread nD τ)))

/-- The keys of head `h`: row `j` is the pool's row for the `j`-th selected token. -/
def keys (h : Fin 2) : Vec F S1x256x128 .f32 := fun x => (srcOf c i T0 T2 H poolK (Fin.cast NR_eq.symm (x 1))).view.read (Elt F) pk (ix2 h (x 2))
/-- The values of head `h`. -/
def vals (h : Fin 2) : Vec F S1x256x128 .f32 := fun x => (srcOf c i T0 T2 H poolV (Fin.cast NR_eq.symm (x 1))).view.read (Elt F) pv (ix2 h (x 2))

theorem row_writtenK (k : Fin NR) (w : S2x128.Idx → Elt F .f32) (h : Fin 2) (d : Fin 128) :
    ((rowOf bufK k).view.write (Elt F) fk w Finset.univ : S256x2x128.Idx → Elt F .f32) (ix3 ⟨k.val, NR_eq ▸ k.isLt⟩ h d) = w (ix2 h d) :=
  (read_rowOf bufK k _ h d).symm.trans (congrFun (View.read_write_univ (v := (rowOf bufK k).view) fk w) (ix2 h d))
theorem row_writtenV (k : Fin NR) (w : S2x128.Idx → Elt F .f32) (h : Fin 2) (d : Fin 128) :
    ((rowOf bufV k).view.write (Elt F) fv w Finset.univ : S256x2x128.Idx → Elt F .f32) (ix3 ⟨k.val, NR_eq ▸ k.isLt⟩ h d) = w (ix2 h d) :=
  (read_rowOf bufV k _ h d).symm.trans (congrFun (View.read_write_univ (v := (rowOf bufV k).view) fv w) (ix2 h d))

theorem gotK_at (j : Fin 256) (h : Fin 2) (d : Fin 128) :
    (gotK c i T0 T2 H fk pk : S256x2x128.Idx → Elt F .f32) (ix3 j h d) = (srcOf c i T0 T2 H poolK (Fin.cast NR_eq.symm j)).view.read (Elt F) pk (ix2 h d) := by
  have key : ∀ k : Fin NR, k = Fin.cast NR_eq.symm j →
      ((rowOf bufK k).view.write (Elt F) fk ((srcOf c i T0 T2 H poolK k).view.read (Elt F) pk) Finset.univ : S256x2x128.Idx → Elt F .f32) (ix3 j h d)
        = (srcOf c i T0 T2 H poolK (Fin.cast NR_eq.symm j)).view.read (Elt F) pk (ix2 h d) :=
    fun k e => by subst e; exact row_writtenK c fk (Fin.cast NR_eq.symm j) _ h d
  exact key (inRow (ix3 j h d)) rfl
theorem gotV_at (j : Fin 256) (h : Fin 2) (d : Fin 128) :
    (gotV c i T0 T2 H fv pv : S256x2x128.Idx → Elt F .f32) (ix3 j h d) = (srcOf c i T0 T2 H poolV (Fin.cast NR_eq.symm j)).view.read (Elt F) pv (ix2 h d) := by
  have key : ∀ k : Fin NR, k = Fin.cast NR_eq.symm j →
      ((rowOf bufV k).view.write (Elt F) fv ((srcOf c i T0 T2 H poolV k).view.read (Elt F) pv) Finset.univ : S256x2x128.Idx → Elt F .f32) (ix3 j h d)
        = (srcOf c i T0 T2 H poolV (Fin.cast NR_eq.symm j)).view.read (Elt F) pv (ix2 h d) :=
    fun k e => by subst e; exact row_writtenV c fv (Fin.cast NR_eq.symm j) _ h d
  exact key (inRow (ix3 j h d)) rfl

end

/-- A load of plane `h` of a buffer of heads. -/
theorem readAt_plane (b : Memref sig .tc .vmem S2x256x128 .f32) (h : Fin 2) (inb) (g : b.view.ty.Contents (Elt F)) (x : S1x256x128.Idx) :
    b.view.readAt (Elt F) (Rect.unit (s := S2x256x128) ![h.val, 0, 0] S1x256x128.size inb).toLoadRect g x = b.view.read (Elt F) g (ix3 h (x 1) (x 2)) := by
  rw [View.readAt_apply]
  refine congrArg (b.view.read (Elt F) g) (funext fun a => Fin.ext ?_)
  have h0 : (x 0).val < 1 := (x 0).isLt
  show (![h.val, 0, 0] : Fin 3 → ℕ) a + 1 * (x a).val = _
  fin_cases a
  · show h.val + 1 * (x 0).val = h.val; omega
  · show 0 + 1 * (x 1).val = (x 1).val; omega
  · show 0 + 1 * (x 2).val = (x 2).val; omega

section
variable (c : Dev nD) (i : grid0.Coords)
  (T0 : Buf (Elt F) (tIdx.view.loc (c : Thread nD τ))) (T2 : Buf (Elt F) (tPage.view.loc (c : Thread nD τ)))
  (H : InRange c i T0 T2)
  (fk : Buf (Elt F) (bufK.view.loc (c : Thread nD τ))) (fv : Buf (Elt F) (bufV.view.loc (c : Thread nD τ)))
  (pk : Buf (Elt F) (poolK.view.loc (c : Thread nD τ))) (pv : Buf (Elt F) (poolV.view.loc (c : Thread nD τ)))

theorem loadK (gk : Buf (Elt F) (flatK.view.loc (c : Thread nD τ))) (h : Fin 2) (inb) (i0) (i1) (c0) (c1) :
    flatK.view.readAt (Elt F) (Rect.unit (s := S2x256x128) ![h.val, 0, 0] S1x256x128.size inb).toLoadRect
      ((planeOf flatK 1 i1).view.write (Elt F) ((planeOf flatK 0 i0).view.write (Elt F) gk
        (ReadAs.same.apply ((colOf bufK 0 c0).view.read (Elt F) (gotK c i T0 T2 H fk pk))) Finset.univ)
        (ReadAs.same.apply ((colOf bufK 1 c1).view.read (Elt F) (gotK c i T0 T2 H fk pk))) Finset.univ) = keys c i T0 T2 H pk h := by
  funext x
  rw [readAt_plane]
  match h with
  | 0 => exact (loaded_plane flatK gk _ _ i0 i1 (x 1) (x 2)).1.trans ((read_colOf bufK 0 c0 _ (x 1) (x 2)).trans (gotK_at c i T0 T2 H fk pk (x 1) 0 (x 2)))
  | 1 => exact (loaded_plane flatK gk _ _ i0 i1 (x 1) (x 2)).2.trans ((read_colOf bufK 1 c1 _ (x 1) (x 2)).trans (gotK_at c i T0 T2 H fk pk (x 1) 1 (x 2)))
theorem loadV (gv : Buf (Elt F) (flatV.view.loc (c : Thread nD τ))) (h : Fin 2) (inb) (i0) (i1) (c0) (c1) :
    flatV.view.readAt (Elt F) (Rect.unit (s := S2x256x128) ![h.val, 0, 0] S1x256x128.size inb).toLoadRect
      ((planeOf flatV 1 i1).view.write (Elt F) ((planeOf flatV 0 i0).view.write (Elt F) gv
        (ReadAs.same.apply ((colOf bufV 0 c0).view.read (Elt F) (gotV c i T0 T2 H fv pv))) Finset.univ)
        (ReadAs.same.apply ((colOf bufV 1 c1).view.read (Elt F) (gotV c i T0 T2 H fv pv))) Finset.univ) = vals c i T0 T2 H pv h := by
  funext x
  rw [readAt_plane]
  match h with
  | 0 => exact (loaded_plane flatV gv _ _ i0 i1 (x 1) (x 2)).1.trans ((read_colOf bufV 0 c0 _ (x 1) (x 2)).trans (gotV_at c i T0 T2 H fv pv (x 1) 0 (x 2)))
  | 1 => exact (loaded_plane flatV gv _ _ i0 i1 (x 1) (x 2)).2.trans ((read_colOf bufV 1 c1 _ (x 1) (x 2)).trans (gotV_at c i T0 T2 H fv pv (x 1) 1 (x 2)))

end

/-- Columns `o … o + 127` of the first row of a block of new rows. -/
def strip (w : Vec F S1x16x768 .f32) (o : ℕ) (ho : o + 128 ≤ 768) : Vec F S1x1x128 .f32 := fun y =>
  w (ix3 0 0 ⟨o + (y 2).val, by have h : (y 2).val < 128 := (y 2).isLt; omega⟩)

/-- A load of one of the six column strips of the first row of the block of new rows. -/
theorem load_strip (b : Memref sig .tc .vmem S1x16x768 .f32) (o : ℕ) (ho : o + 128 ≤ 768) (inb) (f : b.view.ty.Contents (Elt F)) :
    (b.view.readAt (Elt F) (Rect.unit (s := S1x16x768) ![0, 0, o] S1x1x128.size inb).toLoadRect f : Vec F S1x1x128 .f32)
      = strip (b.view.read (Elt F) f) o ho := by
  unfold strip
  funext y
  rw [View.readAt_apply]
  refine congrArg (b.view.read (Elt F) f) (funext fun a => Fin.ext ?_)
  have h0 : (y 0).val < 1 := (y 0).isLt
  have h1 : (y 1).val < 1 := (y 1).isLt
  show (![0, 0, o] : Fin 3 → ℕ) a + 1 * (y a).val = _
  fin_cases a
  · show 0 + 1 * (y 0).val = 0; omega
  · show 0 + 1 * (y 1).val = 0; omega
  · show o + 1 * (y 2).val = o + (y 2).val; omega

/-- A load of the whole block of queries. -/
theorem load_q (b : Memref sig .tc .vmem S1x8x128 .bf16) (inb) (f : b.view.ty.Contents (Elt F)) :
    (b.view.readAt (Elt F) (Rect.unit (s := S1x8x128) ![0, 0, 0] S1x8x128.size inb).toLoadRect f : Vec F S1x8x128 .bf16) = b.view.read (Elt F) f := by
  funext y
  rw [View.readAt_apply]
  refine congrArg (b.view.read (Elt F) f) (funext fun a => Fin.ext ?_)
  show (![0, 0, 0] : Fin 3 → ℕ) a + 1 * (y a).val = _
  fin_cases a <;> simp

/-- The output block of a point: the four query heads of key/value head 0, then those of head 1, from the length `n` of the
pooled prefix, the block of queries, the block of new rows, and the gathered rows. -/
def outOf (n : BitVec 32) (q : Vec F S1x8x128 .bf16) (w : Vec F S1x16x768 .f32) (K0 K1 V0 V1 : Vec F S1x256x128 .f32) : Vec F S1x8x128 .f32 := fun x =>
  if hx : (x 1).val < 4 then
    k0_pay9 (Scalar.cmpi .slt n 256#32) (k0_pay5 V0) (k0_pay6 (strip w 256 (by decide)))
      (k0_pay7 n q K0) (k0_pay8 q (strip w 0 (by decide))) (ix3 0 ⟨(x 1).val, hx⟩ (x 2))
  else
    k0_pay1 (k0_pay14 (k0_pay2 (F := F) n) (Scalar.cmpi .slt n 256#32) (k0_pay10 (k0_pay3 q)) (k0_pay11 K1) (k0_pay12 V1)
      (k0_pay13 (strip w 128 (by decide)))
      (strip w 384 (by decide)))
      (ix3 0 ⟨(x 1).val - 4, by have h : (x 1).val < 8 := (x 1).isLt; omega⟩ (x 2))

/-- The two stores of a point leave its output block. -/
theorem read_out (b : Memref sig .tc .vmem S1x8x128 .f32) (f : b.view.ty.Contents (Elt F)) (n : BitVec 32) (q : Vec F S1x8x128 .bf16) (w : Vec F S1x16x768 .f32)
    (K0 K1 V0 V1 k0 k1 v0 v1 : Vec F S1x256x128 .f32) (q' : Vec F S1x8x128 .bf16) (w0 w1 w2 w3 : Vec F S1x1x128 .f32) (inb4) (inb0)
    (hq : q' = q) (hk0 : k0 = K0) (hk1 : k1 = K1) (hv0 : v0 = V0) (hv1 : v1 = V1)
    (hw0 : w0 = strip w 0 (by decide))
    (hw1 : w1 = strip w 128 (by decide))
    (hw2 : w2 = strip w 256 (by decide))
    (hw3 : w3 = strip w 384 (by decide)) :
    b.view.read (Elt F) (b.view.writes (Elt F) f
      [⟨Rect.unit (s := S1x8x128) ![0, 4, 0] S1x4x128.size inb4, k0_pay1 (k0_pay14 (k0_pay2 (F := F) n) (Scalar.cmpi .slt n 256#32) (k0_pay10 (k0_pay3 q')) (k0_pay11 k1) (k0_pay12 v1) (k0_pay13 w1) w3)⟩,
       ⟨Rect.unit (s := S1x8x128) ![0, 0, 0] S1x4x128.size inb0, k0_pay9 (Scalar.cmpi .slt n 256#32) (k0_pay5 v0) (k0_pay6 w2) (k0_pay7 n q' k0) (k0_pay8 q' w0)⟩])
      = outOf n q w K0 K1 V0 V1 := by
  subst hq hk0 hk1 hv0 hv1 hw0 hw1 hw2 hw3
  funext x
  have h0 : (x 0).val < 1 := (x 0).isLt
  have h1 : (x 1).val < 8 := (x 1).isLt
  unfold outOf
  split
  · next hx =>
    refine (View.read_writes_cons_unit_of_not_mem b.view f inb4 _ _ x (off' := ![0, 4, 0]) rfl 1 (Or.inl hx)).trans ?_
    refine (View.read_writes_cons_unit_of_mem b.view f inb0 _ _ x (ix3 0 ⟨(x 1).val, hx⟩ (x 2)) (off' := ![0, 0, 0]) rfl ?_)
    intro a
    fin_cases a
    · show (x 0).val = 0 + 0; omega
    · show (x 1).val = 0 + (x 1).val; omega
    · show (x 2).val = 0 + (x 2).val; omega
  · next hx =>
    refine (View.read_writes_cons_unit_of_mem b.view f inb4 _ _ x (ix3 0 ⟨(x 1).val - 4, by omega⟩ (x 2)) (off' := ![0, 4, 0]) rfl ?_)
    intro a
    fin_cases a
    · show (x 0).val = 0 + 0; omega
    · show (x 1).val = 4 + ((x 1).val - 4); omega
    · show (x 2).val = 0 + (x 2).val; omega

end Cert.Attend
end
-- ==== Proof.AttendRun.lean ====
module

public import proofs.«01_k».proof.Proof.AttendGather

/-!
One grid point of `sample_attend`, run: the gather, the copies that lay the gathered rows out by key/value head, and the
attention of the sample's eight query heads over them.
-/

@[expose] public section

set_option maxRecDepth 65536

noncomputable section

namespace Cert.Attend

open Cert.KernelIdeal Cert.KernelIdeal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

theorem storable_piece (ℓ : Loc nD τ sig) (I : Finset (Idx ℓ)) (q : PosShare TreeShare) (f : Buf (Elt F) ℓ) :
    BI.Storable (upEmb : UEmb _ 𝕄) (ℓ ↦[I]{q} f : sProp 𝕄) := inferInstance

instance storable_back (c : Dev nD) (i : grid0.Coords)
    (T0 : Buf (Elt F) (tIdx.view.loc (c : Thread nD τ))) (T2 : Buf (Elt F) (tPage.view.loc (c : Thread nD τ)))
    (H : InRange c i T0 T2) (b : Memref sig .tc .vmem S256x2x128 .f32) (a : Memref sig .tc .hbm S1x1280x128x2x128 .f32)
    (fb : Buf (Elt F) (b.view.loc (c : Thread nD τ))) (fa : Buf (Elt F) (a.view.loc (c : Thread nD τ))) (k : Fin NR) :
    BI.Storable (upEmb (nD := nD) (τ := τ) (sig := sig) (Ix := Unit) (Val := Elt F) (Name := ℕ) (U := Pipeline.UD sig nD τ) (Lvl := ℕ)) (back c i T0 T2 H b a fb fa k) := by
  have h1 : BI.Storable (upEmb : UEmb _ 𝕄) (landed c i T0 T2 H b a fb fa k) := storable_piece (F := F) _ _ _ _
  have h2 : BI.Storable (upEmb : UEmb _ 𝕄) (lent c i T0 T2 H a fa k) := storable_piece (F := F) _ _ _ _
  exact BI.Storable.sep _ _ _

theorem all_back (c : Dev nD) (i : grid0.Coords)
  (T0 : Buf (Elt F) (tIdx.view.loc (c : Thread nD τ))) (T2 : Buf (Elt F) (tPage.view.loc (c : Thread nD τ)))
  (H : InRange c i T0 T2)
  (fk : Buf (Elt F) (bufK.view.loc (c : Thread nD τ))) (fv : Buf (Elt F) (bufV.view.loc (c : Thread nD τ)))
  (pk : Buf (Elt F) (poolK.view.loc (c : Thread nD τ))) (pv : Buf (Elt F) (poolV.view.loc (c : Thread nD τ))) (q : PosShare TreeShare) (acc : Unit) :
    drainAt c i T0 T2 H fk fv pk pv q NR acc ⊢
      iprop((∃ W, owes (c : Thread nD τ) 0 W) ∗ (tIdx.view.loc (c : Thread nD τ) ↦{q} T0) ∗ (tPage.view.loc (c : Thread nD τ) ↦{q} T2)
        ∗ semVal ((c : Thread nD τ), SemLoc.dma 6) 0 ∗ semVal ((c : Thread nD τ), SemLoc.dma 7) 0
        ∗ (bufK.view.loc (c : Thread nD τ) ↦{fullShare} gotK c i T0 T2 H fk pk) ∗ (bufV.view.loc (c : Thread nD τ) ↦{fullShare} gotV c i T0 T2 H fv pv)
        ∗ bigSep Finset.univ (lent c i T0 T2 H poolK pk) ∗ bigSep Finset.univ (lent c i T0 T2 H poolV pv)) := by
  unfold drainAt
  rw [if_neg (Nat.lt_irrefl _)]
  iintro ⟨-, HO, H0, H2, ⟨H6, HK⟩, H7, HV⟩
  ihave HK' := (show bigSep Finset.univ (back c i T0 T2 H bufK poolK fk pk)
      ⊢ iprop(bigSep Finset.univ (landed c i T0 T2 H bufK poolK fk pk) ∗ bigSep Finset.univ (lent c i T0 T2 H poolK pk))
    from Entails.of_eq (BI.bigSep_sep _ _ _)) $$ HK
  ihave HV' := (show bigSep Finset.univ (back c i T0 T2 H bufV poolV fv pv)
      ⊢ iprop(bigSep Finset.univ (landed c i T0 T2 H bufV poolV fv pv) ∗ bigSep Finset.univ (lent c i T0 T2 H poolV pv))
    from Entails.of_eq (BI.bigSep_sep _ _ _)) $$ HV
  icases HK' with ⟨HK, HLk⟩
  icases HV' with ⟨HV, HLv⟩
  isplitl [HO]; · iexact HO
  isplitl [H0]; · iexact H0
  isplitl [H2]; · iexact H2
  isplitl [H6]; · iexact H6
  isplitl [H7]; · iexact H7
  isplitl [HK]; · iapply (joinK c i T0 T2 H fk pk); iexact HK
  isplitl [HV]; · iapply (joinV c i T0 T2 H fv pv); iexact HV
  isplitl [HLk]; · iexact HLk
  iexact HLv

theorem all_issued (c : Dev nD) (i : grid0.Coords)
  (T0 : Buf (Elt F) (tIdx.view.loc (c : Thread nD τ))) (T2 : Buf (Elt F) (tPage.view.loc (c : Thread nD τ)))
  (H : InRange c i T0 T2)
  (fk : Buf (Elt F) (bufK.view.loc (c : Thread nD τ))) (fv : Buf (Elt F) (bufV.view.loc (c : Thread nD τ)))
  (pk : Buf (Elt F) (poolK.view.loc (c : Thread nD τ))) (pv : Buf (Elt F) (poolV.view.loc (c : Thread nD τ))) (q : PosShare TreeShare) (acc : Unit) :
    issueAt c i T0 T2 H fk fv pk pv q NR acc ⊢
      iprop((tIdx.view.loc (c : Thread nD τ) ↦{q} T0) ∗ (tPage.view.loc (c : Thread nD τ) ↦{q} T2)
        ∗ batchK c i T0 T2 H fk pk NR 0 ∗ batchV c i T0 T2 H fv pv NR 0) := by
  unfold issueAt
  iintro ⟨H0, H2, HK, HV, -⟩
  isplitl [H0]; · iexact H0
  isplitl [H2]; · iexact H2
  isplitl [HK]; · iexact HK
  iexact HV

/-- The length of the pooled prefix of point `i`. -/
def nPool (c : Dev nD) (i : grid0.Coords) (T1 : Buf (Elt F) (tPool.view.loc (c : Thread nD τ))) : BitVec 32 :=
  View.readAt (Elt F) tPool.view (Rect.unit (s := S8) (k0_off11 i) S1.size (k0_off11_inb i)).toLoadRect T1
    (Shape.Idx.first (numel1_S1.symm ▸ Nat.one_pos))

/-- What point `i` leaves in its output block. -/
def block (c : Dev nD) (i : grid0.Coords)
    (T0 : Buf (Elt F) (tIdx.view.loc (c : Thread nD τ))) (T1 : Buf (Elt F) (tPool.view.loc (c : Thread nD τ))) (T2 : Buf (Elt F) (tPage.view.loc (c : Thread nD τ)))
    (H : InRange c i T0 T2)
    (pk : Buf (Elt F) (poolK.view.loc (c : Thread nD τ))) (pv : Buf (Elt F) (poolV.view.loc (c : Thread nD τ)))
    (d4 : Vec F S1x8x128 .bf16) (d5 : Vec F S1x16x768 .f32) : Vec F S1x8x128 .f32 :=
  outOf (nPool c i T1) d4 d5 (keys c i T0 T2 H pk 0) (keys c i T0 T2 H pk 1) (vals c i T0 T2 H pv 0) (vals c i T0 T2 H pv 1)

theorem kernelRun (c : Dev nD) (i : grid0.Coords)
    (T0 : Buf (Elt F) (tIdx.view.loc (c : Thread nD τ))) (T1 : Buf (Elt F) (tPool.view.loc (c : Thread nD τ))) (T2 : Buf (Elt F) (tPage.view.loc (c : Thread nD τ)))
    (H : InRange c i T0 T2) (q : PosShare TreeShare)
    (pk : Buf (Elt F) (poolK.view.loc (c : Thread nD τ))) (pv : Buf (Elt F) (poolV.view.loc (c : Thread nD τ)))
    (arg4 : Memref sig .tc .vmem S1x8x128 .bf16) (harg4 : arg4.IsWhole) (arg5 : Memref sig .tc .vmem S1x16x768 .f32) (harg5 : arg5.IsWhole)
    (arg8 : Memref sig .tc .vmem S1x8x128 .f32) (harg8 : arg8.IsWhole)
    (d4 : Vec F S1x8x128 .bf16) (d5 : Vec F S1x16x768 .f32) (W : Waits sig Unit) (K : PUnit → sProp 𝕄) :
    iprop((tIdx.view.loc (c : Thread nD τ) ↦{q} T0) ∗ (tPool.view.loc (c : Thread nD τ) ↦{q} T1) ∗ (tPage.view.loc (c : Thread nD τ) ↦{q} T2)
        ∗ owns (c : Thread nD τ) arg4 fullShare d4 ∗ owns (c : Thread nD τ) arg5 fullShare d5 ∗ (∃ d, owns (c : Thread nD τ) arg8 fullShare d)
        ∗ (poolK.view.loc (c : Thread nD τ) ↦{fullShare} pk) ∗ (poolV.view.loc (c : Thread nD τ) ↦{fullShare} pv)
        ∗ (∃ f, bufK.view.loc (c : Thread nD τ) ↦{fullShare} f) ∗ (∃ f, bufV.view.loc (c : Thread nD τ) ↦{fullShare} f)
        ∗ (∃ f, flatK.view.loc (c : Thread nD τ) ↦{fullShare} f) ∗ (∃ f, flatV.view.loc (c : Thread nD τ) ↦{fullShare} f)
        ∗ semVal ((c : Thread nD τ), SemLoc.dma 6) 0 ∗ semVal ((c : Thread nD τ), SemLoc.dma 7) 0
        ∗ semVal ((c : Thread nD τ), SemLoc.dma 8) 0 ∗ semVal ((c : Thread nD τ), SemLoc.dma 9) 0
        ∗ owes (c : Thread nD τ) 0 W
        ∗ (iprop((tIdx.view.loc (c : Thread nD τ) ↦{q} T0) ∗ (tPool.view.loc (c : Thread nD τ) ↦{q} T1) ∗ (tPage.view.loc (c : Thread nD τ) ↦{q} T2)
        ∗ owns (c : Thread nD τ) arg4 fullShare d4 ∗ owns (c : Thread nD τ) arg5 fullShare d5 ∗ owns (c : Thread nD τ) arg8 fullShare (block c i T0 T1 T2 H pk pv d4 d5)
        ∗ (poolK.view.loc (c : Thread nD τ) ↦{fullShare} pk) ∗ (poolV.view.loc (c : Thread nD τ) ↦{fullShare} pv)
        ∗ (∃ f, bufK.view.loc (c : Thread nD τ) ↦{fullShare} f) ∗ (∃ f, bufV.view.loc (c : Thread nD τ) ↦{fullShare} f)
        ∗ (∃ f, flatK.view.loc (c : Thread nD τ) ↦{fullShare} f) ∗ (∃ f, flatV.view.loc (c : Thread nD τ) ↦{fullShare} f)
        ∗ semVal ((c : Thread nD τ), SemLoc.dma 6) 0 ∗ semVal ((c : Thread nD τ), SemLoc.dma 7) 0
        ∗ semVal ((c : Thread nD τ), SemLoc.dma 8) 0 ∗ semVal ((c : Thread nD τ), SemLoc.dma 9) 0
        ∗ ∃ W', owes (c : Thread nD τ) 0 W') -∗ K ⟨⟩))
      ⊢ wp frame (wpE (defs₀ (F := F)) Variants.none (c : Thread nD τ) none) Set.univ
          (cc0_sample_attend i tIdx (Memref.isWhole_whole _) tPool (Memref.isWhole_whole _) tPage (Memref.isWhole_whole _) arg4 harg4 arg5 harg5
            poolK (Memref.isWhole_whole _) poolV (Memref.isWhole_whole _) arg8 harg8 bufK (Memref.isWhole_whole _) bufV (Memref.isWhole_whole _)
            flatK (Memref.isWhole_whole _) flatV (Memref.isWhole_whole _) cc0_scratch4) K := by
  sl_unfold [cc0_sample_attend]
  unfold owns
  iintro ⟨H0, H1, H2, ⟨%f4, %h4, H4⟩, ⟨%f5, %h5, H5⟩, ⟨%d8, %f8, -, H8⟩, HPk, HPv, ⟨%fk, HK⟩, ⟨%fv, HV⟩, ⟨%gk, HFk⟩, ⟨%gv, HFv⟩, H6, H7, Hq8, Hq9, HO, Hk⟩
  ihave HKr := (rowsK c fk) $$ HK
  ihave HVr := (rowsV c fv) $$ HV
  ihave HPk' := (lendK c i T0 T2 H pk) $$ HPk
  ihave HPv' := (lendV c i T0 T2 H pv) $$ HPv
  icases HPk' with ⟨HPk, HLk⟩
  icases HPv' with ⟨HPv, HLv⟩
  imod (Transfers.batch_alloc' (Lvl := ℕ) (countersEmb (U := Pipeline.UD sig nD τ)) (c : Thread nD τ) () 32 (back c i T0 T2 H bufK poolK fk pk) (sm := .dma 6) (E := Set.univ)) $$ H6 with HBk
  imod (Transfers.batch_alloc' (Lvl := ℕ) (countersEmb (U := Pipeline.UD sig nD τ)) (c : Thread nD τ) () 32 (back c i T0 T2 H bufV poolV fv pv) (sm := .dma 7) (E := Set.univ)) $$ H7 with HBv
  sl_exec
  sl_for (issueAt c i T0 T2 H fk fv pk pv q) $$ [H0 H2 HBk HBv HKr HVr HLk HLv]
  · intro k acc; exact issue_step c i T0 T2 H fk fv pk pv q arg4 harg4 arg5 harg5 arg8 harg8 k acc
  · unfold issueAt
    isplitl [H0]; · iexact H0
    isplitl [H2]; · iexact H2
    isplitl [HBk]; · iexact HBk
    isplitl [HBv]; · iexact HBv
    isplitl [HKr]; · iexact HKr
    isplitl [HVr]; · iexact HVr
    isplitl [HLk]; · iexact HLk
    iexact HLv
  iintro %acc HL
  ihave HL' := (all_issued c i T0 T2 H fk fv pk pv q acc) $$ HL
  icases HL' with ⟨H0, H2, HBk, HBv⟩
  sl_exec
  sl_for (drainAt c i T0 T2 H fk fv pk pv q) $$ [HO H0 H2 HBk HBv]
  · intro k acc; exact drain_step c i T0 T2 H fk fv pk pv q arg4 harg4 arg5 harg5 arg8 harg8 k acc
  · unfold drainAt
    rw [if_pos (by decide +kernel : 0 < NR)]
    isplitr; · ipureintro; exact Nat.zero_le _
    isplitl [HO]; · iexists W; iexact HO
    isplitl [H0]; · iexact H0
    isplitl [H2]; · iexact H2
    isplitl [HBk]; · iexact HBk
    iexact HBv
  iintro %acc' HL
  ihave HL' := (all_back c i T0 T2 H fk fv pk pv q acc') $$ HL
  icases HL' with ⟨⟨%W1, HO⟩, H0, H2, H6, H7, HK, HV, HLk, HLv⟩
  ihave HPk := (homeK c i T0 T2 H pk) $$ [HPk HLk]
  · isplitl [HPk] <;> iassumption
  ihave HPv := (homeV c i T0 T2 H pv) $$ [HPv HLv]
  · isplitl [HPv] <;> iassumption
  have plan8 : Transfers.BatchOf (c : Thread nD τ) (SemLoc.dma (sig := sig) 8) 2 (windows := true) := trivial
  have plan9 : Transfers.BatchOf (c : Thread nD τ) (SemLoc.dma (sig := sig) 9) 2 (windows := true) := trivial
  sl_exec
  sl_step
  iapply Hk
  isplitl [H0]; · iexact H0
  isplitl [H1]; · iexact H1
  isplitl [H2]; · iexact H2
  isplitl [H4]; · iexists f4; isplitr; ipureintro; exact h4; iexact H4
  isplitl [H5]; · iexists f5; isplitr; ipureintro; exact h5; iexact H5
  isplitl [H8]
  · iexists _; isplitr; swap
    · iexact H8
    · ipureintro
      refine (read_out arg8 f8 (nPool c i T1) d4 d5 (keys c i T0 T2 H pk 0) (keys c i T0 T2 H pk 1) (vals c i T0 T2 H pv 0) (vals c i T0 T2 H pv 1) _ _ _ _ _ _ _ _ _ _ _
        ?_ ?_ ?_ ?_ ?_ ?_ ?_ ?_ ?_)
      · exact (load_q arg4 _ f4).trans h4
      · exact loadK c i T0 T2 H fk pk gk 0 _ _ _ _ _
      · exact loadK c i T0 T2 H fk pk gk 1 _ _ _ _ _
      · exact loadV c i T0 T2 H fv pv gv 0 _ _ _ _ _
      · exact loadV c i T0 T2 H fv pv gv 1 _ _ _ _ _
      · exact (load_strip arg5 0 (by decide) _ f5).trans (congrArg (strip · 0 (by decide)) h5)
      · exact (load_strip arg5 128 (by decide) _ f5).trans (congrArg (strip · 128 (by decide)) h5)
      · exact (load_strip arg5 256 (by decide) _ f5).trans (congrArg (strip · 256 (by decide)) h5)
      · exact (load_strip arg5 384 (by decide) _ f5).trans (congrArg (strip · 384 (by decide)) h5)
  isplitl [HPk]; · iexact HPk
  isplitl [HPv]; · iexact HPv
  isplitl [HK]; · iexists _; iexact HK
  isplitl [HV]; · iexists _; iexact HV
  isplitl [HFk]; · iexists _; iexact HFk
  isplitl [HFv]; · iexists _; iexact HFv
  isplitl [H6]; · iexact H6
  isplitl [H7]; · iexact H7
  isplitl [Hq8]; · iexact Hq8
  isplitl [Hq9]; · iexact Hq9
  iexists _; iexact HO

end Cert.Attend
end
-- ==== Proof.AttendLaunch.lean ====
module

public import proofs.«01_k».proof.Proof.AttendRun
public import Idealize.ShloMosaic.Lib.Pipeline.Frame
public import Idealize.ShloMosaic.Lib.Pipeline.FrameBody

/-!
The eight grid points of `sample_attend` under the pipeline that stages their queries, their new rows and their results:
the run of the whole program, from any memory whose tables name rows that exist.
-/

@[expose] public section

set_option maxRecDepth 65536

noncomputable section

namespace Cert.Attend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-- The three tables as the launch finds them, and the pipeline at those tables. -/
def tables : pre0.Contents (Elt F) := fun k => m (((0 : Dev nD).tc : Thread nD τ).loc (pre0.ref k))
def adm : (pcfg0 (F := F)).Adm := ⟨tables m, trivial⟩
abbrev cf : Pipeline.Cfg sig Λ₀ := cfg0 (adm m)

/-- The unscoped buffers at launch. -/
abbrev V (c : Dev nD) (b : Ref sig .tc) : Buf (Elt F) ((c : Thread nD τ).loc b) := m ((c : Thread nD τ).loc b)

/-- The block of window `w`'s array at point `t`. -/
def iblk (c : Dev nD) (w : Fin (cf m).W) (t : Fin (cf m).N) : (((cf m).win w).xblock ((cf m).grid.coords t)).Idx → Elt F ((cf m).win w).elt :=
  (((cf m).win w).blk t).view.read (Elt F) (V m c (Pipeline.arrRef spec0 w))

/-- Every point's slots and pages exist. -/
abbrev TablesOk : Prop := ∀ (c : Dev nD) (t : Fin (cf m).N), InRange (F := F) c (grid0.coords t) (tables m 0) (tables m 2)

variable (hr : TablesOk m)

/-- What the point leaves of its result. -/
def result (c : Dev nD) (t : Fin (cf m).N) : Vec F S1x8x128 .f32 :=
  block c (grid0.coords t) (tables m 0) (tables m 1) (tables m 2) (hr c t) (V m c main_arg5) (V m c main_arg6) (iblk m c 0 t) (iblk m c 1 t)

/-- The four semaphores the gather and the head copies signal. -/
abbrev osem : Fin 4 → SemLoc sig := fun j => (![SemLoc.dma 6, SemLoc.dma 7, SemLoc.dma 8, SemLoc.dma 9] : Fin 4 → SemLoc sig) j
theorem osem_facts : Pipeline.OwnSemFacts spec0 osem := by decide

theorem osems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 6) 0 ∗ semVal ((c : Thread nD τ), SemLoc.dma 7) 0
        ∗ semVal ((c : Thread nD τ), SemLoc.dma 8) 0 ∗ semVal ((c : Thread nD τ), SemLoc.dma 9) 0) := by
  rw [Pipeline.ownSems0_eq_of_list c osem [0, 1, 2, 3] (by decide) (by decide)]; rfl

/-- The two pools stay where they are. -/
def pools : Finset (Ref sig .tc) := {main_arg5, main_arg6}
theorem pools_sub : pools ⊆ Pipeline.restRefsP sig pre0 spec0 := by decide

theorem pools_eq (c : Dev nD) :
    (bigSep pools (fun b => ((c : Thread nD τ).loc b) ↦{fullShare} V m c b) : sProp 𝕄)
      = iprop((poolK.view.loc (c : Thread nD τ) ↦{fullShare} V m c main_arg5) ∗ (poolV.view.loc (c : Thread nD τ) ↦{fullShare} V m c main_arg6)) := by
  rw [BI.bigSep_eq_bigSepL_of_eq [main_arg5, main_arg6] (by decide) (by decide)]; rfl

theorem tables_eq (c : Dev nD) :
    (Pipeline.ΦT (Val := Elt F) pre0 (tables m) c : sProp 𝕄)
      = iprop((tIdx.view.loc (c : Thread nD τ) ↦{fullShare.right} tables m 0) ∗ (tPool.view.loc (c : Thread nD τ) ↦{fullShare.right} tables m 1)
        ∗ (tPage.view.loc (c : Thread nD τ) ↦{fullShare.right} tables m 2)) := by
  unfold Pipeline.ΦT Pipeline.prefHeld
  exact bigSep_univ_eq_bigSepL [(0 : Fin 3), (1 : Fin 3), (2 : Fin 3)] (by decide) (by decide) _

theorem held_eq (c : Dev nD) :
    (Pipeline.ΦD osem spec0 pools (V m) c : sProp 𝕄)
      = iprop(iprop((∃ f, bufK.view.loc (c : Thread nD τ) ↦{fullShare} f) ∗ (∃ f, bufV.view.loc (c : Thread nD τ) ↦{fullShare} f)
          ∗ (∃ f, flatK.view.loc (c : Thread nD τ) ↦{fullShare} f) ∗ (∃ f, flatV.view.loc (c : Thread nD τ) ↦{fullShare} f))
        ∗ (∃ r, prngReg c r)
        ∗ iprop(semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0)
        ∗ iprop((poolK.view.loc (c : Thread nD τ) ↦{fullShare} V m c main_arg5) ∗ (poolV.view.loc (c : Thread nD τ) ↦{fullShare} V m c main_arg6))) := by
  rw [Pipeline.ΦD_eq, scopedRest0_eq, osems_eq, pools_eq]

/-- The pipeline's data: the arrays as launched; each input left at its block, the result at `result`. -/
def dats (_ : Fin 1) (c : Dev nD) : Dat τ (Elt F) Unit ℕ (Pipeline.UD sig nD τ) ℕ (cf m) c where
  A w := V m c (Pipeline.arrRef spec0 w)
  after w t := match w with
    | ⟨0, _⟩ => iblk m c 0 t
    | ⟨1, _⟩ => iblk m c 1 t
    | ⟨2, _⟩ => result m hr c t
  Φ _ := iprop(Pipeline.ΦD osem spec0 pools (V m) c ∗ Pipeline.ΦT (Val := Elt F) pre0 (tables m) c)
  q _ := fullShare
  owed _ := 0

theorem A_eq (c : Dev nD) (w : Fin (cf m).W) : (dats m hr 0 c).A w = V m c (Pipeline.arrRef spec0 w) := by
  dsimp only [dats]
theorem after0_0 (c : Dev nD) (t : Fin (cf m).N) : (dats m hr 0 c).after 0 t = iblk m c 0 t := rfl
theorem after0_1 (c : Dev nD) (t : Fin (cf m).N) : (dats m hr 0 c).after 1 t = iblk m c 1 t := rfl
theorem after0_2 (c : Dev nD) (t : Fin (cf m).N) : (dats m hr 0 c).after 2 t = result m hr c t := rfl

theorem before0_0 (c : Dev nD) (t : Fin (cf m).N) (d) : (dats m hr 0 c).before 0 t d = iblk m c 0 t :=
  ((dats m hr 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cf m).N) (d) : (dats m hr 0 c).before 1 t d = iblk m c 1 t :=
  ((dats m hr 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## One point under the pipeline -/

abbrev ms0 (t : Fin (cf m).N) : Memref sig .tc .vmem S1x8x128 .bf16 := spec0_0.stage ((cf m).slots t 0)
abbrev hs0 (t : Fin (cf m).N) : (ms0 m t).IsWhole := hstage0_0 (((cf m).slots t 0).cast nbuf0_0)
abbrev ms1 (t : Fin (cf m).N) : Memref sig .tc .vmem S1x16x768 .f32 := spec0_1.stage ((cf m).slots t 1)
abbrev hs1 (t : Fin (cf m).N) : (ms1 m t).IsWhole := hstage0_1 (((cf m).slots t 1).cast nbuf0_1)
abbrev ms2 (t : Fin (cf m).N) : Memref sig .tc .vmem S1x8x128 .f32 := spec0_2.stage ((cf m).slots t 2)
abbrev hs2 (t : Fin (cf m).N) : (ms2 m t).IsWhole := hstage0_2 (((cf m).slots t 2).cast nbuf0_2)

/-- The body at the point. -/
abbrev bodyAt (t : Fin (cf m).N) : Prog (TpuEff nD τ sig (Elt F) Λ₀ .tc) PUnit :=
  cc0_sample_attend (grid0.coords t) tIdx (Memref.isWhole_whole _) tPool (Memref.isWhole_whole _) tPage (Memref.isWhole_whole _)
    (ms0 m t) (hs0 m t) (ms1 m t) (hs1 m t) poolK (Memref.isWhole_whole _) poolV (Memref.isWhole_whole _) (ms2 m t) (hs2 m t)
    bufK (Memref.isWhole_whole _) bufV (Memref.isWhole_whole _) flatK (Memref.isWhole_whole _) flatV (Memref.isWhole_whole _) cc0_scratch4

def bodyPre (c : Dev nD) (t : Fin (cf m).N) : sProp 𝕄 :=
  iprop((dats m hr 0 c).Φ t.castSucc ∗ (dats m hr 0 c).owesAt () t.castSucc
    ∗ (∃ d, owns (c : Thread nD τ) (ms0 m t) fullShare ((dats m hr 0 c).before 0 t d))
    ∗ (∃ d, owns (c : Thread nD τ) (ms1 m t) fullShare ((dats m hr 0 c).before 1 t d))
    ∗ (∃ d, owns (c : Thread nD τ) (ms2 m t) fullShare ((dats m hr 0 c).before 2 t d)))

def bodyPost (c : Dev nD) (t : Fin (cf m).N) : sProp 𝕄 :=
  iprop((dats m hr 0 c).Φ t.succ ∗ (dats m hr 0 c).owesAt () t.succ
    ∗ owns (c : Thread nD τ) (ms0 m t) fullShare ((dats m hr 0 c).after 0 t)
    ∗ owns (c : Thread nD τ) (ms1 m t) fullShare ((dats m hr 0 c).after 1 t)
    ∗ owns (c : Thread nD τ) (ms2 m t) fullShare ((dats m hr 0 c).after 2 t))

theorem sound_body (c : Dev nD) (t : Fin (cf m).N) :
    bodyPre m hr c t ⊢ wp frame (wpE (defs₀ (F := F)) Variants.none c none) Set.univ (bodyAt m t) (fun _ => bodyPost m hr c t) := by
  unfold bodyPre bodyPost bodyAt
  simp only [before0_0, before0_1]
  rw [show (dats m hr 0 c).Φ t.succ = (dats m hr 0 c).Φ t.castSucc from rfl,
    show (dats m hr 0 c).owesAt () t.succ = (dats m hr 0 c).owesAt () t.castSucc from rfl,
    after0_0, after0_1, after0_2]
  rw [show (dats m hr 0 c).Φ t.castSucc = iprop(Pipeline.ΦD osem spec0 pools (V m) c ∗ Pipeline.ΦT (Val := Elt F) pre0 (tables m) c) from rfl, held_eq, tables_eq]
  unfold Dat.owesAt Pipeline.owesWithin
  rw [show (dats m hr 0 c).owed t.castSucc = 0 from rfl]
  unfold result
  iintro ⟨⟨⟨⟨HbK, HbV, HfK, HfV⟩, Hg, ⟨Hq6, Hq7, Hq8, Hq9⟩, ⟨HpK, HpV⟩⟩, ⟨Ht0, Ht1, Ht2⟩⟩, ⟨%W, %hW, HO⟩, ⟨%d0, H0⟩, ⟨%d1, H1⟩, ⟨%d2, H2⟩⟩
  iapply (kernelRun c (grid0.coords t) (tables m 0) (tables m 1) (tables m 2) (hr c t) fullShare.right (V m c main_arg5) (V m c main_arg6)
    (ms0 m t) (hs0 m t) (ms1 m t) (hs1 m t) (ms2 m t) (hs2 m t) (iblk m c 0 t) (iblk m c 1 t) W _)
  isplitl [Ht0]; · iexact Ht0
  isplitl [Ht1]; · iexact Ht1
  isplitl [Ht2]; · iexact Ht2
  isplitl [H0]; · iexact H0
  isplitl [H1]; · iexact H1
  isplitl [H2]; · iexists _; iexact H2
  isplitl [HpK]; · iexact HpK
  isplitl [HpV]; · iexact HpV
  isplitl [HbK]; · iexact HbK
  isplitl [HbV]; · iexact HbV
  isplitl [HfK]; · iexact HfK
  isplitl [HfV]; · iexact HfV
  isplitl [Hq6]; · iexact Hq6
  isplitl [Hq7]; · iexact Hq7
  isplitl [Hq8]; · iexact Hq8
  isplitl [Hq9]; · iexact Hq9
  isplitl [HO]; · iexact HO
  iintro ⟨Ht0, Ht1, Ht2, H0, H1, H2, HpK, HpV, HbK, HbV, HfK, HfV, Hq6, Hq7, Hq8, Hq9, ⟨%W', HO⟩⟩
  isplitl [Ht0 Ht1 Ht2 HpK HpV HbK HbV HfK HfV Hq6 Hq7 Hq8 Hq9 Hg]
  · isplitr [Ht0 Ht1 Ht2]
    · isplitl [HbK HbV HfK HfV]
      · isplitl [HbK]; · iexact HbK
        isplitl [HbV]; · iexact HbV
        isplitl [HfK]; · iexact HfK
        iexact HfV
      isplitl [Hg]; · iexact Hg
      isplitl [Hq6 Hq7 Hq8 Hq9]
      · isplitl [Hq6]; · iexact Hq6
        isplitl [Hq7]; · iexact Hq7
        isplitl [Hq8]; · iexact Hq8
        iexact Hq9
      isplitl [HpK]; · iexact HpK
      iexact HpV
    isplitl [Ht0]; · iexact Ht0
    isplitl [Ht1]; · iexact Ht1
    iexact Ht2
  isplitl [HO]
  · iexists W'; isplitr; · ipureintro; exact fun _ _ => Or.inl trivial
    iexact HO
  isplitl [H0]; · iexact H0
  isplitl [H1]; · iexact H1
  iexact H2

theorem defs₀_row (t : Fin (cf m).N) : defs₀ (F := F) .tc (cf m).body ((cf m).bodyArgs t ((cf m).slots t)) = bodyAt m t := by
  unfold defs₀; rw [Defs.onTc_tc]

theorem body_obligation (c : Dev nD) : BodyObligation (dats m hr 0 c) (defs₀ (F := F)) Variants.none () Set.univ := fun t => by
  rw [bigSep_W0, bigSep_W0, defs₀_row]
  exact triple_restated (sound_body m hr c t) rfl .rfl fun _ => .rfl

/-! ## The run -/

set_option backward.isDefEq.respectTransparency.types false in
theorem run_main :
    θ_run defs (onTc (τ := τ) (main (F := F))) (s₀ m ρ)
      (fun r => Pipeline.FramePost (Pipeline.pin (pcfgs (F := F)) fun _ => adm m) (dats m hr) 0 (V m) r ∧ r.2.sem = fun _ => 0) :=
  Pipeline.θ_run_frameP_dma (Q' := _) pcfgs (fun _ => adm m) (dats m hr) (0 : Fin 1) launch0 osem defs₀ Variants.none osem_facts pools pools_sub m ρ main
    (hbody := fun c => (body_obligation m hr c).loose) (hshare := fun c => (dats m hr 0 c).share_full fun _ => rfl)
    (howed := fun _ _ => rfl) (V := V m) (hmain := Pipeline.hmainP_region pcfgs 0 defs₀ Variants.none m main fun c => (main_chain c).trans rfl) (hA := A_eq m hr)
    (hpf := fun c k => by obtain rfl : c = 0 := Subsingleton.elim _ _; rfl)
    (hin := fun _ => .rfl) (hout := fun c => by
      show iprop(Pipeline.ΦD osem spec0 pools (V m) c ∗ Pipeline.ΦT (Val := Elt F) pre0 (tables m) c) ⊢ _
      iintro ⟨HD, -⟩; iexact HD)

end Cert.Attend

end
-- ==== Proof.AttendRange.lean ====
module

public import proofs.«01_k».proof.Proof.AttendLaunch
public import proofs.«01_k».proof.Proof.Gen.Pre_ranges
public import Idealize.ShloMosaic.Lib.ReduceAll
public import Idealize.ShloMosaic.Lib.Affine
public import Idealize.ShloMosaic.Lib.StableHlo.Predicate

/-!
What the precondition says of the tables: every slot is one of 16384, every page one of 1280, and a sample has 255 or 256
of its rows in the pools. So every row the gather names exists.
-/

@[expose] public section

set_option maxRecDepth 65536

noncomputable section

namespace Cert.Attend

open Cert.KernelIdeal Cert.KernelIdeal.Gen
open Idealize.ShloMosaic Idealize.ShloMosaic.TcCoe

variable {F : FTy → Type} [FloatOps F]

theorem word_lt (a n : BitVec 32) (hn : n.toNat < 2 ^ 31) (h : IntOp.cmpi .sge a 0#32 = 1#1) (h' : IntOp.cmpi .slt a n = 1#1) : a.toNat < n.toNat := by
  simp only [IntOp.cmpi, StableHlo.Predicate.ofBool_eq_one_iff, BitVec.sle, BitVec.slt, decide_eq_true_eq, BitVec.toInt_eq_toNat_cond] at h h'
  have := a.isLt
  simp only [BitVec.toNat_ofNat] at h
  split at h <;> split at h' <;> omega

theorem word_255_256 (a : BitVec 32) (h : IntOp.cmpi .sge a 255#32 = 1#1) (h' : IntOp.cmpi .sle a 256#32 = 1#1) : a = 255#32 ∨ a = 256#32 := by
  simp only [IntOp.cmpi, StableHlo.Predicate.ofBool_eq_one_iff, BitVec.sle, decide_eq_true_eq, BitVec.toInt_eq_toNat_cond, BitVec.toNat_ofNat] at h h'
  have := a.isLt
  have e : a.toNat = 255 ∨ a.toNat = 256 := by split at h <;> split at h' <;> omega
  exact e.imp (fun e => BitVec.eq_of_toNat_eq e) (fun e => BitVec.eq_of_toNat_eq e)

theorem ranges_said (a0 : IVec S8x256 32) (a1 : IVec S8 32) (a2 : IVec S8x128 32) (a3 : FVec F S8x8x128 .bf16) (a4 : FVec F S8x16x768 .f32)
    (a5 a6 : FVec F S1x1280x128x2x128 .f32) (h : Cert.Pre_ranges.fn (F := F) a0 a1 a2 a3 a4 a5 a6 = fun _ => 1#1) :
    (∀ x, (a0 x).toNat < 16384) ∧ (∀ x, a1 x = 255#32 ∨ a1 x = 256#32) ∧ ∀ x, (a2 x).toNat < 1280 := by
  have e := congrFun h (Shape.Idx.first (by decide))
  obtain ⟨e01, e2⟩ := IntOp.andi_eq_one.1 e
  obtain ⟨e0, e1⟩ := IntOp.andi_eq_one.1 e01
  refine ⟨fun x => ?_, fun x => ?_, fun x => ?_⟩
  · have g := Host.reduce_andi_all _ _ _ _ _ e0 x
    obtain ⟨g, g'⟩ := IntOp.andi_eq_one.1 g
    exact word_lt _ 16384#32 (by decide) g g'
  · have g := Host.reduce_andi_all _ _ _ _ _ e1 x
    obtain ⟨g, g'⟩ := IntOp.andi_eq_one.1 g
    exact word_255_256 _ g g'
  · have g := Host.reduce_andi_all _ _ _ _ _ e2 x
    obtain ⟨g, g'⟩ := IntOp.andi_eq_one.1 g
    exact word_lt _ 1280#32 (by decide) g g'

theorem slot_in (i : grid0.Coords) (v : BitVec 32) (h : v.toNat < 16384) : k0_chk1 i v := by
  have hi : (i 0).val < 8 := (i 0).isLt
  intro a
  match a with
  | ⟨0, _⟩ =>
    show (BitVec.ofNat 32 (i 0).val).toNat + 1 ≤ 8
    rw [BitVec.toNat_ofNat]; omega
  | ⟨1, _⟩ =>
    show (v >>> 7).toNat + 1 ≤ 128
    rw [BitVec.toNat_ushiftRight, Nat.shiftRight_eq_div_pow]; omega

theorem page_in (v p : BitVec 32) (h : p.toNat < 1280) : k0_chk2 v p := by
  intro a
  match a with
  | ⟨0, _⟩ => show 0 + 1 ≤ 1; omega
  | ⟨1, _⟩ => show p.toNat + 1 ≤ 1280; omega
  | ⟨2, _⟩ =>
    show (v &&& 127#32).toNat + 1 ≤ 128
    have : (v &&& 127#32).toNat ≤ 127 := by rw [BitVec.toNat_and]; exact Nat.and_le_right
    omega
  | ⟨3, _⟩ => show 0 + 2 ≤ 2; omega
  | ⟨4, _⟩ => show 0 + 128 ≤ 128; omega

variable [∀ e, Nonempty (Elt F e)]

theorem inRange (c : Dev nD) (i : grid0.Coords)
    (T0 : Buf (Elt F) (tIdx.view.loc (c : Thread nD τ))) (T2 : Buf (Elt F) (tPage.view.loc (c : Thread nD τ)))
    (h0 : ∀ x : S8x256.Idx, (show BitVec 32 from T0 x).toNat < 16384) (h2 : ∀ x : S8x128.Idx, (show BitVec 32 from T2 x).toNat < 1280) : InRange c i T0 T2 :=
  ⟨fun k => slot_in i _ (h0 _), fun k => page_in _ _ (h2 _)⟩

end Cert.Attend

end
-- ==== Proof.AttendFrame.lean ====
module

public import proofs.«01_k».proof.Proof.AttendRange
public import proofs.«01_k».proof.Proof.Gen.Kernel
public import Idealize.ShloMosaic.Lib.Claim

/-!
The frame of `sample_attend`: under the precondition it runs to its end, its arguments end as they began, and every
semaphore ends at zero. The program as printed and its ideal reading are one text, so one run serves both.
-/

@[expose] public section

set_option maxRecDepth 65536

noncomputable section

namespace Cert.Attend

open Cert.KernelIdeal Cert.KernelIdeal.Gen
open Idealize.ShloMosaic Idealize.ShloMosaic.TcCoe Idealize.ShloMosaic.Tactic
open Idealize.SL Idealize.SL.Sem

section
variable {F : FTy → Type} [FloatOps F] [∀ e, Nonempty (Elt F e)]
variable (m : (ℓ : Loc nD τ sig) → Buf (Elt F) ℓ) (ρ : Dev nD → PrngReg) (hr : TablesOk m)

/-- What the launch leaves of the arguments: all of them as they were. -/
theorem kept (r : PUnit × MemSt nD τ sig (Elt F))
    (h : Pipeline.FramePost (Pipeline.pin (pcfgs (F := F)) fun _ => adm m) (dats m hr) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c).2 main_arg0 (Pipeline.mem_restRefs_of main_arg0 (by decide) (by decide : ∀ w : Fin 3, (spec0 w).arr.view.ref ≠ main_arg0)),
    (h c).2 main_arg1 (Pipeline.mem_restRefs_of main_arg1 (by decide) (by decide : ∀ w : Fin 3, (spec0 w).arr.view.ref ≠ main_arg1)),
    (h c).2 main_arg2 (Pipeline.mem_restRefs_of main_arg2 (by decide) (by decide : ∀ w : Fin 3, (spec0 w).arr.view.ref ≠ main_arg2)),
    ((h c).1 (0 : Fin 3)).trans (((dats m hr 0 c).arrAt_in (0 : Fin 3) rfl _).trans rfl),
    ((h c).1 (1 : Fin 3)).trans (((dats m hr 0 c).arrAt_in (1 : Fin 3) rfl _).trans rfl),
    (h c).2 main_arg5 (Pipeline.mem_restRefs_of main_arg5 (by decide) (by decide : ∀ w : Fin 3, (spec0 w).arr.view.ref ≠ main_arg5)),
    (h c).2 main_arg6 (Pipeline.mem_restRefs_of main_arg6 (by decide) (by decide : ∀ w : Fin 3, (spec0 w).arr.view.ref ≠ main_arg6))⟩

include hr in
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨kept m hr r h.1, h.2⟩) (run_main m ρ hr)

end

/-- The program as printed and its ideal reading run alike at one arithmetic. -/
theorem same_run {F : FTy → Type} [FloatOps F] (m : (ℓ : Loc Cert.Kernel.nD Cert.Kernel.τ Cert.Kernel.sig) → Buf (Elt F) ℓ)
    (ρ : Dev Cert.Kernel.nD → PrngReg) (Q : PUnit × MemSt Cert.Kernel.nD Cert.Kernel.τ Cert.Kernel.sig (Elt F) → Prop) :
    θ_run (Cert.Kernel.defs (F := F)) (onTc (τ := Cert.Kernel.τ) (Cert.Kernel.main (F := F))) ⟨m, fun _ => 0, ρ⟩ Q
      = θ_run (Cert.KernelIdeal.defs (F := F)) (onTc (τ := Cert.KernelIdeal.τ) (Cert.KernelIdeal.main (F := F))) ⟨m, fun _ => 0, ρ⟩ Q := by
  sl_kernel_rfl

/-- The precondition at a memory: `ranges` of the argument arrays holds on every device. -/
theorem tablesOk {F : FTy → Type} [FloatOps F] [∀ e, Nonempty (Elt F e)] (m : (ℓ : Loc nD τ sig) → Buf (Elt F) ℓ)
    (h : ∀ c : Dev nD, Cert.Pre_ranges.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : TablesOk m :=
  fun c t => inRange c _ _ _ (ranges_said _ _ _ _ _ _ _ (h 0)).1 (ranges_said _ _ _ _ _ _ _ (h 0)).2.2

end Cert.Attend

end
-- ==== Proof.AttendMath.lean ====
module

public import Idealize.ShloMosaic.Lib.Pointwise
public import Idealize.ShloMosaic.Lib.Pipeline.ValueKit

/-! # Attention over 256 rows, one entry at a time

A row of scores is exponentiated less its maximum and divided by the sum; the result weighs a column of values. The kernel
treats the new token's score beside the 256 gathered ones; here the two ways of counting are shown to agree. -/

@[expose] public section

noncomputable section

open Idealize.ShloMosaic

namespace Cert.Attend

/-- The page of a sample that holds slot `v`, the slot's place in that page, and the pool's row for a page of the table. -/
def pageOf (v : BitVec 32) : Fin 128 := ⟨v.toNat / 128 % 128, by omega⟩
def cellOf (v : BitVec 32) : Fin 128 := ⟨v.toNat % 128, by omega⟩
def frameOf (p : BitVec 32) : Fin 1280 := ⟨p.toNat % 1280, by omega⟩

/-- The score of a query against a key. -/
def score (q k : Fin 128 → EReal) : EReal := (∑ d, q d * k d) * Ideal.ofBits FTy.f32 1035273459#32

/-- The score of a token that is not there. -/
def absent : EReal := Ideal.ofBits FTy.f32 4286578688#32

theorem absent_eq : absent = ⊥ := by
  unfold absent; simp [Ideal.ofBits, Ideal.ieee]

/-- The greatest score. -/
def top (s : Fin 256 → EReal) : EReal := Finset.univ.fold max absent s

/-- One entry of the result: the values weighed by the normalized exponentials of the scores. -/
def attend (s v : Fin 256 → EReal) : EReal :=
  ∑ k, Ideal.div (Ideal.exp (s k - top s)) (∑ j, Ideal.exp (s j - top s)) * v k

/-- The same with one more token counted beside the 256. -/
def attendNew (s v : Fin 256 → EReal) (sn vn : EReal) : EReal :=
  (∑ k, Ideal.div (Ideal.exp (s k - max (top s) sn)) ((∑ j, Ideal.exp (s j - max (top s) sn)) + Ideal.exp (sn - max (top s) sn)) * v k)
    + Ideal.div (Ideal.exp (sn - max (top s) sn)) ((∑ j, Ideal.exp (s j - max (top s) sn)) + Ideal.exp (sn - max (top s) sn)) * vn

theorem exp_absent (x : EReal) : Ideal.exp (⊥ - x) = 0 := by
  rw [EReal.bot_sub]; rfl

theorem exp_nonneg (x : EReal) : 0 ≤ Ideal.exp x := by
  induction x with
  | bot => exact le_refl _
  | top => exact le_top
  | coe r => exact EReal.coe_nonneg.2 (Real.exp_pos r).le

theorem div_zero_of_ne (y : EReal) (h : y ≠ 0) : Ideal.div 0 y = 0 := by
  unfold Ideal.div; rw [if_neg h, zero_mul]

/-- The maximum is one of the scores. -/
theorem top_mem (s : Fin 256 → EReal) : ∃ k, s k = top s := by
  obtain ⟨k, -, hk⟩ := Finset.exists_mem_eq_sup' (s := Finset.univ) ⟨(0 : Fin 256), Finset.mem_univ _⟩ s
  refine ⟨k, hk.symm.trans (le_antisymm ?_ ?_)⟩
  · refine Finset.sup'_le _ _ fun j _ => ?_
    unfold top
    exact (Finset.le_fold_max _).2 (Or.inr ⟨j, Finset.mem_univ _, le_rfl⟩)
  · unfold top
    exact Finset.fold_max_le _ |>.2 ⟨absent_eq ▸ bot_le, fun j hj => Finset.le_sup' s hj⟩

/-- With finite scores the sum of the exponentials is not zero. -/
theorem sum_ne_zero (s : Fin 256 → EReal) (h : ∀ k, s k ≠ ⊤ ∧ s k ≠ ⊥) : (∑ j, Ideal.exp (s j - top s)) ≠ 0 := by
  obtain ⟨k, hk⟩ := top_mem s
  have e : Ideal.exp (s k - top s) = 1 := by
    rw [← hk, EReal.sub_self (h k).1 (h k).2]
    show ((Real.exp 0 : ℝ) : EReal) = 1
    rw [Real.exp_zero]; rfl
  have l : Ideal.exp (s k - top s) ≤ ∑ j, Ideal.exp (s j - top s) :=
    Finset.single_le_sum (f := fun j => Ideal.exp (s j - top s)) (fun j _ => exp_nonneg _) (Finset.mem_univ k)
  rw [e] at l
  exact (lt_of_lt_of_le zero_lt_one l).ne'

/-- A token that is not there adds nothing. -/
theorem attendNew_absent (s v : Fin 256 → EReal) (vn : EReal) (h : ∀ k, s k ≠ ⊤ ∧ s k ≠ ⊥) : attendNew s v absent vn = attend s v := by
  unfold attendNew attend
  rw [absent_eq, max_eq_left bot_le, exp_absent, add_zero, div_zero_of_ne _ (sum_ne_zero s h), zero_mul, add_zero]

/-- The new token in place of an absent last one. -/
theorem attendNew_last (s v s' v' : Fin 256 → EReal) (h : ∀ k, s' k ≠ ⊤ ∧ s' k ≠ ⊥) (hs : ∀ k : Fin 255, s k.castSucc = s' k.castSucc)
    (hv : ∀ k : Fin 255, v k.castSucc = v' k.castSucc) (hl : s (Fin.last 255) = absent) :
    attendNew s v (s' (Fin.last 255)) (v' (Fin.last 255)) = attend s' v' := by
  have ht : max (top s) (s' (Fin.last 255)) = top s' := by
    unfold top
    refine le_antisymm (max_le ?_ ?_) ?_
    · refine Finset.fold_max_le _ |>.2 ⟨absent_eq ▸ bot_le, fun j _ => ?_⟩
      refine Fin.lastCases ?_ (fun j => ?_) j
      · rw [hl, absent_eq]; exact bot_le
      · rw [hs]; exact (Finset.le_fold_max _).2 (Or.inr ⟨_, Finset.mem_univ _, le_rfl⟩)
    · exact (Finset.le_fold_max _).2 (Or.inr ⟨_, Finset.mem_univ _, le_rfl⟩)
    · refine Finset.fold_max_le _ |>.2 ⟨absent_eq ▸ bot_le, fun j _ => ?_⟩
      refine Fin.lastCases ?_ (fun j => ?_) j
      · exact le_max_right _ _
      · rw [← hs]; exact le_max_of_le_left ((Finset.le_fold_max _).2 (Or.inr ⟨_, Finset.mem_univ _, le_rfl⟩))
  have hz : (∑ j, Ideal.exp (s j - top s')) + Ideal.exp (s' (Fin.last 255) - top s') = ∑ j, Ideal.exp (s' j - top s') := by
    rw [Fin.sum_univ_castSucc, Fin.sum_univ_castSucc (fun j => Ideal.exp (s' j - top s')), hl, absent_eq, exp_absent, add_zero]
    simp only [hs]
  unfold attendNew attend
  rw [ht, hz, Fin.sum_univ_castSucc, Fin.sum_univ_castSucc (fun k => Ideal.div (Ideal.exp (s' k - top s')) _ * v' k), hl, absent_eq, exp_absent,
    div_zero_of_ne _ (sum_ne_zero s' h), zero_mul, add_zero]
  simp only [hs, hv]

/-- A sum of finite numbers is finite. -/
theorem sum_coe {n : ℕ} (f : Fin n → ℝ) : (∑ d, (f d : EReal)) = ((∑ d, f d : ℝ) : EReal) :=
  (map_sum (⟨⟨Real.toEReal, EReal.coe_zero⟩, EReal.coe_add⟩ : ℝ →+ EReal) f Finset.univ).symm

theorem scale_finite : ∃ r : ℝ, Ideal.ofBits FTy.f32 1035273459#32 = (r : EReal) := by
  unfold Ideal.ofBits Ideal.ieee
  dsimp only
  rw [if_neg (by decide), if_neg (by decide)]
  exact ⟨_, rfl⟩

/-- Scores of finite queries and keys are finite. -/
theorem score_finite (q k : Fin 128 → EReal) (hq : ∀ d, q d ≠ ⊤ ∧ q d ≠ ⊥) (hk : ∀ d, k d ≠ ⊤ ∧ k d ≠ ⊥) : score q k ≠ ⊤ ∧ score q k ≠ ⊥ := by
  obtain ⟨r, hr⟩ := scale_finite
  have e : score q k = (((∑ d, (q d).toReal * (k d).toReal) * r : ℝ) : EReal) := by
    unfold score
    rw [hr, EReal.coe_mul, ← sum_coe]
    refine congrArg (· * _) (Finset.sum_congr rfl fun d _ => ?_)
    rw [EReal.coe_mul, EReal.coe_toReal (hq d).1 (hq d).2, EReal.coe_toReal (hk d).1 (hk d).2]
  rw [e]
  exact ⟨EReal.coe_ne_top _, EReal.coe_ne_bot _⟩

/-- A number of finite size is finite. -/
theorem finite_of_abs_lt (x : EReal) (h : Ideal.cmp .olt (max x (-x)) (Ideal.ofBits FTy.f32 2139095040#32) = 1#1) : x ≠ ⊤ ∧ x ≠ ⊥ := by
  have e : Ideal.ofBits FTy.f32 2139095040#32 = ⊤ := by simp [Ideal.ofBits, Ideal.ieee]
  rw [e] at h
  refine ⟨?_, ?_⟩ <;> rintro rfl <;> simp [Ideal.cmp] at h

end Cert.Attend
end
-- ==== Proof.AttendFinite.lean ====
module

public import proofs.«01_k».proof.Proof.AttendRange
public import proofs.«01_k».proof.Proof.AttendMath
public import proofs.«01_k».proof.Proof.Gen.Pre_finite_scores

/-! # What the precondition of the value claim says: the tables in range, and every number that a score is made of finite -/

@[expose] public section

set_option maxRecDepth 65536

noncomputable section

namespace Cert.Attend

open Cert.KernelIdeal Cert.KernelIdeal.Gen
open Idealize.ShloMosaic Idealize.ShloMosaic.TcCoe

theorem finite_said (a0 : IVec S8x256 32) (a1 : IVec S8 32) (a2 : IVec S8x128 32) (a3 : FVec Ideal S8x8x128 .bf16) (a4 : FVec Ideal S8x16x768 .f32)
    (a5 a6 : FVec Ideal S1x1280x128x2x128 .f32) (h : Cert.Pre_finite_scores.fn (F := Ideal) a0 a1 a2 a3 a4 a5 a6 = fun _ => 1#1) :
    (Cert.Pre_ranges.fn (F := Ideal) a0 a1 a2 a3 a4 a5 a6 = fun _ => 1#1) ∧ (∀ x, a3 x ≠ ⊤ ∧ a3 x ≠ ⊥)
      ∧ (∀ (b : Fin 8) (d : Fin 256), a4 (ix3 b 0 ⟨d.val, by omega⟩) ≠ ⊤ ∧ a4 (ix3 b 0 ⟨d.val, by omega⟩) ≠ ⊥) ∧ ∀ x, a5 x ≠ ⊤ ∧ a5 x ≠ ⊥ := by
  have e := congrFun h (Shape.Idx.first (by decide))
  obtain ⟨e, eK⟩ := IntOp.andi_eq_one.1 e
  obtain ⟨e, en⟩ := IntOp.andi_eq_one.1 e
  obtain ⟨e, eq⟩ := IntOp.andi_eq_one.1 e
  refine ⟨?_, fun x => ?_, fun b d => ?_, fun x => ?_⟩
  · funext x
    have hx : x = Shape.Idx.first (by decide) := funext fun a => a.elim0
    rw [hx]
    exact e
  · exact finite_of_abs_lt _ (Host.reduce_andi_all _ _ _ _ _ eq x)
  · have g := Host.reduce_andi_all _ _ _ _ _ en (ix2 b d)
    refine finite_of_abs_lt _ (Eq.trans ?_ g)
    pointwise
    rfl
  · exact finite_of_abs_lt _ (Host.reduce_andi_all _ _ _ _ _ eK x)

end Cert.Attend
end
-- ==== Proof.AttendJoin.lean ====
module

public import proofs.«01_k».proof.Proof.AttendMath

/-!
# The two ways to attend to the new token are one

The kernel keeps the pool's rows and adds one term for the new token where the pools lack its row; the reference puts the new
row among the gathered ones.
-/

@[expose] public section

noncomputable section

namespace Cert.Attend

open Idealize.ShloMosaic

/-- Whether row `k` of a sample lies in the pools, `n` of its rows doing so. -/
def held (n : BitVec 32) (k : Fin 256) : BitVec 1 := IntOp.cmpi CmpIPredicate.slt (BitVec.ofNat 32 k.val) n

/-- The score of the gathered row `k` for a query's row, absent where the pools do not hold it. -/
def seen (n : BitVec 32) (q : Fin 128 → EReal) (K : Fin 256 → Fin 128 → EReal) (k : Fin 256) : EReal :=
  Scalar.select (held n k) (score q (K k)) absent

/-- One entry of a sample's result: the query's row against the gathered rows of its head and the new token's. -/
def entry (n : BitVec 32) (q : Fin 128 → EReal) (K V : Fin 256 → Fin 128 → EReal) (kn vn : Fin 128 → EReal) (d : Fin 128) : EReal :=
  attendNew (seen n q K) (fun k => V k d) (Scalar.select (IntOp.cmpi CmpIPredicate.slt n 256#32) (score q kn) absent) (vn d)

/-- The rows with the new one in place of those that the pools do not hold. -/
def whole (n : BitVec 32) (K : Fin 256 → Fin 128 → EReal) (kn : Fin 128 → EReal) (k : Fin 256) (d : Fin 128) : EReal :=
  Scalar.select (held n k) (K k d) (kn d)

/-- The same entry from the rows with the new one among them. -/
def entryWhole (n : BitVec 32) (q : Fin 128 → EReal) (K V : Fin 256 → Fin 128 → EReal) (kn vn : Fin 128 → EReal) (d : Fin 128) : EReal :=
  attend (fun k => score q (whole n K kn k)) (fun k => whole n V vn k d)

theorem held_256 (k : Fin 256) : held 256#32 k = 1#1 := by revert k; decide +kernel
theorem held_255 (k : Fin 255) : held 255#32 k.castSucc = 1#1 := by revert k; decide +kernel
theorem held_255_last : held 255#32 (Fin.last 255) = 0#1 := by decide +kernel

theorem whole_of_held (n : BitVec 32) (K : Fin 256 → Fin 128 → EReal) (kn : Fin 128 → EReal) (k : Fin 256) (h : held n k = 1#1) :
    whole n K kn k = K k := funext fun d => by unfold whole; rw [h]; rfl

theorem whole_of_not (n : BitVec 32) (K : Fin 256 → Fin 128 → EReal) (kn : Fin 128 → EReal) (k : Fin 256) (h : held n k = 0#1) :
    whole n K kn k = kn := funext fun d => by unfold whole; rw [h]; rfl

theorem seen_of_held (n : BitVec 32) (q : Fin 128 → EReal) (K : Fin 256 → Fin 128 → EReal) (k : Fin 256) (h : held n k = 1#1) :
    seen n q K k = score q (K k) := by unfold seen; rw [h]; rfl

theorem seen_of_not (n : BitVec 32) (q : Fin 128 → EReal) (K : Fin 256 → Fin 128 → EReal) (k : Fin 256) (h : held n k = 0#1) :
    seen n q K k = absent := by unfold seen; rw [h]; rfl

theorem entry_eq (n : BitVec 32) (q : Fin 128 → EReal) (K V : Fin 256 → Fin 128 → EReal) (kn vn : Fin 128 → EReal) (d : Fin 128)
    (hn : n = 255#32 ∨ n = 256#32) (hq : ∀ d, q d ≠ ⊤ ∧ q d ≠ ⊥) (hK : ∀ k d, K k d ≠ ⊤ ∧ K k d ≠ ⊥) (hkn : ∀ d, kn d ≠ ⊤ ∧ kn d ≠ ⊥) :
    entry n q K V kn vn d = entryWhole n q K V kn vn d := by
  rcases hn with rfl | rfl
  · have hs : ∀ k, score q (whole 255#32 K kn k) ≠ ⊤ ∧ score q (whole 255#32 K kn k) ≠ ⊥ := fun k => by
      refine score_finite _ _ hq fun d => ?_
      unfold whole Scalar.select
      split
      · exact hK k d
      · exact hkn d
    have h := attendNew_last (seen 255#32 q K) (fun k => V k d) (fun k => score q (whole 255#32 K kn k)) (fun k => whole 255#32 V vn k d) hs
      (fun k => by rw [seen_of_held _ _ _ _ (held_255 k), whole_of_held _ _ _ _ (held_255 k)])
      (fun k => by rw [whole_of_held _ _ _ _ (held_255 k)]) (seen_of_not _ _ _ _ held_255_last)
    rw [whole_of_not _ _ _ _ held_255_last, whole_of_not _ _ _ _ held_255_last] at h
    exact h
  · have e : seen 256#32 q K = fun k => score q (K k) := funext fun k => seen_of_held _ _ _ _ (held_256 k)
    unfold entry entryWhole
    have ek : (fun k => score q (whole 256#32 K kn k)) = fun k => score q (K k) := funext fun k => by rw [whole_of_held _ _ _ _ (held_256 k)]
    have ev : (fun k => whole 256#32 V vn k d) = fun k => V k d := funext fun k => by rw [whole_of_held _ _ _ _ (held_256 k)]
    rw [e, ek, ev]
    exact attendNew_absent _ _ _ fun k => score_finite _ _ hq (hK k)

end Cert.Attend
end
-- ==== Proof.AttendPay.lean ====
module

public import proofs.«01_k».proof.Proof.AttendJoin
public import proofs.«01_k».proof.Proof.AttendGather

/-! # What `sample_attend` computes from the gathered rows, one entry at a time -/

@[expose] public section

set_option maxRecDepth 16384

noncomputable section

namespace Cert.Attend

open Cert.KernelIdeal Cert.KernelIdeal.Gen
open Idealize.ShloMosaic Idealize.ShloMosaic.TcCoe

theorem pay9_apply (b : BitVec 1) (v : FVec Ideal S256x128 .bf16) (vn : FVec Ideal S1x128 .bf16) (s : FVec Ideal S4x256 .f32) (sn : FVec Ideal S4 .f32)
    (r : Fin 4) (d : Fin 128) : k0_pay9 b v vn s sn (ix3 0 r d)
      = attendNew (fun k => s (ix2 r k)) (fun k => v (ix2 k d)) (Scalar.select b (sn (ix1 r) * Ideal.ofBits FTy.f32 1035273459#32) absent) (vn (ix2 0 d)) := by
  pointwise [k0_pay9, attendNew, top, absent]

theorem pay7_apply (n : BitVec 32) (q : Vec Ideal S1x8x128 .bf16) (K : Vec Ideal S1x256x128 .f32) (r : Fin 4) (k : Fin 256) :
    k0_pay7 n q K (ix2 r k) = seen n (fun d => q (ix3 0 ⟨r.val, by omega⟩ d)) (fun k d => K (ix3 0 k d)) k := by
  pointwise [k0_pay7, k0_pay4, k0_pay3, k0_pay2, seen, held, score, absent]

theorem pay8_apply (q : Vec Ideal S1x8x128 .bf16) (w : Vec Ideal S1x1x128 .f32) (r : Fin 4) :
    k0_pay8 q w (ix1 r) = ∑ d : Fin 128, q (ix3 0 ⟨r.val, by omega⟩ d) * w (ix3 0 0 d) := by
  pointwise [k0_pay8, k0_pay4, k0_pay3]

theorem pay5_apply (V : Vec Ideal S1x256x128 .f32) (k : Fin 256) (d : Fin 128) : k0_pay5 V (ix2 k d) = V (ix3 0 k d) := by
  pointwise [k0_pay5]

theorem pay6_apply (w : Vec Ideal S1x1x128 .f32) (d : Fin 128) : k0_pay6 w (ix2 0 d) = w (ix3 0 0 d) := by
  pointwise [k0_pay6]

theorem pay14_apply (n : BitVec 32) (b : BitVec 1) (q : Vec Ideal S1x8x128 .bf16) (K V : Vec Ideal S1x256x128 .f32) (kn vn : Vec Ideal S1x1x128 .f32)
    (r : Fin 4) (d : Fin 128) :
    k0_pay1 (k0_pay14 (k0_pay2 (F := Ideal) n) b (k0_pay10 (k0_pay3 q)) (k0_pay11 K) (k0_pay12 V) (k0_pay13 kn) vn) (ix3 0 r d)
      = attendNew (seen n (fun d => q (ix3 0 ⟨4 + r.val, by omega⟩ d)) (fun k d => K (ix3 0 k d))) (fun k => V (ix3 0 k d))
        (Scalar.select b (score (fun d => q (ix3 0 ⟨4 + r.val, by omega⟩ d)) (fun d => kn (ix3 0 0 d))) absent) (vn (ix3 0 0 d)) := by
  unfold attendNew top
  pointwise [k0_pay1, k0_pay14, k0_pay2, k0_pay10, k0_pay3, k0_pay11, k0_pay12, k0_pay13, seen, held, score, absent]

theorem outOf_low (n : BitVec 32) (q : Vec Ideal S1x8x128 .bf16) (w : Vec Ideal S1x16x768 .f32) (K0 K1 V0 V1 : Vec Ideal S1x256x128 .f32) (r : Fin 4) (d : Fin 128) :
    outOf n q w K0 K1 V0 V1 (ix3 0 ⟨r.val, by omega⟩ d) = entry n (fun d => q (ix3 0 ⟨r.val, by omega⟩ d)) (fun k d => K0 (ix3 0 k d)) (fun k d => V0 (ix3 0 k d))
      (fun d => w (ix3 0 0 ⟨d.val, by omega⟩)) (fun d => w (ix3 0 0 ⟨256 + d.val, by omega⟩)) d := by
  refine (dif_pos (show r.val < 4 from r.isLt)).trans ((pay9_apply _ _ _ _ _ r d).trans ?_)
  unfold entry score
  rw [pay8_apply, pay6_apply]
  simp only [pay5_apply, pay7_apply]
  refine congrArg (fun z => attendNew _ _ (Scalar.select _ (z * _) _) _) (Finset.sum_congr rfl fun d _ => ?_)
  exact congrArg (fun z => _ * w (ix3 0 0 z)) (Fin.ext (Nat.zero_add _))

theorem outOf_high (n : BitVec 32) (q : Vec Ideal S1x8x128 .bf16) (w : Vec Ideal S1x16x768 .f32) (K0 K1 V0 V1 : Vec Ideal S1x256x128 .f32) (r : Fin 4) (d : Fin 128) :
    outOf n q w K0 K1 V0 V1 (ix3 0 ⟨4 + r.val, by omega⟩ d) = entry n (fun d => q (ix3 0 ⟨4 + r.val, by omega⟩ d)) (fun k d => K1 (ix3 0 k d)) (fun k d => V1 (ix3 0 k d))
      (fun d => w (ix3 0 0 ⟨128 + d.val, by omega⟩)) (fun d => w (ix3 0 0 ⟨384 + d.val, by omega⟩)) d := by
  refine (dif_neg (show ¬ 4 + r.val < 4 by omega)).trans ?_
  have e : (⟨4 + r.val - 4, by omega⟩ : Fin 4) = r := Fin.ext (by show 4 + r.val - 4 = r.val; omega)
  have h : ∀ z : Fin 4, z = r → k0_pay1 (k0_pay14 (k0_pay2 (F := Ideal) n) (Scalar.cmpi .slt n 256#32) (k0_pay10 (k0_pay3 q)) (k0_pay11 K1) (k0_pay12 V1)
      (k0_pay13 (strip w 128 (by decide))) (strip w 384 (by decide))) (ix3 0 z d)
      = entry n (fun d => q (ix3 0 ⟨4 + r.val, by omega⟩ d)) (fun k d => K1 (ix3 0 k d)) (fun k d => V1 (ix3 0 k d))
        (fun d => w (ix3 0 0 ⟨128 + d.val, by omega⟩)) (fun d => w (ix3 0 0 ⟨384 + d.val, by omega⟩)) d := by
    rintro z rfl
    exact pay14_apply _ _ _ _ _ _ _ _ d
  exact h _ e

end Cert.Attend
end
-- ==== Proof.AttendRead.lean ====
module

public import proofs.«01_k».proof.Proof.AttendPay
public import proofs.«01_k».proof.Proof.AttendRun

/-! # The rows that `sample_attend` gathers, one entry at a time -/

@[expose] public section

set_option maxRecDepth 65536

noncomputable section

namespace Cert.Attend

open Cert.KernelIdeal Cert.KernelIdeal.Gen
open Idealize.ShloMosaic Idealize.ShloMosaic.TcCoe

variable (c : Dev nD) (i : grid0.Coords)
  (T0 : Buf (Elt Ideal) (tIdx.view.loc (c : Thread nD τ))) (T1 : Buf (Elt Ideal) (tPool.view.loc (c : Thread nD τ)))
  (T2 : Buf (Elt Ideal) (tPage.view.loc (c : Thread nD τ)))

theorem slot_eq (k : Fin NR) : slot c i T0 k = (show IVec S8x256 32 from T0) (ix2 (i 0) ⟨k.val, NR_eq ▸ k.isLt⟩) := by
  unfold slot
  rw [View.readAt_apply]
  refine congrArg (show IVec S8x256 32 from T0) (funext fun a => Fin.ext ?_)
  show k0_off1 i k a + 1 * 0 = _
  rw [k0_off1_eq]
  match a with
  | ⟨0, _⟩ => rfl
  | ⟨1, _⟩ => rfl

theorem nPool_eq : nPool c i T1 = (show IVec S8 32 from T1) (ix1 (i 0)) := by
  unfold nPool
  rw [View.readAt_apply]
  refine congrArg (show IVec S8 32 from T1) (funext fun a => Fin.ext ?_)
  show k0_off11 i a + 1 * 0 = _
  rw [k0_off11_eq]
  match a with
  | ⟨0, _⟩ => rfl

theorem page_eq (v : BitVec 32) (h : k0_chk1 i v) (hv : v.toNat < 16384) :
    page c i T2 v h = (show IVec S8x128 32 from T2) (ix2 (i 0) (pageOf v)) := by
  unfold page
  rw [View.readAt_apply]
  refine congrArg (show IVec S8x128 32 from T2) (funext fun a => Fin.ext ?_)
  show k0_off2 i v a + 1 * 0 = _
  match a with
  | ⟨0, _⟩ =>
    have hi : (i 0).val < 8 := (i 0).isLt
    show (BitVec.ofNat 32 (i 0).val).toNat + 1 * 0 = (i 0).val
    rw [BitVec.toNat_ofNat]; omega
  | ⟨1, _⟩ =>
    show (v >>> 7).toNat + 1 * 0 = v.toNat / 128 % 128
    rw [BitVec.toNat_ushiftRight, Nat.shiftRight_eq_div_pow]; omega

/-- An entry of the pool's row that slot `v` of page `p` names. -/
theorem read_poolRow (b : Memref sig .tc .hbm S1x1280x128x2x128 .f32) (v p : BitVec 32) (h : k0_chk2 v p) (g : b.view.ty.Contents (Elt Ideal)) (hp : p.toNat < 1280)
    (e : Fin 2) (d : Fin 128) : (poolRow b v p h).view.read (Elt Ideal) g (ix2 e d) = b.view.read (Elt Ideal) g (ix5 0 (frameOf p) (cellOf v) e d) := by
  refine Eq.trans (b := shapeCast S2x128 (b.view.readAt (Elt Ideal) (Rect.unit (s := S1x1280x128x2x128) (k0_off4 v p) S1x1x1x2x128.size (k0_off4_inb v p h)).toLoadRect g)
    squeezes_S1x1x1x2x128_S2x128.numel_eq (ix2 e d)) rfl ?_
  rw [shapeCast_apply _ _ _ (ix5 0 0 0 e d) (by rw [Shape.rowMajor_val_two, Shape.rowMajor_val_five]; simp)]
  rw [View.readAt_apply]
  refine congrArg (b.view.read (Elt Ideal) g) (funext fun a => Fin.ext ?_)
  show k0_off4 v p a + 1 * ((ix5 (0 : Fin 1) (0 : Fin 1) (0 : Fin 1) e d : S1x1x1x2x128.Idx) a).val = _
  match a with
  | ⟨0, _⟩ => rfl
  | ⟨1, _⟩ =>
    show p.toNat + 1 * 0 = p.toNat % 1280
    omega
  | ⟨2, _⟩ =>
    show (v &&& 127#32).toNat + 1 * 0 = v.toNat % 128
    rw [BitVec.toNat_and, show (127#32 : BitVec 32).toNat = 2 ^ 7 - 1 from rfl, Nat.and_two_pow_sub_one_eq_mod]; omega
  | ⟨3, _⟩ => show 0 + 1 * e.val = e.val; omega
  | ⟨4, _⟩ => show 0 + 1 * d.val = d.val; omega

variable (H : InRange c i T0 T2) (h0 : ∀ x : S8x256.Idx, ((show IVec S8x256 32 from T0) x).toNat < 16384)
  (h2 : ∀ x : S8x128.Idx, ((show IVec S8x128 32 from T2) x).toNat < 1280)

/-- The word of the page table for row `k` of sample `i`. -/
def pageWord (k : Fin 256) : BitVec 32 := (show IVec S8x128 32 from T2) (ix2 (i 0) (pageOf ((show IVec S8x256 32 from T0) (ix2 (i 0) k))))

include h0 h2 in
theorem keys_apply (pk : Buf (Elt Ideal) (poolK.view.loc (c : Thread nD τ))) (e : Fin 2) (k : Fin 256) (d : Fin 128) :
    keys c i T0 T2 H pk e (ix3 0 k d) = (show FVec Ideal S1x1280x128x2x128 .f32 from pk)
      (ix5 0 (frameOf (pageWord c i T0 T2 k)) (cellOf ((show IVec S8x256 32 from T0) (ix2 (i 0) k))) e d) := by
  have hs := slot_eq c i T0 (Fin.cast NR_eq.symm k)
  have hp := page_eq c i T2 (slot c i T0 (Fin.cast NR_eq.symm k)) (H.slot_ok _) (by rw [hs]; exact h0 _)
  refine (read_poolRow poolK _ _ (H.page_ok (Fin.cast NR_eq.symm k)) pk (by rw [hp]; exact h2 _) e d).trans ?_
  rw [hp, hs]
  rfl

include h0 h2 in
theorem vals_apply (pv : Buf (Elt Ideal) (poolV.view.loc (c : Thread nD τ))) (e : Fin 2) (k : Fin 256) (d : Fin 128) :
    vals c i T0 T2 H pv e (ix3 0 k d) = (show FVec Ideal S1x1280x128x2x128 .f32 from pv)
      (ix5 0 (frameOf (pageWord c i T0 T2 k)) (cellOf ((show IVec S8x256 32 from T0) (ix2 (i 0) k))) e d) := by
  have hs := slot_eq c i T0 (Fin.cast NR_eq.symm k)
  have hp := page_eq c i T2 (slot c i T0 (Fin.cast NR_eq.symm k)) (H.slot_ok _) (by rw [hs]; exact h0 _)
  refine (read_poolRow poolV _ _ (H.page_ok (Fin.cast NR_eq.symm k)) pv (by rw [hp]; exact h2 _) e d).trans ?_
  rw [hp, hs]
  rfl

end Cert.Attend
end
-- ==== Proof.AttendValue.lean ====
module

public import proofs.«01_k».proof.Proof.AttendRead
public import proofs.«01_k».proof.Proof.AttendLaunch

/-! # The array that `sample_attend` leaves -/

@[expose] public section

set_option maxRecDepth 65536

noncomputable section

namespace Cert.Attend

open Cert.KernelIdeal Cert.KernelIdeal.Gen
open Idealize.ShloMosaic Idealize.ShloMosaic.TcCoe

variable (m : (ℓ : Loc nD τ sig) → Buf (Elt Ideal) ℓ)

/-- A memory, to state once what holds of the windows at any memory. -/
def m₀ : (ℓ : Loc nD τ sig) → Buf (Elt Ideal) ℓ := fun _ _ => Classical.choice inferInstance

theorem covers₀ : ((cf m₀).win 2).Covers := by decide +kernel
theorem covers : ((cf m).win 2).Covers := covers₀

theorem idx0 (t : Fin (cf m).N) : ((cf m).win 0).index t = ![(grid0.coords t 0).val, 0, 0] :=
  (by decide +kernel : ∀ t : Fin grid0.N, cc0_transform_0 (grid0.coords t) = ![(grid0.coords t 0).val, 0, 0]) t
theorem idx1 (t : Fin (cf m).N) : ((cf m).win 1).index t = ![(grid0.coords t 0).val, 0, 0] :=
  (by decide +kernel : ∀ t : Fin grid0.N, cc0_transform_1 (grid0.coords t) = ![(grid0.coords t 0).val, 0, 0]) t
theorem idx2 (t : Fin (cf m).N) : ((cf m).win 2).index t = ![(grid0.coords t 0).val, 0, 0] :=
  (by decide +kernel : ∀ t : Fin grid0.N, cc0_transform_4 (grid0.coords t) = ![(grid0.coords t 0).val, 0, 0]) t

theorem iblk0_apply (c : Dev nD) (t : Fin (cf m).N) (r : Fin 8) (d : Fin 128) :
    (show FVec Ideal S1x8x128 .bf16 from iblk m c 0 t) (ix3 0 r d) = (show FVec Ideal S8x8x128 .bf16 from V m c main_arg3) (ix3 (grid0.coords t 0) r d) := by
  show (show FVec Ideal S8x8x128 .bf16 from V m c main_arg3) ((((cf m).win 0).blk t).view.emb (ix3 0 r d)) = _
  refine congrArg _ ?_
  blk_ext [idx0 m t]

theorem iblk1_apply (c : Dev nD) (t : Fin (cf m).N) (r : Fin 16) (d : Fin 768) :
    (show FVec Ideal S1x16x768 .f32 from iblk m c 1 t) (ix3 0 r d) = (show FVec Ideal S8x16x768 .f32 from V m c main_arg4) (ix3 (grid0.coords t 0) r d) := by
  show (show FVec Ideal S8x16x768 .f32 from V m c main_arg4) ((((cf m).win 1).blk t).view.emb (ix3 0 r d)) = _
  refine congrArg _ ?_
  blk_ext [idx1 m t]

theorem emb2 (t : Fin (cf m).N) (r : Fin 8) (d : Fin 128) :
    (((cf m).win 2).blk t).view.emb (ix3 0 r d : S1x8x128.Idx) = (ix3 (grid0.coords t 0) r d : S8x8x128.Idx) := by
  blk_ext [idx2 m t]

/-- The head whose rows a query's row reads. -/
def headOf (r : Fin 8) : Fin 2 := ⟨r.val / 4, by omega⟩

/-- A pool's rows for one sample and one head, as the tables name them. -/
def named (T0 : IVec S8x256 32) (T2 : IVec S8x128 32) (P : FVec Ideal S1x1280x128x2x128 .f32) (b : Fin 8) (e : Fin 2) (k : Fin 256) (d : Fin 128) : EReal :=
  P (ix5 0 (frameOf (T2 (ix2 b (pageOf (T0 (ix2 b k)))))) (cellOf (T0 (ix2 b k))) e d)

/-- The result at a sample, a query's row and a lane, in terms of the arguments. -/
def at3 (T0 : IVec S8x256 32) (T1 : IVec S8 32) (T2 : IVec S8x128 32) (q : FVec Ideal S8x8x128 .bf16) (w : FVec Ideal S8x16x768 .f32)
    (K V : FVec Ideal S1x1280x128x2x128 .f32) (b r : Fin 8) (d : Fin 128) : EReal :=
  entry (T1 (ix1 b)) (fun d => q (ix3 b r d)) (named T0 T2 K b (headOf r)) (named T0 T2 V b (headOf r))
    (fun d => w (ix3 b 0 ⟨(headOf r).val * 128 + d.val, by have := (headOf r).isLt; omega⟩))
    (fun d => w (ix3 b 0 ⟨256 + ((headOf r).val * 128 + d.val), by have := (headOf r).isLt; omega⟩)) d

/-- The result in terms of the arguments that the launch finds. -/
def G (c : Dev nD) : FVec Ideal S8x8x128 .f32 := fun y =>
  at3 (tables m 0) (tables m 1) (tables m 2) (V m c main_arg3) (V m c main_arg4) (V m c main_arg5) (V m c main_arg6) (y 0) (y 1) (y 2)

variable (hr : TablesOk m) (h0 : ∀ x : S8x256.Idx, ((show IVec S8x256 32 from tables m 0) x).toNat < 16384)
  (h2 : ∀ x : S8x128.Idx, ((show IVec S8x128 32 from tables m 2) x).toNat < 1280)

include h0 h2 in
theorem point_low (c : Dev nD) (t : Fin (cf m).N) (r : Fin 4) (d : Fin 128) :
    result m hr c t (ix3 0 ⟨r.val, by omega⟩ d) = G m c (ix3 (grid0.coords t 0) ⟨r.val, by omega⟩ d) := by
  refine (outOf_low _ _ _ _ _ _ _ r d).trans ?_
  have hd : headOf ⟨r.val, by omega⟩ = 0 := Fin.ext (by show r.val / 4 = 0; omega)
  show _ = at3 _ _ _ _ _ _ _ (grid0.coords t 0) ⟨r.val, by omega⟩ d
  unfold at3
  simp only [hd]
  have e1 := nPool_eq c (grid0.coords t) (tables m 1)
  have eq0 : ∀ d, _ = _ := fun d => iblk0_apply m c t ⟨r.val, by omega⟩ d
  have ek : ∀ k d, _ = _ := fun k d => keys_apply c (grid0.coords t) (tables m 0) (tables m 2) (hr c t) h0 h2 (V m c main_arg5) 0 k d
  have ev : ∀ k d, _ = _ := fun k d => vals_apply c (grid0.coords t) (tables m 0) (tables m 2) (hr c t) h0 h2 (V m c main_arg6) 0 k d
  have ew : ∀ j, _ = _ := fun j => iblk1_apply m c t 0 j
  rw [e1]
  congr 1
  · exact funext eq0
  · exact funext fun k => funext fun d => ek k d
  · exact funext fun k => funext fun d => ev k d
  · refine funext fun d => (ew _).trans (congrArg (fun z => (show FVec Ideal S8x16x768 .f32 from V m c main_arg4) (ix3 (grid0.coords t 0) 0 z)) (Fin.ext ?_))
    show d.val = 0 * 128 + d.val; omega
  · refine funext fun d => (ew _).trans (congrArg (fun z => (show FVec Ideal S8x16x768 .f32 from V m c main_arg4) (ix3 (grid0.coords t 0) 0 z)) (Fin.ext ?_))
    show 256 + d.val = 256 + (0 * 128 + d.val); omega

include h0 h2 in
theorem point_high (c : Dev nD) (t : Fin (cf m).N) (r : Fin 4) (d : Fin 128) :
    result m hr c t (ix3 0 ⟨4 + r.val, by omega⟩ d) = G m c (ix3 (grid0.coords t 0) ⟨4 + r.val, by omega⟩ d) := by
  refine (outOf_high _ _ _ _ _ _ _ r d).trans ?_
  have hd : headOf ⟨4 + r.val, by omega⟩ = 1 := Fin.ext (by show (4 + r.val) / 4 = 1; omega)
  show _ = at3 _ _ _ _ _ _ _ (grid0.coords t 0) ⟨4 + r.val, by omega⟩ d
  unfold at3
  simp only [hd]
  have e1 := nPool_eq c (grid0.coords t) (tables m 1)
  have eq0 : ∀ d, _ = _ := fun d => iblk0_apply m c t ⟨4 + r.val, by omega⟩ d
  have ek : ∀ k d, _ = _ := fun k d => keys_apply c (grid0.coords t) (tables m 0) (tables m 2) (hr c t) h0 h2 (V m c main_arg5) 1 k d
  have ev : ∀ k d, _ = _ := fun k d => vals_apply c (grid0.coords t) (tables m 0) (tables m 2) (hr c t) h0 h2 (V m c main_arg6) 1 k d
  have ew : ∀ j, _ = _ := fun j => iblk1_apply m c t 0 j
  rw [e1]
  congr 1
  · exact funext eq0
  · exact funext fun k => funext fun d => ek k d
  · exact funext fun k => funext fun d => ev k d
  · refine funext fun d => (ew _).trans (congrArg (fun z => (show FVec Ideal S8x16x768 .f32 from V m c main_arg4) (ix3 (grid0.coords t 0) 0 z)) (Fin.ext ?_))
    show 128 + d.val = 1 * 128 + d.val; omega
  · refine funext fun d => (ew _).trans (congrArg (fun z => (show FVec Ideal S8x16x768 .f32 from V m c main_arg4) (ix3 (grid0.coords t 0) 0 z)) (Fin.ext ?_))
    show 384 + d.val = 256 + (1 * 128 + d.val); omega

include h0 h2 in
theorem point (c : Dev nD) (t : Fin (cf m).N) (r : Fin 8) (d : Fin 128) :
    result m hr c t (ix3 0 r d) = G m c (ix3 (grid0.coords t 0) r d) := by
  by_cases h : r.val < 4
  · exact point_low m hr h0 h2 c t ⟨r.val, h⟩ d
  · have e : r = ⟨4 + (⟨r.val - 4, by omega⟩ : Fin 4).val, by show 4 + (r.val - 4) < 8; omega⟩ := Fin.ext (by show r.val = 4 + (r.val - 4); omega)
    rw [e]
    exact point_high m hr h0 h2 c t ⟨r.val - 4, by omega⟩ d

include h0 h2 in
theorem point_emb (c : Dev nD) (t : Fin (cf m).N) (y : S1x8x128.Idx) :
    result m hr c t y = G m c ((((cf m).win 2).blk t).view.emb y) := by
  obtain ⟨r, d, rfl⟩ : ∃ (r : Fin 8) (d : Fin 128), y = ix3 0 r d := ⟨y 1, y 2, funext fun a => by
    match a with
    | ⟨0, _⟩ => exact Subsingleton.elim (α := Fin 1) _ _
    | ⟨1, _⟩ => rfl
    | ⟨2, _⟩ => rfl⟩
  rw [emb2 m t]
  exact point m hr h0 h2 c t r d

include h0 h2 in
/-- The array that the launch leaves is `G`. -/
theorem final (c : Dev nD) : (dats m hr 0 c).arrAt 2 (cf m).N = G m c :=
  (dats m hr 0 c).arrAt_eq_of_covers 2 _ (covers m) (fun t _ y => point_emb m hr h0 h2 c t y) (Memref.isWhole_whole _)

end Cert.Attend
end
-- ==== Proof.AttendRefGather.lean ====
module

public import proofs.«01_k».proof.Proof.AttendMath
public import proofs.«01_k».proof.Proof.Gen.ReferenceIdeal.Run

/-! # The reference's gathers read at an index -/

@[expose] public section

set_option maxRecDepth 16384

noncomputable section

open Idealize.ShloMosaic Idealize.ShloMosaic.TcCoe
open Cert.ReferenceIdeal Cert.ReferenceIdeal.Gen

namespace Cert.AttendRef

/-- A pool's row at a pair of start indices. -/
theorem gather_pool {α : Type} (x : S1280x128x2x128.Idx → α) (idx : IVec S8x1x256x2 32) (b : Fin 8) (k : Fin 256) (e : Fin 2) (d : Fin 128) :
    Host.gather gather_S1280x128x2x128_S8x1x256x2_S8x1x256x2x128_34_01_n_n_01_3_112128 x idx (ix5 b 0 k e d)
      = x (ix4 (⟨min (idx (ix4 b 0 k 0)).toInt.toNat 1279, by omega⟩ : Fin 1280) (⟨min (idx (ix4 b 0 k 1)).toInt.toNat 127, by omega⟩ : Fin 128) e d) := by
  unfold Host.gather
  refine congrArg x (funext fun a => Fin.ext ?_)
  have h0 : GatherDims.siIdx gather_S1280x128x2x128_S8x1x256x2_S8x1x256x2x128_34_01_n_n_01_3_112128 (ix5 b 0 k e d) ⟨0, by decide⟩ = ix4 b 0 k 0 := by
    funext a; refine Fin.ext ?_
    match a with
    | ⟨0, _⟩ => rfl
    | ⟨1, _⟩ => rfl
    | ⟨2, _⟩ => rfl
    | ⟨3, _⟩ => rfl
  have h1 : GatherDims.siIdx gather_S1280x128x2x128_S8x1x256x2_S8x1x256x2x128_34_01_n_n_01_3_112128 (ix5 b 0 k e d) ⟨1, by decide⟩ = ix4 b 0 k 1 := by
    funext a; refine Fin.ext ?_
    match a with
    | ⟨0, _⟩ => rfl
    | ⟨1, _⟩ => rfl
    | ⟨2, _⟩ => rfl
    | ⟨3, _⟩ => rfl
  match a with
  | ⟨0, _⟩ => exact congrArg (fun z => min (idx z).toInt.toNat 1279) h0
  | ⟨1, _⟩ => exact congrArg (fun z => min (idx z).toInt.toNat 127) h1
  | ⟨2, _⟩ => exact Nat.zero_add _
  | ⟨3, _⟩ => exact Nat.zero_add _

/-- The new token's row at a pair of start indices, the second of them the only one there is. -/
theorem gather_new {α : Type} (x : S8x1x2x128.Idx → α) (idx : IVec S8x1x256x2 32) (b : Fin 8) (k : Fin 256) (e : Fin 2) (d : Fin 128) :
    Host.gather gather_S8x1x2x128_S8x1x256x2_S8x1x256x2x128_34_01_n_n_01_3_112128 x idx (ix5 b 0 k e d)
      = x (ix4 (⟨min (idx (ix4 b 0 k 0)).toInt.toNat 7, by omega⟩ : Fin 8) (0 : Fin 1) e d) := by
  unfold Host.gather
  refine congrArg x (funext fun a => Fin.ext ?_)
  have h0 : GatherDims.siIdx gather_S8x1x2x128_S8x1x256x2_S8x1x256x2x128_34_01_n_n_01_3_112128 (ix5 b 0 k e d) ⟨0, by decide⟩ = ix4 b 0 k 0 := by
    funext a; refine Fin.ext ?_
    match a with
    | ⟨0, _⟩ => rfl
    | ⟨1, _⟩ => rfl
    | ⟨2, _⟩ => rfl
    | ⟨3, _⟩ => rfl
  match a with
  | ⟨0, _⟩ => exact congrArg (fun z => min (idx z).toInt.toNat 7) h0
  | ⟨1, _⟩ => exact Nat.min_zero _
  | ⟨2, _⟩ => exact Nat.zero_add _
  | ⟨3, _⟩ => exact Nat.zero_add _

/-- The page table's word at a pair of start indices. -/
theorem gather_page {α : Type} (x : S8x128.Idx → α) (idx : IVec S8x1x256x2 32) (b : Fin 8) (k : Fin 256) :
    Host.gather gather_S8x128_S8x1x256x2_S8x1x256_n_01_n_n_01_3_11 x idx (ix3 b 0 k)
      = x (ix2 (⟨min (idx (ix4 b 0 k 0)).toInt.toNat 7, by omega⟩ : Fin 8) (⟨min (idx (ix4 b 0 k 1)).toInt.toNat 127, by omega⟩ : Fin 128)) := by
  unfold Host.gather
  refine congrArg x (funext fun a => Fin.ext ?_)
  have h0 : GatherDims.siIdx gather_S8x128_S8x1x256x2_S8x1x256_n_01_n_n_01_3_11 (ix3 b 0 k) ⟨0, by decide⟩ = ix4 b 0 k 0 := by
    funext a; refine Fin.ext ?_
    match a with
    | ⟨0, _⟩ => rfl
    | ⟨1, _⟩ => rfl
    | ⟨2, _⟩ => rfl
    | ⟨3, _⟩ => rfl
  have h1 : GatherDims.siIdx gather_S8x128_S8x1x256x2_S8x1x256_n_01_n_n_01_3_11 (ix3 b 0 k) ⟨1, by decide⟩ = ix4 b 0 k 1 := by
    funext a; refine Fin.ext ?_
    match a with
    | ⟨0, _⟩ => rfl
    | ⟨1, _⟩ => rfl
    | ⟨2, _⟩ => rfl
    | ⟨3, _⟩ => rfl
  match a with
  | ⟨0, _⟩ => exact congrArg (fun z => min (idx z).toInt.toNat 7) h0
  | ⟨1, _⟩ => exact congrArg (fun z => min (idx z).toInt.toNat 127) h1

/-- A pair of words laid side by side. -/
theorem pair_apply (x y : IVec S8x1x256x1 32) (b : Fin 8) (k : Fin 256) :
    concatenate S8x1x256x2 3 [⟨S8x1x256x1, x⟩, ⟨S8x1x256x1, y⟩] concatenates_S8x1x256x1_S8x1x256x1_S8x1x256x2_d3 (ix4 b 0 k 0) = x (ix4 b 0 k 0)
    ∧ concatenate S8x1x256x2 3 [⟨S8x1x256x1, x⟩, ⟨S8x1x256x1, y⟩] concatenates_S8x1x256x1_S8x1x256x1_S8x1x256x2_d3 (ix4 b 0 k 1) = y (ix4 b 0 k 0) := by
  constructor <;> pointwise

end Cert.AttendRef
end
-- ==== Proof.AttendRefWords.lean ====
module

public import proofs.«01_k».proof.Proof.AttendRefGather
public import Idealize.ShloMosaic.Lib.StableHlo.Predicate

/-! # The reference's integer steps on a slot's word -/

@[expose] public section

set_option maxRecDepth 16384

noncomputable section

open Idealize.ShloMosaic

namespace Cert.AttendRef

/-- A word's sign as a word. -/
def sign (w : BitVec 32) : BitVec 32 := if w = 0 then 0 else if w.msb then -1 else 1

/-- Division by 128 rounded down, from the division that rounds to zero. -/
def quot (w : BitVec 32) : BitVec 32 :=
  Scalar.select (IntOp.andi (IntOp.cmpi .ne (sign w) (sign 128#32)) (IntOp.cmpi .ne (IntOp.remsi .host w 128#32) 0#32))
    (IntOp.subi (IntOp.divsi .host w 128#32) 1#32) (IntOp.divsi .host w 128#32)

/-- The divisor of the remainder, one in place of zero. -/
def divisor : BitVec 32 := Scalar.select (IntOp.cmpi .eq 128#32 0#32) 1#32 128#32

/-- The remainder by 128 with the divisor's sign, from the remainder with the dividend's. -/
def rest (w : BitVec 32) : BitVec 32 :=
  Scalar.select (IntOp.andi (IntOp.cmpi .ne (IntOp.cmpi .slt (IntOp.remsi .host w divisor) 0#32) (IntOp.cmpi .slt divisor 0#32))
      (IntOp.cmpi .ne (IntOp.remsi .host w divisor) 0#32))
    (IntOp.addi (IntOp.remsi .host w divisor) divisor) (IntOp.remsi .host w divisor)

/-- An index counted from the end where it is negative. -/
def wrap (n w : BitVec 32) : BitVec 32 := Scalar.select (IntOp.cmpi .slt w 0#32) (IntOp.addi w n) w

theorem divisor_eq : divisor = 128#32 := by decide

theorem not_neg (w : BitVec 32) (h : w.toNat < 2 ^ 31) : IntOp.cmpi .slt w 0#32 = 0#1 := by
  have e : w.slt 0#32 = false := by
    simp only [BitVec.slt, decide_eq_false_iff_not, BitVec.toInt_eq_toNat_cond, BitVec.toNat_ofNat]
    split <;> omega
  simp only [IntOp.cmpi, e]
  rfl

theorem wrap_eq (n w : BitVec 32) (h : w.toNat < 2 ^ 31) : wrap n w = w := by
  unfold wrap
  rw [not_neg w h]
  rfl

theorem toInt_toNat (w : BitVec 32) (h : w.toNat < 2 ^ 31) : w.toInt.toNat = w.toNat := by
  rw [BitVec.toInt_eq_toNat_of_lt (by omega)]
  rfl

theorem msb_false (w : BitVec 32) (h : w.toNat < 2 ^ 31) : w.msb = false := BitVec.msb_eq_false_iff_two_mul_lt.2 (by omega)

theorem divsi_val (w : BitVec 32) (h : w.toNat < 2 ^ 31) : (IntOp.divsi .host w 128#32).toNat = w.toNat / 128 := by
  unfold IntOp.divsi
  rw [if_neg (by rintro (h | ⟨_, h⟩) <;> exact absurd h (by decide)), BitVec.sdiv_eq, msb_false w h, show (128#32).msb = false from by decide]
  exact BitVec.toNat_udiv

theorem remsi_val (w : BitVec 32) (h : w.toNat < 2 ^ 31) : (IntOp.remsi .host w 128#32).toNat = w.toNat % 128 := by
  unfold IntOp.remsi
  rw [if_neg (by rintro (h | ⟨_, h⟩) <;> exact absurd h (by decide)), BitVec.srem_eq, msb_false w h, show (128#32).msb = false from by decide]
  exact BitVec.toNat_umod

theorem quot_val (w : BitVec 32) (h : w.toNat < 2 ^ 31) : (quot w).toNat = w.toNat / 128 := by
  have key : IntOp.andi (IntOp.cmpi .ne (sign w) (sign 128#32)) (IntOp.cmpi .ne (IntOp.remsi .host w 128#32) 0#32) = 0#1 := by
    by_cases hw : w = 0
    · subst hw; decide
    · have e : sign w = 1 := by unfold sign; rw [if_neg hw, msb_false w h]; rfl
      rw [e]
      exact BitVec.zero_and
  unfold quot
  rw [key]
  exact divsi_val w h

theorem rest_val (w : BitVec 32) (h : w.toNat < 2 ^ 31) : (rest w).toNat = w.toNat % 128 := by
  have hr := remsi_val w h
  have key : IntOp.andi (IntOp.cmpi .ne (IntOp.cmpi .slt (IntOp.remsi .host w 128#32) 0#32) (IntOp.cmpi .slt 128#32 0#32))
      (IntOp.cmpi .ne (IntOp.remsi .host w 128#32) 0#32) = 0#1 := by
    rw [not_neg _ (by omega)]
    exact BitVec.zero_and
  unfold rest
  rw [divisor_eq, key]
  exact hr

end Cert.AttendRef
end
-- ==== Proof.AttendRefPick.lean ====
module

public import proofs.«01_k».proof.Proof.AttendRefWords
public import proofs.«01_k».proof.Proof.AttendJoin

/-! # The rows that the reference gathers, read at an index -/

@[expose] public section

set_option maxRecDepth 16384

noncomputable section

open Idealize.ShloMosaic Idealize.ShloMosaic.TcCoe
open Cert.ReferenceIdeal Cert.ReferenceIdeal.Gen Cert.ReferenceIdeal.Value Cert.Attend

namespace Cert.AttendRef

variable (V0 : Valuation τ sig (Elt Ideal))

abbrev slots : IVec S8x256 32 := V0 (Proc.devRef .tc main_arg0)
abbrev counts : IVec S8 32 := V0 (Proc.devRef .tc main_arg1)
abbrev pages : IVec S8x128 32 := V0 (Proc.devRef .tc main_arg2)

/-- The slot of row `k` of sample `b`, past the pools' slots where the pools do not hold it. -/
def slotWord (b : Fin 8) (k : Fin 256) : BitVec 32 := Scalar.select (held (counts V0 (ix1 b)) k) (slots V0 (ix2 b k)) 16384#32

theorem v15_apply (b : Fin 8) (k : Fin 256) : (show IVec S8x1x256 32 from res_main_v15 V0) (ix3 b 0 k) = slotWord V0 b k := by
  pointwise [res_main_v15, slotWord, held]
  rfl

/-- The slot brought into the pools' range. -/
def poolWord (b : Fin 8) (k : Fin 256) : BitVec 32 := IntOp.minsi (slotWord V0 b k) 16383#32

theorem v20_apply (b : Fin 8) (k : Fin 256) : (show IVec S8x1x256 32 from res_main_v20 V0) (ix3 b 0 k) = poolWord V0 b k := by
  refine Eq.trans ?_ (congrArg (fun z => IntOp.minsi z 16383#32) (v15_apply V0 b k))
  pointwise [res_main_v20]

theorem v21_apply (b : Fin 8) (k : Fin 256) : (show IVec S8x1x256 32 from res_main_v21 V0) (ix3 b 0 k) = quot (poolWord V0 b k) := by
  rw [← v20_apply]
  rfl

theorem v37_apply (b : Fin 8) (k : Fin 256) : (show IVec S8x1x256 32 from res_main_v37 V0) (ix3 b 0 k) = rest (poolWord V0 b k) := by
  rw [← v20_apply]
  rfl

/-- A pair of start indices, each counted from the end where negative. -/
def pair (u v : BitVec 32) (x y : IVec S8x1x256 32) : IVec S8x1x256x2 32 :=
  concatenate S8x1x256x2 3 [⟨S8x1x256x1, broadcastInDim S8x1x256x1 ![0, 1, 2] bcast_S8x1x256_S8x1x256x1_0_1_2
      (select (cmpi .slt x (broadcastInDim S8x1x256 ![] bcast_S_S8x1x256 (constantI S_ 32 0#32))) (addi x (broadcastInDim S8x1x256 ![] bcast_S_S8x1x256 (constantI S_ 32 u))) x)⟩,
    ⟨S8x1x256x1, broadcastInDim S8x1x256x1 ![0, 1, 2] bcast_S8x1x256_S8x1x256x1_0_1_2
      (select (cmpi .slt y (broadcastInDim S8x1x256 ![] bcast_S_S8x1x256 (constantI S_ 32 0#32))) (addi y (broadcastInDim S8x1x256 ![] bcast_S_S8x1x256 (constantI S_ 32 v))) y)⟩]
    concatenates_S8x1x256x1_S8x1x256x1_S8x1x256x2_d3

theorem pair_fst (u v : BitVec 32) (x y : IVec S8x1x256 32) (b : Fin 8) (k : Fin 256) : pair u v x y (ix4 b 0 k 0) = wrap u (x (ix3 b 0 k)) := by
  refine (pair_apply _ _ b k).1.trans ?_
  pointwise [wrap]

theorem pair_snd (u v : BitVec 32) (x y : IVec S8x1x256 32) (b : Fin 8) (k : Fin 256) : pair u v x y (ix4 b 0 k 1) = wrap v (y (ix3 b 0 k)) := by
  refine (pair_apply _ _ b k).2.trans ?_
  pointwise [wrap]

/-- The same with the sample's number as the first start index. -/
def batchPair (v : BitVec 32) (y : IVec S8x1x256 32) : IVec S8x1x256x2 32 :=
  concatenate S8x1x256x2 3 [⟨S8x1x256x1, broadcastInDim S8x1x256x1 ![0, 1, 2] bcast_S8x1x256_S8x1x256x1_0_1_2
      (broadcastInDim S8x1x256 ![0, 1, 2] bcast_S8x1x1_S8x1x256_0_1_2 (select (cmpi .slt (res_main_v18 V0) (broadcastInDim S8x1x1 ![] bcast_S_S8x1x1 (constantI S_ 32 0#32)))
        (addi (res_main_v18 V0) (broadcastInDim S8x1x1 ![] bcast_S_S8x1x1 (constantI S_ 32 8#32))) (res_main_v18 V0)))⟩,
    ⟨S8x1x256x1, broadcastInDim S8x1x256x1 ![0, 1, 2] bcast_S8x1x256_S8x1x256x1_0_1_2
      (select (cmpi .slt y (broadcastInDim S8x1x256 ![] bcast_S_S8x1x256 (constantI S_ 32 0#32))) (addi y (broadcastInDim S8x1x256 ![] bcast_S_S8x1x256 (constantI S_ 32 v))) y)⟩]
    concatenates_S8x1x256x1_S8x1x256x1_S8x1x256x2_d3

theorem batchPair_fst (v : BitVec 32) (y : IVec S8x1x256 32) (b : Fin 8) (k : Fin 256) : batchPair V0 v y (ix4 b 0 k 0) = wrap 8#32 (BitVec.ofNat 32 b.val) := by
  refine (pair_apply _ _ b k).1.trans ?_
  pointwise [wrap, res_main_v18]

theorem batchPair_snd (v : BitVec 32) (y : IVec S8x1x256 32) (b : Fin 8) (k : Fin 256) : batchPair V0 v y (ix4 b 0 k 1) = wrap v (y (ix3 b 0 k)) := by
  refine (pair_apply _ _ b k).2.trans ?_
  pointwise [wrap]

theorem wrap_batch (b : Fin 8) : (wrap 8#32 (BitVec.ofNat 32 b.val)).toInt.toNat = b.val := by revert b; decide

theorem v36_eq : res_main_v36 V0 = Host.gather gather_S8x128_S8x1x256x2_S8x1x256_n_01_n_n_01_3_11 (pages V0) (batchPair V0 128#32 (res_main_v21 V0)) := rfl

/-- The pool's row that the words of a sample's row name. -/
theorem poolWord_of_held (b : Fin 8) (k : Fin 256) (hk : held (counts V0 (ix1 b)) k = 1#1) (h0 : (slots V0 (ix2 b k)).toNat < 16384) :
    poolWord V0 b k = slots V0 (ix2 b k) := by
  unfold poolWord slotWord
  rw [hk]
  show IntOp.minsi (slots V0 (ix2 b k)) 16383#32 = _
  unfold IntOp.minsi
  have e : (slots V0 (ix2 b k)).sle 16383#32 = true := by
    simp only [BitVec.sle, decide_eq_true_eq, BitVec.toInt_eq_toNat_cond, BitVec.toNat_ofNat]
    split <;> omega
  first
    | rw [if_pos e]
    | (split
       · rfl
       · refine BitVec.eq_of_toNat_eq ?_
         simp_all [BitVec.slt, BitVec.sle, BitVec.toInt_eq_toNat_cond]
         omega)

theorem v36_apply (b : Fin 8) (k : Fin 256) (hk : held (counts V0 (ix1 b)) k = 1#1) (h0 : (slots V0 (ix2 b k)).toNat < 16384) :
    (show IVec S8x1x256 32 from res_main_v36 V0) (ix3 b 0 k) = pages V0 (ix2 b (pageOf (slots V0 (ix2 b k)))) := by
  rw [v36_eq]
  refine (gather_page _ _ b k).trans (congrArg (pages V0) ?_)
  have q := quot_val (slots V0 (ix2 b k)) (by omega)
  have e0 : (batchPair V0 128#32 (res_main_v21 V0) (ix4 b 0 k 0)).toInt.toNat = b.val := by rw [batchPair_fst]; exact wrap_batch b
  have e1 : (batchPair V0 128#32 (res_main_v21 V0) (ix4 b 0 k 1)).toInt.toNat = (slots V0 (ix2 b k)).toNat / 128 := by
    rw [batchPair_snd, show res_main_v21 V0 (ix3 b 0 k) = _ from v21_apply V0 b k, poolWord_of_held V0 b k hk h0, wrap_eq _ _ (by omega), toInt_toNat _ (by omega), q]
  refine congrArg₂ (fun x y => ix2 x y) (Fin.ext ?_) (Fin.ext ?_)
  · show min _ 7 = b.val
    rw [e0]; omega
  · show min _ 127 = (slots V0 (ix2 b k)).toNat / 128 % 128
    rw [e1]; omega

/-- The pool's rows that the slots name. -/
def poolRows (P : FVec Ideal S1x1280x128x2x128 .f32) : FVec Ideal S8x1x256x2x128 .f32 :=
  Host.gather gather_S1280x128x2x128_S8x1x256x2_S8x1x256x2x128_34_01_n_n_01_3_112128
    (shapeCast _ P shapeCasts_S1x1280x128x2x128_S1280x128x2x128) (pair 1280#32 128#32 (res_main_v36 V0) (res_main_v37 V0))

/-- The new token's row for every row of a sample. -/
def newRows (w : FVec Ideal S8x1x256 .f32) : FVec Ideal S8x1x256x2x128 .f32 :=
  Host.gather gather_S8x1x2x128_S8x1x256x2_S8x1x256x2x128_34_01_n_n_01_3_112128
    (shapeCast _ (shapeCast _ w shapeCasts_S8x1x256_S8x256) shapeCasts_S8x256_S8x1x2x128) (batchPair V0 1#32 (res_main_v54 V0))

/-- A sample's rows: the pool's where a slot lies there, the new token's elsewhere. -/
def rows (P : FVec Ideal S1x1280x128x2x128 .f32) (w : FVec Ideal S8x1x256 .f32) : FVec Ideal S8x1x256x2x128 .f32 :=
  select (broadcastInDim S8x1x256x2x128 ![0, 1, 2, 3, 4] bcast_S8x1x256x1x1_S8x1x256x2x128_0_1_2_3_4
    (broadcastInDim S8x1x256x1x1 ![0, 1, 2] bcast_S8x1x256_S8x1x256x1x1_0_1_2
      (cmpi .slt (show IVec S8x1x256 32 from res_main_v15 V0) (broadcastInDim S8x1x256 ![] bcast_S_S8x1x256 (constantI S_ 32 16384#32)))))
    (poolRows V0 P) (newRows V0 w)

theorem newRows_apply (w : FVec Ideal S8x1x256 .f32) (b : Fin 8) (k : Fin 256) (e : Fin 2) (d : Fin 128) :
    newRows V0 w (ix5 b 0 k e d) = w (ix3 b 0 ⟨e.val * 128 + d.val, by omega⟩) := by
  unfold newRows
  refine (gather_new _ _ b k e d).trans ?_
  have e0 : (batchPair V0 1#32 (res_main_v54 V0) (ix4 b 0 k 0)).toInt.toNat = b.val := by rw [batchPair_fst]; exact wrap_batch b
  have h : (⟨min (batchPair V0 1#32 (res_main_v54 V0) (ix4 b 0 k 0)).toInt.toNat 7, by omega⟩ : Fin 8) = b := Fin.ext (by show min _ 7 = b.val; rw [e0]; omega)
  rw [h]
  pointwise

theorem poolRows_apply (P : FVec Ideal S1x1280x128x2x128 .f32) (b : Fin 8) (k : Fin 256) (e : Fin 2) (d : Fin 128)
    (hk : held (counts V0 (ix1 b)) k = 1#1) (h0 : (slots V0 (ix2 b k)).toNat < 16384)
    (h2 : (pages V0 (ix2 b (pageOf (slots V0 (ix2 b k))))).toNat < 1280) :
    poolRows V0 P (ix5 b 0 k e d) = P (ix5 0 (frameOf (pages V0 (ix2 b (pageOf (slots V0 (ix2 b k)))))) (cellOf (slots V0 (ix2 b k))) e d) := by
  unfold poolRows
  refine (gather_pool _ _ b k e d).trans ?_
  have r := rest_val (slots V0 (ix2 b k)) (by omega)
  have e0 : (pair 1280#32 128#32 (res_main_v36 V0) (res_main_v37 V0) (ix4 b 0 k 0)).toInt.toNat = (pages V0 (ix2 b (pageOf (slots V0 (ix2 b k))))).toNat := by
    rw [pair_fst, show res_main_v36 V0 (ix3 b 0 k) = _ from v36_apply V0 b k hk h0, wrap_eq _ _ (by omega), toInt_toNat _ (by omega)]
  have e1 : (pair 1280#32 128#32 (res_main_v36 V0) (res_main_v37 V0) (ix4 b 0 k 1)).toInt.toNat = (slots V0 (ix2 b k)).toNat % 128 := by
    rw [pair_snd, show res_main_v37 V0 (ix3 b 0 k) = _ from v37_apply V0 b k, poolWord_of_held V0 b k hk h0, wrap_eq _ _ (by omega), toInt_toNat _ (by omega), r]
  have f0 : (⟨min (pair 1280#32 128#32 (res_main_v36 V0) (res_main_v37 V0) (ix4 b 0 k 0)).toInt.toNat 1279, by omega⟩ : Fin 1280)
      = frameOf (pages V0 (ix2 b (pageOf (slots V0 (ix2 b k))))) := Fin.ext (by show min _ 1279 = _ % 1280; rw [e0]; omega)
  have f1 : (⟨min (pair 1280#32 128#32 (res_main_v36 V0) (res_main_v37 V0) (ix4 b 0 k 1)).toInt.toNat 127, by omega⟩ : Fin 128)
      = cellOf (slots V0 (ix2 b k)) := Fin.ext (by show min _ 127 = _ % 128; rw [e1]; omega)
  rw [f0, f1]
  pointwise

theorem rows_apply (P : FVec Ideal S1x1280x128x2x128 .f32) (w : FVec Ideal S8x1x256 .f32) (b : Fin 8) (k : Fin 256) (e : Fin 2) (d : Fin 128)
    (h0 : ∀ x, (slots V0 x).toNat < 16384) (h2 : ∀ x, (pages V0 x).toNat < 1280) :
    rows V0 P w (ix5 b 0 k e d) = whole (counts V0 (ix1 b))
      (fun k d => P (ix5 0 (frameOf (pages V0 (ix2 b (pageOf (slots V0 (ix2 b k)))))) (cellOf (slots V0 (ix2 b k))) e d))
      (fun d => w (ix3 b 0 ⟨e.val * 128 + d.val, by omega⟩)) k d := by
  have e15 : rows V0 P w (ix5 b 0 k e d) = Scalar.select (IntOp.cmpi .slt (slotWord V0 b k) 16384#32) (poolRows V0 P (ix5 b 0 k e d)) (newRows V0 w (ix5 b 0 k e d)) := by
    rw [← v15_apply]
    unfold rows
    pointwise
  rw [e15, newRows_apply]
  by_cases hk : held (counts V0 (ix1 b)) k = 1#1
  · rw [whole_of_held _ _ _ _ hk, poolRows_apply V0 P b k e d hk (h0 _) (h2 _)]
    have hs : IntOp.cmpi .slt (slotWord V0 b k) 16384#32 = 1#1 := by
      have hb := h0 (ix2 b k)
      unfold slotWord
      rw [hk]
      show IntOp.cmpi .slt (slots V0 (ix2 b k)) 16384#32 = 1#1
      simp only [IntOp.cmpi, StableHlo.Predicate.ofBool_eq_one_iff, BitVec.slt, decide_eq_true_eq, BitVec.toInt_eq_toNat_cond, BitVec.toNat_ofNat]
      split <;> omega
    rw [hs]
    rfl
  · have hz : held (counts V0 (ix1 b)) k = 0#1 := by
      unfold held at hk ⊢
      revert hk
      generalize IntOp.cmpi CmpIPredicate.slt (BitVec.ofNat 32 k.val) (counts V0 (ix1 b)) = z
      revert z; decide
    rw [whole_of_not _ _ _ _ hz]
    have hs : IntOp.cmpi .slt (slotWord V0 b k) 16384#32 = 0#1 := by
      unfold slotWord
      rw [hz]
      show IntOp.cmpi .slt 16384#32 16384#32 = 0#1
      decide
    rw [hs]
    rfl

end Cert.AttendRef
end
-- ==== Proof.AttendRefValue.lean ====
module

public import proofs.«01_k».proof.Proof.AttendRefPick
public import Idealize.ShloMosaic.Lib.Claim

/-! # The reference's result read at an index -/

@[expose] public section

set_option maxRecDepth 16384

noncomputable section

open Idealize.ShloMosaic Idealize.ShloMosaic.TcCoe Idealize.SL.Sem
open Cert.ReferenceIdeal Cert.ReferenceIdeal.Gen Cert.ReferenceIdeal.Value Cert.Attend

namespace Cert.AttendRef

/-- The scores of the queries against their heads' rows. -/
def scores (q : FVec Ideal S8x8x128 .bf16) (R : FVec Ideal S8x1x256x2x128 .f32) : FVec Ideal S8x1x2x4x256 .f32 :=
  mulf (Host.dotGeneral dot_S8x1x2x4x128_S8x1x256x2x128_S8x1x2x4x256_4_4_3_2_012_013 none
    (shapeCast _ (extf .f32 q bitsLt_bf16_f32) shapeCasts_S8x8x128_S8x1x2x4x128) R) (broadcastInDim S8x1x2x4x256 ![] bcast_S_S8x1x2x4x256 (constant S_ .f32 0x3DB504F3#32))

theorem scores_apply (q : FVec Ideal S8x8x128 .bf16) (R : FVec Ideal S8x1x256x2x128 .f32) (b : Fin 8) (e : Fin 2) (g : Fin 4) (k : Fin 256) :
    scores q R (ix5 b 0 e g k) = score (fun d => q (ix3 b ⟨e.val * 4 + g.val, by omega⟩ d)) (fun d => R (ix5 b 0 k e d)) := by
  pointwise [scores, score]

/-- The exponentials of the scores less the largest. -/
def exps (s : FVec Ideal S8x1x2x4x256 .f32) : FVec Ideal S8x1x2x4x256 .f32 :=
  Host.exp (subf s (broadcastInDim S8x1x2x4x256 ![0, 1, 2, 3, 4] bcast_S8x1x2x4x1_S8x1x2x4x256_0_1_2_3_4
    (broadcastInDim S8x1x2x4x1 ![0, 1, 2, 3] bcast_S8x1x2x4_S8x1x2x4x1_0_1_2_3
      (maximumf (broadcastInDim S8x1x2x4 ![] bcast_S_S8x1x2x4 (constant S_ .f32 0xFF800000#32))
        (Host.reduce FloatOps.maximumf s (constant S_ .f32 0xFF800000#32) reducesTo_S8x1x2x4x256_S8x1x2x4_d4 h_S_)))))

theorem exps_apply (s : FVec Ideal S8x1x2x4x256 .f32) (b : Fin 8) (e : Fin 2) (g : Fin 4) (k : Fin 256) :
    exps s (ix5 b 0 e g k) = Ideal.exp (s (ix5 b 0 e g k) - max absent (top fun k => s (ix5 b 0 e g k))) := by
  pointwise [exps, top, absent]

/-- The rows weighted by the exponentials over their sum. -/
def weigh (x : FVec Ideal S8x1x2x4x256 .f32) (R : FVec Ideal S8x1x256x2x128 .f32) : FVec Ideal S8x8x128 .f32 :=
  shapeCast _ (Host.dotGeneral dot_S8x1x2x4x256_S8x1x256x2x128_S8x1x2x4x128_4_2_3_4_012_013 none
    (Host.divf x (broadcastInDim S8x1x2x4x256 ![0, 1, 2, 3, 4] bcast_S8x1x2x4x1_S8x1x2x4x256_0_1_2_3_4
      (broadcastInDim S8x1x2x4x1 ![0, 1, 2, 3] bcast_S8x1x2x4_S8x1x2x4x1_0_1_2_3
        (Host.reduceAdd x (constant S_ .f32 0x00000000#32) reducesTo_S8x1x2x4x256_S8x1x2x4_d4 h_S_)))) R) shapeCasts_S8x1x2x4x128_S8x8x128

theorem weigh_apply (x : FVec Ideal S8x1x2x4x256 .f32) (R : FVec Ideal S8x1x256x2x128 .f32) (b : Fin 8) (e : Fin 2) (g : Fin 4) (d : Fin 128) :
    weigh x R (ix3 b ⟨e.val * 4 + g.val, by omega⟩ d)
      = ∑ k : Fin 256, Ideal.div (x (ix5 b 0 e g k)) (∑ j : Fin 256, x (ix5 b 0 e g j)) * R (ix5 b 0 k e d) := by
  pointwise [weigh]

theorem weigh_exps (s : FVec Ideal S8x1x2x4x256 .f32) (R : FVec Ideal S8x1x256x2x128 .f32) (b : Fin 8) (e : Fin 2) (g : Fin 4) (d : Fin 128) :
    weigh (exps s) R (ix3 b ⟨e.val * 4 + g.val, by omega⟩ d) = attend (fun k => s (ix5 b 0 e g k)) (fun k => R (ix5 b 0 k e d)) := by
  rw [weigh_apply]
  simp only [exps_apply, absent_eq, max_eq_right bot_le]
  rfl

variable (V0 : Valuation τ sig (Elt Ideal))

abbrev queries : FVec Ideal S8x8x128 .bf16 := V0 (Proc.devRef .tc main_arg3)
abbrev fresh : FVec Ideal S8x16x768 .f32 := V0 (Proc.devRef .tc main_arg4)
abbrev poolK : FVec Ideal S1x1280x128x2x128 .f32 := V0 (Proc.devRef .tc main_arg5)
abbrev poolV : FVec Ideal S1x1280x128x2x128 .f32 := V0 (Proc.devRef .tc main_arg6)

/-- The new tokens' keys and values. -/
def newK : FVec Ideal S8x1x256 .f32 := extractStridedSlice S8x1x256 ![0, 0, 0] (fresh V0) slices_S8x16x768_S8x1x256_0_0_0
def newV : FVec Ideal S8x1x256 .f32 := extractStridedSlice S8x1x256 ![0, 0, 256] (fresh V0) slices_S8x16x768_S8x1x256_0_0_256

/-- The reference's result. -/
def out : FVec Ideal S8x8x128 .f32 := weigh (exps (scores (queries V0) (rows V0 (poolK V0) (newK V0)))) (rows V0 (poolV V0) (newV V0))

/-- A pool's rows for one sample and one head. -/
def picked (P : FVec Ideal S1x1280x128x2x128 .f32) (b : Fin 8) (e : Fin 2) (k : Fin 256) (d : Fin 128) : EReal :=
  P (ix5 0 (frameOf (pages V0 (ix2 b (pageOf (slots V0 (ix2 b k)))))) (cellOf (slots V0 (ix2 b k))) e d)

theorem newK_apply (b : Fin 8) (e : Fin 2) (d : Fin 128) :
    newK V0 (ix3 b 0 ⟨e.val * 128 + d.val, by omega⟩) = fresh V0 (ix3 b 0 ⟨e.val * 128 + d.val, by omega⟩) := by
  pointwise [newK]

theorem newV_apply (b : Fin 8) (e : Fin 2) (d : Fin 128) :
    newV V0 (ix3 b 0 ⟨e.val * 128 + d.val, by omega⟩) = fresh V0 (ix3 b 0 ⟨256 + (e.val * 128 + d.val), by omega⟩) := by
  pointwise [newV]

theorem out_apply (b : Fin 8) (e : Fin 2) (g : Fin 4) (d : Fin 128)
    (h0 : ∀ x, (slots V0 x).toNat < 16384) (h2 : ∀ x, (pages V0 x).toNat < 1280) :
    out V0 (ix3 b ⟨e.val * 4 + g.val, by omega⟩ d) = entryWhole (counts V0 (ix1 b)) (fun d => queries V0 (ix3 b ⟨e.val * 4 + g.val, by omega⟩ d))
      (picked V0 (poolK V0) b e) (picked V0 (poolV V0) b e)
      (fun d => fresh V0 (ix3 b 0 ⟨e.val * 128 + d.val, by omega⟩)) (fun d => fresh V0 (ix3 b 0 ⟨256 + (e.val * 128 + d.val), by omega⟩)) d := by
  refine (weigh_exps _ _ b e g d).trans ?_
  simp only [scores_apply, rows_apply V0 _ _ b _ e _ h0 h2, newK_apply, newV_apply]
  rfl

theorem v94_eq : res_main_v94 V0 = res_main_v36 V0 := rfl
theorem v95_eq : res_main_v95 V0 = res_main_v37 V0 := rfl
theorem v112_eq : res_main_v112 V0 = res_main_v54 V0 := rfl
theorem v76_eq : res_main_v76 V0 = res_main_v18 V0 := rfl
theorem v134_eq : res_main_v134 V0 = scores (queries V0) (rows V0 (poolK V0) (newK V0)) := rfl
theorem v141_eq : res_main_v141 V0 = exps (scores (queries V0) (rows V0 (poolK V0) (newK V0))) := by
  rw [← v134_eq]
  rfl

/-- The reference's run leaves `out`, its arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v147) = out (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_mono (Value.run m ρ) fun r h c => by
    refine ⟨(h c).1.trans ?_, (h c).2⟩
    rw [v94_eq, v95_eq, v112_eq, v76_eq, v141_eq]
    rfl

end Cert.AttendRef
end
-- ==== Proof.AttendAlg.lean ====
module

public import proofs.«01_k».proof.Proof.AttendFrame
public import proofs.«01_k».proof.Proof.AttendFinite
public import proofs.«01_k».proof.Proof.AttendValue
public import proofs.«01_k».proof.Proof.AttendRefValue
public import proofs.«01_k».proof.Defs

/-! # The result of `sample_attend` is the reference's -/

@[expose] public section

set_option maxRecDepth 65536

noncomputable section

namespace Cert.Attend

open Cert.KernelIdeal Cert.KernelIdeal.Gen
open Idealize.ShloMosaic Idealize.ShloMosaic.TcCoe
open Idealize.SL Idealize.SL.Sem

/-- The reference's result from arrays in range and finite is the kernel's from the same arrays. -/
theorem tie (V0 : Valuation Cert.ReferenceIdeal.τ Cert.ReferenceIdeal.sig (Elt Ideal)) (T0 : IVec S8x256 32) (T1 : IVec S8 32) (T2 : IVec S8x128 32)
    (q : FVec Ideal S8x8x128 .bf16) (w : FVec Ideal S8x16x768 .f32) (K W : FVec Ideal S1x1280x128x2x128 .f32)
    (e0 : T0 = AttendRef.slots V0) (e1 : T1 = AttendRef.counts V0) (e2 : T2 = AttendRef.pages V0) (e3 : q = AttendRef.queries V0)
    (e4 : w = AttendRef.fresh V0) (e5 : K = AttendRef.poolK V0) (e6 : W = AttendRef.poolV V0)
    (h0 : ∀ x, (T0 x).toNat < 16384) (h1 : ∀ x, T1 x = 255#32 ∨ T1 x = 256#32) (h2 : ∀ x, (T2 x).toNat < 1280)
    (hq : ∀ x, q x ≠ ⊤ ∧ q x ≠ ⊥) (hw : ∀ (b : Fin 8) (d : Fin 256), w (ix3 b 0 ⟨d.val, by omega⟩) ≠ ⊤ ∧ w (ix3 b 0 ⟨d.val, by omega⟩) ≠ ⊥)
    (hK : ∀ x, K x ≠ ⊤ ∧ K x ≠ ⊥) (b r : Fin 8) (d : Fin 128) :
    AttendRef.out V0 (ix3 b r d) = at3 T0 T1 T2 q w K W b r d := by
  subst e0 e1 e2 e3 e4 e5 e6
  have hr : (⟨(headOf r).val * 4 + (⟨r.val % 4, by omega⟩ : Fin 4).val, by show r.val / 4 * 4 + r.val % 4 < 8; omega⟩ : Fin 8) = r :=
    Fin.ext (by show r.val / 4 * 4 + r.val % 4 = r.val; omega)
  have h := AttendRef.out_apply V0 b (headOf r) ⟨r.val % 4, by omega⟩ d h0 h2
  rw [hr] at h
  refine h.trans (Eq.symm ?_)
  exact entry_eq _ _ _ _ _ _ d (h1 _) (fun d => hq _) (fun k d => hK _)
    (fun d => hw b ⟨(headOf r).val * 128 + d.val, by have := (headOf r).isLt; omega⟩)

variable (m : (ℓ : Loc nD τ sig) → Buf (Elt Ideal) ℓ) (ρ : Dev nD → PrngReg) (hr : TablesOk m)
  (h0 : ∀ x : S8x256.Idx, ((show IVec S8x256 32 from tables m 0) x).toNat < 16384)
  (h2 : ∀ x : S8x128.Idx, ((show IVec S8x128 32 from tables m 2) x).toNat < 1280)

include hr h0 h2 in
/-- The launch leaves `G`, and its arguments as they were. -/
theorem run_value : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 (2 : Fin 3)).trans (final m hr h0 h2 c), kept m hr r h.1 c⟩) (run_main m ρ hr)

/-- From tables in range and finite numbers, `sample_attend` computes what its reference computes. -/
theorem algebraic : Cert.algebraic_KernelIdeal_ReferenceIdeal_pre_finite_scores := by
  intro m g m' g' hp hagree
  have hf := fun c => finite_said _ _ _ _ _ _ _ (hp c)
  have hs := fun c => ranges_said _ _ _ _ _ _ _ (hf c).1
  have hr : TablesOk m := tablesOk (F := Ideal) m fun c => (hf c).1
  refine ⟨fun c => G m c, run_value m g hr (hs 0).1 (hs 0).2.2, θ_run_mono (AttendRef.run_out m' g') fun r h c => ?_⟩
  refine ⟨(h c).1.trans ?_, (h c).2⟩
  obtain rfl : c = 0 := Subsingleton.elim _ _
  obtain ⟨a0, a1, a2, a3, a4, a5, a6⟩ := hagree 0
  funext y
  obtain ⟨b, k, d, rfl⟩ : ∃ (b k : Fin 8) (d : Fin 128), y = (ix3 b k d : S8x8x128.Idx) := ⟨y 0, y 1, y 2, funext fun a => by
    match a with
    | ⟨0, _⟩ => rfl
    | ⟨1, _⟩ => rfl
    | ⟨2, _⟩ => rfl⟩
  exact tie _ _ _ _ _ _ _ _ a0.symm a1.symm a2.symm a3.symm a4.symm a5.symm a6.symm (hs 0).1 (hs 0).2.1 (hs 0).2.2
    (hf 0).2.1 (hf 0).2.2.1 (hf 0).2.2.2 b k d

end Cert.Attend
end
-- ==== Proof.InProj.lean ====
module

public import Idealize.ShloMosaic.Lib.Pointwise
public import Idealize.ShloMosaic.Lib.Pipeline.ValueKit

/-! # The input projection as one formula

`dotRow x g w` is one entry of the projection: the row `x` is divided by its root mean square, scaled by `g`, and
multiplied with the column `w`. -/

@[expose] public section

noncomputable section

open Idealize.ShloMosaic

namespace Cert.InProj

/-- One entry of the normalized projection of the row `x`, with gain `g`, on the column `w`. The two literals are the
    row's length 2048 and the 1e-6 under the root. -/
def dotRow (x g w : Fin 2048 → EReal) : EReal :=
  ∑ i, x i * Ideal.rsqrt (Ideal.div (∑ j, x j * x j) (Ideal.ofBits FTy.f32 1157627904#32)
    + Ideal.ofBits FTy.f32 897988541#32) * g i * w i

end Cert.InProj
end
-- ==== Proof.InProjRef.lean ====
module

public import proofs.«01_k».proof.Proof.InProj
public import proofs.«01_k».proof.Proof.Gen.KvPRefIdeal.Run
public import proofs.«01_k».proof.Proof.Gen.KvSRefIdeal.Run

/-! # The references' projection, entry by entry -/

@[expose] public section

set_option maxRecDepth 16384

noncomputable section

open Idealize.ShloMosaic Idealize.ShloMosaic.TcCoe

namespace Cert.InProj

section Prompt
open Cert.KvPRefIdeal Cert.KvPRefIdeal.Gen

/-- The prompt's projection as the references compose it: all 11920 columns. -/
def projP (x : FVec Ideal S2x4096x2048 .f32) (g : FVec Ideal S1x2048 .f32) (w : FVec Ideal S1x2048x11920 .f32) :
    FVec Ideal S2x4096x11920 .f32 :=
  (Host.dotGeneral dot_S2x4096x2048_S2048x11920_S2x4096x11920_2_0_01_1_n_n none (mulf (mulf x (broadcastInDim
    S2x4096x2048 ![0, 1, 2] bcast_S2x4096x1_S2x4096x2048_0_1_2 (Host.rsqrt (addf (Host.divf (broadcastInDim
    S2x4096x1 ![0, 1] bcast_S2x4096_S2x4096x1_0_1 (Host.reduceAdd (mulf x x) (constant S_ .f32 0x00000000#32)
    reducesTo_S2x4096x2048_S2x4096_d2 h_S_)) (broadcastInDim S2x4096x1 ![] bcast_S_S2x4096x1 (constant S_ .f32
    0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2]
    bcast_S2048_S1x1x2048_2 (shapeCast _ g shapeCasts_S1x2048_S2048)))) (shapeCast _ w
    shapeCasts_S1x2048x11920_S2048x11920))

theorem projP_apply (x : FVec Ideal S2x4096x2048 .f32) (g : FVec Ideal S1x2048 .f32) (w : FVec Ideal S1x2048x11920 .f32)
    (b : Fin 2) (s : Fin 4096) (o : Fin 11920) :
    projP x g w (ix3 b s o) = dotRow (fun k => x (ix3 b s k)) (fun k => g (ix2 0 k)) (fun k => w (ix3 0 k o)) := by
  pointwise [projP, dotRow]

end Prompt

section Sample
open Cert.KvSRefIdeal Cert.KvSRefIdeal.Gen

/-- The sample group's projection as the reference composes it. -/
def projS (x : FVec Ideal S8x1x2048 .f32) (g : FVec Ideal S1x2048 .f32) (w : FVec Ideal S1x2048x11920 .f32) :
    FVec Ideal S8x1x11920 .f32 :=
  (Host.dotGeneral dot_S8x1x2048_S2048x11920_S8x1x11920_2_0_01_1_n_n none (mulf (mulf x (broadcastInDim
    S8x1x2048 ![0, 1, 2] bcast_S8x1x1_S8x1x2048_0_1_2 (Host.rsqrt (addf (Host.divf (broadcastInDim
    S8x1x1 ![0, 1] bcast_S8x1_S8x1x1_0_1 (Host.reduceAdd (mulf x x) (constant S_ .f32 0x00000000#32)
    reducesTo_S8x1x2048_S8x1_d2 h_S_)) (broadcastInDim S8x1x1 ![] bcast_S_S8x1x1 (constant S_ .f32
    0x45000000#32))) (broadcastInDim S8x1x1 ![] bcast_S_S8x1x1 (constant S_ .f32 0x358637BD#32))))))
    (broadcastInDim S8x1x2048 ![0, 1, 2] bcast_S1x1x2048_S8x1x2048_0_1_2 (broadcastInDim S1x1x2048 ![2]
    bcast_S2048_S1x1x2048_2 (shapeCast _ g shapeCasts_S1x2048_S2048)))) (shapeCast _ w
    shapeCasts_S1x2048x11920_S2048x11920))

theorem projS_apply (x : FVec Ideal S8x1x2048 .f32) (g : FVec Ideal S1x2048 .f32) (w : FVec Ideal S1x2048x11920 .f32)
    (b : Fin 8) (s : Fin 1) (o : Fin 11920) :
    projS x g w (ix3 b s o) = dotRow (fun k => x (ix3 b s k)) (fun k => g (ix2 0 k)) (fun k => w (ix3 0 k o)) := by
  obtain rfl : s = 0 := Subsingleton.elim _ _
  pointwise [projS, dotRow]

end Sample

end Cert.InProj
end
-- ==== Proof.KvP.lean ====
module

public import proofs.«01_k».proof.Proof.InProjRef
public import proofs.«01_k».proof.Proof.Gen.KvPIdeal.Frame
public import proofs.«01_k».proof.Proof.Gen.KvPRefIdeal.Run
public import proofs.«01_k».proof.Defs
public import Idealize.ShloMosaic.Lib.Claim

/-! # The prompt's keys, values and index keys -/

@[expose] public section

set_option maxRecDepth 16384

noncomputable section

open Idealize.ShloMosaic Idealize.ShloMosaic.TcCoe Idealize.SL.Sem
open Cert.KvPIdeal Cert.KvPIdeal.Gen Cert.InProj

namespace Cert.KvPValue

variable (m : (ℓ : Loc nD τ sig) → Buf (Elt Ideal) ℓ)

/-- The projected array in terms of the operands that the launch finds. -/
def G (c : Dev nD) : FVec Ideal S8192x768 .f32 := fun i =>
  dotRow (fun k => (show FVec Ideal S8192x2048 .f32 from V m c main_v20) (ix2 (i 0) k))
    (fun k => (show FVec Ideal S1x2048 .f32 from V m c main_v22) (ix2 0 k))
    (fun k => (show FVec Ideal S2048x768 .bf16 from V m c main_v17) (ix2 k (i 1)))

theorem idx : ∀ t : Fin cfg0.N, win0_0.index t = ![t.val, 0] ∧ win0_1.index t = ![0, 0] ∧ win0_2.index t = ![0, 0]
    ∧ win0_3.index t = ![t.val, 0] := (by decide +kernel : ∀ t : Fin grid0.N, _)

theorem point (c : Dev nD) (t : Fin cfg0.N) (y) :
    k0_pay2 (k0_pay1 (iblk m c 0 t) (iblk m c 1 t)) (iblk m c 2 t) y = G m c (((cfg0.win 3).blk t).view.emb y) := by
  pointwise [k0_pay1, k0_pay2, G, dotRow]
  blk_point [iblk, idx t]

set_option maxHeartbeats 1600000 in
/-- The array that the launch leaves is `G`. -/
theorem final (c : Dev nD) : (dats m 0 c).arrAt 3 (cfgs 0).N = G m c := by
  refine (dats m 0 c).arrAt_eq_of_covers 3 _ (by decide +kernel) fun t _ y => ?_
  blk_simp
  rw [after0_3]
  unfold outsAt0
  frame_out
  exact point m c t y

/-- What the region leaves in its result array, read where the lines after it start. -/
theorem exit (c : Dev nD) : Pipeline.withArrays (cfgs 0).spec c (V0 m c) (fun w => (dats m 0 c).arrAt w (cfgs 0).N)
    (Proc.tc.devRef main_v23) = G m c := by
  have h := Pipeline.withArrays_arr (cfgs 0).spec (by decide) c (V0 m c) (fun w => (dats m 0 c).arrAt w (cfgs 0).N) 3
  rw [final m c] at h
  exact h

theorem tail_k (c : Dev nD) : Pipeline.afterTail₀ cfgs (dats m) 0 (V0 m) [hostOps1] c main_v25 =
    shapeCast S1x2x4096x2x128 (extractStridedSlice S8192x256 ![0, 0] (G m c) slices_S8192x768_S8192x256_0_0)
      shapeCasts_S8192x256_S1x2x4096x2x128 := by
  unfold Pipeline.afterTail₀
  dsimp only [hostOps1, List.flatten_cons, List.flatten_nil, List.cons_append, List.nil_append, List.append_nil]
  after_results
  erw [exit]
  rfl

theorem tail_v (c : Dev nD) : Pipeline.afterTail₀ cfgs (dats m) 0 (V0 m) [hostOps1] c main_v27 =
    shapeCast S1x2x4096x2x128 (extractStridedSlice S8192x256 ![0, 256] (G m c) slices_S8192x768_S8192x256_0_256)
      shapeCasts_S8192x256_S1x2x4096x2x128 := by
  unfold Pipeline.afterTail₀
  dsimp only [hostOps1, List.flatten_cons, List.flatten_nil, List.cons_append, List.nil_append, List.append_nil]
  after_results
  erw [exit]
  rfl

theorem tail_ki (c : Dev nD) : Pipeline.afterTail₀ cfgs (dats m) 0 (V0 m) [hostOps1] c main_v29 =
    shapeCast S1x2x4096x128 (extractStridedSlice S8192x128 ![0, 512] (G m c) slices_S8192x768_S8192x128_0_512)
      shapeCasts_S8192x128_S1x2x4096x128 := by
  unfold Pipeline.afterTail₀
  dsimp only [hostOps1, List.flatten_cons, List.flatten_nil, List.cons_append, List.nil_append, List.append_nil]
  after_results
  erw [exit]
  rfl

/-- The operand of rows is the prompt with its two leading axes joined. -/
theorem entry_x (c : Dev nD) (r : Fin 8192) (k : Fin 2048) : (V m c main_v20 : FVec Ideal S8192x2048 .f32) (ix2 r k)
    = m ((c.tc : Thread nD τ).loc main_arg0) (ix3 ⟨r.val / 4096, by omega⟩ ⟨r.val % 4096, by omega⟩ k) := by
  dsimp only [V, V0, hostOps0, List.flatten_cons, List.flatten_nil, List.cons_append, List.nil_append, List.append_nil]
  after_results
  pointwise

/-- The gain is the argument's. -/
theorem entry_g (c : Dev nD) (k : Fin 2048) : (V m c main_v22 : FVec Ideal S1x2048 .f32) (ix2 0 k)
    = m ((c.tc : Thread nD τ).loc main_arg1) (ix2 0 k) := by
  dsimp only [V, V0, hostOps0, List.flatten_cons, List.flatten_nil, List.cons_append, List.nil_append, List.append_nil]
  after_results
  pointwise

/-- The columns of the weight operand that the results read: those of the keys, of the values and of the index keys. -/
theorem entry_w (c : Dev nD) (k : Fin 2048) (j : Fin 768) (o : Fin 11920)
    (h : (j.val < 256 ∧ o.val = 1024 + j.val) ∨ (256 ≤ j.val ∧ j.val < 512 ∧ o.val = 1024 + j.val)
      ∨ (512 ≤ j.val ∧ j.val < 640 ∧ o.val = 3088 + j.val)) :
    (V m c main_v17 : FVec Ideal S2048x768 .bf16) (ix2 k j) = m ((c.tc : Thread nD τ).loc main_arg2) (ix3 0 k o) := by
  dsimp only [V, V0, hostOps0, List.flatten_cons, List.flatten_nil, List.cons_append, List.nil_append, List.append_nil]
  after_results
  dsimp only [Matrix.cons_val]
  simp only [↓ StableHlo.readResult, ↓ StableHlo.readPieces, -eq_self]
  pointwise
  obtain ⟨h1, h2⟩ | ⟨h1, h2, h3⟩ | ⟨h1, h2, h3⟩ := h
  · rw [dif_pos h1]
    congr 2; ext; simp [h2]
  · rw [dif_neg (by omega), dif_pos (by omega)]
    congr 2; ext; simp only; omega
  · rw [dif_neg (by omega), dif_neg (by omega), dif_pos (by omega)]
    congr 2; ext; simp only; omega

theorem G_apply (c : Dev nD) (r : Fin 8192) (j : Fin 768) (o : Fin 11920)
    (h : (j.val < 256 ∧ o.val = 1024 + j.val) ∨ (256 ≤ j.val ∧ j.val < 512 ∧ o.val = 1024 + j.val)
      ∨ (512 ≤ j.val ∧ j.val < 640 ∧ o.val = 3088 + j.val)) :
    G m c (ix2 r j) = dotRow (fun k => m ((c.tc : Thread nD τ).loc main_arg0) (ix3 ⟨r.val / 4096, by omega⟩ ⟨r.val % 4096, by omega⟩ k))
      (fun k => m ((c.tc : Thread nD τ).loc main_arg1) (ix2 0 k)) (fun k => m ((c.tc : Thread nD τ).loc main_arg2) (ix3 0 k o)) := by
  show dotRow _ _ _ = _
  congr 1
  · funext k; exact entry_x m c r k
  · funext k; exact entry_g m c k
  · funext k; exact entry_w m c k j o h

/-- The run of the projection: the three results from `G`, the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v25) = shapeCast S1x2x4096x2x128 (extractStridedSlice S8192x256 ![0, 0] (G m c) slices_S8192x768_S8192x256_0_0) shapeCasts_S8192x256_S1x2x4096x2x128
      ∧ r.2.mem ((c.tc : Thread nD τ).loc main_v27) = shapeCast S1x2x4096x2x128 (extractStridedSlice S8192x256 ![0, 256] (G m c) slices_S8192x768_S8192x256_0_256) shapeCasts_S8192x256_S1x2x4096x2x128
      ∧ r.2.mem ((c.tc : Thread nD τ).loc main_v29) = shapeCast S1x2x4096x128 (extractStridedSlice S8192x128 ![0, 512] (G m c) slices_S8192x768_S8192x128_0_512) shapeCasts_S8192x128_S1x2x4096x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from Gen.run_main m ρ & Gen.unchanged m ρ
  · exact tail_k m c
  · exact tail_v m c
  · exact tail_ki m c

/-- The reference's projection at a token and a column is the kernel's at the token's row and the column's place. -/
theorem proj_eq (c : Dev nD) (b : Fin 2) (s : Fin 4096) (o : Fin 11920) (r : Fin 8192) (j : Fin 768)
    (hr : r.val = b.val * 4096 + s.val)
    (h : (j.val < 256 ∧ o.val = 1024 + j.val) ∨ (256 ≤ j.val ∧ j.val < 512 ∧ o.val = 1024 + j.val)
      ∨ (512 ≤ j.val ∧ j.val < 640 ∧ o.val = 3088 + j.val)) :
    projP (m ((c.tc : Thread nD τ).loc main_arg0)) (m ((c.tc : Thread nD τ).loc main_arg1)) (m ((c.tc : Thread nD τ).loc main_arg2))
      (ix3 b s o) = G m c (ix2 r j) := by
  rw [G_apply m c r j o h]
  refine (projP_apply _ _ _ b s o).trans ?_
  have hb : b = ⟨r.val / 4096, by omega⟩ := Fin.ext (by simp only; omega)
  have hs : s = ⟨r.val % 4096, by omega⟩ := Fin.ext (by simp only; omega)
  rw [← hb, ← hs]

/-- The keys. -/
theorem tie_k (c : Dev nD) : shapeCast S1x2x4096x2x128 (extractStridedSlice Cert.KvPRefIdeal.S2x4096x256 ![0, 0, 1024]
      (projP (m ((c.tc : Thread nD τ).loc main_arg0)) (m ((c.tc : Thread nD τ).loc main_arg1)) (m ((c.tc : Thread nD τ).loc main_arg2)))
      Cert.KvPRefIdeal.Gen.slices_S2x4096x11920_S2x4096x256_0_0_1024) Cert.KvPRefIdeal.Gen.shapeCasts_S2x4096x256_S1x2x4096x2x128
    = shapeCast S1x2x4096x2x128 (extractStridedSlice S8192x256 ![0, 0] (G m c) slices_S8192x768_S8192x256_0_0) shapeCasts_S8192x256_S1x2x4096x2x128 := by
  funext i
  pointwise
  idx_bounds i
  exact proj_eq m c _ _ _ _ _ rfl (Or.inl ⟨by simp only; omega, rfl⟩)

/-- The values. -/
theorem tie_v (c : Dev nD) : shapeCast S1x2x4096x2x128 (extractStridedSlice Cert.KvPRefIdeal.S2x4096x256 ![0, 0, 1280]
      (projP (m ((c.tc : Thread nD τ).loc main_arg0)) (m ((c.tc : Thread nD τ).loc main_arg1)) (m ((c.tc : Thread nD τ).loc main_arg2)))
      Cert.KvPRefIdeal.Gen.slices_S2x4096x11920_S2x4096x256_0_0_1280) Cert.KvPRefIdeal.Gen.shapeCasts_S2x4096x256_S1x2x4096x2x128
    = shapeCast S1x2x4096x2x128 (extractStridedSlice S8192x256 ![0, 256] (G m c) slices_S8192x768_S8192x256_0_256) shapeCasts_S8192x256_S1x2x4096x2x128 := by
  funext i
  pointwise
  idx_bounds i
  exact proj_eq m c _ _ _ _ _ rfl (Or.inr (Or.inl ⟨by simp only; omega, by simp only; omega, by simp only; omega⟩))

/-- The index keys. -/
theorem tie_ki (c : Dev nD) : shapeCast S1x2x4096x128 (extractStridedSlice Cert.KvPRefIdeal.S2x4096x128 ![0, 0, 3600]
      (projP (m ((c.tc : Thread nD τ).loc main_arg0)) (m ((c.tc : Thread nD τ).loc main_arg1)) (m ((c.tc : Thread nD τ).loc main_arg2)))
      Cert.KvPRefIdeal.Gen.slices_S2x4096x11920_S2x4096x128_0_0_3600) Cert.KvPRefIdeal.Gen.shapeCasts_S2x4096x128_S1x2x4096x128
    = shapeCast S1x2x4096x128 (extractStridedSlice S8192x128 ![0, 512] (G m c) slices_S8192x768_S8192x128_0_512) shapeCasts_S8192x128_S1x2x4096x128 := by
  funext i
  pointwise
  idx_bounds i
  exact proj_eq m c _ _ _ _ _ rfl (Or.inr (Or.inr ⟨by simp only; omega, by simp only; omega, by simp only; omega⟩))

/-- The kernel's keys, values and index keys are the reference's. -/
theorem algebraic : Cert.algebraic_KvPIdeal_KvPRefIdeal := by
  intro m g m' g' _ hagree
  refine ⟨_, _, _, run m g, θ_run_mono (Cert.KvPRefIdeal.Value.run m' g') fun r h c => ?_⟩
  obtain ⟨h0, h1, h2, h3⟩ := h c
  obtain ⟨a0, a1, a2⟩ := hagree c
  refine ⟨h0.trans ?_, h1.trans ?_, h2.trans ?_, h3⟩
  all_goals rw [a0, a1, a2]
  · exact tie_k m c
  · exact tie_v m c
  · exact tie_ki m c

end Cert.KvPValue
end
-- ==== Proof.KvS.lean ====
module

public import proofs.«01_k».proof.Proof.InProjRef
public import proofs.«01_k».proof.Proof.Gen.KvSIdeal.Frame
public import proofs.«01_k».proof.Proof.Gen.KvSRefIdeal.Run
public import proofs.«01_k».proof.Defs
public import Idealize.ShloMosaic.Lib.Claim

/-! # The sample group's keys, values and index keys -/

@[expose] public section

set_option maxRecDepth 16384

noncomputable section

open Idealize.ShloMosaic Idealize.ShloMosaic.TcCoe Idealize.SL.Sem
open Cert.KvSIdeal Cert.KvSIdeal.Gen Cert.InProj

namespace Cert.KvSValue

variable (m : (ℓ : Loc nD τ sig) → Buf (Elt Ideal) ℓ)

/-- The projected array in terms of the operands that the launch finds. -/
def G (c : Dev nD) : FVec Ideal S8x768 .f32 := fun i =>
  dotRow (fun k => (show FVec Ideal S8x2048 .f32 from V m c main_v20) (ix2 (i 0) k))
    (fun k => (show FVec Ideal S1x2048 .f32 from V m c main_v22) (ix2 0 k))
    (fun k => (show FVec Ideal S2048x768 .bf16 from V m c main_v17) (ix2 k (i 1)))

theorem idx : ∀ t : Fin cfg0.N, win0_0.index t = ![t.val, 0] ∧ win0_1.index t = ![0, 0] ∧ win0_2.index t = ![0, 0]
    ∧ win0_3.index t = ![t.val, 0] := (by decide +kernel : ∀ t : Fin grid0.N, _)

theorem point (c : Dev nD) (t : Fin cfg0.N) (y) :
    k0_pay2 (k0_pay1 (iblk m c 0 t) (iblk m c 1 t)) (iblk m c 2 t) y = G m c (((cfg0.win 3).blk t).view.emb y) := by
  pointwise [k0_pay1, k0_pay2, G, dotRow]
  blk_point [iblk, idx t]

set_option maxHeartbeats 1600000 in
/-- The array that the launch leaves is `G`. -/
theorem final (c : Dev nD) : (dats m 0 c).arrAt 3 (cfgs 0).N = G m c := by
  refine (dats m 0 c).arrAt_eq_of_covers 3 _ (by decide +kernel) fun t _ y => ?_
  blk_simp
  rw [after0_3]
  unfold outsAt0
  frame_out
  exact point m c t y

/-- What the region leaves in its result array, read where the lines after it start. -/
theorem exit (c : Dev nD) : Pipeline.withArrays (cfgs 0).spec c (V0 m c) (fun w => (dats m 0 c).arrAt w (cfgs 0).N)
    (Proc.tc.devRef main_v23) = G m c := by
  have h := Pipeline.withArrays_arr (cfgs 0).spec (by decide) c (V0 m c) (fun w => (dats m 0 c).arrAt w (cfgs 0).N) 3
  rw [final m c] at h
  exact h

theorem tail_k (c : Dev nD) : Pipeline.afterTail₀ cfgs (dats m) 0 (V0 m) [hostOps1] c main_v25 =
    shapeCast S1x8x1x2x128 (extractStridedSlice S8x256 ![0, 0] (G m c) slices_S8x768_S8x256_0_0)
      shapeCasts_S8x256_S1x8x1x2x128 := by
  unfold Pipeline.afterTail₀
  dsimp only [hostOps1, List.flatten_cons, List.flatten_nil, List.cons_append, List.nil_append, List.append_nil]
  after_results
  erw [exit]
  rfl

theorem tail_v (c : Dev nD) : Pipeline.afterTail₀ cfgs (dats m) 0 (V0 m) [hostOps1] c main_v27 =
    shapeCast S1x8x1x2x128 (extractStridedSlice S8x256 ![0, 256] (G m c) slices_S8x768_S8x256_0_256)
      shapeCasts_S8x256_S1x8x1x2x128 := by
  unfold Pipeline.afterTail₀
  dsimp only [hostOps1, List.flatten_cons, List.flatten_nil, List.cons_append, List.nil_append, List.append_nil]
  after_results
  erw [exit]
  rfl

theorem tail_ki (c : Dev nD) : Pipeline.afterTail₀ cfgs (dats m) 0 (V0 m) [hostOps1] c main_v29 =
    shapeCast S1x8x1x128 (extractStridedSlice S8x128 ![0, 512] (G m c) slices_S8x768_S8x128_0_512)
      shapeCasts_S8x128_S1x8x1x128 := by
  unfold Pipeline.afterTail₀
  dsimp only [hostOps1, List.flatten_cons, List.flatten_nil, List.cons_append, List.nil_append, List.append_nil]
  after_results
  erw [exit]
  rfl

/-- The operand of rows is the sample with its two leading axes joined. -/
theorem entry_x (c : Dev nD) (r : Fin 8) (k : Fin 2048) : (V m c main_v20 : FVec Ideal S8x2048 .f32) (ix2 r k)
    = m ((c.tc : Thread nD τ).loc main_arg0) (ix3 r 0 k) := by
  dsimp only [V, V0, hostOps0, List.flatten_cons, List.flatten_nil, List.cons_append, List.nil_append, List.append_nil]
  after_results
  pointwise

/-- The gain is the argument's. -/
theorem entry_g (c : Dev nD) (k : Fin 2048) : (V m c main_v22 : FVec Ideal S1x2048 .f32) (ix2 0 k)
    = m ((c.tc : Thread nD τ).loc main_arg1) (ix2 0 k) := by
  dsimp only [V, V0, hostOps0, List.flatten_cons, List.flatten_nil, List.cons_append, List.nil_append, List.append_nil]
  after_results
  pointwise

/-- The columns of the weight operand that the results read: those of the keys, of the values and of the index keys. -/
theorem entry_w (c : Dev nD) (k : Fin 2048) (j : Fin 768) (o : Fin 11920)
    (h : (j.val < 256 ∧ o.val = 1024 + j.val) ∨ (256 ≤ j.val ∧ j.val < 512 ∧ o.val = 1024 + j.val)
      ∨ (512 ≤ j.val ∧ j.val < 640 ∧ o.val = 3088 + j.val)) :
    (V m c main_v17 : FVec Ideal S2048x768 .bf16) (ix2 k j) = m ((c.tc : Thread nD τ).loc main_arg2) (ix3 0 k o) := by
  dsimp only [V, V0, hostOps0, List.flatten_cons, List.flatten_nil, List.cons_append, List.nil_append, List.append_nil]
  after_results
  dsimp only [Matrix.cons_val]
  simp only [↓ StableHlo.readResult, ↓ StableHlo.readPieces, -eq_self]
  pointwise
  obtain ⟨h1, h2⟩ | ⟨h1, h2, h3⟩ | ⟨h1, h2, h3⟩ := h
  · rw [dif_pos h1]
    congr 2; ext; simp [h2]
  · rw [dif_neg (by omega), dif_pos (by omega)]
    congr 2; ext; simp only; omega
  · rw [dif_neg (by omega), dif_neg (by omega), dif_pos (by omega)]
    congr 2; ext; simp only; omega

theorem G_apply (c : Dev nD) (r : Fin 8) (j : Fin 768) (o : Fin 11920)
    (h : (j.val < 256 ∧ o.val = 1024 + j.val) ∨ (256 ≤ j.val ∧ j.val < 512 ∧ o.val = 1024 + j.val)
      ∨ (512 ≤ j.val ∧ j.val < 640 ∧ o.val = 3088 + j.val)) :
    G m c (ix2 r j) = dotRow (fun k => m ((c.tc : Thread nD τ).loc main_arg0) (ix3 r 0 k))
      (fun k => m ((c.tc : Thread nD τ).loc main_arg1) (ix2 0 k)) (fun k => m ((c.tc : Thread nD τ).loc main_arg2) (ix3 0 k o)) := by
  show dotRow _ _ _ = _
  congr 1
  · funext k; exact entry_x m c r k
  · funext k; exact entry_g m c k
  · funext k; exact entry_w m c k j o h

/-- The run of the projection: the three results from `G`, the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v25) = shapeCast S1x8x1x2x128 (extractStridedSlice S8x256 ![0, 0] (G m c) slices_S8x768_S8x256_0_0) shapeCasts_S8x256_S1x8x1x2x128
      ∧ r.2.mem ((c.tc : Thread nD τ).loc main_v27) = shapeCast S1x8x1x2x128 (extractStridedSlice S8x256 ![0, 256] (G m c) slices_S8x768_S8x256_0_256) shapeCasts_S8x256_S1x8x1x2x128
      ∧ r.2.mem ((c.tc : Thread nD τ).loc main_v29) = shapeCast S1x8x1x128 (extractStridedSlice S8x128 ![0, 512] (G m c) slices_S8x768_S8x128_0_512) shapeCasts_S8x128_S1x8x1x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from Gen.run_main m ρ & Gen.unchanged m ρ
  · exact tail_k m c
  · exact tail_v m c
  · exact tail_ki m c

/-- The reference's projection at a token and a column is the kernel's at the token's row and the column's place. -/
theorem proj_eq (c : Dev nD) (b : Fin 8) (s : Fin 1) (o : Fin 11920) (r : Fin 8) (j : Fin 768)
    (hr : r.val = b.val + s.val)
    (h : (j.val < 256 ∧ o.val = 1024 + j.val) ∨ (256 ≤ j.val ∧ j.val < 512 ∧ o.val = 1024 + j.val)
      ∨ (512 ≤ j.val ∧ j.val < 640 ∧ o.val = 3088 + j.val)) :
    projS (m ((c.tc : Thread nD τ).loc main_arg0)) (m ((c.tc : Thread nD τ).loc main_arg1)) (m ((c.tc : Thread nD τ).loc main_arg2))
      (ix3 b s o) = G m c (ix2 r j) := by
  rw [G_apply m c r j o h]
  refine (projS_apply _ _ _ b s o).trans ?_
  have hb : b = r := Fin.ext (by omega)
  have hs : s = 0 := Subsingleton.elim _ _
  rw [hb, hs]

/-- The keys. -/
theorem tie_k (c : Dev nD) : shapeCast S1x8x1x2x128 (extractStridedSlice Cert.KvSRefIdeal.S8x1x256 ![0, 0, 1024]
      (projS (m ((c.tc : Thread nD τ).loc main_arg0)) (m ((c.tc : Thread nD τ).loc main_arg1)) (m ((c.tc : Thread nD τ).loc main_arg2)))
      Cert.KvSRefIdeal.Gen.slices_S8x1x11920_S8x1x256_0_0_1024) Cert.KvSRefIdeal.Gen.shapeCasts_S8x1x256_S1x8x1x2x128
    = shapeCast S1x8x1x2x128 (extractStridedSlice S8x256 ![0, 0] (G m c) slices_S8x768_S8x256_0_0) shapeCasts_S8x256_S1x8x1x2x128 := by
  funext i
  pointwise
  idx_bounds i
  exact proj_eq m c _ _ _ _ _ rfl (Or.inl ⟨by simp only; omega, rfl⟩)

/-- The values. -/
theorem tie_v (c : Dev nD) : shapeCast S1x8x1x2x128 (extractStridedSlice Cert.KvSRefIdeal.S8x1x256 ![0, 0, 1280]
      (projS (m ((c.tc : Thread nD τ).loc main_arg0)) (m ((c.tc : Thread nD τ).loc main_arg1)) (m ((c.tc : Thread nD τ).loc main_arg2)))
      Cert.KvSRefIdeal.Gen.slices_S8x1x11920_S8x1x256_0_0_1280) Cert.KvSRefIdeal.Gen.shapeCasts_S8x1x256_S1x8x1x2x128
    = shapeCast S1x8x1x2x128 (extractStridedSlice S8x256 ![0, 256] (G m c) slices_S8x768_S8x256_0_256) shapeCasts_S8x256_S1x8x1x2x128 := by
  funext i
  pointwise
  idx_bounds i
  exact proj_eq m c _ _ _ _ _ rfl (Or.inr (Or.inl ⟨by simp only; omega, by simp only; omega, by simp only; omega⟩))

/-- The index keys. -/
theorem tie_ki (c : Dev nD) : shapeCast S1x8x1x128 (extractStridedSlice Cert.KvSRefIdeal.S8x1x128 ![0, 0, 3600]
      (projS (m ((c.tc : Thread nD τ).loc main_arg0)) (m ((c.tc : Thread nD τ).loc main_arg1)) (m ((c.tc : Thread nD τ).loc main_arg2)))
      Cert.KvSRefIdeal.Gen.slices_S8x1x11920_S8x1x128_0_0_3600) Cert.KvSRefIdeal.Gen.shapeCasts_S8x1x128_S1x8x1x128
    = shapeCast S1x8x1x128 (extractStridedSlice S8x128 ![0, 512] (G m c) slices_S8x768_S8x128_0_512) shapeCasts_S8x128_S1x8x1x128 := by
  funext i
  pointwise
  idx_bounds i
  exact proj_eq m c _ _ _ _ _ rfl (Or.inr (Or.inr ⟨by simp only; omega, by simp only; omega, by simp only; omega⟩))

/-- The kernel's keys, values and index keys are the reference's. -/
theorem algebraic : Cert.algebraic_KvSIdeal_KvSRefIdeal := by
  intro m g m' g' _ hagree
  refine ⟨_, _, _, run m g, θ_run_mono (Cert.KvSRefIdeal.Value.run m' g') fun r h c => ?_⟩
  obtain ⟨h0, h1, h2, h3⟩ := h c
  obtain ⟨a0, a1, a2⟩ := hagree c
  refine ⟨h0.trans ?_, h1.trans ?_, h2.trans ?_, h3⟩
  all_goals rw [a0, a1, a2]
  · exact tie_k m c
  · exact tie_v m c
  · exact tie_ki m c

end Cert.KvSValue
end
-- ==== Proof.HqP.lean ====
module

public import proofs.«01_k».proof.Proof.InProjRef
public import proofs.«01_k».proof.Proof.Gen.HqPIdeal.Frame
public import proofs.«01_k».proof.Proof.Gen.HqPRefIdeal.Run
public import proofs.«01_k».proof.Defs
public import Idealize.ShloMosaic.Lib.Claim
public import Idealize.ShloMosaic.Lib.Pipeline.ReadBack

/-! # The prompt's attention queries and index queries -/

@[expose] public section

set_option maxRecDepth 16384

noncomputable section

open Idealize.ShloMosaic Idealize.ShloMosaic.TcCoe Idealize.SL.Sem
open Cert.HqPIdeal Cert.HqPIdeal.Gen Cert.InProj

namespace Cert.HqPValue

variable (m : (ℓ : Loc nD τ sig) → Buf (Elt Ideal) ℓ)

/-- The projected array in terms of the operands that the launch finds. -/
def G (c : Dev nD) : FVec Ideal S8192x3072 .f32 := fun i =>
  dotRow (fun k => (show FVec Ideal S8192x2048 .f32 from V m c main_v20) (ix2 (i 0) k))
    (fun k => (show FVec Ideal S1x2048 .f32 from V m c main_v22) (ix2 0 k))
    (fun k => (show FVec Ideal S2048x3072 .bf16 from V m c main_v15) (ix2 k (i 1)))

theorem idx : ∀ t : Fin cfg0.N, win0_0.index t = ![t.val / 3, 0] ∧ win0_1.index t = ![0, 0] ∧ win0_2.index t = ![0, t.val % 3]
    ∧ win0_3.index t = ![t.val / 3, t.val % 3] := (by decide +kernel : ∀ t : Fin grid0.N, _)

/-- The normalized rows that the blocks of point `t` give. -/
abbrev xn (c : Dev nD) (t : Fin cfg0.N) : FVec Ideal S1024x2048 .bf16 := k0_pay1 (iblk m c 0 t) (iblk m c 1 t)

/-- Two points of one run of 3 read the same rows. -/
theorem xn_congr (c : Dev nD) (t t' : Fin cfg0.N) (h : t.val / 3 = t'.val / 3) : xn m c t = xn m c t' := by
  have h0 : (iblk m c 0 t : FVec Ideal S1024x2048 .f32) = iblk m c 0 t' := by
    funext y
    blk_ext [iblk, idx t, idx t', h]
  have h1 : (iblk m c 1 t : FVec Ideal S1x2048 .f32) = iblk m c 1 t' := by
    funext y
    blk_ext [iblk, idx t, idx t']
  unfold xn
  rw [h0, h1]

/-- After every point the scratch holds the normalized rows of the point's blocks. -/
theorem scratch (c : Dev nD) : ∀ (n : ℕ) (h : n < cfg0.N), (outsAt0 m c n h).2 = xn m c ⟨n, h⟩ := by
  intro n
  induction n with
  | zero =>
    intro h
    rw [show outsAt0 m c 0 h = _ from outsAt0_A m c ⟨0, h⟩ rfl]
    frame_out
  | succ n ih =>
    intro h
    by_cases h0 : (n + 1) % 3 = 0
    · rw [show outsAt0 m c (n + 1) h = _ from outsAt0_A m c ⟨n + 1, h⟩ h0]
      frame_out
    · rw [show outsAt0 m c (n + 1) h = _ from outsAt0_B m c ⟨n + 1, h⟩ h0]
      refine (show _ = (outsAt0 m c n (Nat.lt_of_succ_lt h)).2 from rfl).trans ?_
      rw [ih]
      exact xn_congr m c _ _ (by simp only; omega)

theorem block (c : Dev nD) (t : Fin cfg0.N) : (outsAt0 m c t.val t.isLt).1 = k0_pay2 (xn m c t) (iblk m c 2 t) := by
  by_cases h0 : t.val % 3 = 0
  · rw [outsAt0_A m c t h0]
    frame_out
  · rw [outsAt0_B m c t h0]
    frame_out
    simp only [read_unread_whole]
    rw [scratch]
    refine congrArg (fun z => k0_pay2 z (iblk m c 2 t)) (xn_congr m c _ _ ?_)
    simp only
    omega

theorem point (c : Dev nD) (t : Fin cfg0.N) (y) :
    k0_pay2 (k0_pay1 (iblk m c 0 t) (iblk m c 1 t)) (iblk m c 2 t) y = G m c (((cfg0.win 3).blk t).view.emb y) := by
  pointwise [k0_pay1, k0_pay2, G, dotRow]
  blk_point [iblk, idx t]

set_option maxHeartbeats 1600000 in
/-- The array that the launch leaves is `G`. -/
theorem final (c : Dev nD) : (dats m 0 c).arrAt 3 (cfgs 0).N = G m c := by
  refine (dats m 0 c).arrAt_eq_of_covers 3 _ (by decide +kernel) fun t _ y => ?_
  blk_simp
  rw [after0_3]
  rw [block]
  exact point m c t y

/-- The operand of rows is the prompt with its two leading axes joined. -/
theorem entry_x (c : Dev nD) (r : Fin 8192) (k : Fin 2048) : (V m c main_v20 : FVec Ideal S8192x2048 .f32) (ix2 r k)
    = m ((c.tc : Thread nD τ).loc main_arg0) (ix3 ⟨r.val / 4096, by omega⟩ ⟨r.val % 4096, by omega⟩ k) := by
  dsimp only [V, hostOps0, List.flatten_cons, List.flatten_nil, List.cons_append, List.nil_append, List.append_nil]
  after_results
  pointwise

/-- The gain is the argument's. -/
theorem entry_g (c : Dev nD) (k : Fin 2048) : (V m c main_v22 : FVec Ideal S1x2048 .f32) (ix2 0 k)
    = m ((c.tc : Thread nD τ).loc main_arg1) (ix2 0 k) := by
  dsimp only [V, hostOps0, List.flatten_cons, List.flatten_nil, List.cons_append, List.nil_append, List.append_nil]
  after_results
  pointwise

/-- The column of the weights that column `j` of the queries reads: the first 1024 columns, then those from 1536 on. -/
def col (j : Fin 3072) : Fin 11920 := if h : j.val < 1024 then ⟨j.val, by omega⟩ else ⟨512 + j.val, by omega⟩

/-- The weight operand is those columns of the weights. -/
theorem entry_w (c : Dev nD) (k : Fin 2048) (j : Fin 3072) :
    (V m c main_v15 : FVec Ideal S2048x3072 .bf16) (ix2 k j)
      = m ((c.tc : Thread nD τ).loc main_arg2) (ix3 0 k (col j)) := by
  dsimp only [V, hostOps0, List.flatten_cons, List.flatten_nil, List.cons_append, List.nil_append, List.append_nil]
  after_results
  pointwise
  unfold col
  split_ifs
  · rfl
  · refine congrArg (fun o : Fin 11920 => m ((c.tc : Thread nD τ).loc main_arg2) (ix3 0 k o)) (Fin.ext ?_)
    show _ + _ = _ + _
    omega
  · contradiction

/-- Every entry of the array from the arguments. -/
theorem G_apply (c : Dev nD) (r : Fin 8192) (j : Fin 3072) :
    G m c (ix2 r j) = dotRow (fun k => m ((c.tc : Thread nD τ).loc main_arg0) (ix3 ⟨r.val / 4096, by omega⟩ ⟨r.val % 4096, by omega⟩ k))
      (fun k => m ((c.tc : Thread nD τ).loc main_arg1) (ix2 0 k))
      (fun k => m ((c.tc : Thread nD τ).loc main_arg2) (ix3 0 k (col j))) := by
  show dotRow _ _ _ = _
  congr 1
  · funext k; exact entry_x m c r k
  · funext k; exact entry_g m c k
  · funext k; exact entry_w m c k j

/-- The run of the projection: the result is `G`, the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v23) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from Gen.run_main m ρ & Gen.unchanged m ρ
  exact final m c

/-- The reference's columns, read at a row and a column. -/
theorem tie (c : Dev nD) (p : FVec Ideal Cert.KvPRefIdeal.S2x4096x11920 .f32)
    (hp : p = projP (m ((c.tc : Thread nD τ).loc main_arg0)) (m ((c.tc : Thread nD τ).loc main_arg1)) (m ((c.tc : Thread nD τ).loc main_arg2))) :
    (truncf .bf16 (shapeCast S8192x3072 (concatenate Cert.HqPRefIdeal.S2x4096x3072 2
      [⟨Cert.HqPRefIdeal.S2x4096x1024, (extractStridedSlice Cert.HqPRefIdeal.S2x4096x1024 ![0, 0, 0] p Cert.HqPRefIdeal.Gen.slices_S2x4096x11920_S2x4096x1024_0_0_0)⟩,
       ⟨Cert.HqPRefIdeal.S2x4096x2048, (extractStridedSlice Cert.HqPRefIdeal.S2x4096x2048 ![0, 0, 1536] p Cert.HqPRefIdeal.Gen.slices_S2x4096x11920_S2x4096x2048_0_0_1536)⟩]
      Cert.HqPRefIdeal.Gen.concatenates_S2x4096x1024_S2x4096x2048_S2x4096x3072_d2) Cert.HqPRefIdeal.Gen.shapeCasts_S2x4096x3072_S8192x3072) Cert.HqPRefIdeal.Gen.bitsLt_bf16_f32 : FVec Ideal S8192x3072 .bf16) = G m c := by
  funext i
  pointwise
  subst hp
  refine Eq.trans ?_ (G_apply m c (i 0) (i 1)).symm
  by_cases h : (i 1).val < 1024
  · rw [dif_pos h, show col (i 1) = ⟨(i 1).val, by omega⟩ from dif_pos h]
    exact projP_apply _ _ _ _ _ _
  · have hi : (i 1).val < 3072 := (i 1).isLt
    rw [dif_neg h, show col (i 1) = ⟨512 + (i 1).val, by omega⟩ from dif_neg h]
    refine (projP_apply _ _ _ _ _ _).trans ?_
    rw [show (⟨1536 + ((i 1).val - 1024), by omega⟩ : Fin 11920) = ⟨512 + (i 1).val, by omega⟩ from
      Fin.ext (show _ + _ = _ + _ by omega)]

/-- The kernel's queries and index queries are the reference's. -/
theorem algebraic : Cert.algebraic_HqPIdeal_HqPRefIdeal := by
  intro m g m' g' _ hagree
  refine ⟨_, run m g, θ_run_mono (Cert.HqPRefIdeal.Value.run m' g') fun r h c => ?_⟩
  obtain ⟨h0, h3⟩ := h c
  obtain ⟨a0, a1, a2⟩ := hagree c
  refine ⟨h0.trans ?_, h3⟩
  rw [a0, a1, a2]
  exact tie m c _ rfl

end Cert.HqPValue
end
-- ==== Proof.GateP.lean ====
module

public import proofs.«01_k».proof.Proof.InProjRef
public import proofs.«01_k».proof.Proof.Gen.GatePIdeal.Frame
public import proofs.«01_k».proof.Proof.Gen.GatePRefIdeal.Run
public import proofs.«01_k».proof.Defs
public import Idealize.ShloMosaic.Lib.Claim
public import Idealize.ShloMosaic.Lib.Pipeline.ReadBack

/-! # The prompt's gate columns -/

@[expose] public section

set_option maxRecDepth 16384

noncomputable section

open Idealize.ShloMosaic Idealize.ShloMosaic.TcCoe Idealize.SL.Sem
open Cert.GatePIdeal Cert.GatePIdeal.Gen Cert.InProj

namespace Cert.GatePValue

variable (m : (ℓ : Loc nD τ sig) → Buf (Elt Ideal) ℓ)

/-- The projected array in terms of the operands that the launch finds. -/
def G (c : Dev nD) : FVec Ideal S8192x8192 .f32 := fun i =>
  dotRow (fun k => (show FVec Ideal S8192x2048 .f32 from V m c main_v20) (ix2 (i 0) k))
    (fun k => (show FVec Ideal S1x2048 .f32 from V m c main_v22) (ix2 0 k))
    (fun k => (show FVec Ideal S2048x8192 .bf16 from V m c main_v19) (ix2 k (i 1)))

theorem idx : ∀ t : Fin cfg0.N, win0_0.index t = ![t.val / 8, 0] ∧ win0_1.index t = ![0, 0] ∧ win0_2.index t = ![0, t.val % 8]
    ∧ win0_3.index t = ![t.val / 8, t.val % 8] := (by decide +kernel : ∀ t : Fin grid0.N, _)

/-- The normalized rows that the blocks of point `t` give. -/
abbrev xn (c : Dev nD) (t : Fin cfg0.N) : FVec Ideal S1024x2048 .bf16 := k0_pay1 (iblk m c 0 t) (iblk m c 1 t)

/-- Two points of one run of 8 read the same rows. -/
theorem xn_congr (c : Dev nD) (t t' : Fin cfg0.N) (h : t.val / 8 = t'.val / 8) : xn m c t = xn m c t' := by
  have h0 : (iblk m c 0 t : FVec Ideal S1024x2048 .f32) = iblk m c 0 t' := by
    funext y
    blk_ext [iblk, idx t, idx t', h]
  have h1 : (iblk m c 1 t : FVec Ideal S1x2048 .f32) = iblk m c 1 t' := by
    funext y
    blk_ext [iblk, idx t, idx t']
  unfold xn
  rw [h0, h1]

/-- After every point the scratch holds the normalized rows of the point's blocks. -/
theorem scratch (c : Dev nD) : ∀ (n : ℕ) (h : n < cfg0.N), (outsAt0 m c n h).2 = xn m c ⟨n, h⟩ := by
  intro n
  induction n with
  | zero =>
    intro h
    rw [show outsAt0 m c 0 h = _ from outsAt0_A m c ⟨0, h⟩ rfl]
    frame_out
  | succ n ih =>
    intro h
    by_cases h0 : (n + 1) % 8 = 0
    · rw [show outsAt0 m c (n + 1) h = _ from outsAt0_A m c ⟨n + 1, h⟩ h0]
      frame_out
    · rw [show outsAt0 m c (n + 1) h = _ from outsAt0_B m c ⟨n + 1, h⟩ h0]
      refine (show _ = (outsAt0 m c n (Nat.lt_of_succ_lt h)).2 from rfl).trans ?_
      rw [ih]
      exact xn_congr m c _ _ (by simp only; omega)

theorem block (c : Dev nD) (t : Fin cfg0.N) : (outsAt0 m c t.val t.isLt).1 = k0_pay2 (xn m c t) (iblk m c 2 t) := by
  by_cases h0 : t.val % 8 = 0
  · rw [outsAt0_A m c t h0]
    frame_out
  · rw [outsAt0_B m c t h0]
    frame_out
    simp only [read_unread_whole]
    rw [scratch]
    refine congrArg (fun z => k0_pay2 z (iblk m c 2 t)) (xn_congr m c _ _ ?_)
    simp only
    omega

theorem point (c : Dev nD) (t : Fin cfg0.N) (y) :
    k0_pay2 (k0_pay1 (iblk m c 0 t) (iblk m c 1 t)) (iblk m c 2 t) y = G m c (((cfg0.win 3).blk t).view.emb y) := by
  pointwise [k0_pay1, k0_pay2, G, dotRow]
  blk_point [iblk, idx t]

set_option maxHeartbeats 1600000 in
/-- The array that the launch leaves is `G`. -/
theorem final (c : Dev nD) : (dats m 0 c).arrAt 3 (cfgs 0).N = G m c := by
  refine (dats m 0 c).arrAt_eq_of_covers 3 _ (by decide +kernel) fun t _ y => ?_
  blk_simp
  rw [after0_3]
  rw [block]
  exact point m c t y

/-- The operand of rows is the prompt with its two leading axes joined. -/
theorem entry_x (c : Dev nD) (r : Fin 8192) (k : Fin 2048) : (V m c main_v20 : FVec Ideal S8192x2048 .f32) (ix2 r k)
    = m ((c.tc : Thread nD τ).loc main_arg0) (ix3 ⟨r.val / 4096, by omega⟩ ⟨r.val % 4096, by omega⟩ k) := by
  dsimp only [V, hostOps0, List.flatten_cons, List.flatten_nil, List.cons_append, List.nil_append, List.append_nil]
  after_results
  pointwise

/-- The gain is the argument's. -/
theorem entry_g (c : Dev nD) (k : Fin 2048) : (V m c main_v22 : FVec Ideal S1x2048 .f32) (ix2 0 k)
    = m ((c.tc : Thread nD τ).loc main_arg1) (ix2 0 k) := by
  dsimp only [V, hostOps0, List.flatten_cons, List.flatten_nil, List.cons_append, List.nil_append, List.append_nil]
  after_results
  pointwise

/-- The weight operand is the last 8192 columns of the weights: its six pieces are neighbours there. -/
theorem entry_w (c : Dev nD) (k : Fin 2048) (j : Fin 8192) :
    (V m c main_v19 : FVec Ideal S2048x8192 .bf16) (ix2 k j)
      = m ((c.tc : Thread nD τ).loc main_arg2) (ix3 0 k ⟨3728 + j.val, by omega⟩) := by
  dsimp only [V, hostOps0, List.flatten_cons, List.flatten_nil, List.cons_append, List.nil_append, List.append_nil]
  after_results
  dsimp only [Matrix.cons_val]
  simp only [↓ StableHlo.readResult, ↓ StableHlo.readPieces, -eq_self]
  pointwise
  split_ifs
  all_goals
    refine congrArg (fun o : Fin 11920 => m ((c.tc : Thread nD τ).loc main_arg2) (ix3 0 k o)) (Fin.ext ?_)
    show _ + _ = _ + _
    omega

/-- Every entry of the array from the arguments. -/
theorem G_apply (c : Dev nD) (r : Fin 8192) (j : Fin 8192) :
    G m c (ix2 r j) = dotRow (fun k => m ((c.tc : Thread nD τ).loc main_arg0) (ix3 ⟨r.val / 4096, by omega⟩ ⟨r.val % 4096, by omega⟩ k))
      (fun k => m ((c.tc : Thread nD τ).loc main_arg1) (ix2 0 k))
      (fun k => m ((c.tc : Thread nD τ).loc main_arg2) (ix3 0 k ⟨3728 + j.val, by omega⟩)) := by
  show dotRow _ _ _ = _
  congr 1
  · funext k; exact entry_x m c r k
  · funext k; exact entry_g m c k
  · funext k; exact entry_w m c k j

/-- The run of the projection: the result is `G`, the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v23) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from Gen.run_main m ρ & Gen.unchanged m ρ
  exact final m c

/-- The reference's columns, read at a row and a column. -/
theorem tie (c : Dev nD) : shapeCast S8192x8192 (extractStridedSlice Cert.GatePRefIdeal.S2x4096x8192 ![0, 0, 3728] (projP (m ((c.tc : Thread nD τ).loc main_arg0)) (m ((c.tc : Thread nD τ).loc main_arg1)) (m ((c.tc : Thread nD τ).loc main_arg2))) Cert.GatePRefIdeal.Gen.slices_S2x4096x11920_S2x4096x8192_0_0_3728) Cert.GatePRefIdeal.Gen.shapeCasts_S2x4096x8192_S8192x8192 = G m c := by
  funext i
  pointwise
  exact (projP_apply _ _ _ _ _ _).trans (G_apply m c (i 0) (i 1)).symm

/-- The kernel's gate columns are the reference's. -/
theorem algebraic : Cert.algebraic_GatePIdeal_GatePRefIdeal := by
  intro m g m' g' _ hagree
  refine ⟨_, run m g, θ_run_mono (Cert.GatePRefIdeal.Value.run m' g') fun r h c => ?_⟩
  obtain ⟨h0, h3⟩ := h c
  obtain ⟨a0, a1, a2⟩ := hagree c
  refine ⟨h0.trans ?_, h3⟩
  rw [a0, a1, a2]
  exact tie m c

end Cert.GatePValue
end
-- ==== Proof.MergeMath.lean ====
module

public import Idealize.ShloMosaic.Lib.Pointwise
public import Idealize.ShloMosaic.Lib.Pipeline.ValueKit

/-! # The layer's last stage, one entry at a time

The gated MLP's activations, its normalized rows, and the mix of the two branches with the residual and the last norm, as
functions of one row's entries. -/

@[expose] public section

noncomputable section

open Idealize.ShloMosaic

namespace Cert.Merge

/-- The exact GELU: `0.5 · x · (1 + erf (x · 0.70710678…))`. -/
def gelu (x : EReal) : EReal :=
  Ideal.ofBits FTy.f32 1056964608#32 * x * (1 + Ideal.erf (x * Ideal.ofBits FTy.f32 1060439283#32))

/-- The mean of 1024 entries. -/
def mean (w : Fin 1024 → EReal) : EReal := Ideal.div (∑ k, w k) (Ideal.ofBits FTy.f32 1149239296#32)

/-- The layer norm's entry `j` of a row, with gain and offset. -/
def lnRow (w g b : Fin 1024 → EReal) (j : Fin 1024) : EReal :=
  (w j - mean w) * Ideal.rsqrt (mean (fun k => (w k - mean w) * (w k - mean w)) + Ideal.ofBits FTy.f32 925353388#32) * g j + b j

/-- The sigmoid-weighted unit. -/
def silu (x : EReal) : EReal := x * Ideal.logistic x

/-- Entry `j` of one branch's projection: the branch's row times its gate, on column `j`. -/
def branch (o z : Fin 1024 → EReal) (w : Fin 1024 → Fin 2048 → EReal) (j : Fin 2048) : EReal := ∑ k, o k * silu (z k) * w k j

/-- Entry `j` of the residual stream after the layer: the two gated branches through the out projection, added to the input. -/
def stream (oa za ob zb : Fin 1024 → EReal) (ga gb x : Fin 2048 → EReal) (wa wb : Fin 1024 → Fin 2048 → EReal)
    (wo : Fin 2048 → Fin 2048 → EReal) (j : Fin 2048) : EReal :=
  x j + ∑ k, (Ideal.logistic (ga k) * branch oa za wa k + Ideal.logistic (gb k) * branch ob zb wb k) * wo k j

theorem stream_congr {oa oa' za za' ob ob' zb zb' : Fin 1024 → EReal} {ga ga' gb gb' x x' : Fin 2048 → EReal}
    {wa wa' wb wb' : Fin 1024 → Fin 2048 → EReal} {wo wo' : Fin 2048 → Fin 2048 → EReal} (h0 : oa = oa') (h1 : za = za') (h2 : ob = ob')
    (h3 : zb = zb') (h4 : ga = ga') (h5 : gb = gb') (h6 : x = x') (h7 : wa = wa') (h8 : wb = wb') (h9 : wo = wo') :
    stream oa za ob zb ga gb x wa wb wo = stream oa' za' ob' zb' ga' gb' x' wa' wb' wo' := by
  rw [h0, h1, h2, h3, h4, h5, h6, h7, h8, h9]

/-- The last norm's entry `j` of a row `h`. -/
def normed (h g : Fin 2048 → EReal) (j : Fin 2048) : EReal :=
  h j * Ideal.rsqrt (Ideal.div (∑ k, h k * h k) (Ideal.ofBits FTy.f32 1157627904#32) + Ideal.ofBits FTy.f32 897988541#32) * g j

theorem normed_congr {h h' g g' : Fin 2048 → EReal} {j : Fin 2048} (e : h = h') (e' : g = g') : normed h g j = normed h' g' j := by
  rw [e, e']

/-- Entry `j` of the gated MLP at row `t` of a chunk of 128 rows: `u` is the row's first half, `v` the chunk's second halves;
    the normalized second halves are mixed over the rows `s ≤ t` with the group's weights, and offset. -/
def gmlp (u : Fin 1024 → EReal) (v : Fin 128 → Fin 1024 → EReal) (g b : Fin 1024 → EReal) (w : Fin 8 → Fin 128 → Fin 128 → EReal)
    (bs : Fin 128 → Fin 8 → EReal) (t : Fin 128) (j : Fin 1024) : EReal :=
  gelu (u j) * ((∑ s : Fin 128, Scalar.select (IntOp.cmpi CmpIPredicate.sge (BitVec.ofNat 32 t.val) (BitVec.ofNat 32 s.val))
      (w ⟨j.val / 128, by omega⟩ t s * lnRow (fun k => gelu (v s k)) g b j) (0 : EReal)) + bs t ⟨j.val / 128, by omega⟩)

theorem gmlp_congr {u u' : Fin 1024 → EReal} {v v' : Fin 128 → Fin 1024 → EReal} {g g' b b' : Fin 1024 → EReal}
    {w w' : Fin 8 → Fin 128 → Fin 128 → EReal} {bs bs' : Fin 128 → Fin 8 → EReal} {t t' : Fin 128} {j : Fin 1024} (h0 : u = u') (h1 : v = v')
    (h2 : g = g') (h3 : b = b') (h4 : w = w') (h5 : bs = bs') (h6 : t = t') : gmlp u v g b w bs t j = gmlp u' v' g' b' w' bs' t' j := by
  rw [h0, h1, h2, h3, h4, h5, h6]

/-- Entry `j` of row `r` of the layer's output for the prompt, from the attention's output, the gate columns and the weights. -/
def outP (oa : Fin 8192 → Fin 1024 → EReal) (gate : Fin 8192 → Fin 8192 → EReal) (x : Fin 8192 → Fin 2048 → EReal)
    (wa wb : Fin 1024 → Fin 2048 → EReal) (wo : Fin 2048 → Fin 2048 → EReal) (g b : Fin 1024 → EReal)
    (w : Fin 8 → Fin 128 → Fin 128 → EReal) (bs : Fin 128 → Fin 8 → EReal) (gf : Fin 2048 → EReal) (r : Fin 8192) (j : Fin 2048) : EReal :=
  normed (stream (oa r) (fun k => gate r ⟨k.val, by omega⟩)
    (gmlp (fun k => gate r ⟨1024 + k.val, by omega⟩) (fun s k => gate ⟨r.val / 128 * 128 + s.val, by omega⟩ ⟨2048 + k.val, by omega⟩)
      g b w bs ⟨r.val % 128, by omega⟩)
    (fun k => gate r ⟨3072 + k.val, by omega⟩) (fun k => gate r ⟨4096 + k.val, by omega⟩) (fun k => gate r ⟨6144 + k.val, by omega⟩)
    (x r) wa wb wo) gf j

theorem outP_congr {oa oa' : Fin 8192 → Fin 1024 → EReal} {gate gate' : Fin 8192 → Fin 8192 → EReal} {x x' : Fin 8192 → Fin 2048 → EReal}
    {wa wa' wb wb' : Fin 1024 → Fin 2048 → EReal} {wo wo' : Fin 2048 → Fin 2048 → EReal} {g g' b b' : Fin 1024 → EReal}
    {w w' : Fin 8 → Fin 128 → Fin 128 → EReal} {bs bs' : Fin 128 → Fin 8 → EReal} {gf gf' : Fin 2048 → EReal}
    (h0 : oa = oa') (h1 : gate = gate') (h2 : x = x') (h3 : wa = wa') (h4 : wb = wb') (h5 : wo = wo') (h6 : g = g') (h7 : b = b')
    (h8 : w = w') (h9 : bs = bs') (h10 : gf = gf') (r : Fin 8192) (j : Fin 2048) :
    outP oa gate x wa wb wo g b w bs gf r j = outP oa' gate' x' wa' wb' wo' g' b' w' bs' gf' r j := by
  rw [h0, h1, h2, h3, h4, h5, h6, h7, h8, h9, h10]

/-- Entry `j` of the gated MLP of a row that is alone in its chunk: only the weight of the row itself is under the mask. -/
def gmlpOne (u v g b : Fin 1024 → EReal) (w bs : Fin 8 → EReal) (j : Fin 1024) : EReal :=
  gelu (u j) * (w ⟨j.val / 128, by omega⟩ * lnRow (fun k => gelu (v k)) g b j + bs ⟨j.val / 128, by omega⟩)

/-- Entry `j` of row `r` of the layer's output for the sample group. -/
def outS (oa : Fin 8 → Fin 1024 → EReal) (gate : Fin 8 → Fin 8192 → EReal) (x : Fin 8 → Fin 2048 → EReal)
    (wa wb : Fin 1024 → Fin 2048 → EReal) (wo : Fin 2048 → Fin 2048 → EReal) (g b : Fin 1024 → EReal)
    (w bs : Fin 8 → EReal) (gf : Fin 2048 → EReal) (r : Fin 8) (j : Fin 2048) : EReal :=
  normed (stream (oa r) (fun k => gate r ⟨k.val, by omega⟩)
    (gmlpOne (fun k => gate r ⟨1024 + k.val, by omega⟩) (fun k => gate r ⟨2048 + k.val, by omega⟩) g b w bs)
    (fun k => gate r ⟨3072 + k.val, by omega⟩) (fun k => gate r ⟨4096 + k.val, by omega⟩) (fun k => gate r ⟨6144 + k.val, by omega⟩)
    (x r) wa wb wo) gf j

/-- Entry `j` of row `r` of the normalized gated-MLP values that the sample group stores. -/
def vnS (gate : Fin 8 → Fin 8192 → EReal) (g b : Fin 1024 → EReal) (r : Fin 8) (j : Fin 1024) : EReal :=
  lnRow (fun k => gelu (gate r ⟨2048 + k.val, by omega⟩)) g b j

theorem outS_congr {oa oa' : Fin 8 → Fin 1024 → EReal} {gate gate' : Fin 8 → Fin 8192 → EReal} {x x' : Fin 8 → Fin 2048 → EReal}
    {wa wa' wb wb' : Fin 1024 → Fin 2048 → EReal} {wo wo' : Fin 2048 → Fin 2048 → EReal} {g g' b b' : Fin 1024 → EReal}
    {w w' bs bs' : Fin 8 → EReal} {gf gf' : Fin 2048 → EReal}
    (h0 : oa = oa') (h1 : gate = gate') (h2 : x = x') (h3 : wa = wa') (h4 : wb = wb') (h5 : wo = wo') (h6 : g = g') (h7 : b = b')
    (h8 : w = w') (h9 : bs = bs') (h10 : gf = gf') (r : Fin 8) (j : Fin 2048) :
    outS oa gate x wa wb wo g b w bs gf r j = outS oa' gate' x' wa' wb' wo' g' b' w' bs' gf' r j := by
  rw [h0, h1, h2, h3, h4, h5, h6, h7, h8, h9, h10]

theorem vnS_congr {gate gate' : Fin 8 → Fin 8192 → EReal} {g g' b b' : Fin 1024 → EReal} (h1 : gate = gate') (h6 : g = g') (h7 : b = b')
    (r : Fin 8) (j : Fin 1024) : vnS gate g b r j = vnS gate' g' b' r j := by
  rw [h1, h6, h7]

theorem gmlpOne_congr {u u' v v' g g' b b' : Fin 1024 → EReal} {w w' bs bs' : Fin 8 → EReal} {j : Fin 1024} (h0 : u = u') (h1 : v = v')
    (h2 : g = g') (h3 : b = b') (h4 : w = w') (h5 : bs = bs') : gmlpOne u v g b w bs j = gmlpOne u' v' g' b' w' bs' j := by
  rw [h0, h1, h2, h3, h4, h5]

end Cert.Merge
end
-- ==== Proof.MergePBase.lean ====
module

public import proofs.«01_k».proof.Proof.MergeMath
public import proofs.«01_k».proof.Proof.Gen.MergePIdeal.Frame
public import proofs.«01_k».proof.Defs
public import Idealize.ShloMosaic.Lib.Claim
public import Idealize.ShloMosaic.Lib.Pipeline.ReadBack
public import Idealize.ShloMosaic.Lib.Pipeline.ValueKit

/-! # The prompt's last stage on one block of 256 rows -/

@[expose] public section

set_option maxRecDepth 16384

noncomputable section

open Idealize.ShloMosaic Idealize.ShloMosaic.TcCoe Idealize.SL.Sem
open Cert.MergePIdeal Cert.MergePIdeal.Gen Cert.Merge

namespace Cert.MergePValue

variable (m : (ℓ : Loc nD τ sig) → Buf (Elt Ideal) ℓ)

/-- The activated `u` of a block. -/
theorem u_apply (v) (r : Fin 256) (j : Fin 1024) : k0_pay2 (F := Ideal) v (ix2 r j) = gelu (v (ix2 r j)) := by
  pointwise [k0_pay2, gelu]
  rfl

/-- The normalized `v` of a block. -/
theorem vn_apply (v g b) (r : Fin 256) (j : Fin 1024) : k0_pay6 (F := Ideal) (k0_pay3 v g) (k0_pay4 b) (ix2 r j)
    = lnRow (fun k => gelu (v (ix2 r k))) (fun k => g (ix2 0 k)) (fun k => b (ix2 0 k)) j := by
  pointwise [k0_pay6, k0_pay5, k0_pay3, k0_pay4, gelu, lnRow, mean]
  rfl

/-- The stage after the gated MLP, on a block. -/
def outBlk (oa za ob zb : Vec Ideal S256x1024 .f32) (wa wb : Vec Ideal S1024x2048 .bf16) (ga gb x : Vec Ideal S256x2048 .f32)
    (wo : Vec Ideal S2048x2048 .bf16) (gf : Vec Ideal S1x2048 .f32) : FVec Ideal S256x2048 .f32 :=
  k0_pay1 (k0_pay36 oa za ob zb wa wb ga gb x wo) (k0_pay37 oa za ob zb wa wb ga gb x wo) gf

theorem outBlk_apply (oa za ob zb wa wb ga gb x wo gf) (r : Fin 256) (j : Fin 2048) :
    outBlk oa za ob zb wa wb ga gb x wo gf (ix2 r j)
      = normed (stream (fun k => oa (ix2 r k)) (fun k => za (ix2 r k)) (fun k => ob (ix2 r k)) (fun k => zb (ix2 r k))
          (fun k => ga (ix2 r k)) (fun k => gb (ix2 r k)) (fun k => x (ix2 r k)) (fun k l => wa (ix2 k l)) (fun k l => wb (ix2 k l))
          (fun k l => wo (ix2 k l))) (fun k => gf (ix2 0 k)) j := by
  pointwise [outBlk, k0_pay1, k0_pay36, k0_pay37, normed, stream, branch, silu]

/-- The gated MLP's output on a block: within each chunk of 128 rows, a lower triangular mix of the normalized rows. -/
def obBlk (u n : FVec Ideal S256x1024 .f32) (w : Vec Ideal S8x128x128 .f32) (b : Vec Ideal S128x8 .f32) : FVec Ideal S256x1024 .f32 := fun y =>
  u y * ((∑ s : Fin 128, Scalar.select (IntOp.cmpi CmpIPredicate.sge (BitVec.ofNat 32 ((y 0).val % 128)) (BitVec.ofNat 32 s.val))
      (w (ix3 ⟨(y 1).val / 128, by idx_bounds y; omega⟩ ⟨(y 0).val % 128, by omega⟩ s)
        * n (ix2 ⟨(y 0).val / 128 * 128 + s.val, by idx_bounds y; omega⟩ (y 1))) (0 : EReal))
    + b (ix2 ⟨(y 0).val % 128, by omega⟩ ⟨(y 1).val / 128, by idx_bounds y; omega⟩))

/-- The gated MLP's output block from the blocks. -/
theorem obBlk_apply (u v : Vec Ideal S256x1024 .f32) (g b : Vec Ideal S1x1024 .f32) (w : Vec Ideal S8x128x128 .f32) (bs : Vec Ideal S128x8 .f32) (r : Fin 256) (j : Fin 1024) :
    obBlk (k0_pay2 u) (k0_pay6 (k0_pay3 v g) (k0_pay4 b)) w bs (ix2 r j)
      = gmlp (fun k => u (ix2 r k)) (fun s k => v (ix2 ⟨r.val / 128 * 128 + s.val, by omega⟩ k)) (fun k => g (ix2 0 k)) (fun k => b (ix2 0 k))
          (fun e t s => w (ix3 e t s)) (fun t e => bs (ix2 t e)) ⟨r.val % 128, by omega⟩ j := by
  refine congrArg₂ (fun p q : EReal => p * q) (u_apply u r j) (congrArg (fun q : EReal => q + _) (Finset.sum_congr rfl fun s _ => ?_))
  exact congrArg (fun z : EReal => Scalar.select _ (_ * z) (0 : EReal)) (vn_apply v g b _ j)

/-- The block of outputs of point `t`, from the blocks that it reads. -/
def blk (c : Dev nD) (t : Fin cfg0.N) : FVec Ideal S256x2048 .f32 :=
  outBlk (iblk m c 0 t) (iblk m c 1 t) (obBlk (k0_pay2 (iblk m c 2 t)) (k0_pay6 (k0_pay3 (iblk m c 3 t) (iblk m c 11 t)) (k0_pay4 (iblk m c 12 t))) (iblk m c 13 t) (iblk m c 14 t))
    (iblk m c 4 t) (iblk m c 8 t) (iblk m c 9 t) (iblk m c 5 t) (iblk m c 6 t) (iblk m c 7 t) (iblk m c 10 t) (iblk m c 15 t)

end Cert.MergePValue
end
-- ==== Proof.MergePBlock.lean ====
module

public import proofs.«01_k».proof.Proof.MergePBase
public import proofs.«01_k».proof.Proof.Gen.MergePIdeal.Frame
public import proofs.«01_k».proof.Defs
public import Idealize.ShloMosaic.Lib.Claim
public import Idealize.ShloMosaic.Lib.Pipeline.ReadBack
public import Idealize.ShloMosaic.Lib.Pipeline.ValueKit

/-! # The scratch of the prompt's last stage read back whole -/

@[expose] public section

set_option maxRecDepth 16384

noncomputable section

open Idealize.ShloMosaic Idealize.ShloMosaic.TcCoe Idealize.SL.Sem
open Cert.MergePIdeal Cert.MergePIdeal.Gen Cert.Merge

namespace Cert.MergePValue

variable (m : (ℓ : Loc nD τ sig) → Buf (Elt Ideal) ℓ)

set_option maxHeartbeats 1600000 in
/-- The block of outputs that a point leaves. -/
theorem block (c : Dev nD) (t : Fin cfg0.N) : (outsAt0 m c t).1 = blk m c t := by
  unfold outsAt0
  frame_out
  refine congrArg (fun z => outBlk (iblk m c 0 t) (iblk m c 1 t) z (iblk m c 4 t) (iblk m c 8 t) (iblk m c 9 t) (iblk m c 5 t) (iblk m c 6 t) (iblk m c 7 t) (iblk m c 10 t) (iblk m c 15 t)) ?_
  refine (View.readCov_eq_canon' _ _ _).trans (funext fun y => ?_)
  generalize k0_pay2 (iblk m c 2 t) = U
  generalize iblk m c 13 t = W
  generalize iblk m c 14 t = B
  have hy : (Rect.unit ![0, 0] ![256, 1024] inb_S256x1024_S256x1024_0_0).toLoadRect.idx y = y := by
    funext a
    refine Fin.ext ?_
    fin_cases a <;> (show 0 + 1 * _ = _; omega)
  rw [hy]
  canon_tiles x h
  all_goals
    open_payloads
    pointwise [obBlk]
    blk_point []
  all_goals exact congrArg (BitVec.ofNat 32) (by omega)
end Cert.MergePValue
end
-- ==== Proof.MergePPoint.lean ====
module

public import proofs.«01_k».proof.Proof.MergePBase
public import proofs.«01_k».proof.Proof.Gen.MergePIdeal.Frame
public import proofs.«01_k».proof.Defs
public import Idealize.ShloMosaic.Lib.Claim
public import Idealize.ShloMosaic.Lib.Pipeline.ReadBack
public import Idealize.ShloMosaic.Lib.Pipeline.ValueKit

/-! # What a point of the prompt's last stage computes -/

@[expose] public section

set_option maxRecDepth 16384

noncomputable section

open Idealize.ShloMosaic Idealize.ShloMosaic.TcCoe Idealize.SL.Sem
open Cert.MergePIdeal Cert.MergePIdeal.Gen Cert.Merge

namespace Cert.MergePValue

variable (m : (ℓ : Loc nD τ sig) → Buf (Elt Ideal) ℓ)

/-- The result in terms of the operands that the launch finds. -/
def G (c : Dev nD) : FVec Ideal S8192x2048 .f32 := fun i =>
  outP (fun r k => (show FVec Ideal S8192x1024 .f32 from V m c main_arg0) (ix2 r k))
    (fun r k => (show FVec Ideal S8192x8192 .f32 from V m c main_arg1) (ix2 r k))
    (fun r k => (show FVec Ideal S8192x2048 .f32 from V m c main_v11) (ix2 r k))
    (fun k l => (show FVec Ideal S1024x2048 .bf16 from V m c main_v1) (ix2 k l))
    (fun k l => (show FVec Ideal S1024x2048 .bf16 from V m c main_v3) (ix2 k l))
    (fun k l => (show FVec Ideal S2048x2048 .bf16 from V m c main_v5) (ix2 k l))
    (fun k => (show FVec Ideal S1x1024 .f32 from V m c main_v7) (ix2 0 k))
    (fun k => (show FVec Ideal S1x1024 .f32 from V m c main_v9) (ix2 0 k))
    (fun e t s => (show FVec Ideal S8x128x128 .f32 from V m c main_v14) (ix3 e t s))
    (fun t e => (show FVec Ideal S128x8 .f32 from V m c main_v13) (ix2 t e))
    (fun k => (show FVec Ideal S1x2048 .f32 from V m c main_v10) (ix2 0 k)) (i 0) (i 1)

theorem idx : ∀ t : Fin cfg0.N, win0_0.index t = ![t.val, 0] ∧ win0_1.index t = ![t.val, 0] ∧ win0_2.index t = ![t.val, 1]
    ∧ win0_3.index t = ![t.val, 2] ∧ win0_4.index t = ![t.val, 3] ∧ win0_5.index t = ![t.val, 2] ∧ win0_6.index t = ![t.val, 3]
    ∧ win0_7.index t = ![t.val, 0] ∧ win0_8.index t = ![0, 0] ∧ win0_9.index t = ![0, 0] ∧ win0_10.index t = ![0, 0]
    ∧ win0_11.index t = ![0, 0] ∧ win0_12.index t = ![0, 0] ∧ win0_13.index t = ![0, 0, 0] ∧ win0_14.index t = ![0, 0]
    ∧ win0_15.index t = ![0, 0] ∧ win0_16.index t = ![t.val, 0] := (by decide +kernel : ∀ t : Fin grid0.N, _)

set_option maxHeartbeats 3200000 in
/-- What a point computes is its block of `G`. -/
theorem point (c : Dev nD) (t : Fin cfg0.N) (y) :
    blk m c t y
      = G m c (((cfg0.win 16).blk t).view.emb y) := by
  obtain ⟨r, j, rfl⟩ : ∃ (r : Fin 256) (j : Fin 2048), y = ix2 r j := ⟨y 0, y 1, by blk_ext⟩
  have e : ((cfg0.win 16).blk t).view.emb (ix2 r j) = ix2 (⟨t.val * 256 + r.val, by have := lt_of_lt_of_eq t.isLt N_0; omega⟩ : Fin 8192) j := by
    blk_ext [idx t]
  rw [e]
  refine (outBlk_apply ..).trans ?_
  unfold G outP
  refine normed_congr (stream_congr ?_ ?_ ?_ ?_ ?_ ?_ ?_ ?_ ?_ ?_) ?_
  · funext k; blk_ext [iblk, idx t]
  · funext k; blk_ext [iblk, idx t]
  · funext k
    refine (obBlk_apply ..).trans (gmlp_congr ?_ ?_ ?_ ?_ ?_ ?_ ?_)
    · funext k; blk_ext [iblk, idx t]
    · funext s k; blk_ext [iblk, idx t]
    · funext k; blk_ext [iblk, idx t]
    · funext k; blk_ext [iblk, idx t]
    · funext e t' s; blk_ext [iblk, idx t]
    · funext t' e; blk_ext [iblk, idx t]
    · refine Fin.ext ?_
      show _ % _ = (_ + _) % _
      omega
  · funext k; blk_ext [iblk, idx t]
  · funext k; blk_ext [iblk, idx t]
  · funext k; blk_ext [iblk, idx t]
  · funext k; blk_ext [iblk, idx t]
  · funext k l; blk_ext [iblk, idx t]
  · funext k l; blk_ext [iblk, idx t]
  · funext k l; blk_ext [iblk, idx t]
  · funext k; blk_ext [iblk, idx t]

end Cert.MergePValue
end
-- ==== Proof.MergePRef.lean ====
module

public import proofs.«01_k».proof.Proof.MergeMath
public import proofs.«01_k».proof.Proof.Gen.MergePRefIdeal.Run

/-! # The reference of the prompt's last stage, entry by entry

The reference's composed term is named stage by stage, and each stage is read at an index. -/

@[expose] public section

set_option maxRecDepth 16384

noncomputable section

open Idealize.ShloMosaic Idealize.ShloMosaic.TcCoe
open Cert.MergePRefIdeal Cert.MergePRefIdeal.Gen Cert.Merge

namespace Cert.MergePRefValue

/-- The exact GELU as jax writes it. -/
def geluT (x : FVec Ideal S8192x1024 .f32) : FVec Ideal S8192x1024 .f32 :=
  mulf (mulf (broadcastInDim S8192x1024 ![] bcast_S_S8192x1024 (constant S_ .f32 0x3F000000#32)) x) (Host.erfc (mulf (Host.negf x)
    (broadcastInDim S8192x1024 ![] bcast_S_S8192x1024 (constant S_ .f32 0x3F3504F3#32))))

theorem geluT_apply (x : FVec Ideal S8192x1024 .f32) (r : Fin 8192) (j : Fin 1024) : geluT x (ix2 r j) = gelu (x (ix2 r j)) := by
  pointwise [geluT, gelu]
  rw [neg_mul]
  exact congrArg (fun z : EReal => _ * z) (Ideal.erfc_neg _)

/-- A row less its mean. -/
def centerT (x : FVec Ideal S8192x1024 .f32) : FVec Ideal S8192x1024 .f32 :=
  subf x (broadcastInDim S8192x1024 ![0, 1] bcast_S8192x1_S8192x1024_0_1 (Host.divf (broadcastInDim S8192x1 ![0]
    bcast_S8192_S8192x1_0 (Host.reduceAdd x (constant S_ .f32 0x00000000#32) reducesTo_S8192x1024_S8192_d1 h_S_))
    (broadcastInDim S8192x1 ![] bcast_S_S8192x1 (constant S_ .f32 0x44800000#32))))

/-- The layer norm. -/
def lnT (x : FVec Ideal S8192x1024 .f32) (g b : FVec Ideal S1x1024 .f32) : FVec Ideal S8192x1024 .f32 :=
  (addf (mulf (mulf (centerT x) (broadcastInDim S8192x1024 ![0, 1] bcast_S8192x1_S8192x1024_0_1 (Host.rsqrt (addf
    (Host.divf (broadcastInDim S8192x1 ![0] bcast_S8192_S8192x1_0 (Host.reduceAdd (mulf (centerT x) (centerT x))
    (constant S_ .f32 0x00000000#32) reducesTo_S8192x1024_S8192_d1 h_S_)) (broadcastInDim S8192x1 ![] bcast_S_S8192x1
    (constant S_ .f32 0x44800000#32))) (broadcastInDim S8192x1 ![] bcast_S_S8192x1 (constant S_ .f32
    0x3727C5AC#32)))))) (broadcastInDim S8192x1024 ![0, 1] bcast_S1x1024_S8192x1024_0_1 (broadcastInDim S1x1024 ![1]
    bcast_S1024_S1x1024_1 (shapeCast _ g shapeCasts_S1x1024_S1024)))) (broadcastInDim S8192x1024 ![0, 1]
    bcast_S1x1024_S8192x1024_0_1 (broadcastInDim S1x1024 ![1] bcast_S1024_S1x1024_1 (shapeCast _ b
    shapeCasts_S1x1024_S1024))))

theorem lnT_apply (x : FVec Ideal S8192x1024 .f32) (g b : FVec Ideal S1x1024 .f32) (r : Fin 8192) (j : Fin 1024) :
    lnT x g b (ix2 r j) = lnRow (fun k => x (ix2 r k)) (fun k => g (ix2 0 k)) (fun k => b (ix2 0 k)) j := by
  pointwise [lnT, centerT, lnRow, mean]

/-- The masked mix of the rows of a chunk. -/
def mixT (n : FVec Ideal S8192x1024 .f32) (w : FVec Ideal S1x8x128x128 .f32) (bs : FVec Ideal S1x8x128 .f32) : FVec Ideal S8192x1024 .f32 :=
  (shapeCast _ (addf (transpose S2x32x128x8x128 [1, 2, 4, 0, 3] (Host.dotGeneral
    dot_S2x32x128x8x128_S8x128x128_S8x2x32x128x128_2_2_014_1_3_0 none (shapeCast _ n
    shapeCasts_S8192x1024_S2x32x128x8x128) (select (broadcastInDim S8x128x128 ![1, 2] bcast_S128x128_S8x128x128_1_2
    (cmpi .sge (addi (iotaInDim S128x128 32 0) (broadcastInDim S128x128 ![] bcast_S_S128x128 (constantI S_ 32 0#32)))
    (iotaInDim S128x128 32 1))) (shapeCast _ w shapeCasts_S1x8x128x128_S8x128x128) (broadcastInDim S8x128x128 ![]
    bcast_S_S8x128x128 (constant S_ .f32 0x00000000#32)))) transposes_S8x2x32x128x128_S2x32x128x8x128_1_2_4_0_3)
    (broadcastInDim S2x32x128x8x128 ![0, 1, 2, 3, 4] bcast_S1x1x128x8x1_S2x32x128x8x128_0_1_2_3_4 (broadcastInDim
    S1x1x128x8x1 ![2, 3] bcast_S128x8_S1x1x128x8x1_2_3 (transpose S128x8 [1, 0] (shapeCast _ bs
    shapeCasts_S1x8x128_S8x128) transposes_S8x128_S128x8_1_0)))) shapeCasts_S2x32x128x8x128_S8192x1024)

theorem mixT_apply (n : FVec Ideal S8192x1024 .f32) (w : FVec Ideal S1x8x128x128 .f32) (bs : FVec Ideal S1x8x128 .f32) (r : Fin 8192) (j : Fin 1024) :
    mixT n w bs (ix2 r j) = (∑ s : Fin 128, Scalar.select (IntOp.cmpi CmpIPredicate.sge (BitVec.ofNat 32 (r.val % 128)) (BitVec.ofNat 32 s.val))
      (w (ix4 0 ⟨j.val / 128, by omega⟩ ⟨r.val % 128, by omega⟩ s) * n (ix2 ⟨r.val / 128 * 128 + s.val, by omega⟩ j)) (0 : EReal))
      + bs (ix3 0 ⟨j.val / 128, by omega⟩ ⟨r.val % 128, by omega⟩) := by
  pointwise [mixT]
  refine congrArg (fun q : EReal => q + _) (Finset.sum_congr rfl fun s _ => ?_)
  have e0 : IntOp.addi (BitVec.ofNat 32 (r.val % 128)) 0#32 = BitVec.ofNat 32 (r.val % 128) := BitVec.add_zero _
  have e1 : (⟨r.val / 4096 * 4096 + r.val / 128 % 32 * 128 + s.val, by omega⟩ : Fin 8192) = ⟨r.val / 128 * 128 + s.val, by omega⟩ :=
    Fin.ext (by show _ + _ + _ = _ + _; omega)
  rw [e0, e1, mul_comm]

/-- The sigmoid-weighted unit of every entry. -/
def siluT (x : FVec Ideal S8192x1024 .f32) : FVec Ideal S8192x1024 .f32 :=
  mulf x (Host.divf (broadcastInDim S8192x1024 ![] bcast_S_S8192x1024 (constant S_ .f32 0x3F800000#32)) (addf
    (broadcastInDim S8192x1024 ![] bcast_S_S8192x1024 (constant S_ .f32 0x3F800000#32)) (Host.exp (Host.negf x))))

/-- The logistic function of every entry. -/
def sigT (x : FVec Ideal S8192x2048 .f32) : FVec Ideal S8192x2048 .f32 :=
  (Host.divf (broadcastInDim S8192x2048 ![] bcast_S_S8192x2048 (constant S_ .f32 0x3F800000#32)) (addf (broadcastInDim
    S8192x2048 ![] bcast_S_S8192x2048 (constant S_ .f32 0x3F800000#32)) (Host.exp (Host.negf x))))

theorem siluT_apply (x : FVec Ideal S8192x1024 .f32) (r : Fin 8192) (j : Fin 1024) : siluT x (ix2 r j) = silu (x (ix2 r j)) := by
  pointwise [siluT, silu, Ideal.logistic]

theorem sigT_apply (x : FVec Ideal S8192x2048 .f32) (r : Fin 8192) (j : Fin 2048) : sigT x (ix2 r j) = Ideal.logistic (x (ix2 r j)) := by
  pointwise [sigT, Ideal.logistic]

/-- The residual stream after the layer. -/
def streamT (oa : FVec Ideal S8192x1024 .f32) (gate : FVec Ideal S8192x8192 .f32) (ob : FVec Ideal S8192x1024 .f32) (x : FVec Ideal S2x4096x2048 .f32)
    (wa wb : FVec Ideal S1x1024x2048 .f32) (wo : FVec Ideal S1x2048x2048 .f32) : FVec Ideal S8192x2048 .f32 :=
  (addf (shapeCast _ x shapeCasts_S2x4096x2048_S8192x2048) (Host.dotGeneral
    dot_S8192x2048_S2048x2048_S8192x2048_1_0_0_1_n_n none (addf (mulf (sigT (extractStridedSlice S8192x2048 ![0, 4096]
    gate slices_S8192x8192_S8192x2048_0_4096)) (Host.dotGeneral dot_S8192x1024_S1024x2048_S8192x2048_1_0_0_1_n_n none
    (mulf oa (siluT (extractStridedSlice S8192x1024 ![0, 0] gate slices_S8192x8192_S8192x1024_0_0))) (shapeCast _ wa
    shapeCasts_S1x1024x2048_S1024x2048))) (mulf (sigT (extractStridedSlice S8192x2048 ![0, 6144] gate
    slices_S8192x8192_S8192x2048_0_6144)) (Host.dotGeneral dot_S8192x1024_S1024x2048_S8192x2048_1_0_0_1_n_n none (mulf
    ob (siluT (extractStridedSlice S8192x1024 ![0, 3072] gate slices_S8192x8192_S8192x1024_0_3072))) (shapeCast _ wb
    shapeCasts_S1x1024x2048_S1024x2048)))) (shapeCast _ wo shapeCasts_S1x2048x2048_S2048x2048)))

theorem streamT_apply (oa : FVec Ideal S8192x1024 .f32) (gate : FVec Ideal S8192x8192 .f32) (ob : FVec Ideal S8192x1024 .f32) (x : FVec Ideal S2x4096x2048 .f32)
    (wa wb : FVec Ideal S1x1024x2048 .f32) (wo : FVec Ideal S1x2048x2048 .f32) (r : Fin 8192) (j : Fin 2048) :
    streamT oa gate ob x wa wb wo (ix2 r j) = stream (fun k => oa (ix2 r k)) (fun k => gate (ix2 r ⟨k.val, by omega⟩)) (fun k => ob (ix2 r k))
      (fun k => gate (ix2 r ⟨3072 + k.val, by omega⟩)) (fun k => gate (ix2 r ⟨4096 + k.val, by omega⟩)) (fun k => gate (ix2 r ⟨6144 + k.val, by omega⟩))
      (fun k => x (ix3 ⟨r.val / 4096, by omega⟩ ⟨r.val % 4096, by omega⟩ k)) (fun k l => wa (ix3 0 k l)) (fun k l => wb (ix3 0 k l)) (fun k l => wo (ix3 0 k l)) j := by
  pointwise [streamT, stream, branch, siluT, sigT, silu, Ideal.logistic]

/-- The last norm. -/
def normedT (h : FVec Ideal S8192x2048 .f32) (gf : FVec Ideal S2048 .f32) : FVec Ideal S8192x2048 .f32 :=
  mulf (mulf h (broadcastInDim S8192x2048 ![0, 1] bcast_S8192x1_S8192x2048_0_1 (Host.rsqrt (addf (Host.divf
    (broadcastInDim S8192x1 ![0] bcast_S8192_S8192x1_0 (Host.reduceAdd (mulf h h) (constant S_ .f32 0x00000000#32)
    reducesTo_S8192x2048_S8192_d1 h_S_)) (broadcastInDim S8192x1 ![] bcast_S_S8192x1 (constant S_ .f32
    0x45000000#32))) (broadcastInDim S8192x1 ![] bcast_S_S8192x1 (constant S_ .f32 0x358637BD#32)))))) (broadcastInDim
    S8192x2048 ![0, 1] bcast_S1x2048_S8192x2048_0_1 (broadcastInDim S1x2048 ![1] bcast_S2048_S1x2048_1 gf))

theorem normedT_apply (h : FVec Ideal S8192x2048 .f32) (gf : FVec Ideal S2048 .f32) (r : Fin 8192) (j : Fin 2048) :
    normedT h gf (ix2 r j) = normed (fun k => h (ix2 r k)) (fun k => gf (ix1 k)) j := by
  pointwise [normedT, normed]

/-- The reference's result as the composition of the stages. -/
def resT (oa : FVec Ideal S8192x1024 .f32) (gate : FVec Ideal S8192x8192 .f32) (x : FVec Ideal S2x4096x2048 .f32)
    (wa wb : FVec Ideal S1x1024x2048 .f32) (wo : FVec Ideal S1x2048x2048 .f32) (g b : FVec Ideal S1x1024 .f32) (w : FVec Ideal S1x8x128x128 .f32)
    (bs : FVec Ideal S1x8x128 .f32) (gf : FVec Ideal S2048 .f32) : FVec Ideal S8192x2048 .f32 :=
  normedT (streamT oa gate (mulf (geluT (extractStridedSlice S8192x1024 ![0, 1024] gate slices_S8192x8192_S8192x1024_0_1024))
    (mixT (lnT (geluT (extractStridedSlice S8192x1024 ![0, 2048] gate slices_S8192x8192_S8192x1024_0_2048)) g b) w bs)) x wa wb wo) gf

theorem resT_apply (oa : FVec Ideal S8192x1024 .f32) (gate : FVec Ideal S8192x8192 .f32) (x : FVec Ideal S2x4096x2048 .f32)
    (wa wb : FVec Ideal S1x1024x2048 .f32) (wo : FVec Ideal S1x2048x2048 .f32) (g b : FVec Ideal S1x1024 .f32) (w : FVec Ideal S1x8x128x128 .f32)
    (bs : FVec Ideal S1x8x128 .f32) (gf : FVec Ideal S2048 .f32) (r : Fin 8192) (j : Fin 2048) :
    resT oa gate x wa wb wo g b w bs gf (ix2 r j) = outP (fun r k => oa (ix2 r k)) (fun r k => gate (ix2 r k))
      (fun r k => x (ix3 ⟨r.val / 4096, by omega⟩ ⟨r.val % 4096, by omega⟩ k)) (fun k l => wa (ix3 0 k l)) (fun k l => wb (ix3 0 k l))
      (fun k l => wo (ix3 0 k l)) (fun k => g (ix2 0 k)) (fun k => b (ix2 0 k)) (fun e t s => w (ix4 0 e t s)) (fun t e => bs (ix3 0 e t))
      (fun k => gf (ix1 k)) r j := by
  refine (normedT_apply ..).trans ?_
  unfold outP
  refine normed_congr ?_ rfl
  funext l
  refine (streamT_apply ..).trans ?_
  refine congrFun (stream_congr rfl rfl ?_ rfl rfl rfl rfl rfl rfl rfl) l
  funext k
  refine congrArg₂ (fun p q : EReal => p * q) ((geluT_apply ..).trans (congrArg gelu ?_)) ((mixT_apply ..).trans ?_)
  · pointwise
  · refine congrArg (fun q : EReal => q + _) (Finset.sum_congr rfl fun s _ => ?_)
    refine congrArg (fun z : EReal => Scalar.select _ (_ * z) (0 : EReal)) ((lnT_apply ..).trans ?_)
    refine congrArg (fun z => lnRow z _ _ _) (funext fun a => (geluT_apply ..).trans (congrArg gelu ?_))
    pointwise

/-- The generated name of the result stands for that composition. -/
theorem res_eq (m : (ℓ : Loc nD τ sig) → Buf (Elt Ideal) ℓ) (c : Dev nD) :
    Cert.MergePRefIdeal.Value.res_out0 m c = resT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := rfl

end Cert.MergePRefValue
end
-- ==== Proof.MergeP.lean ====
module

public import proofs.«01_k».proof.Proof.MergePBlock
public import proofs.«01_k».proof.Proof.MergePPoint
public import proofs.«01_k».proof.Proof.MergePRef
public import proofs.«01_k».proof.Defs
public import Idealize.ShloMosaic.Lib.Claim

/-! # The prompt's last stage: kernel and reference -/

@[expose] public section

set_option maxRecDepth 16384

noncomputable section

open Idealize.ShloMosaic Idealize.ShloMosaic.TcCoe Idealize.SL.Sem
open Cert.MergePIdeal Cert.MergePIdeal.Gen Cert.Merge Cert.MergePRefValue

namespace Cert.MergePValue

variable (m : (ℓ : Loc nD τ sig) → Buf (Elt Ideal) ℓ)

/-- The array that the launch leaves is `G`. -/
theorem final (c : Dev nD) : (dats m 0 c).arrAt 16 (cfgs 0).N = G m c := by
  refine (dats m 0 c).arrAt_eq_of_covers 16 _ (by decide +kernel) fun t _ y => ?_
  blk_simp
  rw [after0_16, block]
  exact point m c t y

/-- The attention's output is the argument. -/
theorem entry_oa (c : Dev nD) (r : Fin 8192) (k : Fin 1024) : (V m c main_arg0 : FVec Ideal S8192x1024 .f32) (ix2 r k)
    = m ((c.tc : Thread nD τ).loc main_arg0) (ix2 r k) := by
  dsimp only [V, hostOps0, List.flatten_cons, List.flatten_nil, List.cons_append, List.nil_append, List.append_nil]
  after_results

/-- The gate columns are the argument. -/
theorem entry_gate (c : Dev nD) (r : Fin 8192) (k : Fin 8192) : (V m c main_arg1 : FVec Ideal S8192x8192 .f32) (ix2 r k)
    = m ((c.tc : Thread nD τ).loc main_arg1) (ix2 r k) := by
  dsimp only [V, hostOps0, List.flatten_cons, List.flatten_nil, List.cons_append, List.nil_append, List.append_nil]
  after_results

/-- The residual's rows are the prompt with its two leading axes joined. -/
theorem entry_x (c : Dev nD) (r : Fin 8192) (k : Fin 2048) : (V m c main_v11 : FVec Ideal S8192x2048 .f32) (ix2 r k)
    = m ((c.tc : Thread nD τ).loc main_arg2) (ix3 ⟨r.val / 4096, by omega⟩ ⟨r.val % 4096, by omega⟩ k) := by
  dsimp only [V, hostOps0, List.flatten_cons, List.flatten_nil, List.cons_append, List.nil_append, List.append_nil]
  after_results
  pointwise

/-- The first branch's weights. -/
theorem entry_wa (c : Dev nD) (k : Fin 1024) (l : Fin 2048) : (V m c main_v1 : FVec Ideal S1024x2048 .bf16) (ix2 k l)
    = m ((c.tc : Thread nD τ).loc main_arg3) (ix3 0 k l) := by
  dsimp only [V, hostOps0, List.flatten_cons, List.flatten_nil, List.cons_append, List.nil_append, List.append_nil]
  after_results
  pointwise

/-- The second branch's weights. -/
theorem entry_wb (c : Dev nD) (k : Fin 1024) (l : Fin 2048) : (V m c main_v3 : FVec Ideal S1024x2048 .bf16) (ix2 k l)
    = m ((c.tc : Thread nD τ).loc main_arg4) (ix3 0 k l) := by
  dsimp only [V, hostOps0, List.flatten_cons, List.flatten_nil, List.cons_append, List.nil_append, List.append_nil]
  after_results
  pointwise

/-- The out projection's weights. -/
theorem entry_wo (c : Dev nD) (k l : Fin 2048) : (V m c main_v5 : FVec Ideal S2048x2048 .bf16) (ix2 k l)
    = m ((c.tc : Thread nD τ).loc main_arg5) (ix3 0 k l) := by
  dsimp only [V, hostOps0, List.flatten_cons, List.flatten_nil, List.cons_append, List.nil_append, List.append_nil]
  after_results
  pointwise

/-- The layer norm's gain. -/
theorem entry_g (c : Dev nD) (k : Fin 1024) : (V m c main_v7 : FVec Ideal S1x1024 .f32) (ix2 0 k)
    = m ((c.tc : Thread nD τ).loc main_arg6) (ix2 0 k) := by
  dsimp only [V, hostOps0, List.flatten_cons, List.flatten_nil, List.cons_append, List.nil_append, List.append_nil]
  after_results
  pointwise

/-- The layer norm's offset. -/
theorem entry_b (c : Dev nD) (k : Fin 1024) : (V m c main_v9 : FVec Ideal S1x1024 .f32) (ix2 0 k)
    = m ((c.tc : Thread nD τ).loc main_arg7) (ix2 0 k) := by
  dsimp only [V, hostOps0, List.flatten_cons, List.flatten_nil, List.cons_append, List.nil_append, List.append_nil]
  after_results
  pointwise

/-- The spatial weights. -/
theorem entry_w (c : Dev nD) (e : Fin 8) (t s : Fin 128) : (V m c main_v14 : FVec Ideal S8x128x128 .f32) (ix3 e t s)
    = m ((c.tc : Thread nD τ).loc main_arg8) (ix4 0 e t s) := by
  dsimp only [V, hostOps0, List.flatten_cons, List.flatten_nil, List.cons_append, List.nil_append, List.append_nil]
  after_results
  pointwise

/-- The spatial offsets, transposed. -/
theorem entry_bs (c : Dev nD) (t : Fin 128) (e : Fin 8) : (V m c main_v13 : FVec Ideal S128x8 .f32) (ix2 t e)
    = m ((c.tc : Thread nD τ).loc main_arg9) (ix3 0 e t) := by
  dsimp only [V, hostOps0, List.flatten_cons, List.flatten_nil, List.cons_append, List.nil_append, List.append_nil]
  after_results
  pointwise

/-- The last norm's gain. -/
theorem entry_gf (c : Dev nD) (k : Fin 2048) : (V m c main_v10 : FVec Ideal S1x2048 .f32) (ix2 0 k)
    = m ((c.tc : Thread nD τ).loc main_arg10) (ix1 k) := by
  dsimp only [V, hostOps0, List.flatten_cons, List.flatten_nil, List.cons_append, List.nil_append, List.append_nil]
  after_results
  pointwise

/-- Every entry of the array from the arguments: the reference's composition. -/
theorem tie (c : Dev nD) : resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = G m c := by
  funext i
  obtain ⟨r, j, rfl⟩ : ∃ (r : Fin 8192) (j : Fin 2048), i = ix2 r j := ⟨i 0, i 1, by blk_ext⟩
  refine (resT_apply ..).trans ?_
  refine outP_congr ?_ ?_ ?_ ?_ ?_ ?_ ?_ ?_ ?_ ?_ ?_ r j
  · funext r k; exact (entry_oa m c r k).symm
  · funext r k; exact (entry_gate m c r k).symm
  · funext r k; exact (entry_x m c r k).symm
  · funext k l; exact (entry_wa m c k l).symm
  · funext k l; exact (entry_wb m c k l).symm
  · funext k l; exact (entry_wo m c k l).symm
  · funext k; exact (entry_g m c k).symm
  · funext k; exact (entry_b m c k).symm
  · funext e t s; exact (entry_w m c e t s).symm
  · funext t e; exact (entry_bs m c t e).symm
  · funext k; exact (entry_gf m c k).symm

/-- The run of the stage: the result is `G`, the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v15_0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  run_from Gen.run_main m ρ & Gen.unchanged m ρ
  exact (hc.1 16).trans (final m c)

/-- The kernel's last stage is the reference's. -/
theorem algebraic : Cert.algebraic_MergePIdeal_MergePRefIdeal := by
  intro m g m' g' _ hagree
  refine ⟨_, run m g, θ_run_mono (Cert.MergePRefIdeal.Value.run m' g') fun r h c => ?_⟩
  obtain ⟨h0, h3⟩ := h c
  obtain ⟨a0, a1, a2, a3, a4, a5, a6, a7, a8, a9, a10⟩ := hagree c
  refine ⟨h0.trans ?_, h3⟩
  refine (res_eq m' c).trans ?_
  rw [a0, a1, a2, a3, a4, a5, a6, a7, a8, a9, a10]
  exact tie m c

end Cert.MergePValue
end
-- ==== Proof.MergeSRef.lean ====
module

public import proofs.«01_k».proof.Proof.MergeMath
public import proofs.«01_k».proof.Proof.Gen.MergeSRefIdeal.Run

/-! # The reference of the sample group's last stage, entry by entry

The reference's composed term is named stage by stage, and each stage is read at an index. -/

@[expose] public section

set_option maxRecDepth 16384

noncomputable section

open Idealize.ShloMosaic Idealize.ShloMosaic.TcCoe
open Cert.MergeSRefIdeal Cert.MergeSRefIdeal.Gen Cert.Merge

namespace Cert.MergeSRefValue

/-- The exact GELU as jax writes it. -/
def geluT (x : FVec Ideal S8x1024 .f32) : FVec Ideal S8x1024 .f32 :=
  mulf (mulf (broadcastInDim S8x1024 ![] bcast_S_S8x1024 (constant S_ .f32 0x3F000000#32)) x) (Host.erfc (mulf (Host.negf x)
    (broadcastInDim S8x1024 ![] bcast_S_S8x1024 (constant S_ .f32 0x3F3504F3#32))))

theorem geluT_apply (x : FVec Ideal S8x1024 .f32) (r : Fin 8) (j : Fin 1024) : geluT x (ix2 r j) = gelu (x (ix2 r j)) := by
  pointwise [geluT, gelu]
  rw [neg_mul]
  exact congrArg (fun z : EReal => _ * z) (Ideal.erfc_neg _)

/-- A row less its mean. -/
def centerT (x : FVec Ideal S8x1024 .f32) : FVec Ideal S8x1024 .f32 :=
  subf x (broadcastInDim S8x1024 ![0, 1] bcast_S8x1_S8x1024_0_1 (Host.divf (broadcastInDim S8x1 ![0] bcast_S8_S8x1_0
    (Host.reduceAdd x (constant S_ .f32 0x00000000#32) reducesTo_S8x1024_S8_d1 h_S_)) (broadcastInDim S8x1 ![]
    bcast_S_S8x1 (constant S_ .f32 0x44800000#32))))

/-- The layer norm. -/
def lnT (x : FVec Ideal S8x1024 .f32) (g b : FVec Ideal S1x1024 .f32) : FVec Ideal S8x1024 .f32 :=
  (addf (mulf (mulf (centerT x) (broadcastInDim S8x1024 ![0, 1] bcast_S8x1_S8x1024_0_1 (Host.rsqrt (addf (Host.divf
    (broadcastInDim S8x1 ![0] bcast_S8_S8x1_0 (Host.reduceAdd (mulf (centerT x) (centerT x)) (constant S_ .f32
    0x00000000#32) reducesTo_S8x1024_S8_d1 h_S_)) (broadcastInDim S8x1 ![] bcast_S_S8x1 (constant S_ .f32
    0x44800000#32))) (broadcastInDim S8x1 ![] bcast_S_S8x1 (constant S_ .f32 0x3727C5AC#32)))))) (broadcastInDim
    S8x1024 ![0, 1] bcast_S1x1024_S8x1024_0_1 (broadcastInDim S1x1024 ![1] bcast_S1024_S1x1024_1 (shapeCast _ g
    shapeCasts_S1x1024_S1024)))) (broadcastInDim S8x1024 ![0, 1] bcast_S1x1024_S8x1024_0_1 (broadcastInDim S1x1024
    ![1] bcast_S1024_S1x1024_1 (shapeCast _ b shapeCasts_S1x1024_S1024))))

theorem lnT_apply (x : FVec Ideal S8x1024 .f32) (g b : FVec Ideal S1x1024 .f32) (r : Fin 8) (j : Fin 1024) :
    lnT x g b (ix2 r j) = lnRow (fun k => x (ix2 r k)) (fun k => g (ix2 0 k)) (fun k => b (ix2 0 k)) j := by
  pointwise [lnT, centerT, lnRow, mean]

/-- The masked mix of a chunk of one row. -/
def mixT (n : FVec Ideal S8x1024 .f32) (w : FVec Ideal S1x8x128x128 .f32) (bs : FVec Ideal S1x8x128 .f32) : FVec Ideal S8x1024 .f32 :=
  (shapeCast _ (addf (transpose S8x1x1x8x128 [1, 2, 4, 0, 3] (Host.dotGeneral
    dot_S8x1x1x8x128_S8x1x1_S8x8x1x128x1_2_2_014_1_3_0 none (shapeCast _ n shapeCasts_S8x1024_S8x1x1x8x128) (select
    (broadcastInDim S8x1x1 ![1, 2] bcast_S1x1_S8x1x1_1_2 (cmpi .sge (addi (iotaInDim S1x1 32 0) (broadcastInDim S1x1
    ![] bcast_S_S1x1 (constantI S_ 32 0#32))) (iotaInDim S1x1 32 1))) (extractStridedSlice S8x1x1 ![0, 0, 0]
    (shapeCast _ w shapeCasts_S1x8x128x128_S8x128x128) slices_S8x128x128_S8x1x1_0_0_0) (broadcastInDim S8x1x1 ![]
    bcast_S_S8x1x1 (constant S_ .f32 0x00000000#32)))) transposes_S8x8x1x128x1_S8x1x1x8x128_1_2_4_0_3) (broadcastInDim
    S8x1x1x8x128 ![0, 1, 2, 3, 4] bcast_S1x1x1x8x1_S8x1x1x8x128_0_1_2_3_4 (broadcastInDim S1x1x1x8x1 ![2, 3]
    bcast_S1x8_S1x1x1x8x1_2_3 (transpose S1x8 [1, 0] (extractStridedSlice S8x1 ![0, 0] (shapeCast _ bs
    shapeCasts_S1x8x128_S8x128) slices_S8x128_S8x1_0_0) transposes_S8x1_S1x8_1_0)))) shapeCasts_S8x1x1x8x128_S8x1024)

theorem mixT_apply (n : FVec Ideal S8x1024 .f32) (w : FVec Ideal S1x8x128x128 .f32) (bs : FVec Ideal S1x8x128 .f32) (r : Fin 8) (j : Fin 1024) :
    mixT n w bs (ix2 r j) = w (ix4 0 ⟨j.val / 128, by omega⟩ 0 0) * n (ix2 r j) + bs (ix3 0 ⟨j.val / 128, by omega⟩ 0) := by
  pointwise [mixT]
  refine congrArg (fun z : EReal => z + _) ((Fintype.sum_subsingleton _ 0).trans ?_)
  exact (if_pos (by decide)).trans (mul_comm _ _)

/-- The sigmoid-weighted unit of every entry. -/
def siluT (x : FVec Ideal S8x1024 .f32) : FVec Ideal S8x1024 .f32 :=
  mulf x (Host.divf (broadcastInDim S8x1024 ![] bcast_S_S8x1024 (constant S_ .f32 0x3F800000#32)) (addf
    (broadcastInDim S8x1024 ![] bcast_S_S8x1024 (constant S_ .f32 0x3F800000#32)) (Host.exp (Host.negf x))))

/-- The logistic function of every entry. -/
def sigT (x : FVec Ideal S8x2048 .f32) : FVec Ideal S8x2048 .f32 :=
  (Host.divf (broadcastInDim S8x2048 ![] bcast_S_S8x2048 (constant S_ .f32 0x3F800000#32)) (addf (broadcastInDim
    S8x2048 ![] bcast_S_S8x2048 (constant S_ .f32 0x3F800000#32)) (Host.exp (Host.negf x))))

theorem siluT_apply (x : FVec Ideal S8x1024 .f32) (r : Fin 8) (j : Fin 1024) : siluT x (ix2 r j) = silu (x (ix2 r j)) := by
  pointwise [siluT, silu, Ideal.logistic]

theorem sigT_apply (x : FVec Ideal S8x2048 .f32) (r : Fin 8) (j : Fin 2048) : sigT x (ix2 r j) = Ideal.logistic (x (ix2 r j)) := by
  pointwise [sigT, Ideal.logistic]

/-- The residual stream after the layer. -/
def streamT (oa : FVec Ideal S8x1024 .f32) (gate : FVec Ideal S8x8192 .f32) (ob : FVec Ideal S8x1024 .f32) (x : FVec Ideal S8x1x2048 .f32)
    (wa wb : FVec Ideal S1x1024x2048 .f32) (wo : FVec Ideal S1x2048x2048 .f32) : FVec Ideal S8x2048 .f32 :=
  (addf (shapeCast _ x shapeCasts_S8x1x2048_S8x2048) (Host.dotGeneral dot_S8x2048_S2048x2048_S8x2048_1_0_0_1_n_n none
    (addf (mulf (sigT (extractStridedSlice S8x2048 ![0, 4096] gate slices_S8x8192_S8x2048_0_4096)) (Host.dotGeneral
    dot_S8x1024_S1024x2048_S8x2048_1_0_0_1_n_n none (mulf oa (siluT (extractStridedSlice S8x1024 ![0, 0] gate
    slices_S8x8192_S8x1024_0_0))) (shapeCast _ wa shapeCasts_S1x1024x2048_S1024x2048))) (mulf (sigT
    (extractStridedSlice S8x2048 ![0, 6144] gate slices_S8x8192_S8x2048_0_6144)) (Host.dotGeneral
    dot_S8x1024_S1024x2048_S8x2048_1_0_0_1_n_n none (mulf ob (siluT (extractStridedSlice S8x1024 ![0, 3072] gate
    slices_S8x8192_S8x1024_0_3072))) (shapeCast _ wb shapeCasts_S1x1024x2048_S1024x2048)))) (shapeCast _ wo
    shapeCasts_S1x2048x2048_S2048x2048)))

theorem streamT_apply (oa : FVec Ideal S8x1024 .f32) (gate : FVec Ideal S8x8192 .f32) (ob : FVec Ideal S8x1024 .f32) (x : FVec Ideal S8x1x2048 .f32)
    (wa wb : FVec Ideal S1x1024x2048 .f32) (wo : FVec Ideal S1x2048x2048 .f32) (r : Fin 8) (j : Fin 2048) :
    streamT oa gate ob x wa wb wo (ix2 r j) = stream (fun k => oa (ix2 r k)) (fun k => gate (ix2 r ⟨k.val, by omega⟩)) (fun k => ob (ix2 r k))
      (fun k => gate (ix2 r ⟨3072 + k.val, by omega⟩)) (fun k => gate (ix2 r ⟨4096 + k.val, by omega⟩)) (fun k => gate (ix2 r ⟨6144 + k.val, by omega⟩))
      (fun k => x (ix3 r 0 k)) (fun k l => wa (ix3 0 k l)) (fun k l => wb (ix3 0 k l)) (fun k l => wo (ix3 0 k l)) j := by
  pointwise [streamT, stream, branch, siluT, sigT, silu, Ideal.logistic]

/-- The last norm. -/
def normedT (h : FVec Ideal S8x2048 .f32) (gf : FVec Ideal S2048 .f32) : FVec Ideal S8x2048 .f32 :=
  mulf (mulf h (broadcastInDim S8x2048 ![0, 1] bcast_S8x1_S8x2048_0_1 (Host.rsqrt (addf (Host.divf (broadcastInDim
    S8x1 ![0] bcast_S8_S8x1_0 (Host.reduceAdd (mulf h h) (constant S_ .f32 0x00000000#32) reducesTo_S8x2048_S8_d1
    h_S_)) (broadcastInDim S8x1 ![] bcast_S_S8x1 (constant S_ .f32 0x45000000#32))) (broadcastInDim S8x1 ![]
    bcast_S_S8x1 (constant S_ .f32 0x358637BD#32)))))) (broadcastInDim S8x2048 ![0, 1] bcast_S1x2048_S8x2048_0_1
    (broadcastInDim S1x2048 ![1] bcast_S2048_S1x2048_1 gf))

theorem normedT_apply (h : FVec Ideal S8x2048 .f32) (gf : FVec Ideal S2048 .f32) (r : Fin 8) (j : Fin 2048) :
    normedT h gf (ix2 r j) = normed (fun k => h (ix2 r k)) (fun k => gf (ix1 k)) j := by
  pointwise [normedT, normed]

/-- The reference's result as the composition of the stages. -/
def resT (oa : FVec Ideal S8x1024 .f32) (gate : FVec Ideal S8x8192 .f32) (x : FVec Ideal S8x1x2048 .f32)
    (wa wb : FVec Ideal S1x1024x2048 .f32) (wo : FVec Ideal S1x2048x2048 .f32) (g b : FVec Ideal S1x1024 .f32) (w : FVec Ideal S1x8x128x128 .f32)
    (bs : FVec Ideal S1x8x128 .f32) (gf : FVec Ideal S2048 .f32) : FVec Ideal S8x2048 .f32 :=
  normedT (streamT oa gate (mulf (geluT (extractStridedSlice S8x1024 ![0, 1024] gate slices_S8x8192_S8x1024_0_1024))
    (mixT (lnT (geluT (extractStridedSlice S8x1024 ![0, 2048] gate slices_S8x8192_S8x1024_0_2048)) g b) w bs)) x wa wb wo) gf

theorem resT_apply (oa : FVec Ideal S8x1024 .f32) (gate : FVec Ideal S8x8192 .f32) (x : FVec Ideal S8x1x2048 .f32)
    (wa wb : FVec Ideal S1x1024x2048 .f32) (wo : FVec Ideal S1x2048x2048 .f32) (g b : FVec Ideal S1x1024 .f32) (w : FVec Ideal S1x8x128x128 .f32)
    (bs : FVec Ideal S1x8x128 .f32) (gf : FVec Ideal S2048 .f32) (r : Fin 8) (j : Fin 2048) :
    resT oa gate x wa wb wo g b w bs gf (ix2 r j) = outS (fun r k => oa (ix2 r k)) (fun r k => gate (ix2 r k))
      (fun r k => x (ix3 r 0 k)) (fun k l => wa (ix3 0 k l)) (fun k l => wb (ix3 0 k l))
      (fun k l => wo (ix3 0 k l)) (fun k => g (ix2 0 k)) (fun k => b (ix2 0 k)) (fun e => w (ix4 0 e 0 0)) (fun e => bs (ix3 0 e 0))
      (fun k => gf (ix1 k)) r j := by
  refine (normedT_apply ..).trans ?_
  unfold outS
  refine normed_congr ?_ rfl
  funext l
  refine (streamT_apply ..).trans ?_
  refine congrFun (stream_congr rfl rfl ?_ rfl rfl rfl rfl rfl rfl rfl) l
  funext k
  refine congrArg₂ (fun p q : EReal => p * q) ((geluT_apply ..).trans (congrArg gelu ?_)) ((mixT_apply ..).trans ?_)
  · pointwise
  · refine congrArg (fun z : EReal => _ * z + _) ((lnT_apply ..).trans ?_)
    refine congrArg (fun z => lnRow z _ _ _) (funext fun a => (geluT_apply ..).trans (congrArg gelu ?_))
    pointwise

/-- The stored values. -/
def vnT (gate : FVec Ideal S8x8192 .f32) (g b : FVec Ideal S1x1024 .f32) : FVec Ideal S8x1024 .f32 :=
  lnT (geluT (extractStridedSlice S8x1024 ![0, 2048] gate slices_S8x8192_S8x1024_0_2048)) g b

/-- The stored values, entry by entry. -/
theorem vnT_apply (gate : FVec Ideal S8x8192 .f32) (g b : FVec Ideal S1x1024 .f32) (r : Fin 8) (j : Fin 1024) :
    vnT gate g b (ix2 r j)
      = vnS (fun r k => gate (ix2 r k)) (fun k => g (ix2 0 k)) (fun k => b (ix2 0 k)) r j := by
  refine (lnT_apply ..).trans ?_
  refine congrArg (fun z => lnRow z _ _ _) (funext fun a => (geluT_apply ..).trans (congrArg gelu ?_))
  pointwise

/-- The generated name of the stored values stands for the norm of the gate's columns. -/
theorem vn_eq (m : (ℓ : Loc nD τ sig) → Buf (Elt Ideal) ℓ) (c : Dev nD) :
    Cert.MergeSRefIdeal.Value.res_out1 m c = vnT (m ((c.tc : Thread nD τ).loc main_arg1)) (m ((c.tc : Thread nD τ).loc main_arg6)) (m ((c.tc : Thread nD τ).loc main_arg7)) := rfl

/-- The generated name of the result stands for that composition. -/
theorem res_eq (m : (ℓ : Loc nD τ sig) → Buf (Elt Ideal) ℓ) (c : Dev nD) :
    Cert.MergeSRefIdeal.Value.res_out0 m c = resT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := rfl

end Cert.MergeSRefValue
end
-- ==== Proof.MergeS.lean ====
module

public import proofs.«01_k».proof.Proof.MergeMath
public import proofs.«01_k».proof.Proof.MergeSRef
public import proofs.«01_k».proof.Proof.Gen.MergeSIdeal.Frame
public import proofs.«01_k».proof.Defs
public import Idealize.ShloMosaic.Lib.Claim
public import Idealize.ShloMosaic.Lib.Pipeline.ReadBack
public import Idealize.ShloMosaic.Lib.Pipeline.ValueKit

/-! # The sample group's last stage: kernel and reference -/

@[expose] public section

set_option maxRecDepth 16384

noncomputable section

open Idealize.ShloMosaic Idealize.ShloMosaic.TcCoe Idealize.SL.Sem
open Cert.MergeSIdeal Cert.MergeSIdeal.Gen Cert.Merge Cert.MergeSRefValue

namespace Cert.MergeSValue

variable (m : (ℓ : Loc nD τ sig) → Buf (Elt Ideal) ℓ)

/-- The stage after the gated MLP, from its operands. -/
def outBlk (oa za ob zb : Vec Ideal S8x1024 .f32) (wa wb : Vec Ideal S1024x2048 .bf16) (ga gb x : Vec Ideal S8x2048 .f32)
    (wo : Vec Ideal S2048x2048 .bf16) (gf : Vec Ideal S1x2048 .f32) : FVec Ideal S8x2048 .f32 :=
  k0_pay1 (k0_pay7 oa za wa) (k0_pay8 ob zb wb) ga gb x wo gf

theorem outBlk_apply (oa za ob zb wa wb ga gb x wo gf) (r : Fin 8) (j : Fin 2048) :
    outBlk oa za ob zb wa wb ga gb x wo gf (ix2 r j)
      = normed (stream (fun k => oa (ix2 r k)) (fun k => za (ix2 r k)) (fun k => ob (ix2 r k)) (fun k => zb (ix2 r k))
          (fun k => ga (ix2 r k)) (fun k => gb (ix2 r k)) (fun k => x (ix2 r k)) (fun k l => wa (ix2 k l)) (fun k l => wb (ix2 k l))
          (fun k l => wo (ix2 k l))) (fun k => gf (ix2 0 k)) j := by
  pointwise [outBlk, k0_pay1, k0_pay7, k0_pay8, normed, stream, branch, silu]

/-- The activated `u`. -/
theorem u_apply (v) (r : Fin 8) (j : Fin 1024) : k0_pay2 (F := Ideal) v (ix2 r j) = gelu (v (ix2 r j)) := by
  pointwise [k0_pay2, gelu]
  rfl

/-- The normalized `v`. -/
theorem vn_apply (v g b) (r : Fin 8) (j : Fin 1024) : k0_pay5 (F := Ideal) (k0_pay3 v g) (k0_pay4 b) (ix2 r j)
    = lnRow (fun k => gelu (v (ix2 r k))) (fun k => g (ix2 0 k)) (fun k => b (ix2 0 k)) j := by
  pointwise [k0_pay5, k0_pay3, k0_pay4, gelu, lnRow, mean]
  rfl

/-- The gated MLP's output from the activated `u` and the normalized `v`, whose weights the kernel finds spread over the columns. -/
theorem ob_apply (u : FVec Ideal S8x1024 .f32) (p : FVec Ideal S8x1024 .f32) (q : FVec Ideal S1x1024 .f32) (w bs) (r : Fin 8) (j : Fin 1024) :
    k0_pay6 u p q w bs (ix2 r j) = u (ix2 r j) * (w (ix2 0 j) * k0_pay5 p q (ix2 r j) + bs (ix2 0 j)) := by
  pointwise [k0_pay6]

/-- The rows that the point leaves. -/
def blk (c : Dev nD) (t : Fin cfg0.N) : FVec Ideal S8x2048 .f32 :=
  outBlk (iblk m c 0 t) (iblk m c 1 t) (k0_pay6 (k0_pay2 (iblk m c 2 t)) (k0_pay3 (iblk m c 3 t) (iblk m c 11 t)) (k0_pay4 (iblk m c 12 t)) (iblk m c 13 t) (iblk m c 14 t))
    (iblk m c 4 t) (iblk m c 8 t) (iblk m c 9 t) (iblk m c 5 t) (iblk m c 6 t) (iblk m c 7 t) (iblk m c 10 t) (iblk m c 15 t)

set_option maxHeartbeats 1600000 in
/-- What the point leaves in the result's window. -/
theorem block (c : Dev nD) (t : Fin cfg0.N) : (outsAt0 m c t).1 = blk m c t := by
  unfold outsAt0
  frame_out
  rfl

set_option maxHeartbeats 1600000 in
/-- What the point leaves in the stored values' window. -/
theorem block' (c : Dev nD) (t : Fin cfg0.N) : (outsAt0 m c t).2 = k0_pay5 (k0_pay3 (iblk m c 3 t) (iblk m c 11 t)) (k0_pay4 (iblk m c 12 t)) := by
  unfold outsAt0
  frame_out

/-- The result in terms of the operands that the launch finds; of the spatial weights and offsets only the first of each head counts. -/
def G (c : Dev nD) : FVec Ideal S8x2048 .f32 := fun i =>
  outS (fun r k => (show FVec Ideal S8x1024 .f32 from V m c main_arg0) (ix2 r k)) (fun r k => (show FVec Ideal S8x8192 .f32 from V m c main_arg1) (ix2 r k))
    (fun r k => (show FVec Ideal S8x2048 .f32 from V m c main_v11) (ix2 r k)) (fun k l => (show FVec Ideal S1024x2048 .bf16 from V m c main_v1) (ix2 k l))
    (fun k l => (show FVec Ideal S1024x2048 .bf16 from V m c main_v3) (ix2 k l)) (fun k l => (show FVec Ideal S2048x2048 .bf16 from V m c main_v5) (ix2 k l))
    (fun k => (show FVec Ideal S1x1024 .f32 from V m c main_v7) (ix2 0 k)) (fun k => (show FVec Ideal S1x1024 .f32 from V m c main_v9) (ix2 0 k))
    (fun e => (show FVec Ideal S1x8x128x128 .f32 from m ((c.tc : Thread nD τ).loc main_arg8)) (ix4 0 e 0 0))
    (fun e => (show FVec Ideal S1x8x128 .f32 from m ((c.tc : Thread nD τ).loc main_arg9)) (ix3 0 e 0))
    (fun k => (show FVec Ideal S1x2048 .f32 from V m c main_v10) (ix2 0 k)) (i 0) (i 1)

/-- The stored values in terms of the operands that the launch finds. -/
def H (c : Dev nD) : FVec Ideal S8x1024 .f32 := fun i =>
  vnS (fun r k => (show FVec Ideal S8x8192 .f32 from V m c main_arg1) (ix2 r k)) (fun k => (show FVec Ideal S1x1024 .f32 from V m c main_v7) (ix2 0 k)) (fun k => (show FVec Ideal S1x1024 .f32 from V m c main_v9) (ix2 0 k)) (i 0) (i 1)

/-- The attention's output is the argument. -/
theorem entry_oa (c : Dev nD) (r : Fin 8) (k : Fin 1024) : (V m c main_arg0 : FVec Ideal S8x1024 .f32) (ix2 r k)
    = m ((c.tc : Thread nD τ).loc main_arg0) (ix2 r k) := by
  dsimp only [V, hostOps0, List.flatten_cons, List.flatten_nil, List.cons_append, List.nil_append, List.append_nil]
  after_results

/-- The gate columns are the argument. -/
theorem entry_gate (c : Dev nD) (r : Fin 8) (k : Fin 8192) : (V m c main_arg1 : FVec Ideal S8x8192 .f32) (ix2 r k)
    = m ((c.tc : Thread nD τ).loc main_arg1) (ix2 r k) := by
  dsimp only [V, hostOps0, List.flatten_cons, List.flatten_nil, List.cons_append, List.nil_append, List.append_nil]
  after_results

/-- The residual's rows. -/
theorem entry_x (c : Dev nD) (r : Fin 8) (k : Fin 2048) : (V m c main_v11 : FVec Ideal S8x2048 .f32) (ix2 r k)
    = m ((c.tc : Thread nD τ).loc main_arg2) (ix3 r 0 k) := by
  dsimp only [V, hostOps0, List.flatten_cons, List.flatten_nil, List.cons_append, List.nil_append, List.append_nil]
  after_results
  pointwise

/-- The first branch's weights. -/
theorem entry_wa (c : Dev nD) (k : Fin 1024) (l : Fin 2048) : (V m c main_v1 : FVec Ideal S1024x2048 .bf16) (ix2 k l)
    = m ((c.tc : Thread nD τ).loc main_arg3) (ix3 0 k l) := by
  dsimp only [V, hostOps0, List.flatten_cons, List.flatten_nil, List.cons_append, List.nil_append, List.append_nil]
  after_results
  pointwise

/-- The second branch's weights. -/
theorem entry_wb (c : Dev nD) (k : Fin 1024) (l : Fin 2048) : (V m c main_v3 : FVec Ideal S1024x2048 .bf16) (ix2 k l)
    = m ((c.tc : Thread nD τ).loc main_arg4) (ix3 0 k l) := by
  dsimp only [V, hostOps0, List.flatten_cons, List.flatten_nil, List.cons_append, List.nil_append, List.append_nil]
  after_results
  pointwise

/-- The out projection's weights. -/
theorem entry_wo (c : Dev nD) (k l : Fin 2048) : (V m c main_v5 : FVec Ideal S2048x2048 .bf16) (ix2 k l)
    = m ((c.tc : Thread nD τ).loc main_arg5) (ix3 0 k l) := by
  dsimp only [V, hostOps0, List.flatten_cons, List.flatten_nil, List.cons_append, List.nil_append, List.append_nil]
  after_results
  pointwise

/-- The layer norm's gain. -/
theorem entry_g (c : Dev nD) (k : Fin 1024) : (V m c main_v7 : FVec Ideal S1x1024 .f32) (ix2 0 k)
    = m ((c.tc : Thread nD τ).loc main_arg6) (ix2 0 k) := by
  dsimp only [V, hostOps0, List.flatten_cons, List.flatten_nil, List.cons_append, List.nil_append, List.append_nil]
  after_results
  pointwise

/-- The layer norm's offset. -/
theorem entry_b (c : Dev nD) (k : Fin 1024) : (V m c main_v9 : FVec Ideal S1x1024 .f32) (ix2 0 k)
    = m ((c.tc : Thread nD τ).loc main_arg7) (ix2 0 k) := by
  dsimp only [V, hostOps0, List.flatten_cons, List.flatten_nil, List.cons_append, List.nil_append, List.append_nil]
  after_results
  pointwise

/-- The first spatial weight of each head, spread over the head's columns. -/
theorem entry_w (c : Dev nD) (k : Fin 1024) : (V m c main_v17 : FVec Ideal S1x1024 .f32) (ix2 0 k)
    = m ((c.tc : Thread nD τ).loc main_arg8) (ix4 0 ⟨k.val / 128, by omega⟩ 0 0) := by
  dsimp only [V, hostOps0, List.flatten_cons, List.flatten_nil, List.cons_append, List.nil_append, List.append_nil]
  after_results
  pointwise

/-- The first spatial offset of each head, spread over the head's columns. -/
theorem entry_bs (c : Dev nD) (k : Fin 1024) : (V m c main_v23 : FVec Ideal S1x1024 .f32) (ix2 0 k)
    = m ((c.tc : Thread nD τ).loc main_arg9) (ix3 0 ⟨k.val / 128, by omega⟩ 0) := by
  dsimp only [V, hostOps0, List.flatten_cons, List.flatten_nil, List.cons_append, List.nil_append, List.append_nil]
  after_results
  pointwise

/-- The last norm's gain. -/
theorem entry_gf (c : Dev nD) (k : Fin 2048) : (V m c main_v10 : FVec Ideal S1x2048 .f32) (ix2 0 k)
    = m ((c.tc : Thread nD τ).loc main_arg10) (ix1 k) := by
  dsimp only [V, hostOps0, List.flatten_cons, List.flatten_nil, List.cons_append, List.nil_append, List.append_nil]
  after_results
  pointwise

theorem idx : ∀ t : Fin cfg0.N, win0_0.index t = ![0, 0] ∧ win0_1.index t = ![0, 0] ∧ win0_2.index t = ![0, 1]
    ∧ win0_3.index t = ![0, 2] ∧ win0_4.index t = ![0, 3] ∧ win0_5.index t = ![0, 2] ∧ win0_6.index t = ![0, 3]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] := (by decide +kernel : ∀ t : Fin grid0.N, _)

/-- The gated MLP's output. -/
theorem ob_row (c : Dev nD) (t : Fin cfg0.N) (r : Fin 8) (j : Fin 1024) :
    (k0_pay6 (k0_pay2 (iblk m c 2 t)) (k0_pay3 (iblk m c 3 t) (iblk m c 11 t)) (k0_pay4 (iblk m c 12 t)) (iblk m c 13 t) (iblk m c 14 t) : FVec Ideal S8x1024 .f32) (ix2 r j)
      = gmlpOne (fun k => (show FVec Ideal S8x8192 .f32 from V m c main_arg1) (ix2 r ⟨1024 + k.val, by omega⟩))
          (fun k => (show FVec Ideal S8x8192 .f32 from V m c main_arg1) (ix2 r ⟨2048 + k.val, by omega⟩))
          (fun k => (show FVec Ideal S1x1024 .f32 from V m c main_v7) (ix2 0 k)) (fun k => (show FVec Ideal S1x1024 .f32 from V m c main_v9) (ix2 0 k))
          (fun e => (show FVec Ideal S1x8x128x128 .f32 from m ((c.tc : Thread nD τ).loc main_arg8)) (ix4 0 e 0 0))
          (fun e => (show FVec Ideal S1x8x128 .f32 from m ((c.tc : Thread nD τ).loc main_arg9)) (ix3 0 e 0)) j := by
  refine (ob_apply ..).trans ?_
  rw [u_apply, vn_apply]
  unfold gmlpOne
  have hw : (iblk m c 13 t : Vec Ideal S1x1024 .f32) (ix2 0 j) = V m c main_v17 (ix2 0 j) := by blk_ext [iblk, idx t]
  have hb : (iblk m c 14 t : Vec Ideal S1x1024 .f32) (ix2 0 j) = V m c main_v23 (ix2 0 j) := by blk_ext [iblk, idx t]
  rw [hw, hb]
  refine congrArg₂ (fun p q : EReal => p * q) (congrArg gelu ?_) (congrArg₂ (fun p q : EReal => p + q) (congrArg₂ (fun p q : EReal => p * q) (entry_w m c j) ?_) (entry_bs m c j))
  · blk_ext [iblk, idx t]
  · refine congrFun (congr (congr (congrArg lnRow ?_) ?_) ?_) j
    · funext k; refine congrArg gelu ?_; blk_ext [iblk, idx t]
    · funext k; blk_ext [iblk, idx t]
    · funext k; blk_ext [iblk, idx t]

set_option maxHeartbeats 3200000 in
/-- What the point computes is its block of `G`. -/
theorem point (c : Dev nD) (t : Fin cfg0.N) (y) :
    blk m c t y = G m c (((cfg0.win 16).blk t).view.emb y) := by
  obtain ⟨r, j, rfl⟩ : ∃ (r : Fin 8) (j : Fin 2048), y = ix2 r j := ⟨y 0, y 1, by blk_ext⟩
  have e : ((cfg0.win 16).blk t).view.emb (ix2 r j) = ix2 r j := by
    blk_ext [idx t]
  rw [e]
  refine (outBlk_apply ..).trans ?_
  unfold G outS
  refine normed_congr (stream_congr ?_ ?_ ?_ ?_ ?_ ?_ ?_ ?_ ?_ ?_) ?_
  · funext k; blk_ext [iblk, idx t]
  · funext k; blk_ext [iblk, idx t]
  · funext k; exact ob_row m c t r k
  · funext k; blk_ext [iblk, idx t]
  · funext k; blk_ext [iblk, idx t]
  · funext k; blk_ext [iblk, idx t]
  · funext k; blk_ext [iblk, idx t]
  · funext k l; blk_ext [iblk, idx t]
  · funext k l; blk_ext [iblk, idx t]
  · funext k l; blk_ext [iblk, idx t]
  · funext k; blk_ext [iblk, idx t]

/-- What the point stores is its block of `H`. -/
theorem point' (c : Dev nD) (t : Fin cfg0.N) (y) :
    (k0_pay5 (k0_pay3 (iblk m c 3 t) (iblk m c 11 t)) (k0_pay4 (iblk m c 12 t)) : FVec Ideal S8x1024 .f32) y
      = H m c (((cfg0.win 17).blk t).view.emb y) := by
  obtain ⟨r, j, rfl⟩ : ∃ (r : Fin 8) (j : Fin 1024), y = ix2 r j := ⟨y 0, y 1, by blk_ext⟩
  have e : ((cfg0.win 17).blk t).view.emb (ix2 r j) = ix2 r j := by
    blk_ext [idx t]
  rw [e]
  refine (vn_apply ..).trans ?_
  unfold H vnS
  refine congrFun (congr (congr (congrArg lnRow ?_) ?_) ?_) j
  · funext k; refine congrArg gelu ?_; blk_ext [iblk, idx t]
  · funext k; blk_ext [iblk, idx t]
  · funext k; blk_ext [iblk, idx t]

/-- The array that the launch leaves is `G`. -/
theorem final (c : Dev nD) : (dats m 0 c).arrAt 16 (cfgs 0).N = G m c := by
  refine (dats m 0 c).arrAt_eq_of_covers 16 _ (by decide +kernel) fun t _ y => ?_
  blk_simp
  rw [after0_16, block]
  exact point m c t y

/-- The array of stored values that the launch leaves is `H`. -/
theorem final' (c : Dev nD) : (dats m 0 c).arrAt 17 (cfgs 0).N = H m c := by
  refine (dats m 0 c).arrAt_eq_of_covers 17 _ (by decide +kernel) fun t _ y => ?_
  blk_simp
  rw [after0_17, block']
  exact point' m c t y

/-- Every entry of the result from the arguments: the reference's composition. -/
theorem tie (c : Dev nD) : resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = G m c := by
  funext i
  obtain ⟨r, j, rfl⟩ : ∃ (r : Fin 8) (j : Fin 2048), i = ix2 r j := ⟨i 0, i 1, by blk_ext⟩
  refine (resT_apply ..).trans ?_
  refine outS_congr ?_ ?_ ?_ ?_ ?_ ?_ ?_ ?_ rfl rfl ?_ r j
  · funext r k; exact (entry_oa m c r k).symm
  · funext r k; exact (entry_gate m c r k).symm
  · funext r k; exact (entry_x m c r k).symm
  · funext k l; exact (entry_wa m c k l).symm
  · funext k l; exact (entry_wb m c k l).symm
  · funext k l; exact (entry_wo m c k l).symm
  · funext k; exact (entry_g m c k).symm
  · funext k; exact (entry_b m c k).symm
  · funext k; exact (entry_gf m c k).symm

/-- Every stored value from the arguments. -/
theorem tie' (c : Dev nD) : vnT (m ((c.tc : Thread nD τ).loc main_arg1)) (m ((c.tc : Thread nD τ).loc main_arg6)) (m ((c.tc : Thread nD τ).loc main_arg7)) = H m c := by
  funext i
  obtain ⟨r, j, rfl⟩ : ∃ (r : Fin 8) (j : Fin 1024), i = ix2 r j := ⟨i 0, i 1, by blk_ext⟩
  refine (vnT_apply ..).trans (vnS_congr ?_ ?_ ?_ r j)
  · funext r k; exact (entry_gate m c r k).symm
  · funext k; exact (entry_g m c k).symm
  · funext k; exact (entry_b m c k).symm

/-- The run of the stage: the results are `G` and `H`, the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v24_0) = G m c
      ∧ r.2.mem ((c.tc : Thread nD τ).loc main_v24_1) = H m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  run_from Gen.run_main m ρ & Gen.unchanged m ρ
  · exact (hc.1 16).trans (final m c)
  · exact (hc.1 17).trans (final' m c)

/-- The kernel's last stage for the sample group is the reference's. -/
theorem algebraic : Cert.algebraic_MergeSIdeal_MergeSRefIdeal := by
  intro m g m' g' _ hagree
  refine ⟨_, _, run m g, θ_run_mono (Cert.MergeSRefIdeal.Value.run m' g') fun r h c => ?_⟩
  obtain ⟨h0, h1, h3⟩ := h c
  obtain ⟨a0, a1, a2, a3, a4, a5, a6, a7, a8, a9, a10⟩ := hagree c
  refine ⟨h0.trans ?_, h1.trans ?_, h3⟩
  · refine (res_eq m' c).trans ?_
    rw [a0, a1, a2, a3, a4, a5, a6, a7, a8, a9, a10]
    exact tie m c
  · refine (vn_eq m' c).trans ?_
    rw [a1, a6, a7]
    exact tie' m c

end Cert.MergeSValue
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_ranges
public import proofs.«01_k».proof.Proof.Gen.Pre_finite_scores
public import proofs.«01_k».proof.Proof.Gen.KvP
public import proofs.«01_k».proof.Proof.Gen.KvP.Frame
public import proofs.«01_k».proof.Proof.Gen.KvPIdeal
public import proofs.«01_k».proof.Proof.Gen.KvPIdeal.Frame
public import proofs.«01_k».proof.Proof.Gen.KvPRefIdeal
public import proofs.«01_k».proof.Proof.Gen.KvPRefIdeal.Run
public import proofs.«01_k».proof.Proof.Gen.KvS
public import proofs.«01_k».proof.Proof.Gen.KvS.Frame
public import proofs.«01_k».proof.Proof.Gen.KvSIdeal
public import proofs.«01_k».proof.Proof.Gen.KvSIdeal.Frame
public import proofs.«01_k».proof.Proof.Gen.KvSRefIdeal
public import proofs.«01_k».proof.Proof.Gen.KvSRefIdeal.Run
public import proofs.«01_k».proof.Proof.Gen.HqP
public import proofs.«01_k».proof.Proof.Gen.HqP.Frame
public import proofs.«01_k».proof.Proof.Gen.HqPIdeal
public import proofs.«01_k».proof.Proof.Gen.HqPIdeal.Frame
public import proofs.«01_k».proof.Proof.Gen.HqPRefIdeal
public import proofs.«01_k».proof.Proof.Gen.HqPRefIdeal.Run
public import proofs.«01_k».proof.Proof.Gen.GateP
public import proofs.«01_k».proof.Proof.Gen.GateP.Frame
public import proofs.«01_k».proof.Proof.Gen.GatePIdeal
public import proofs.«01_k».proof.Proof.Gen.GatePIdeal.Frame
public import proofs.«01_k».proof.Proof.Gen.GatePRefIdeal
public import proofs.«01_k».proof.Proof.Gen.GatePRefIdeal.Run
public import proofs.«01_k».proof.Proof.Gen.MergeP
public import proofs.«01_k».proof.Proof.Gen.MergeP.Frame
public import proofs.«01_k».proof.Proof.Gen.MergePIdeal
public import proofs.«01_k».proof.Proof.Gen.MergePIdeal.Frame
public import proofs.«01_k».proof.Proof.Gen.MergePRefIdeal
public import proofs.«01_k».proof.Proof.Gen.MergePRefIdeal.Run
public import proofs.«01_k».proof.Proof.Gen.MergeS
public import proofs.«01_k».proof.Proof.Gen.MergeS.Frame
public import proofs.«01_k».proof.Proof.Gen.MergeSIdeal
public import proofs.«01_k».proof.Proof.Gen.MergeSIdeal.Frame
public import proofs.«01_k».proof.Proof.Gen.MergeSRefIdeal
public import proofs.«01_k».proof.Proof.Gen.MergeSRefIdeal.Run
public import proofs.«01_k».proof.Proof.Gen.PromptAttn
public import proofs.«01_k».proof.Proof.Gen.PromptAttnIdeal
public import proofs.«01_k».proof.Proof.Gen.PromptAttnIdeal.Frame
public import proofs.«01_k».proof.Proof.Gen.PromptAttnIdeal.Skeleton
public import proofs.«01_k».proof.Proof.Gen.PromptAttnIdeal.Loops
public import proofs.«01_k».proof.Proof.PromptFrame
public import proofs.«01_k».proof.Proof.AttendFrame
public import proofs.«01_k».proof.Proof.AttendAlg
public import proofs.«01_k».proof.Proof.KvP
public import proofs.«01_k».proof.Proof.KvS
public import proofs.«01_k».proof.Proof.HqP
public import proofs.«01_k».proof.Proof.GateP
public import proofs.«01_k».proof.Proof.MergeP
public import proofs.«01_k».proof.Proof.MergeS
public import Idealize.ShloMosaic.Adequacy
public import Idealize.ShloMosaic.Init

@[expose] public section

noncomputable section

namespace Cert.Proof

open Idealize.ShloMosaic Idealize.SL.Sem

/-- `sample_attend` runs to its end wherever its tables are in range, and leaves its arguments alone. -/
theorem frame_Kernel : Cert.quiescent_Kernel := fun m ρ h =>
  (Cert.Attend.same_run m ρ _).mpr (Cert.Attend.frame m ρ (Cert.Attend.tablesOk (F := Bits) m h))

/-- So does its reading over the extended reals. -/
theorem frame_KernelIdeal : Cert.quiescent_KernelIdeal := fun m ρ h =>
  Cert.Attend.frame m ρ (Cert.Attend.tablesOk (F := Ideal) m h)

/-- So does that reading where its numbers are finite besides. -/
theorem frame_KernelIdeal_finite : Cert.quiescent_KernelIdeal_pre_finite_scores := fun m ρ h =>
  frame_KernelIdeal m ρ fun c => (Cert.Attend.finite_said _ _ _ _ _ _ _ (h c)).1

/-- A run of the reference of `sample_attend` leaves its arguments alone. -/
theorem frame_Reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does a run where its numbers are finite besides. -/
theorem frame_Reference_finite : Cert.quiescent_ReferenceIdeal_pre_finite_scores := fun m ρ h =>
  frame_Reference m ρ fun c => (Cert.Attend.finite_said _ _ _ _ _ _ _ (h c)).1

/-- A run of the reference `KvPRef` leaves its arguments alone. -/
theorem frame_KvPRef : Cert.quiescent_KvPRefIdeal := fun m ρ _ =>
  (θ_run Cert.KvPRefIdeal.defs _ _).mono (fun r h => ⟨fun c => (h c).2.2.2, sem_eq_zero_of_no_sems (by decide) r.2⟩)
    (Cert.KvPRefIdeal.Value.run (F := Ideal) m ρ)

/-- A run of the reference `KvSRef` leaves its arguments alone. -/
theorem frame_KvSRef : Cert.quiescent_KvSRefIdeal := fun m ρ _ =>
  (θ_run Cert.KvSRefIdeal.defs _ _).mono (fun r h => ⟨fun c => (h c).2.2.2, sem_eq_zero_of_no_sems (by decide) r.2⟩)
    (Cert.KvSRefIdeal.Value.run (F := Ideal) m ρ)

/-- A run of the reference `HqPRef` leaves its arguments alone. -/
theorem frame_HqPRef : Cert.quiescent_HqPRefIdeal := fun m ρ _ =>
  (θ_run Cert.HqPRefIdeal.defs _ _).mono (fun r h => ⟨fun c => (h c).2, sem_eq_zero_of_no_sems (by decide) r.2⟩)
    (Cert.HqPRefIdeal.Value.run (F := Ideal) m ρ)

/-- A run of the reference `GatePRef` leaves its arguments alone. -/
theorem frame_GatePRef : Cert.quiescent_GatePRefIdeal := fun m ρ _ =>
  (θ_run Cert.GatePRefIdeal.defs _ _).mono (fun r h => ⟨fun c => (h c).2, sem_eq_zero_of_no_sems (by decide) r.2⟩)
    (Cert.GatePRefIdeal.Value.run (F := Ideal) m ρ)

/-- A run of the reference `MergePRef` leaves its arguments alone. -/
theorem frame_MergePRef : Cert.quiescent_MergePRefIdeal := fun m ρ _ =>
  (θ_run Cert.MergePRefIdeal.defs _ _).mono (fun r h => ⟨fun c => (h c).2, sem_eq_zero_of_no_sems (by decide) r.2⟩)
    (Cert.MergePRefIdeal.Value.run (F := Ideal) m ρ)

/-- A run of the reference `MergeSRef` leaves its arguments alone. -/
theorem frame_MergeSRef : Cert.quiescent_MergeSRefIdeal := fun m ρ _ =>
  (θ_run Cert.MergeSRefIdeal.defs _ _).mono (fun r h => ⟨fun c => (h c).2.2, sem_eq_zero_of_no_sems (by decide) r.2⟩)
    (Cert.MergeSRefIdeal.Value.run (F := Ideal) m ρ)

/-- `prompt_attn` runs from any memory. -/
theorem frame_PromptAttn : Cert.quiescent_PromptAttn := fun m ρ _ =>
  (Cert.PromptScan.same_run m ρ _).mpr (Cert.PromptScan.frame (F := Bits) m ρ)

/-- Its ideal reading runs from any memory. -/
theorem frame_PromptAttnIdeal : Cert.quiescent_PromptAttnIdeal := fun m ρ _ =>
  Cert.PromptScan.frame (F := Ideal) m ρ

/-- Everything that the certificate claims. -/
theorem claim : Cert.Claim :=
  ⟨Cert.Kernel.Gen.facts, Cert.KernelIdeal.Gen.facts, Cert.ReferenceIdeal.Gen.facts, Cert.KvP.Gen.facts, Cert.KvPIdeal.Gen.facts, Cert.KvPRefIdeal.Gen.facts, Cert.KvS.Gen.facts, Cert.KvSIdeal.Gen.facts, Cert.KvSRefIdeal.Gen.facts, Cert.HqP.Gen.facts, Cert.HqPIdeal.Gen.facts, Cert.HqPRefIdeal.Gen.facts, Cert.GateP.Gen.facts, Cert.GatePIdeal.Gen.facts, Cert.GatePRefIdeal.Gen.facts, Cert.MergeP.Gen.facts, Cert.MergePIdeal.Gen.facts, Cert.MergePRefIdeal.Gen.facts, Cert.MergeS.Gen.facts, Cert.MergeSIdeal.Gen.facts, Cert.MergeSRefIdeal.Gen.facts, Cert.PromptAttn.Gen.facts, Cert.PromptAttnIdeal.Gen.facts, Cert.Pre_ranges.Gen.facts, Cert.Pre_finite_scores.Gen.facts,
    frame_Kernel,
    frame_KernelIdeal,
    frame_KernelIdeal_finite,
    frame_Reference,
    frame_Reference_finite,
    fun m ρ _ => Cert.KvP.Gen.frame m ρ,
    fun m ρ _ => Cert.KvPIdeal.Gen.frame m ρ,
    frame_KvPRef,
    fun m ρ _ => Cert.KvS.Gen.frame m ρ,
    fun m ρ _ => Cert.KvSIdeal.Gen.frame m ρ,
    frame_KvSRef,
    fun m ρ _ => Cert.HqP.Gen.frame m ρ,
    fun m ρ _ => Cert.HqPIdeal.Gen.frame m ρ,
    frame_HqPRef,
    fun m ρ _ => Cert.GateP.Gen.frame m ρ,
    fun m ρ _ => Cert.GatePIdeal.Gen.frame m ρ,
    frame_GatePRef,
    fun m ρ _ => Cert.MergeP.Gen.frame m ρ,
    fun m ρ _ => Cert.MergePIdeal.Gen.frame m ρ,
    frame_MergePRef,
    fun m ρ _ => Cert.MergeS.Gen.frame m ρ,
    fun m ρ _ => Cert.MergeSIdeal.Gen.frame m ρ,
    frame_MergeSRef,
    frame_PromptAttn,
    frame_PromptAttnIdeal,
    trivial, Cert.Attend.algebraic,
    trivial, Cert.KvPValue.algebraic, trivial, Cert.KvSValue.algebraic, trivial, Cert.HqPValue.algebraic, trivial, Cert.GatePValue.algebraic, trivial, Cert.MergePValue.algebraic, trivial, Cert.MergeSValue.algebraic,
    trivial⟩

end Cert.Proof
end
